-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_RefIdeal (m : (ℓ : Loc Cert.RefIdeal.nD Cert.RefIdeal.τ Cert.RefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_RefIdeal [hRefIdeal : Cert.RefIdeal.Facts] : Prop :=
  ∀ (m : (ℓ : Loc Cert.RefIdeal.nD Cert.RefIdeal.τ Cert.RefIdeal.sig) → Buf (Elt Ideal) ℓ) (g : Dev Cert.RefIdeal.nD → PrngReg), Pre_RefIdeal m →
    θ_run (Cert.RefIdeal.defs (F := Ideal)) (onTc (τ := Cert.RefIdeal.τ) (Cert.RefIdeal.main (F := Ideal))) ⟨m, fun _ => 0, g⟩ (fun r => (∀ c : Dev Cert.RefIdeal.nD,
      r.2.mem ((c.tc : Thread Cert.RefIdeal.nD Cert.RefIdeal.τ).loc Cert.RefIdeal.main_arg0) = m ((c.tc : Thread Cert.RefIdeal.nD Cert.RefIdeal.τ).loc Cert.RefIdeal.main_arg0)
      ∧ r.2.mem ((c.tc : Thread Cert.RefIdeal.nD Cert.RefIdeal.τ).loc Cert.RefIdeal.main_arg1) = m ((c.tc : Thread Cert.RefIdeal.nD Cert.RefIdeal.τ).loc Cert.RefIdeal.main_arg1)
      ∧ r.2.mem ((c.tc : Thread Cert.RefIdeal.nD Cert.RefIdeal.τ).loc Cert.RefIdeal.main_arg2) = m ((c.tc : Thread Cert.RefIdeal.nD Cert.RefIdeal.τ).loc Cert.RefIdeal.main_arg2)
      ∧ r.2.mem ((c.tc : Thread Cert.RefIdeal.nD Cert.RefIdeal.τ).loc Cert.RefIdeal.main_arg3) = m ((c.tc : Thread Cert.RefIdeal.nD Cert.RefIdeal.τ).loc Cert.RefIdeal.main_arg3))
      ∧ r.2.sem = fun _ => 0)

def preserves_Kernel_KernelIdeal : Prop :=
  IdealRules.bf16_pair.BufferStatement Cert.KernelIdeal.S2x1024x2x128 Cert.KernelIdeal.S2x1024x1x128
  ∧ IdealRules.bf16_pair.BufferStatement Cert.KernelIdeal.S2x4x2x2x256x2x128 Cert.KernelIdeal.S2x4x2x2x256x1x128
  ∧ IdealRules.bf16_pair.Statement Cert.KernelIdeal.S1x1x1x256x128 Cert.KernelIdeal.S1x1x1x128x128
  ∧ IdealRules.bf16_pair.Statement Cert.KernelIdeal.S256x128 Cert.KernelIdeal.S128x128
  ∧ IdealRules.bf16_pair.PackStatement Cert.KernelIdeal.S128x128
  ∧ IdealRules.bf16_pair.Statement Cert.KernelIdeal.S1x128x2x128 Cert.KernelIdeal.S1x128x1x128
  ∧ IdealRules.bf16_pair.Statement Cert.KernelIdeal.S128x2x128 Cert.KernelIdeal.S128x1x128
  ∧ IdealRules.bf16_pair.Statement Cert.KernelIdeal.S1x1x1x1x128x2x128 Cert.KernelIdeal.S1x1x1x1x128x1x128
  ∧ IdealRules.bf16_pair.Statement Cert.KernelIdeal.S1x1x1x1x1x2x128 Cert.KernelIdeal.S1x1x1x1x1x1x128
  ∧ IdealRules.bf16_pair.Statement Cert.KernelIdeal.S16x128 Cert.KernelIdeal.S8x128

def algebraic_KernelIdeal_RefIdeal [hKernelIdeal : Cert.KernelIdeal.Facts] [hRefIdeal : Cert.RefIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.RefIdeal.nD Cert.RefIdeal.τ Cert.RefIdeal.sig) → Buf (Elt Ideal) ℓ) (g' : Dev Cert.RefIdeal.nD → PrngReg), Pre_KernelIdeal m →
    (∀ c : Dev Cert.KernelIdeal.nD,
      m' ((c.tc : Thread Cert.RefIdeal.nD Cert.RefIdeal.τ).loc Cert.RefIdeal.main_arg0) = m ((c.tc : Thread Cert.KernelIdeal.nD Cert.KernelIdeal.τ).loc Cert.KernelIdeal.main_arg0)
      ∧ m' ((c.tc : Thread Cert.RefIdeal.nD Cert.RefIdeal.τ).loc Cert.RefIdeal.main_arg1) = m ((c.tc : Thread Cert.KernelIdeal.nD Cert.KernelIdeal.τ).loc Cert.KernelIdeal.main_arg1)
      ∧ m' ((c.tc : Thread Cert.RefIdeal.nD Cert.RefIdeal.τ).loc Cert.RefIdeal.main_arg2) = m ((c.tc : Thread Cert.KernelIdeal.nD Cert.KernelIdeal.τ).loc Cert.KernelIdeal.main_arg2)
      ∧ m' ((c.tc : Thread Cert.RefIdeal.nD Cert.RefIdeal.τ).loc Cert.RefIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.RefIdeal.defs (F := Ideal)) (onTc (τ := Cert.RefIdeal.τ) (Cert.RefIdeal.main (F := Ideal))) ⟨m', fun _ => 0, g'⟩ (fun r => ∀ c : Dev Cert.RefIdeal.nD,
          r.2.mem ((c.tc : Thread Cert.RefIdeal.nD Cert.RefIdeal.τ).loc Cert.RefIdeal.main_v28) = v0 c
          ∧ r.2.mem ((c.tc : Thread Cert.RefIdeal.nD Cert.RefIdeal.τ).loc Cert.RefIdeal.main_arg0) = m' ((c.tc : Thread Cert.RefIdeal.nD Cert.RefIdeal.τ).loc Cert.RefIdeal.main_arg0)
          ∧ r.2.mem ((c.tc : Thread Cert.RefIdeal.nD Cert.RefIdeal.τ).loc Cert.RefIdeal.main_arg1) = m' ((c.tc : Thread Cert.RefIdeal.nD Cert.RefIdeal.τ).loc Cert.RefIdeal.main_arg1)
          ∧ r.2.mem ((c.tc : Thread Cert.RefIdeal.nD Cert.RefIdeal.τ).loc Cert.RefIdeal.main_arg2) = m' ((c.tc : Thread Cert.RefIdeal.nD Cert.RefIdeal.τ).loc Cert.RefIdeal.main_arg2)
          ∧ r.2.mem ((c.tc : Thread Cert.RefIdeal.nD Cert.RefIdeal.τ).loc Cert.RefIdeal.main_arg3) = m' ((c.tc : Thread Cert.RefIdeal.nD Cert.RefIdeal.τ).loc Cert.RefIdeal.main_arg3))

def Claim : Prop :=
  ∃ (hKernel : Cert.Kernel.Facts) (hKernelIdeal : Cert.KernelIdeal.Facts) (hRefIdeal : Cert.RefIdeal.Facts),
    quiescent_Kernel (hKernel := hKernel)
    ∧ quiescent_KernelIdeal (hKernelIdeal := hKernelIdeal)
    ∧ quiescent_RefIdeal (hRefIdeal := hRefIdeal)
    ∧ preserves_Kernel_KernelIdeal
    ∧ algebraic_KernelIdeal_RefIdeal (hKernelIdeal := hKernelIdeal) (hRefIdeal := hRefIdeal)
-- ==== Kernel.lean ====
abbrev S128x1x8192 : Shape := ⟨3, ![128, 1, 8192]⟩
abbrev S8192x11264 : Shape := ⟨2, ![8192, 11264]⟩
abbrev S512x45056 : Shape := ⟨2, ![512, 45056]⟩
abbrev S128x8192 : Shape := ⟨2, ![128, 8192]⟩
abbrev S128x45056 : Shape := ⟨2, ![128, 45056]⟩
abbrev S8192x256 : Shape := ⟨2, ![8192, 256]⟩
abbrev S128x1024 : Shape := ⟨2, ![128, 1024]⟩
abbrev S2x2x8x512x128 : Shape := ⟨5, ![2, 2, 8, 512, 128]⟩
abbrev S2x1024x128 : Shape := ⟨3, ![2, 1024, 128]⟩
abbrev S2x4x2x2x256x128 : Shape := ⟨6, ![2, 4, 2, 2, 256, 128]⟩
abbrev S4x128x256 : Shape := ⟨3, ![4, 128, 256]⟩
abbrev S2x2 : Shape := ⟨2, ![2, 2]⟩
abbrev S1x1 : Shape := ⟨2, ![1, 1]⟩
abbrev S_ : Shape := ⟨0, ![]⟩
abbrev S1x1x1x512x128 : Shape := ⟨5, ![1, 1, 1, 512, 128]⟩
abbrev S512x128 : Shape := ⟨2, ![512, 128]⟩
abbrev S2x2x8x256x128 : Shape := ⟨5, ![2, 2, 8, 256, 128]⟩
abbrev S1x1x1x128x128 : Shape := ⟨5, ![1, 1, 1, 128, 128]⟩
abbrev S1x1x1x256x128 : Shape := ⟨5, ![1, 1, 1, 256, 128]⟩
abbrev S128x128 : Shape := ⟨2, ![128, 128]⟩
abbrev S1x128x128 : Shape := ⟨3, ![1, 128, 128]⟩
abbrev S1x1024x128 : Shape := ⟨3, ![1, 1024, 128]⟩
abbrev S1024x128 : Shape := ⟨2, ![1024, 128]⟩
abbrev S1x1x1x1x128x128 : Shape := ⟨6, ![1, 1, 1, 1, 128, 128]⟩
abbrev S256x128 : Shape := ⟨2, ![256, 128]⟩
abbrev S128x256 : Shape := ⟨2, ![128, 256]⟩
abbrev S32x128 : Shape := ⟨2, ![32, 128]⟩
abbrev S8x128 : Shape := ⟨2, ![8, 128]⟩
abbrev S1x1x1x1x1x128 : Shape := ⟨6, ![1, 1, 1, 1, 1, 128]⟩
abbrev S1x128 : Shape := ⟨2, ![1, 128]⟩
abbrev S16x128 : Shape := ⟨2, ![16, 128]⟩
abbrev S256x256 : Shape := ⟨2, ![256, 256]⟩
abbrev S1x128x256 : Shape := ⟨3, ![1, 128, 256]⟩
abbrev S1x16x128 : Shape := ⟨3, ![1, 16, 128]⟩
abbrev S16x128x1 : Shape := ⟨3, ![16, 128, 1]⟩

abbrev nBuf : Space → Nat
  | .hbm => 6
  | .vmem => 9
  | .smem => 0
  | _ => 0

abbrev bufTy : (tb : Table) → Fin (tcTables nBuf tb) → BufTy
  | .hbm, ⟨0, _⟩ => ⟨S128x1x8192, .bf16⟩
  | .hbm, ⟨1, _⟩ => ⟨S8192x11264, .i8⟩
  | .hbm, ⟨2, _⟩ => ⟨S512x45056, .bf16⟩
  | .hbm, ⟨3, _⟩ => ⟨S512x45056, .bf16⟩
  | .hbm, ⟨4, _⟩ => ⟨S128x8192, .bf16⟩
  | .hbm, ⟨5, _⟩ => ⟨S128x45056, .bf16⟩
  | .local _ .vmem, ⟨0, _⟩ => ⟨S128x8192, .bf16⟩
  | .local _ .vmem, ⟨1, _⟩ => ⟨S8192x256, .i8⟩
  | .local _ .vmem, ⟨2, _⟩ => ⟨S8192x256, .i8⟩
  | .local _ .vmem, ⟨3, _⟩ => ⟨S128x1024, .bf16⟩
  | .local _ .vmem, ⟨4, _⟩ => ⟨S128x1024, .bf16⟩
  | .local _ .vmem, ⟨5, _⟩ => ⟨S2x2x8x512x128, .bf16⟩
  | .local _ .vmem, ⟨6, _⟩ => ⟨S2x1024x128, .i32⟩
  | .local _ .vmem, ⟨7, _⟩ => ⟨S2x4x2x2x256x128, .i32⟩
  | .local _ .vmem, ⟨8, _⟩ => ⟨S4x128x256, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [BitOps F]

abbrev grid0 : Pipeline.Grid := ⟨1, ![44], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_141 : BitVec 32 := 0#32
  c0_i32_141
def k0_mult2 : BitVec 32 :=
  let c128_i32_142 : BitVec 32 := 128#32
  c128_i32_142
def k0_mult3 : BitVec 32 :=
  let c256_i32_143 : BitVec 32 := 256#32
  c256_i32_143
def k0_mult4 : BitVec 32 :=
  let c384_i32_144 : BitVec 32 := 384#32
  c384_i32_144
def k0_mult5 : BitVec 32 :=
  let c512_i32_145 : BitVec 32 := 512#32
  c512_i32_145
def k0_mult6 : BitVec 32 :=
  let c640_i32_146 : BitVec 32 := 640#32
  c640_i32_146
def k0_mult7 : BitVec 32 :=
  let c768_i32_147 : BitVec 32 := 768#32
  c768_i32_147
def k0_mult8 : BitVec 32 :=
  let c896_i32_148 : BitVec 32 := 896#32
  c896_i32_148
def k0_mult9 : BitVec 32 :=
  let c0_i32_149 : BitVec 32 := 0#32
  c0_i32_149
def k0_mult10 : BitVec 32 :=
  let c128_i32_150 : BitVec 32 := 128#32
  c128_i32_150
def k0_mult11 : BitVec 32 :=
  let c256_i32_151 : BitVec 32 := 256#32
  c256_i32_151
def k0_mult12 : BitVec 32 :=
  let c384_i32_152 : BitVec 32 := 384#32
  c384_i32_152
def k0_mult13 : BitVec 32 :=
  let c512_i32_153 : BitVec 32 := 512#32
  c512_i32_153
def k0_mult14 : BitVec 32 :=
  let c640_i32_154 : BitVec 32 := 640#32
  c640_i32_154
def k0_mult15 : BitVec 32 :=
  let c768_i32_155 : BitVec 32 := 768#32
  c768_i32_155
def k0_mult16 : BitVec 32 :=
  let c896_i32_156 : BitVec 32 := 896#32
  c896_i32_156
def k0_cond2 (i : grid0.Coords) : BitVec 1 :=
  let arg0 : BitVec 32 := BitVec.ofNat 32 (i 0).val
  let c1_i32 : BitVec 32 := 1#32
  let v4 : BitVec 32 := Scalar.addi arg0 c1_i32
  let c44_i32 : BitVec 32 := 44#32
  let v5 : BitVec 1 := Scalar.cmpi .slt v4 c44_i32
  let v6 : BitVec 32 := Scalar.extui v5
  let c0_i32_1 : BitVec 32 := 0#32
  let v7 : BitVec 1 := Scalar.cmpi .ne v6 c0_i32_1
  v7

def k0_mult17 (i : grid0.Coords) : BitVec 32 :=
  let arg0 : BitVec 32 := BitVec.ofNat 32 (i 0).val
  let c1_i32_141 : BitVec 32 := 1#32
  let v147 : BitVec 32 := Scalar.addi arg0 c1_i32_141
  let c1024_i32_143 : BitVec 32 := 1024#32
  let v149 : BitVec 32 := Scalar.muli v147 c1024_i32_143
  let c0_i32_144 : BitVec 32 := 0#32
  let v150 : BitVec 32 := Scalar.addi v149 c0_i32_144
  v150
def k0_mult18 (i : grid0.Coords) : BitVec 32 :=
  let arg0 : BitVec 32 := BitVec.ofNat 32 (i 0).val
  let c1_i32_141 : BitVec 32 := 1#32
  let v147 : BitVec 32 := Scalar.addi arg0 c1_i32_141
  let c1024_i32_145 : BitVec 32 := 1024#32
  let v152 : BitVec 32 := Scalar.muli v147 c1024_i32_145
  let c128_i32_146 : BitVec 32 := 128#32
  let v153 : BitVec 32 := Scalar.addi v152 c128_i32_146
  v153
def k0_mult19 (i : grid0.Coords) : BitVec 32 :=
  let arg0 : BitVec 32 := BitVec.ofNat 32 (i 0).val
  let c1_i32_141 : BitVec 32 := 1#32
  let v147 : BitVec 32 := Scalar.addi arg0 c1_i32_141
  let c1024_i32_147 : BitVec 32 := 1024#32
  let v155 : BitVec 32 := Scalar.muli v147 c1024_i32_147
  let c256_i32_148 : BitVec 32 := 256#32
  let v156 : BitVec 32 := Scalar.addi v155 c256_i32_148
  v156
def k0_mult20 (i : grid0.Coords) : BitVec 32 :=
  let arg0 : BitVec 32 := BitVec.ofNat 32 (i 0).val
  let c1_i32_141 : BitVec 32 := 1#32
  let v147 : BitVec 32 := Scalar.addi arg0 c1_i32_141
  let c1024_i32_149 : BitVec 32 := 1024#32
  let v158 : BitVec 32 := Scalar.muli v147 c1024_i32_149
  let c384_i32_150 : BitVec 32 := 384#32
  let v159 : BitVec 32 := Scalar.addi v158 c384_i32_150
  v159
def k0_mult21 (i : grid0.Coords) : BitVec 32 :=
  let arg0 : BitVec 32 := BitVec.ofNat 32 (i 0).val
  let c1_i32_141 : BitVec 32 := 1#32
  let v147 : BitVec 32 := Scalar.addi arg0 c1_i32_141
  let c1024_i32_151 : BitVec 32 := 1024#32
  let v161 : BitVec 32 := Scalar.muli v147 c1024_i32_151
  let c512_i32_152 : BitVec 32 := 512#32
  let v162 : BitVec 32 := Scalar.addi v161 c512_i32_152
  v162
def k0_mult22 (i : grid0.Coords) : BitVec 32 :=
  let arg0 : BitVec 32 := BitVec.ofNat 32 (i 0).val
  let c1_i32_141 : BitVec 32 := 1#32
  let v147 : BitVec 32 := Scalar.addi arg0 c1_i32_141
  let c1024_i32_153 : BitVec 32 := 1024#32
  let v164 : BitVec 32 := Scalar.muli v147 c1024_i32_153
  let c640_i32_154 : BitVec 32 := 640#32
  let v165 : BitVec 32 := Scalar.addi v164 c640_i32_154
  v165
def k0_mult23 (i : grid0.Coords) : BitVec 32 :=
  let arg0 : BitVec 32 := BitVec.ofNat 32 (i 0).val
  let c1_i32_141 : BitVec 32 := 1#32
  let v147 : BitVec 32 := Scalar.addi arg0 c1_i32_141
  let c1024_i32_155 : BitVec 32 := 1024#32
  let v167 : BitVec 32 := Scalar.muli v147 c1024_i32_155
  let c768_i32_156 : BitVec 32 := 768#32
  let v168 : BitVec 32 := Scalar.addi v167 c768_i32_156
  v168
def k0_mult24 (i : grid0.Coords) : BitVec 32 :=
  let arg0 : BitVec 32 := BitVec.ofNat 32 (i 0).val
  let c1_i32_141 : BitVec 32 := 1#32
  let v147 : BitVec 32 := Scalar.addi arg0 c1_i32_141
  let c1024_i32_157 : BitVec 32 := 1024#32
  let v170 : BitVec 32 := Scalar.muli v147 c1024_i32_157
  let c896_i32_158 : BitVec 32 := 896#32
  let v171 : BitVec 32 := Scalar.addi v170 c896_i32_158
  v171
def k0_mult25 (i : grid0.Coords) : BitVec 32 :=
  let arg0 : BitVec 32 := BitVec.ofNat 32 (i 0).val
  let c1_i32_141 : BitVec 32 := 1#32
  let v147 : BitVec 32 := Scalar.addi arg0 c1_i32_141
  let c1024_i32_159 : BitVec 32 := 1024#32
  let v173 : BitVec 32 := Scalar.muli v147 c1024_i32_159
  let c0_i32_160 : BitVec 32 := 0#32
  let v174 : BitVec 32 := Scalar.addi v173 c0_i32_160
  v174
def k0_mult26 (i : grid0.Coords) : BitVec 32 :=
  let arg0 : BitVec 32 := BitVec.ofNat 32 (i 0).val
  let c1_i32_141 : BitVec 32 := 1#32
  let v147 : BitVec 32 := Scalar.addi arg0 c1_i32_141
  let c1024_i32_161 : BitVec 32 := 1024#32
  let v176 : BitVec 32 := Scalar.muli v147 c1024_i32_161
  let c128_i32_162 : BitVec 32 := 128#32
  let v177 : BitVec 32 := Scalar.addi v176 c128_i32_162
  v177
def k0_mult27 (i : grid0.Coords) : BitVec 32 :=
  let arg0 : BitVec 32 := BitVec.ofNat 32 (i 0).val
  let c1_i32_141 : BitVec 32 := 1#32
  let v147 : BitVec 32 := Scalar.addi arg0 c1_i32_141
  let c1024_i32_163 : BitVec 32 := 1024#32
  let v179 : BitVec 32 := Scalar.muli v147 c1024_i32_163
  let c256_i32_164 : BitVec 32 := 256#32
  let v180 : BitVec 32 := Scalar.addi v179 c256_i32_164
  v180
def k0_mult28 (i : grid0.Coords) : BitVec 32 :=
  let arg0 : BitVec 32 := BitVec.ofNat 32 (i 0).val
  let c1_i32_141 : BitVec 32 := 1#32
  let v147 : BitVec 32 := Scalar.addi arg0 c1_i32_141
  let c1024_i32_165 : BitVec 32 := 1024#32
  let v182 : BitVec 32 := Scalar.muli v147 c1024_i32_165
  let c384_i32_166 : BitVec 32 := 384#32
  let v183 : BitVec 32 := Scalar.addi v182 c384_i32_166
  v183
def k0_mult29 (i : grid0.Coords) : BitVec 32 :=
  let arg0 : BitVec 32 := BitVec.ofNat 32 (i 0).val
  let c1_i32_141 : BitVec 32 := 1#32
  let v147 : BitVec 32 := Scalar.addi arg0 c1_i32_141
  let c1024_i32_167 : BitVec 32 := 1024#32
  let v185 : BitVec 32 := Scalar.muli v147 c1024_i32_167
  let c512_i32_168 : BitVec 32 := 512#32
  let v186 : BitVec 32 := Scalar.addi v185 c512_i32_168
  v186
def k0_mult30 (i : grid0.Coords) : BitVec 32 :=
  let arg0 : BitVec 32 := BitVec.ofNat 32 (i 0).val
  let c1_i32_141 : BitVec 32 := 1#32
  let v147 : BitVec 32 := Scalar.addi arg0 c1_i32_141
  let c1024_i32_169 : BitVec 32 := 1024#32
  let v188 : BitVec 32 := Scalar.muli v147 c1024_i32_169
  let c640_i32_170 : BitVec 32 := 640#32
  let v189 : BitVec 32 := Scalar.addi v188 c640_i32_170
  v189
def k0_mult31 (i : grid0.Coords) : BitVec 32 :=
  let arg0 : BitVec 32 := BitVec.ofNat 32 (i 0).val
  let c1_i32_141 : BitVec 32 := 1#32
  let v147 : BitVec 32 := Scalar.addi arg0 c1_i32_141
  let c1024_i32_171 : BitVec 32 := 1024#32
  let v191 : BitVec 32 := Scalar.muli v147 c1024_i32_171
  let c768_i32_172 : BitVec 32 := 768#32
  let v192 : BitVec 32 := Scalar.addi v191 c768_i32_172
  v192
def k0_mult32 (i : grid0.Coords) : BitVec 32 :=
  let arg0 : BitVec 32 := BitVec.ofNat 32 (i 0).val
  let c1_i32_141 : BitVec 32 := 1#32
  let v147 : BitVec 32 := Scalar.addi arg0 c1_i32_141
  let c1024_i32_173 : BitVec 32 := 1024#32
  let v194 : BitVec 32 := Scalar.muli v147 c1024_i32_173
  let c896_i32_174 : BitVec 32 := 896#32
  let v195 : BitVec 32 := Scalar.addi v194 c896_i32_174
  v195
def k0_off1 (i : grid0.Coords) : Fin 2 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_177 : BitVec 32 := 0#32
  ![v148.toNat, 0]
def k0_off2 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_175 : BitVec 32 := 0#32
  let c0_i32_176 : BitVec 32 := 0#32
  let c0_i32_178 : BitVec 32 := 0#32
  let c0_i32_179 : BitVec 32 := 0#32
  ![v148.toNat, 0, 0, 0, 0]
def k0_off3 (i : grid0.Coords) (c0_i32_144 : BitVec 32) : Fin 2 → Nat :=
  let c0_i32_180 : BitVec 32 := 0#32
  let arg0 : BitVec 32 := BitVec.ofNat 32 (i 0).val
  let c1_i32_141 : BitVec 32 := 1#32
  let v147 : BitVec 32 := Scalar.addi arg0 c1_i32_141
  let c1024_i32_143 : BitVec 32 := 1024#32
  let v149 : BitVec 32 := Scalar.muli v147 c1024_i32_143
  let v150 : BitVec 32 := Scalar.addi v149 c0_i32_144
  let v151 : BitVec 32 := v150
  ![0, v151.toNat]
def k0_off4 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_181 : BitVec 32 := 0#32
  let c1_i32_182 : BitVec 32 := 1#32
  let c0_i32_184 : BitVec 32 := 0#32
  let c0_i32_185 : BitVec 32 := 0#32
  ![v148.toNat, 0, 1, 0, 0]
def k0_off5 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_187 : BitVec 32 := 0#32
  let c2_i32_188 : BitVec 32 := 2#32
  let c0_i32_190 : BitVec 32 := 0#32
  let c0_i32_191 : BitVec 32 := 0#32
  ![v148.toNat, 0, 2, 0, 0]
def k0_off6 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_193 : BitVec 32 := 0#32
  let c3_i32_194 : BitVec 32 := 3#32
  let c0_i32_196 : BitVec 32 := 0#32
  let c0_i32_197 : BitVec 32 := 0#32
  ![v148.toNat, 0, 3, 0, 0]
def k0_off7 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_199 : BitVec 32 := 0#32
  let c4_i32_200 : BitVec 32 := 4#32
  let c0_i32_202 : BitVec 32 := 0#32
  let c0_i32_203 : BitVec 32 := 0#32
  ![v148.toNat, 0, 4, 0, 0]
def k0_off8 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_205 : BitVec 32 := 0#32
  let c5_i32_206 : BitVec 32 := 5#32
  let c0_i32_208 : BitVec 32 := 0#32
  let c0_i32_209 : BitVec 32 := 0#32
  ![v148.toNat, 0, 5, 0, 0]
def k0_off9 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_211 : BitVec 32 := 0#32
  let c6_i32_212 : BitVec 32 := 6#32
  let c0_i32_214 : BitVec 32 := 0#32
  let c0_i32_215 : BitVec 32 := 0#32
  ![v148.toNat, 0, 6, 0, 0]
def k0_off10 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_217 : BitVec 32 := 0#32
  let c7_i32_218 : BitVec 32 := 7#32
  let c0_i32_220 : BitVec 32 := 0#32
  let c0_i32_221 : BitVec 32 := 0#32
  ![v148.toNat, 0, 7, 0, 0]
def k0_off11 (i : grid0.Coords) : Fin 2 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_225 : BitVec 32 := 1#32
  ![v148.toNat, 1]
def k0_off12 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_223 : BitVec 32 := 1#32
  let c0_i32_224 : BitVec 32 := 0#32
  let c0_i32_226 : BitVec 32 := 0#32
  let c0_i32_227 : BitVec 32 := 0#32
  ![v148.toNat, 1, 0, 0, 0]
def k0_off13 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_229 : BitVec 32 := 1#32
  let c1_i32_230 : BitVec 32 := 1#32
  let c0_i32_232 : BitVec 32 := 0#32
  let c0_i32_233 : BitVec 32 := 0#32
  ![v148.toNat, 1, 1, 0, 0]
def k0_off14 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_235 : BitVec 32 := 1#32
  let c2_i32_236 : BitVec 32 := 2#32
  let c0_i32_238 : BitVec 32 := 0#32
  let c0_i32_239 : BitVec 32 := 0#32
  ![v148.toNat, 1, 2, 0, 0]
def k0_off15 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_241 : BitVec 32 := 1#32
  let c3_i32_242 : BitVec 32 := 3#32
  let c0_i32_244 : BitVec 32 := 0#32
  let c0_i32_245 : BitVec 32 := 0#32
  ![v148.toNat, 1, 3, 0, 0]
def k0_off16 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_247 : BitVec 32 := 1#32
  let c4_i32_248 : BitVec 32 := 4#32
  let c0_i32_250 : BitVec 32 := 0#32
  let c0_i32_251 : BitVec 32 := 0#32
  ![v148.toNat, 1, 4, 0, 0]
def k0_off17 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_253 : BitVec 32 := 1#32
  let c5_i32_254 : BitVec 32 := 5#32
  let c0_i32_256 : BitVec 32 := 0#32
  let c0_i32_257 : BitVec 32 := 0#32
  ![v148.toNat, 1, 5, 0, 0]
def k0_off18 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_259 : BitVec 32 := 1#32
  let c6_i32_260 : BitVec 32 := 6#32
  let c0_i32_262 : BitVec 32 := 0#32
  let c0_i32_263 : BitVec 32 := 0#32
  ![v148.toNat, 1, 6, 0, 0]
def k0_off19 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_265 : BitVec 32 := 1#32
  let c7_i32_266 : BitVec 32 := 7#32
  let c0_i32_268 : BitVec 32 := 0#32
  let c0_i32_269 : BitVec 32 := 0#32
  ![v148.toNat, 1, 7, 0, 0]
def k0_mult33 (i : grid0.Coords) : BitVec 32 :=
  let arg0 : BitVec 32 := BitVec.ofNat 32 (i 0).val
  let c1024_i32 : BitVec 32 := 1024#32
  let v8 : BitVec 32 := Scalar.muli arg0 c1024_i32
  let c0_i32_2 : BitVec 32 := 0#32
  let v9 : BitVec 32 := Scalar.addi v8 c0_i32_2
  v9
def k0_mult34 (i : grid0.Coords) : BitVec 32 :=
  let arg0 : BitVec 32 := BitVec.ofNat 32 (i 0).val
  let c1024_i32_3 : BitVec 32 := 1024#32
  let v11 : BitVec 32 := Scalar.muli arg0 c1024_i32_3
  let c128_i32 : BitVec 32 := 128#32
  let v12 : BitVec 32 := Scalar.addi v11 c128_i32
  v12
def k0_mult35 (i : grid0.Coords) : BitVec 32 :=
  let arg0 : BitVec 32 := BitVec.ofNat 32 (i 0).val
  let c1024_i32_4 : BitVec 32 := 1024#32
  let v14 : BitVec 32 := Scalar.muli arg0 c1024_i32_4
  let c256_i32 : BitVec 32 := 256#32
  let v15 : BitVec 32 := Scalar.addi v14 c256_i32
  v15
def k0_mult36 (i : grid0.Coords) : BitVec 32 :=
  let arg0 : BitVec 32 := BitVec.ofNat 32 (i 0).val
  let c1024_i32_5 : BitVec 32 := 1024#32
  let v17 : BitVec 32 := Scalar.muli arg0 c1024_i32_5
  let c384_i32 : BitVec 32 := 384#32
  let v18 : BitVec 32 := Scalar.addi v17 c384_i32
  v18
def k0_mult37 (i : grid0.Coords) : BitVec 32 :=
  let arg0 : BitVec 32 := BitVec.ofNat 32 (i 0).val
  let c1024_i32_6 : BitVec 32 := 1024#32
  let v20 : BitVec 32 := Scalar.muli arg0 c1024_i32_6
  let c512_i32 : BitVec 32 := 512#32
  let v21 : BitVec 32 := Scalar.addi v20 c512_i32
  v21
def k0_mult38 (i : grid0.Coords) : BitVec 32 :=
  let arg0 : BitVec 32 := BitVec.ofNat 32 (i 0).val
  let c1024_i32_7 : BitVec 32 := 1024#32
  let v23 : BitVec 32 := Scalar.muli arg0 c1024_i32_7
  let c640_i32 : BitVec 32 := 640#32
  let v24 : BitVec 32 := Scalar.addi v23 c640_i32
  v24
def k0_mult39 (i : grid0.Coords) : BitVec 32 :=
  let arg0 : BitVec 32 := BitVec.ofNat 32 (i 0).val
  let c1024_i32_8 : BitVec 32 := 1024#32
  let v26 : BitVec 32 := Scalar.muli arg0 c1024_i32_8
  let c768_i32 : BitVec 32 := 768#32
  let v27 : BitVec 32 := Scalar.addi v26 c768_i32
  v27
def k0_mult40 (i : grid0.Coords) : BitVec 32 :=
  let arg0 : BitVec 32 := BitVec.ofNat 32 (i 0).val
  let c1024_i32_9 : BitVec 32 := 1024#32
  let v29 : BitVec 32 := Scalar.muli arg0 c1024_i32_9
  let c896_i32 : BitVec 32 := 896#32
  let v30 : BitVec 32 := Scalar.addi v29 c896_i32
  v30
def k0_mult41 (i : grid0.Coords) : BitVec 32 :=
  let arg0 : BitVec 32 := BitVec.ofNat 32 (i 0).val
  let c1024_i32_10 : BitVec 32 := 1024#32
  let v32 : BitVec 32 := Scalar.muli arg0 c1024_i32_10
  let c0_i32_11 : BitVec 32 := 0#32
  let v33 : BitVec 32 := Scalar.addi v32 c0_i32_11
  v33
def k0_mult42 (i : grid0.Coords) : BitVec 32 :=
  let arg0 : BitVec 32 := BitVec.ofNat 32 (i 0).val
  let c1024_i32_12 : BitVec 32 := 1024#32
  let v35 : BitVec 32 := Scalar.muli arg0 c1024_i32_12
  let c128_i32_13 : BitVec 32 := 128#32
  let v36 : BitVec 32 := Scalar.addi v35 c128_i32_13
  v36
def k0_mult43 (i : grid0.Coords) : BitVec 32 :=
  let arg0 : BitVec 32 := BitVec.ofNat 32 (i 0).val
  let c1024_i32_14 : BitVec 32 := 1024#32
  let v38 : BitVec 32 := Scalar.muli arg0 c1024_i32_14
  let c256_i32_15 : BitVec 32 := 256#32
  let v39 : BitVec 32 := Scalar.addi v38 c256_i32_15
  v39
def k0_mult44 (i : grid0.Coords) : BitVec 32 :=
  let arg0 : BitVec 32 := BitVec.ofNat 32 (i 0).val
  let c1024_i32_16 : BitVec 32 := 1024#32
  let v41 : BitVec 32 := Scalar.muli arg0 c1024_i32_16
  let c384_i32_17 : BitVec 32 := 384#32
  let v42 : BitVec 32 := Scalar.addi v41 c384_i32_17
  v42
def k0_mult45 (i : grid0.Coords) : BitVec 32 :=
  let arg0 : BitVec 32 := BitVec.ofNat 32 (i 0).val
  let c1024_i32_18 : BitVec 32 := 1024#32
  let v44 : BitVec 32 := Scalar.muli arg0 c1024_i32_18
  let c512_i32_19 : BitVec 32 := 512#32
  let v45 : BitVec 32 := Scalar.addi v44 c512_i32_19
  v45
def k0_mult46 (i : grid0.Coords) : BitVec 32 :=
  let arg0 : BitVec 32 := BitVec.ofNat 32 (i 0).val
  let c1024_i32_20 : BitVec 32 := 1024#32
  let v47 : BitVec 32 := Scalar.muli arg0 c1024_i32_20
  let c640_i32_21 : BitVec 32 := 640#32
  let v48 : BitVec 32 := Scalar.addi v47 c640_i32_21
  v48
def k0_mult47 (i : grid0.Coords) : BitVec 32 :=
  let arg0 : BitVec 32 := BitVec.ofNat 32 (i 0).val
  let c1024_i32_22 : BitVec 32 := 1024#32
  let v50 : BitVec 32 := Scalar.muli arg0 c1024_i32_22
  let c768_i32_23 : BitVec 32 := 768#32
  let v51 : BitVec 32 := Scalar.addi v50 c768_i32_23
  v51
def k0_mult48 (i : grid0.Coords) : BitVec 32 :=
  let arg0 : BitVec 32 := BitVec.ofNat 32 (i 0).val
  let c1024_i32_24 : BitVec 32 := 1024#32
  let v53 : BitVec 32 := Scalar.muli arg0 c1024_i32_24
  let c896_i32_25 : BitVec 32 := 896#32
  let v54 : BitVec 32 := Scalar.addi v53 c896_i32_25
  v54
def k0_off20 (i : grid0.Coords) : Fin 2 → Nat :=
  let arg0 : BitVec 32 := BitVec.ofNat 32 (i 0).val
  let c2_i32 : BitVec 32 := 2#32
  let v3 : BitVec 32 := Scalar.remsi arg0 c2_i32
  let c0_i32_28 : BitVec 32 := 0#32
  ![v3.toNat, 0]
def k0_off21 (i : grid0.Coords) : Fin 5 → Nat :=
  let arg0 : BitVec 32 := BitVec.ofNat 32 (i 0).val
  let c2_i32 : BitVec 32 := 2#32
  let v3 : BitVec 32 := Scalar.remsi arg0 c2_i32
  let c0_i32_26 : BitVec 32 := 0#32
  let c0_i32_27 : BitVec 32 := 0#32
  let c0_i32_29 : BitVec 32 := 0#32
  let c0_i32_30 : BitVec 32 := 0#32
  ![v3.toNat, 0, 0, 0, 0]
def k0_off22 (i : grid0.Coords) (c0_i32_2 : BitVec 32) : Fin 2 → Nat :=
  let c0_i32_31 : BitVec 32 := 0#32
  let arg0 : BitVec 32 := BitVec.ofNat 32 (i 0).val
  let c1024_i32 : BitVec 32 := 1024#32
  let v8 : BitVec 32 := Scalar.muli arg0 c1024_i32
  let v9 : BitVec 32 := Scalar.addi v8 c0_i32_2
  let v10 : BitVec 32 := v9
  ![0, v10.toNat]
def k0_off23 (i : grid0.Coords) : Fin 5 → Nat :=
  let arg0 : BitVec 32 := BitVec.ofNat 32 (i 0).val
  let c2_i32 : BitVec 32 := 2#32
  let v3 : BitVec 32 := Scalar.remsi arg0 c2_i32
  let c0_i32_32 : BitVec 32 := 0#32
  let c1_i32_33 : BitVec 32 := 1#32
  let c0_i32_35 : BitVec 32 := 0#32
  let c0_i32_36 : BitVec 32 := 0#32
  ![v3.toNat, 0, 1, 0, 0]
def k0_off24 (i : grid0.Coords) : Fin 5 → Nat :=
  let arg0 : BitVec 32 := BitVec.ofNat 32 (i 0).val
  let c2_i32 : BitVec 32 := 2#32
  let v3 : BitVec 32 := Scalar.remsi arg0 c2_i32
  let c0_i32_38 : BitVec 32 := 0#32
  let c2_i32_39 : BitVec 32 := 2#32
  let c0_i32_41 : BitVec 32 := 0#32
  let c0_i32_42 : BitVec 32 := 0#32
  ![v3.toNat, 0, 2, 0, 0]
def k0_off25 (i : grid0.Coords) : Fin 5 → Nat :=
  let arg0 : BitVec 32 := BitVec.ofNat 32 (i 0).val
  let c2_i32 : BitVec 32 := 2#32
  let v3 : BitVec 32 := Scalar.remsi arg0 c2_i32
  let c0_i32_44 : BitVec 32 := 0#32
  let c3_i32 : BitVec 32 := 3#32
  let c0_i32_46 : BitVec 32 := 0#32
  let c0_i32_47 : BitVec 32 := 0#32
  ![v3.toNat, 0, 3, 0, 0]
def k0_off26 (i : grid0.Coords) : Fin 5 → Nat :=
  let arg0 : BitVec 32 := BitVec.ofNat 32 (i 0).val
  let c2_i32 : BitVec 32 := 2#32
  let v3 : BitVec 32 := Scalar.remsi arg0 c2_i32
  let c0_i32_49 : BitVec 32 := 0#32
  let c4_i32 : BitVec 32 := 4#32
  let c0_i32_51 : BitVec 32 := 0#32
  let c0_i32_52 : BitVec 32 := 0#32
  ![v3.toNat, 0, 4, 0, 0]
def k0_off27 (i : grid0.Coords) : Fin 5 → Nat :=
  let arg0 : BitVec 32 := BitVec.ofNat 32 (i 0).val
  let c2_i32 : BitVec 32 := 2#32
  let v3 : BitVec 32 := Scalar.remsi arg0 c2_i32
  let c0_i32_54 : BitVec 32 := 0#32
  let c5_i32 : BitVec 32 := 5#32
  let c0_i32_56 : BitVec 32 := 0#32
  let c0_i32_57 : BitVec 32 := 0#32
  ![v3.toNat, 0, 5, 0, 0]
def k0_off28 (i : grid0.Coords) : Fin 5 → Nat :=
  let arg0 : BitVec 32 := BitVec.ofNat 32 (i 0).val
  let c2_i32 : BitVec 32 := 2#32
  let v3 : BitVec 32 := Scalar.remsi arg0 c2_i32
  let c0_i32_59 : BitVec 32 := 0#32
  let c6_i32 : BitVec 32 := 6#32
  let c0_i32_61 : BitVec 32 := 0#32
  let c0_i32_62 : BitVec 32 := 0#32
  ![v3.toNat, 0, 6, 0, 0]
def k0_off29 (i : grid0.Coords) : Fin 5 → Nat :=
  let arg0 : BitVec 32 := BitVec.ofNat 32 (i 0).val
  let c2_i32 : BitVec 32 := 2#32
  let v3 : BitVec 32 := Scalar.remsi arg0 c2_i32
  let c0_i32_64 : BitVec 32 := 0#32
  let c7_i32 : BitVec 32 := 7#32
  let c0_i32_66 : BitVec 32 := 0#32
  let c0_i32_67 : BitVec 32 := 0#32
  ![v3.toNat, 0, 7, 0, 0]
def k0_off30 (i : grid0.Coords) : Fin 2 → Nat :=
  let arg0 : BitVec 32 := BitVec.ofNat 32 (i 0).val
  let c2_i32 : BitVec 32 := 2#32
  let v3 : BitVec 32 := Scalar.remsi arg0 c2_i32
  let c1_i32_71 : BitVec 32 := 1#32
  ![v3.toNat, 1]
def k0_off31 (i : grid0.Coords) : Fin 5 → Nat :=
  let arg0 : BitVec 32 := BitVec.ofNat 32 (i 0).val
  let c2_i32 : BitVec 32 := 2#32
  let v3 : BitVec 32 := Scalar.remsi arg0 c2_i32
  let c1_i32_69 : BitVec 32 := 1#32
  let c0_i32_70 : BitVec 32 := 0#32
  let c0_i32_72 : BitVec 32 := 0#32
  let c0_i32_73 : BitVec 32 := 0#32
  ![v3.toNat, 1, 0, 0, 0]
def k0_off32 (i : grid0.Coords) : Fin 5 → Nat :=
  let arg0 : BitVec 32 := BitVec.ofNat 32 (i 0).val
  let c2_i32 : BitVec 32 := 2#32
  let v3 : BitVec 32 := Scalar.remsi arg0 c2_i32
  let c1_i32_75 : BitVec 32 := 1#32
  let c1_i32_76 : BitVec 32 := 1#32
  let c0_i32_78 : BitVec 32 := 0#32
  let c0_i32_79 : BitVec 32 := 0#32
  ![v3.toNat, 1, 1, 0, 0]
def k0_off33 (i : grid0.Coords) : Fin 5 → Nat :=
  let arg0 : BitVec 32 := BitVec.ofNat 32 (i 0).val
  let c2_i32 : BitVec 32 := 2#32
  let v3 : BitVec 32 := Scalar.remsi arg0 c2_i32
  let c1_i32_81 : BitVec 32 := 1#32
  let c2_i32_82 : BitVec 32 := 2#32
  let c0_i32_84 : BitVec 32 := 0#32
  let c0_i32_85 : BitVec 32 := 0#32
  ![v3.toNat, 1, 2, 0, 0]
def k0_off34 (i : grid0.Coords) : Fin 5 → Nat :=
  let arg0 : BitVec 32 := BitVec.ofNat 32 (i 0).val
  let c2_i32 : BitVec 32 := 2#32
  let v3 : BitVec 32 := Scalar.remsi arg0 c2_i32
  let c1_i32_87 : BitVec 32 := 1#32
  let c3_i32_88 : BitVec 32 := 3#32
  let c0_i32_90 : BitVec 32 := 0#32
  let c0_i32_91 : BitVec 32 := 0#32
  ![v3.toNat, 1, 3, 0, 0]
def k0_off35 (i : grid0.Coords) : Fin 5 → Nat :=
  let arg0 : BitVec 32 := BitVec.ofNat 32 (i 0).val
  let c2_i32 : BitVec 32 := 2#32
  let v3 : BitVec 32 := Scalar.remsi arg0 c2_i32
  let c1_i32_93 : BitVec 32 := 1#32
  let c4_i32_94 : BitVec 32 := 4#32
  let c0_i32_96 : BitVec 32 := 0#32
  let c0_i32_97 : BitVec 32 := 0#32
  ![v3.toNat, 1, 4, 0, 0]
def k0_off36 (i : grid0.Coords) : Fin 5 → Nat :=
  let arg0 : BitVec 32 := BitVec.ofNat 32 (i 0).val
  let c2_i32 : BitVec 32 := 2#32
  let v3 : BitVec 32 := Scalar.remsi arg0 c2_i32
  let c1_i32_99 : BitVec 32 := 1#32
  let c5_i32_100 : BitVec 32 := 5#32
  let c0_i32_102 : BitVec 32 := 0#32
  let c0_i32_103 : BitVec 32 := 0#32
  ![v3.toNat, 1, 5, 0, 0]
def k0_off37 (i : grid0.Coords) : Fin 5 → Nat :=
  let arg0 : BitVec 32 := BitVec.ofNat 32 (i 0).val
  let c2_i32 : BitVec 32 := 2#32
  let v3 : BitVec 32 := Scalar.remsi arg0 c2_i32
  let c1_i32_105 : BitVec 32 := 1#32
  let c6_i32_106 : BitVec 32 := 6#32
  let c0_i32_108 : BitVec 32 := 0#32
  let c0_i32_109 : BitVec 32 := 0#32
  ![v3.toNat, 1, 6, 0, 0]
def k0_off38 (i : grid0.Coords) : Fin 5 → Nat :=
  let arg0 : BitVec 32 := BitVec.ofNat 32 (i 0).val
  let c2_i32 : BitVec 32 := 2#32
  let v3 : BitVec 32 := Scalar.remsi arg0 c2_i32
  let c1_i32_111 : BitVec 32 := 1#32
  let c7_i32_112 : BitVec 32 := 7#32
  let c0_i32_114 : BitVec 32 := 0#32
  let c0_i32_115 : BitVec 32 := 0#32
  ![v3.toNat, 1, 7, 0, 0]
@[reducible] def k0_t1_loop : Scf.Loop 32 :=
  let c0_i32_117 : BitVec 32 := 0#32
  let c2_i32_118 : BitVec 32 := 2#32
  let v136 : BitVec 32 := Scalar.addi c0_i32_117 c2_i32_118
  let c1_i32_119 : BitVec 32 := 1#32
  ⟨c0_i32_117, v136, c1_i32_119⟩
def k0_mult49 (k0_t1 : Fin k0_t1_loop.trips) : BitVec 32 :=
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  v147
def k0_off39 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v150 : Index := Scalar.indexCast v3
  let c0_142 : Index := 0#32
  let c0_143 : Index := 0#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v151 : Index := Scalar.indexCast v148
  let c0_144 : Index := 0#32
  ![v150.toNat, 0, 0, Nat.mul 2 v151.toNat, 0]
def k0_off40 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v163 : Index := Scalar.indexCast arg11
  let c0_145 : Index := 0#32
  let c0_146 : Index := 0#32
  ![v163.toNat, 0, 0]
def k0_off41 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v168 : Index := Scalar.indexCast v3
  let c0_147 : Index := 0#32
  let c1 : Index := 1#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v169 : Index := Scalar.indexCast v148
  let c0_148 : Index := 0#32
  ![v168.toNat, 0, 1, Nat.mul 2 v169.toNat, 0]
def k0_off42 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v181 : Index := Scalar.indexCast arg11
  let c128 : Index := 128#32
  let c0_151 : Index := 0#32
  ![v181.toNat, 128, 0]
def k0_off43 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v186 : Index := Scalar.indexCast v3
  let c0_152 : Index := 0#32
  let c2 : Index := 2#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v187 : Index := Scalar.indexCast v148
  let c0_153 : Index := 0#32
  ![v186.toNat, 0, 2, Nat.mul 2 v187.toNat, 0]
def k0_off44 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v199 : Index := Scalar.indexCast arg11
  let c256 : Index := 256#32
  let c0_156 : Index := 0#32
  ![v199.toNat, 256, 0]
def k0_off45 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v204 : Index := Scalar.indexCast v3
  let c0_157 : Index := 0#32
  let c3 : Index := 3#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v205 : Index := Scalar.indexCast v148
  let c0_158 : Index := 0#32
  ![v204.toNat, 0, 3, Nat.mul 2 v205.toNat, 0]
def k0_off46 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v217 : Index := Scalar.indexCast arg11
  let c384 : Index := 384#32
  let c0_161 : Index := 0#32
  ![v217.toNat, 384, 0]
def k0_off47 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v222 : Index := Scalar.indexCast v3
  let c0_162 : Index := 0#32
  let c4 : Index := 4#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v223 : Index := Scalar.indexCast v148
  let c0_163 : Index := 0#32
  ![v222.toNat, 0, 4, Nat.mul 2 v223.toNat, 0]
def k0_off48 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v235 : Index := Scalar.indexCast arg11
  let c512 : Index := 512#32
  let c0_166 : Index := 0#32
  ![v235.toNat, 512, 0]
def k0_off49 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v240 : Index := Scalar.indexCast v3
  let c0_167 : Index := 0#32
  let c5 : Index := 5#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v241 : Index := Scalar.indexCast v148
  let c0_168 : Index := 0#32
  ![v240.toNat, 0, 5, Nat.mul 2 v241.toNat, 0]
def k0_off50 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v253 : Index := Scalar.indexCast arg11
  let c640 : Index := 640#32
  let c0_171 : Index := 0#32
  ![v253.toNat, 640, 0]
def k0_off51 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v258 : Index := Scalar.indexCast v3
  let c0_172 : Index := 0#32
  let c6 : Index := 6#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v259 : Index := Scalar.indexCast v148
  let c0_173 : Index := 0#32
  ![v258.toNat, 0, 6, Nat.mul 2 v259.toNat, 0]
def k0_off52 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v271 : Index := Scalar.indexCast arg11
  let c768 : Index := 768#32
  let c0_176 : Index := 0#32
  ![v271.toNat, 768, 0]
def k0_off53 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v276 : Index := Scalar.indexCast v3
  let c0_177 : Index := 0#32
  let c7 : Index := 7#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v277 : Index := Scalar.indexCast v148
  let c0_178 : Index := 0#32
  ![v276.toNat, 0, 7, Nat.mul 2 v277.toNat, 0]
def k0_off54 (k0_t1 : Fin k0_t1_loop.trips) : Fin 3 → Nat :=
  let c0_i32_117 : BitVec 32 := 0#32
  let c1_i32_119 : BitVec 32 := 1#32
  let arg11 : BitVec 32 := Scf.iv c0_i32_117 c1_i32_119 k0_t1
  let v289 : Index := Scalar.indexCast arg11
  let c896 : Index := 896#32
  let c0_181 : Index := 0#32
  ![v289.toNat, 896, 0]
@[reducible] def k0_t2_loop : Scf.Loop 32 :=
  let c0_i32_121 : BitVec 32 := 0#32
  let c2_i32_122 : BitVec 32 := 2#32
  let v137 : BitVec 32 := Scalar.addi c0_i32_121 c2_i32_122
  let c1_i32_123 : BitVec 32 := 1#32
  ⟨c0_i32_121, v137, c1_i32_123⟩
def k0_mult50 (k0_t2 : Fin k0_t2_loop.trips) : BitVec 32 :=
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  v147
def k0_off55 (k0_t2 : Fin k0_t2_loop.trips) : Fin 3 → Nat :=
  let c0_i32_121 : BitVec 32 := 0#32
  let c1_i32_123 : BitVec 32 := 1#32
  let arg11 : BitVec 32 := Scf.iv c0_i32_121 c1_i32_123 k0_t2
  let c0_i32_142 : BitVec 32 := 0#32
  let c0_i32_143 : BitVec 32 := 0#32
  ![arg11.toNat, 0, 0]
def k0_off56 (k0_t2 : Fin k0_t2_loop.trips) : Fin 6 → Nat :=
  let c0_149 : Index := 0#32
  let c0_150 : Index := 0#32
  let c0_151 : Index := 0#32
  let c0_152 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v171 : Index := Scalar.indexCast v148
  let c0_153 : Index := 0#32
  ![0, 0, 0, 0, v171.toNat, 0]
def k0_off57 (k0_t2 : Fin k0_t2_loop.trips) : Fin 6 → Nat :=
  let c0_154 : Index := 0#32
  let c0_155 : Index := 0#32
  let c0_156 : Index := 0#32
  let c1 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v175 : Index := Scalar.indexCast v148
  let c0_157 : Index := 0#32
  ![0, 0, 0, 1, v175.toNat, 0]
def k0_off58 (k0_t2 : Fin k0_t2_loop.trips) : Fin 6 → Nat :=
  let c0_167 : Index := 0#32
  let c0_168 : Index := 0#32
  let c1_169 : Index := 1#32
  let c0_170 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v201 : Index := Scalar.indexCast v148
  let c0_171 : Index := 0#32
  ![0, 0, 1, 0, v201.toNat, 0]
def k0_off59 (k0_t2 : Fin k0_t2_loop.trips) : Fin 6 → Nat :=
  let c0_172 : Index := 0#32
  let c0_173 : Index := 0#32
  let c1_174 : Index := 1#32
  let c1_175 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v205 : Index := Scalar.indexCast v148
  let c0_176 : Index := 0#32
  ![0, 0, 1, 1, v205.toNat, 0]
def k0_off60 (k0_t2 : Fin k0_t2_loop.trips) : Fin 6 → Nat :=
  let c0_188 : Index := 0#32
  let c1_189 : Index := 1#32
  let c0_190 : Index := 0#32
  let c0_191 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v235 : Index := Scalar.indexCast v148
  let c0_192 : Index := 0#32
  ![0, 1, 0, 0, v235.toNat, 0]
def k0_off61 (k0_t2 : Fin k0_t2_loop.trips) : Fin 6 → Nat :=
  let c0_193 : Index := 0#32
  let c1_194 : Index := 1#32
  let c0_195 : Index := 0#32
  let c1_196 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v239 : Index := Scalar.indexCast v148
  let c0_197 : Index := 0#32
  ![0, 1, 0, 1, v239.toNat, 0]
def k0_off62 (k0_t2 : Fin k0_t2_loop.trips) : Fin 6 → Nat :=
  let c0_208 : Index := 0#32
  let c1_209 : Index := 1#32
  let c1_210 : Index := 1#32
  let c0_211 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v269 : Index := Scalar.indexCast v148
  let c0_212 : Index := 0#32
  ![0, 1, 1, 0, v269.toNat, 0]
def k0_off63 (k0_t2 : Fin k0_t2_loop.trips) : Fin 6 → Nat :=
  let c0_213 : Index := 0#32
  let c1_214 : Index := 1#32
  let c1_215 : Index := 1#32
  let c1_216 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v273 : Index := Scalar.indexCast v148
  let c0_217 : Index := 0#32
  ![0, 1, 1, 1, v273.toNat, 0]
def k0_off64 (k0_t2 : Fin k0_t2_loop.trips) : Fin 6 → Nat :=
  let c0_228 : Index := 0#32
  let c2_229 : Index := 2#32
  let c0_230 : Index := 0#32
  let c0_231 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v303 : Index := Scalar.indexCast v148
  let c0_232 : Index := 0#32
  ![0, 2, 0, 0, v303.toNat, 0]
def k0_off65 (k0_t2 : Fin k0_t2_loop.trips) : Fin 6 → Nat :=
  let c0_233 : Index := 0#32
  let c2_234 : Index := 2#32
  let c0_235 : Index := 0#32
  let c1_236 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v307 : Index := Scalar.indexCast v148
  let c0_237 : Index := 0#32
  ![0, 2, 0, 1, v307.toNat, 0]
def k0_off66 (k0_t2 : Fin k0_t2_loop.trips) : Fin 6 → Nat :=
  let c0_248 : Index := 0#32
  let c2_249 : Index := 2#32
  let c1_250 : Index := 1#32
  let c0_251 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v337 : Index := Scalar.indexCast v148
  let c0_252 : Index := 0#32
  ![0, 2, 1, 0, v337.toNat, 0]
def k0_off67 (k0_t2 : Fin k0_t2_loop.trips) : Fin 6 → Nat :=
  let c0_253 : Index := 0#32
  let c2_254 : Index := 2#32
  let c1_255 : Index := 1#32
  let c1_256 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v341 : Index := Scalar.indexCast v148
  let c0_257 : Index := 0#32
  ![0, 2, 1, 1, v341.toNat, 0]
def k0_off68 (k0_t2 : Fin k0_t2_loop.trips) : Fin 6 → Nat :=
  let c0_268 : Index := 0#32
  let c3_269 : Index := 3#32
  let c0_270 : Index := 0#32
  let c0_271 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v371 : Index := Scalar.indexCast v148
  let c0_272 : Index := 0#32
  ![0, 3, 0, 0, v371.toNat, 0]
def k0_off69 (k0_t2 : Fin k0_t2_loop.trips) : Fin 6 → Nat :=
  let c0_273 : Index := 0#32
  let c3_274 : Index := 3#32
  let c0_275 : Index := 0#32
  let c1_276 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v375 : Index := Scalar.indexCast v148
  let c0_277 : Index := 0#32
  ![0, 3, 0, 1, v375.toNat, 0]
def k0_off70 (k0_t2 : Fin k0_t2_loop.trips) : Fin 6 → Nat :=
  let c0_288 : Index := 0#32
  let c3_289 : Index := 3#32
  let c1_290 : Index := 1#32
  let c0_291 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v405 : Index := Scalar.indexCast v148
  let c0_292 : Index := 0#32
  ![0, 3, 1, 0, v405.toNat, 0]
def k0_off71 (k0_t2 : Fin k0_t2_loop.trips) : Fin 6 → Nat :=
  let c0_293 : Index := 0#32
  let c3_294 : Index := 3#32
  let c1_295 : Index := 1#32
  let c1_296 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v409 : Index := Scalar.indexCast v148
  let c0_297 : Index := 0#32
  ![0, 3, 1, 1, v409.toNat, 0]
@[reducible] def k0_t3_loop : Scf.Loop 32 :=
  let c0_i32_125 : BitVec 32 := 0#32
  let c2_i32_126 : BitVec 32 := 2#32
  let v138 : BitVec 32 := Scalar.addi c0_i32_125 c2_i32_126
  let c1_i32_127 : BitVec 32 := 1#32
  ⟨c0_i32_125, v138, c1_i32_127⟩
def k0_mult51 (k0_t3 : Fin k0_t3_loop.trips) : BitVec 32 :=
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  v147
def k0_off72 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v150 : Index := Scalar.indexCast v3
  let c1 : Index := 1#32
  let c0_142 : Index := 0#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v151 : Index := Scalar.indexCast v148
  let c0_143 : Index := 0#32
  ![v150.toNat, 1, 0, Nat.mul 2 v151.toNat, 0]
def k0_off73 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v163 : Index := Scalar.indexCast arg11
  let c0_144 : Index := 0#32
  let c0_145 : Index := 0#32
  ![v163.toNat, 0, 0]
def k0_off74 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v168 : Index := Scalar.indexCast v3
  let c1_146 : Index := 1#32
  let c1_147 : Index := 1#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v169 : Index := Scalar.indexCast v148
  let c0_148 : Index := 0#32
  ![v168.toNat, 1, 1, Nat.mul 2 v169.toNat, 0]
def k0_off75 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v181 : Index := Scalar.indexCast arg11
  let c128 : Index := 128#32
  let c0_151 : Index := 0#32
  ![v181.toNat, 128, 0]
def k0_off76 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v186 : Index := Scalar.indexCast v3
  let c1_152 : Index := 1#32
  let c2 : Index := 2#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v187 : Index := Scalar.indexCast v148
  let c0_153 : Index := 0#32
  ![v186.toNat, 1, 2, Nat.mul 2 v187.toNat, 0]
def k0_off77 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v199 : Index := Scalar.indexCast arg11
  let c256 : Index := 256#32
  let c0_156 : Index := 0#32
  ![v199.toNat, 256, 0]
def k0_off78 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v204 : Index := Scalar.indexCast v3
  let c1_157 : Index := 1#32
  let c3 : Index := 3#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v205 : Index := Scalar.indexCast v148
  let c0_158 : Index := 0#32
  ![v204.toNat, 1, 3, Nat.mul 2 v205.toNat, 0]
def k0_off79 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v217 : Index := Scalar.indexCast arg11
  let c384 : Index := 384#32
  let c0_161 : Index := 0#32
  ![v217.toNat, 384, 0]
def k0_off80 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v222 : Index := Scalar.indexCast v3
  let c1_162 : Index := 1#32
  let c4 : Index := 4#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v223 : Index := Scalar.indexCast v148
  let c0_163 : Index := 0#32
  ![v222.toNat, 1, 4, Nat.mul 2 v223.toNat, 0]
def k0_off81 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v235 : Index := Scalar.indexCast arg11
  let c512 : Index := 512#32
  let c0_166 : Index := 0#32
  ![v235.toNat, 512, 0]
def k0_off82 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v240 : Index := Scalar.indexCast v3
  let c1_167 : Index := 1#32
  let c5 : Index := 5#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v241 : Index := Scalar.indexCast v148
  let c0_168 : Index := 0#32
  ![v240.toNat, 1, 5, Nat.mul 2 v241.toNat, 0]
def k0_off83 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v253 : Index := Scalar.indexCast arg11
  let c640 : Index := 640#32
  let c0_171 : Index := 0#32
  ![v253.toNat, 640, 0]
def k0_off84 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v258 : Index := Scalar.indexCast v3
  let c1_172 : Index := 1#32
  let c6 : Index := 6#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v259 : Index := Scalar.indexCast v148
  let c0_173 : Index := 0#32
  ![v258.toNat, 1, 6, Nat.mul 2 v259.toNat, 0]
def k0_off85 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v271 : Index := Scalar.indexCast arg11
  let c768 : Index := 768#32
  let c0_176 : Index := 0#32
  ![v271.toNat, 768, 0]
def k0_off86 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v276 : Index := Scalar.indexCast v3
  let c1_177 : Index := 1#32
  let c7 : Index := 7#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v277 : Index := Scalar.indexCast v148
  let c0_178 : Index := 0#32
  ![v276.toNat, 1, 7, Nat.mul 2 v277.toNat, 0]
def k0_off87 (k0_t3 : Fin k0_t3_loop.trips) : Fin 3 → Nat :=
  let c0_i32_125 : BitVec 32 := 0#32
  let c1_i32_127 : BitVec 32 := 1#32
  let arg11 : BitVec 32 := Scf.iv c0_i32_125 c1_i32_127 k0_t3
  let v289 : Index := Scalar.indexCast arg11
  let c896 : Index := 896#32
  let c0_181 : Index := 0#32
  ![v289.toNat, 896, 0]
@[reducible] def k0_t4_loop : Scf.Loop 32 :=
  let c0_i32_129 : BitVec 32 := 0#32
  let c2_i32_130 : BitVec 32 := 2#32
  let v139 : BitVec 32 := Scalar.addi c0_i32_129 c2_i32_130
  let c1_i32_131 : BitVec 32 := 1#32
  ⟨c0_i32_129, v139, c1_i32_131⟩
def k0_mult52 (k0_t4 : Fin k0_t4_loop.trips) : BitVec 32 :=
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  v147
def k0_off88 (k0_t4 : Fin k0_t4_loop.trips) : Fin 3 → Nat :=
  let c0_i32_129 : BitVec 32 := 0#32
  let c1_i32_131 : BitVec 32 := 1#32
  let arg11 : BitVec 32 := Scf.iv c0_i32_129 c1_i32_131 k0_t4
  let c0_i32_142 : BitVec 32 := 0#32
  let c0_i32_143 : BitVec 32 := 0#32
  ![arg11.toNat, 0, 0]
def k0_off89 (k0_t4 : Fin k0_t4_loop.trips) : Fin 6 → Nat :=
  let c1 : Index := 1#32
  let c0_149 : Index := 0#32
  let c0_150 : Index := 0#32
  let c0_151 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v171 : Index := Scalar.indexCast v148
  let c0_152 : Index := 0#32
  ![1, 0, 0, 0, v171.toNat, 0]
def k0_off90 (k0_t4 : Fin k0_t4_loop.trips) : Fin 6 → Nat :=
  let c1_153 : Index := 1#32
  let c0_154 : Index := 0#32
  let c0_155 : Index := 0#32
  let c1_156 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v175 : Index := Scalar.indexCast v148
  let c0_157 : Index := 0#32
  ![1, 0, 0, 1, v175.toNat, 0]
def k0_off91 (k0_t4 : Fin k0_t4_loop.trips) : Fin 6 → Nat :=
  let c1_167 : Index := 1#32
  let c0_168 : Index := 0#32
  let c1_169 : Index := 1#32
  let c0_170 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v201 : Index := Scalar.indexCast v148
  let c0_171 : Index := 0#32
  ![1, 0, 1, 0, v201.toNat, 0]
def k0_off92 (k0_t4 : Fin k0_t4_loop.trips) : Fin 6 → Nat :=
  let c1_172 : Index := 1#32
  let c0_173 : Index := 0#32
  let c1_174 : Index := 1#32
  let c1_175 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v205 : Index := Scalar.indexCast v148
  let c0_176 : Index := 0#32
  ![1, 0, 1, 1, v205.toNat, 0]
def k0_off93 (k0_t4 : Fin k0_t4_loop.trips) : Fin 6 → Nat :=
  let c1_187 : Index := 1#32
  let c1_188 : Index := 1#32
  let c0_189 : Index := 0#32
  let c0_190 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v231 : Index := Scalar.indexCast v148
  let c0_191 : Index := 0#32
  ![1, 1, 0, 0, v231.toNat, 0]
def k0_off94 (k0_t4 : Fin k0_t4_loop.trips) : Fin 6 → Nat :=
  let c1_192 : Index := 1#32
  let c1_193 : Index := 1#32
  let c0_194 : Index := 0#32
  let c1_195 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v235 : Index := Scalar.indexCast v148
  let c0_196 : Index := 0#32
  ![1, 1, 0, 1, v235.toNat, 0]
def k0_off95 (k0_t4 : Fin k0_t4_loop.trips) : Fin 6 → Nat :=
  let c1_206 : Index := 1#32
  let c1_207 : Index := 1#32
  let c1_208 : Index := 1#32
  let c0_209 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v261 : Index := Scalar.indexCast v148
  let c0_210 : Index := 0#32
  ![1, 1, 1, 0, v261.toNat, 0]
def k0_off96 (k0_t4 : Fin k0_t4_loop.trips) : Fin 6 → Nat :=
  let c1_211 : Index := 1#32
  let c1_212 : Index := 1#32
  let c1_213 : Index := 1#32
  let c1_214 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v265 : Index := Scalar.indexCast v148
  let c0_215 : Index := 0#32
  ![1, 1, 1, 1, v265.toNat, 0]
def k0_off97 (k0_t4 : Fin k0_t4_loop.trips) : Fin 6 → Nat :=
  let c1_225 : Index := 1#32
  let c2_226 : Index := 2#32
  let c0_227 : Index := 0#32
  let c0_228 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v291 : Index := Scalar.indexCast v148
  let c0_229 : Index := 0#32
  ![1, 2, 0, 0, v291.toNat, 0]
def k0_off98 (k0_t4 : Fin k0_t4_loop.trips) : Fin 6 → Nat :=
  let c1_230 : Index := 1#32
  let c2_231 : Index := 2#32
  let c0_232 : Index := 0#32
  let c1_233 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v295 : Index := Scalar.indexCast v148
  let c0_234 : Index := 0#32
  ![1, 2, 0, 1, v295.toNat, 0]
def k0_off99 (k0_t4 : Fin k0_t4_loop.trips) : Fin 6 → Nat :=
  let c1_244 : Index := 1#32
  let c2_245 : Index := 2#32
  let c1_246 : Index := 1#32
  let c0_247 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v321 : Index := Scalar.indexCast v148
  let c0_248 : Index := 0#32
  ![1, 2, 1, 0, v321.toNat, 0]
def k0_off100 (k0_t4 : Fin k0_t4_loop.trips) : Fin 6 → Nat :=
  let c1_249 : Index := 1#32
  let c2_250 : Index := 2#32
  let c1_251 : Index := 1#32
  let c1_252 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v325 : Index := Scalar.indexCast v148
  let c0_253 : Index := 0#32
  ![1, 2, 1, 1, v325.toNat, 0]
def k0_off101 (k0_t4 : Fin k0_t4_loop.trips) : Fin 6 → Nat :=
  let c1_263 : Index := 1#32
  let c3_264 : Index := 3#32
  let c0_265 : Index := 0#32
  let c0_266 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v351 : Index := Scalar.indexCast v148
  let c0_267 : Index := 0#32
  ![1, 3, 0, 0, v351.toNat, 0]
def k0_off102 (k0_t4 : Fin k0_t4_loop.trips) : Fin 6 → Nat :=
  let c1_268 : Index := 1#32
  let c3_269 : Index := 3#32
  let c0_270 : Index := 0#32
  let c1_271 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v355 : Index := Scalar.indexCast v148
  let c0_272 : Index := 0#32
  ![1, 3, 0, 1, v355.toNat, 0]
def k0_off103 (k0_t4 : Fin k0_t4_loop.trips) : Fin 6 → Nat :=
  let c1_282 : Index := 1#32
  let c3_283 : Index := 3#32
  let c1_284 : Index := 1#32
  let c0_285 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v381 : Index := Scalar.indexCast v148
  let c0_286 : Index := 0#32
  ![1, 3, 1, 0, v381.toNat, 0]
def k0_off104 (k0_t4 : Fin k0_t4_loop.trips) : Fin 6 → Nat :=
  let c1_287 : Index := 1#32
  let c3_288 : Index := 3#32
  let c1_289 : Index := 1#32
  let c1_290 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v385 : Index := Scalar.indexCast v148
  let c0_291 : Index := 0#32
  ![1, 3, 1, 1, v385.toNat, 0]
@[reducible] def k0_t5_loop : Scf.Loop 32 :=
  let c0_i32_135 : BitVec 32 := 0#32
  let c8_i32 : BitVec 32 := 8#32
  let v144 : BitVec 32 := Scalar.addi c0_i32_135 c8_i32
  let c1_i32_136 : BitVec 32 := 1#32
  ⟨c0_i32_135, v144, c1_i32_136⟩
@[reducible] def k0_t6_loop : Scf.Loop 32 :=
  let c0_i32_141 : BitVec 32 := 0#32
  let c4_i32_142 : BitVec 32 := 4#32
  let v147 : BitVec 32 := Scalar.addi c0_i32_141 c4_i32_142
  let c1_i32_143 : BitVec 32 := 1#32
  ⟨c0_i32_141, v147, c1_i32_143⟩
@[reducible] def k0_t7_loop : Scf.Loop 32 :=
  let c0_i32_147 : BitVec 32 := 0#32
  let c4_i32_148 : BitVec 32 := 4#32
  let v151 : BitVec 32 := Scalar.addi c0_i32_147 c4_i32_148
  let c1_i32_149 : BitVec 32 := 1#32
  ⟨c0_i32_147, v151, c1_i32_149⟩
def k0_mult53 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let c0_i32_157 : BitVec 32 := 0#32
  let v164 : BitVec 32 := Scalar.addi v163 c0_i32_157
  let c2_i32_158 : BitVec 32 := 2#32
  let v165 : BitVec 32 := Scalar.muli v164 c2_i32_158
  let c16_i32 : BitVec 32 := 16#32
  let v166 : BitVec 32 := Scalar.muli v165 c16_i32
  v166
def k0_off105 (k0_t5 : Fin k0_t5_loop.trips) (k0_t7 : Fin k0_t7_loop.trips) (c0_i32_157 : BitVec 32) : Fin 2 → Nat :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let c2_i32_158 : BitVec 32 := 2#32
  let v165 : BitVec 32 := Scalar.muli v164 c2_i32_158
  let c16_i32 : BitVec 32 := 16#32
  let v166 : BitVec 32 := Scalar.muli v165 c16_i32
  let v167 : BitVec 32 := v166
  let v168 : Index := Scalar.indexCast v167
  let c0_159 : Index := 0#32
  ![v168.toNat, 0]
def k0_off106 (k0_t5 : Fin k0_t5_loop.trips) (k0_t6 : Fin k0_t6_loop.trips) (k0_t7 : Fin k0_t7_loop.trips) (c0_i32_157 : BitVec 32) : Fin 6 → Nat :=
  let c0_160 : Index := 0#32
  let c0_i32_141 : BitVec 32 := 0#32
  let c1_i32_143 : BitVec 32 := 1#32
  let arg12 : BitVec 32 := Scf.iv c0_i32_141 c1_i32_143 k0_t6
  let v175 : Index := Scalar.indexCast arg12
  let c0_161 : Index := 0#32
  let c0_162 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v176 : Index := Scalar.indexCast v164
  let c0_163 : Index := 0#32
  ![0, v175.toNat, 0, 0, v176.toNat, 0]
def k0_off107 (k0_t5 : Fin k0_t5_loop.trips) (k0_t6 : Fin k0_t6_loop.trips) (k0_t7 : Fin k0_t7_loop.trips) (c0_i32_157 : BitVec 32) : Fin 6 → Nat :=
  let c1 : Index := 1#32
  let c0_i32_141 : BitVec 32 := 0#32
  let c1_i32_143 : BitVec 32 := 1#32
  let arg12 : BitVec 32 := Scf.iv c0_i32_141 c1_i32_143 k0_t6
  let v181 : Index := Scalar.indexCast arg12
  let c0_164 : Index := 0#32
  let c0_165 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v182 : Index := Scalar.indexCast v164
  let c0_166 : Index := 0#32
  ![1, v181.toNat, 0, 0, v182.toNat, 0]
def k0_off108 (k0_t5 : Fin k0_t5_loop.trips) (k0_t6 : Fin k0_t6_loop.trips) (k0_t7 : Fin k0_t7_loop.trips) (c0_i32_157 : BitVec 32) : Fin 6 → Nat :=
  let c0_167 : Index := 0#32
  let c0_i32_141 : BitVec 32 := 0#32
  let c1_i32_143 : BitVec 32 := 1#32
  let arg12 : BitVec 32 := Scf.iv c0_i32_141 c1_i32_143 k0_t6
  let v190 : Index := Scalar.indexCast arg12
  let c0_168 : Index := 0#32
  let c1_169 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v191 : Index := Scalar.indexCast v164
  let c0_170 : Index := 0#32
  ![0, v190.toNat, 0, 1, v191.toNat, 0]
def k0_off109 (k0_t5 : Fin k0_t5_loop.trips) (k0_t6 : Fin k0_t6_loop.trips) (k0_t7 : Fin k0_t7_loop.trips) (c0_i32_157 : BitVec 32) : Fin 6 → Nat :=
  let c1_171 : Index := 1#32
  let c0_i32_141 : BitVec 32 := 0#32
  let c1_i32_143 : BitVec 32 := 1#32
  let arg12 : BitVec 32 := Scf.iv c0_i32_141 c1_i32_143 k0_t6
  let v196 : Index := Scalar.indexCast arg12
  let c0_172 : Index := 0#32
  let c1_173 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v197 : Index := Scalar.indexCast v164
  let c0_174 : Index := 0#32
  ![1, v196.toNat, 0, 1, v197.toNat, 0]
def k0_mult54 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_175 : BitVec 32 := 8#32
  let v205 : BitVec 32 := Scalar.muli v162 c8_i32_175
  let c1_i32_176 : BitVec 32 := 1#32
  let v206 : BitVec 32 := Scalar.addi v205 c1_i32_176
  let c2_i32_177 : BitVec 32 := 2#32
  let v207 : BitVec 32 := Scalar.muli v206 c2_i32_177
  let c16_i32_178 : BitVec 32 := 16#32
  let v208 : BitVec 32 := Scalar.muli v207 c16_i32_178
  v208
def k0_mult55 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_196 : BitVec 32 := 8#32
  let v247 : BitVec 32 := Scalar.muli v162 c8_i32_196
  let c2_i32_197 : BitVec 32 := 2#32
  let v248 : BitVec 32 := Scalar.addi v247 c2_i32_197
  let c2_i32_198 : BitVec 32 := 2#32
  let v249 : BitVec 32 := Scalar.muli v248 c2_i32_198
  let c16_i32_199 : BitVec 32 := 16#32
  let v250 : BitVec 32 := Scalar.muli v249 c16_i32_199
  v250
def k0_mult56 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_217 : BitVec 32 := 8#32
  let v289 : BitVec 32 := Scalar.muli v162 c8_i32_217
  let c3_i32_218 : BitVec 32 := 3#32
  let v290 : BitVec 32 := Scalar.addi v289 c3_i32_218
  let c2_i32_219 : BitVec 32 := 2#32
  let v291 : BitVec 32 := Scalar.muli v290 c2_i32_219
  let c16_i32_220 : BitVec 32 := 16#32
  let v292 : BitVec 32 := Scalar.muli v291 c16_i32_220
  v292
def k0_mult57 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_238 : BitVec 32 := 8#32
  let v331 : BitVec 32 := Scalar.muli v162 c8_i32_238
  let c4_i32_239 : BitVec 32 := 4#32
  let v332 : BitVec 32 := Scalar.addi v331 c4_i32_239
  let c2_i32_240 : BitVec 32 := 2#32
  let v333 : BitVec 32 := Scalar.muli v332 c2_i32_240
  let c16_i32_241 : BitVec 32 := 16#32
  let v334 : BitVec 32 := Scalar.muli v333 c16_i32_241
  v334
def k0_mult58 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_259 : BitVec 32 := 8#32
  let v373 : BitVec 32 := Scalar.muli v162 c8_i32_259
  let c5_i32_260 : BitVec 32 := 5#32
  let v374 : BitVec 32 := Scalar.addi v373 c5_i32_260
  let c2_i32_261 : BitVec 32 := 2#32
  let v375 : BitVec 32 := Scalar.muli v374 c2_i32_261
  let c16_i32_262 : BitVec 32 := 16#32
  let v376 : BitVec 32 := Scalar.muli v375 c16_i32_262
  v376
def k0_mult59 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_280 : BitVec 32 := 8#32
  let v415 : BitVec 32 := Scalar.muli v162 c8_i32_280
  let c6_i32_281 : BitVec 32 := 6#32
  let v416 : BitVec 32 := Scalar.addi v415 c6_i32_281
  let c2_i32_282 : BitVec 32 := 2#32
  let v417 : BitVec 32 := Scalar.muli v416 c2_i32_282
  let c16_i32_283 : BitVec 32 := 16#32
  let v418 : BitVec 32 := Scalar.muli v417 c16_i32_283
  v418
def k0_mult60 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_301 : BitVec 32 := 8#32
  let v457 : BitVec 32 := Scalar.muli v162 c8_i32_301
  let c7_i32_302 : BitVec 32 := 7#32
  let v458 : BitVec 32 := Scalar.addi v457 c7_i32_302
  let c2_i32_303 : BitVec 32 := 2#32
  let v459 : BitVec 32 := Scalar.muli v458 c2_i32_303
  let c16_i32_304 : BitVec 32 := 16#32
  let v460 : BitVec 32 := Scalar.muli v459 c16_i32_304
  v460
def k0_mult61 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let c0_i32_323 : BitVec 32 := 0#32
  let v501 : BitVec 32 := Scalar.addi v500 c0_i32_323
  let c2_i32_324 : BitVec 32 := 2#32
  let v502 : BitVec 32 := Scalar.muli v501 c2_i32_324
  let c16_i32_325 : BitVec 32 := 16#32
  let v503 : BitVec 32 := Scalar.muli v502 c16_i32_325
  v503
def k0_off110 (k0_t5 : Fin k0_t5_loop.trips) (k0_t7 : Fin k0_t7_loop.trips) (c0_i32_323 : BitVec 32) : Fin 2 → Nat :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let c2_i32_324 : BitVec 32 := 2#32
  let v502 : BitVec 32 := Scalar.muli v501 c2_i32_324
  let c16_i32_325 : BitVec 32 := 16#32
  let v503 : BitVec 32 := Scalar.muli v502 c16_i32_325
  let v504 : BitVec 32 := v503
  let v505 : Index := Scalar.indexCast v504
  let c128 : Index := 128#32
  ![v505.toNat, 128]
def k0_off111 (k0_t5 : Fin k0_t5_loop.trips) (k0_t6 : Fin k0_t6_loop.trips) (k0_t7 : Fin k0_t7_loop.trips) (c0_i32_323 : BitVec 32) : Fin 6 → Nat :=
  let c0_326 : Index := 0#32
  let c0_i32_141 : BitVec 32 := 0#32
  let c1_i32_143 : BitVec 32 := 1#32
  let arg12 : BitVec 32 := Scf.iv c0_i32_141 c1_i32_143 k0_t6
  let v512 : Index := Scalar.indexCast arg12
  let c1_327 : Index := 1#32
  let c0_328 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v513 : Index := Scalar.indexCast v501
  let c0_329 : Index := 0#32
  ![0, v512.toNat, 1, 0, v513.toNat, 0]
def k0_off112 (k0_t5 : Fin k0_t5_loop.trips) (k0_t6 : Fin k0_t6_loop.trips) (k0_t7 : Fin k0_t7_loop.trips) (c0_i32_323 : BitVec 32) : Fin 6 → Nat :=
  let c1_330 : Index := 1#32
  let c0_i32_141 : BitVec 32 := 0#32
  let c1_i32_143 : BitVec 32 := 1#32
  let arg12 : BitVec 32 := Scf.iv c0_i32_141 c1_i32_143 k0_t6
  let v518 : Index := Scalar.indexCast arg12
  let c1_331 : Index := 1#32
  let c0_332 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v519 : Index := Scalar.indexCast v501
  let c0_333 : Index := 0#32
  ![1, v518.toNat, 1, 0, v519.toNat, 0]
def k0_off113 (k0_t5 : Fin k0_t5_loop.trips) (k0_t6 : Fin k0_t6_loop.trips) (k0_t7 : Fin k0_t7_loop.trips) (c0_i32_323 : BitVec 32) : Fin 6 → Nat :=
  let c0_334 : Index := 0#32
  let c0_i32_141 : BitVec 32 := 0#32
  let c1_i32_143 : BitVec 32 := 1#32
  let arg12 : BitVec 32 := Scf.iv c0_i32_141 c1_i32_143 k0_t6
  let v527 : Index := Scalar.indexCast arg12
  let c1_335 : Index := 1#32
  let c1_336 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v528 : Index := Scalar.indexCast v501
  let c0_337 : Index := 0#32
  ![0, v527.toNat, 1, 1, v528.toNat, 0]
def k0_off114 (k0_t5 : Fin k0_t5_loop.trips) (k0_t6 : Fin k0_t6_loop.trips) (k0_t7 : Fin k0_t7_loop.trips) (c0_i32_323 : BitVec 32) : Fin 6 → Nat :=
  let c1_338 : Index := 1#32
  let c0_i32_141 : BitVec 32 := 0#32
  let c1_i32_143 : BitVec 32 := 1#32
  let arg12 : BitVec 32 := Scf.iv c0_i32_141 c1_i32_143 k0_t6
  let v533 : Index := Scalar.indexCast arg12
  let c1_339 : Index := 1#32
  let c1_340 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v534 : Index := Scalar.indexCast v501
  let c0_341 : Index := 0#32
  ![1, v533.toNat, 1, 1, v534.toNat, 0]
def k0_mult62 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_342 : BitVec 32 := 8#32
  let v542 : BitVec 32 := Scalar.muli v162 c8_i32_342
  let c1_i32_343 : BitVec 32 := 1#32
  let v543 : BitVec 32 := Scalar.addi v542 c1_i32_343
  let c2_i32_344 : BitVec 32 := 2#32
  let v544 : BitVec 32 := Scalar.muli v543 c2_i32_344
  let c16_i32_345 : BitVec 32 := 16#32
  let v545 : BitVec 32 := Scalar.muli v544 c16_i32_345
  v545
def k0_mult63 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_363 : BitVec 32 := 8#32
  let v584 : BitVec 32 := Scalar.muli v162 c8_i32_363
  let c2_i32_364 : BitVec 32 := 2#32
  let v585 : BitVec 32 := Scalar.addi v584 c2_i32_364
  let c2_i32_365 : BitVec 32 := 2#32
  let v586 : BitVec 32 := Scalar.muli v585 c2_i32_365
  let c16_i32_366 : BitVec 32 := 16#32
  let v587 : BitVec 32 := Scalar.muli v586 c16_i32_366
  v587
def k0_mult64 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_384 : BitVec 32 := 8#32
  let v626 : BitVec 32 := Scalar.muli v162 c8_i32_384
  let c3_i32_385 : BitVec 32 := 3#32
  let v627 : BitVec 32 := Scalar.addi v626 c3_i32_385
  let c2_i32_386 : BitVec 32 := 2#32
  let v628 : BitVec 32 := Scalar.muli v627 c2_i32_386
  let c16_i32_387 : BitVec 32 := 16#32
  let v629 : BitVec 32 := Scalar.muli v628 c16_i32_387
  v629
def k0_mult65 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_405 : BitVec 32 := 8#32
  let v668 : BitVec 32 := Scalar.muli v162 c8_i32_405
  let c4_i32_406 : BitVec 32 := 4#32
  let v669 : BitVec 32 := Scalar.addi v668 c4_i32_406
  let c2_i32_407 : BitVec 32 := 2#32
  let v670 : BitVec 32 := Scalar.muli v669 c2_i32_407
  let c16_i32_408 : BitVec 32 := 16#32
  let v671 : BitVec 32 := Scalar.muli v670 c16_i32_408
  v671
def k0_mult66 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_426 : BitVec 32 := 8#32
  let v710 : BitVec 32 := Scalar.muli v162 c8_i32_426
  let c5_i32_427 : BitVec 32 := 5#32
  let v711 : BitVec 32 := Scalar.addi v710 c5_i32_427
  let c2_i32_428 : BitVec 32 := 2#32
  let v712 : BitVec 32 := Scalar.muli v711 c2_i32_428
  let c16_i32_429 : BitVec 32 := 16#32
  let v713 : BitVec 32 := Scalar.muli v712 c16_i32_429
  v713
def k0_mult67 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_447 : BitVec 32 := 8#32
  let v752 : BitVec 32 := Scalar.muli v162 c8_i32_447
  let c6_i32_448 : BitVec 32 := 6#32
  let v753 : BitVec 32 := Scalar.addi v752 c6_i32_448
  let c2_i32_449 : BitVec 32 := 2#32
  let v754 : BitVec 32 := Scalar.muli v753 c2_i32_449
  let c16_i32_450 : BitVec 32 := 16#32
  let v755 : BitVec 32 := Scalar.muli v754 c16_i32_450
  v755
def k0_mult68 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_468 : BitVec 32 := 8#32
  let v794 : BitVec 32 := Scalar.muli v162 c8_i32_468
  let c7_i32_469 : BitVec 32 := 7#32
  let v795 : BitVec 32 := Scalar.addi v794 c7_i32_469
  let c2_i32_470 : BitVec 32 := 2#32
  let v796 : BitVec 32 := Scalar.muli v795 c2_i32_470
  let c16_i32_471 : BitVec 32 := 16#32
  let v797 : BitVec 32 := Scalar.muli v796 c16_i32_471
  v797
def k0_mult69 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c256_i32_489 : BitVec 32 := 256#32
  let v838 : BitVec 32 := Scalar.muli v162 c256_i32_489
  v838
def k0_off115 (k0_t5 : Fin k0_t5_loop.trips) (k0_t7 : Fin k0_t7_loop.trips) : Fin 2 → Nat :=
  let c0_490 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c256_i32_489 : BitVec 32 := 256#32
  let v838 : BitVec 32 := Scalar.muli v162 c256_i32_489
  let v839 : BitVec 32 := v838
  let v840 : Index := Scalar.indexCast v839
  ![0, v840.toNat]
def k0_off116 (k0_t6 : Fin k0_t6_loop.trips) : Fin 3 → Nat :=
  let c0_i32_141 : BitVec 32 := 0#32
  let c1_i32_143 : BitVec 32 := 1#32
  let arg12 : BitVec 32 := Scf.iv c0_i32_141 c1_i32_143 k0_t6
  let v153 : Index := Scalar.indexCast arg12
  let c0_151 : Index := 0#32
  let c0_152 : Index := 0#32
  ![v153.toNat, 0, 0]
@[reducible] def k0_t8_loop : Scf.Loop 32 :=
  let c0_i32_138 : BitVec 32 := 0#32
  let c64_i32 : BitVec 32 := 64#32
  let v146 : BitVec 32 := Scalar.addi c0_i32_138 c64_i32
  let c1_i32_139 : BitVec 32 := 1#32
  ⟨c0_i32_138, v146, c1_i32_139⟩
def k0_mult70 (k0_t8 : Fin k0_t8_loop.trips) : BitVec 32 :=
  let c0_i32_138 : BitVec 32 := 0#32
  let c1_i32_139 : BitVec 32 := 1#32
  let arg11 : BitVec 32 := Scf.iv c0_i32_138 c1_i32_139 k0_t8
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  v149
def k0_mult71 (k0_t8 : Fin k0_t8_loop.trips) : BitVec 32 :=
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  v152
def k0_off117 (k0_t8 : Fin k0_t8_loop.trips) : Fin 3 → Nat :=
  let c0_153 : Index := 0#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v182 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v183 : Index := Scalar.indexCast v150
  ![0, v182.toNat, v183.toNat]
def k0_off118 (k0_t8 : Fin k0_t8_loop.trips) : Fin 3 → Nat :=
  let c1 : Index := 1#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v196 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v197 : Index := Scalar.indexCast v150
  ![1, v196.toNat, v197.toNat]
def k0_off119 (k0_t8 : Fin k0_t8_loop.trips) : Fin 3 → Nat :=
  let c2 : Index := 2#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v210 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v211 : Index := Scalar.indexCast v150
  ![2, v210.toNat, v211.toNat]
def k0_off120 (k0_t8 : Fin k0_t8_loop.trips) : Fin 3 → Nat :=
  let c3 : Index := 3#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v224 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v225 : Index := Scalar.indexCast v150
  ![3, v224.toNat, v225.toNat]
def k0_mult72 (k0_t8 : Fin k0_t8_loop.trips) : BitVec 32 :=
  let c0_i32_138 : BitVec 32 := 0#32
  let c1_i32_139 : BitVec 32 := 1#32
  let arg11 : BitVec 32 := Scf.iv c0_i32_138 c1_i32_139 k0_t8
  let c8_i32_141 : BitVec 32 := 8#32
  let v147 : BitVec 32 := Scalar.divsi arg11 c8_i32_141
  let c128_i32_171 : BitVec 32 := 128#32
  let v264 : BitVec 32 := Scalar.muli v147 c128_i32_171
  v264
def k0_off121 (k0_t8 : Fin k0_t8_loop.trips) : Fin 2 → Nat :=
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v266 : Index := Scalar.indexCast v153
  let c8_i32_141 : BitVec 32 := 8#32
  let v147 : BitVec 32 := Scalar.divsi arg11 c8_i32_141
  let c128_i32_171 : BitVec 32 := 128#32
  let v264 : BitVec 32 := Scalar.muli v147 c128_i32_171
  let v265 : BitVec 32 := v264
  let v267 : Index := Scalar.indexCast v265
  ![v266.toNat, v267.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
abbrev S128x1x8192 : Shape := ⟨3, ![128, 1, 8192]⟩
abbrev S8192x11264 : Shape := ⟨2, ![8192, 11264]⟩
abbrev S512x45056 : Shape := ⟨2, ![512, 45056]⟩
abbrev S128x8192 : Shape := ⟨2, ![128, 8192]⟩
abbrev S128x45056 : Shape := ⟨2, ![128, 45056]⟩
abbrev S8192x256 : Shape := ⟨2, ![8192, 256]⟩
abbrev S128x1024 : Shape := ⟨2, ![128, 1024]⟩
abbrev S2x2x8x512x128 : Shape := ⟨5, ![2, 2, 8, 512, 128]⟩
abbrev S2x1024x128 : Shape := ⟨3, ![2, 1024, 128]⟩
abbrev S2x1024x2x128 : Shape := ⟨4, ![2, 1024, 2, 128]⟩
abbrev S2x1024x1x128 : Shape := ⟨4, ![2, 1024, 1, 128]⟩
abbrev S2x4x2x2x256x128 : Shape := ⟨6, ![2, 4, 2, 2, 256, 128]⟩
abbrev S2x4x2x2x256x2x128 : Shape := ⟨7, ![2, 4, 2, 2, 256, 2, 128]⟩
abbrev S2x4x2x2x256x1x128 : Shape := ⟨7, ![2, 4, 2, 2, 256, 1, 128]⟩
abbrev S4x128x256 : Shape := ⟨3, ![4, 128, 256]⟩
abbrev S2x2 : Shape := ⟨2, ![2, 2]⟩
abbrev S1x1 : Shape := ⟨2, ![1, 1]⟩
abbrev S_ : Shape := ⟨0, ![]⟩
abbrev S1x1x1x512x128 : Shape := ⟨5, ![1, 1, 1, 512, 128]⟩
abbrev S512x128 : Shape := ⟨2, ![512, 128]⟩
abbrev S2x2x8x256x128 : Shape := ⟨5, ![2, 2, 8, 256, 128]⟩
abbrev S1x1x1x128x128 : Shape := ⟨5, ![1, 1, 1, 128, 128]⟩
abbrev S1x1x1x256x128 : Shape := ⟨5, ![1, 1, 1, 256, 128]⟩
abbrev S128x128 : Shape := ⟨2, ![128, 128]⟩
abbrev S256x128 : Shape := ⟨2, ![256, 128]⟩
abbrev S1x128x128 : Shape := ⟨3, ![1, 128, 128]⟩
abbrev S1x128x2x128 : Shape := ⟨4, ![1, 128, 2, 128]⟩
abbrev S1x128x1x128 : Shape := ⟨4, ![1, 128, 1, 128]⟩
abbrev S1x1024x2x128 : Shape := ⟨4, ![1, 1024, 2, 128]⟩
abbrev S1024x2x128 : Shape := ⟨3, ![1024, 2, 128]⟩
abbrev S128x2x128 : Shape := ⟨3, ![128, 2, 128]⟩
abbrev S128x1x128 : Shape := ⟨3, ![128, 1, 128]⟩
abbrev S1x1x1x1x128x128 : Shape := ⟨6, ![1, 1, 1, 1, 128, 128]⟩
abbrev S1x1x1x1x128x2x128 : Shape := ⟨7, ![1, 1, 1, 1, 128, 2, 128]⟩
abbrev S1x1x1x1x128x1x128 : Shape := ⟨7, ![1, 1, 1, 1, 128, 1, 128]⟩
abbrev S128x256 : Shape := ⟨2, ![128, 256]⟩
abbrev S32x128 : Shape := ⟨2, ![32, 128]⟩
abbrev S8x128 : Shape := ⟨2, ![8, 128]⟩
abbrev S1x1x1x1x1x128 : Shape := ⟨6, ![1, 1, 1, 1, 1, 128]⟩
abbrev S1x1x1x1x1x2x128 : Shape := ⟨7, ![1, 1, 1, 1, 1, 2, 128]⟩
abbrev S1x1x1x1x1x1x128 : Shape := ⟨7, ![1, 1, 1, 1, 1, 1, 128]⟩
abbrev S1x128 : Shape := ⟨2, ![1, 128]⟩
abbrev S16x128 : Shape := ⟨2, ![16, 128]⟩
abbrev S256x256 : Shape := ⟨2, ![256, 256]⟩
abbrev S1x128x256 : Shape := ⟨3, ![1, 128, 256]⟩
abbrev S1x16x128 : Shape := ⟨3, ![1, 16, 128]⟩
abbrev S16x128x1 : Shape := ⟨3, ![16, 128, 1]⟩

abbrev nBuf : Space → Nat
  | .hbm => 6
  | .vmem => 9
  | .smem => 0
  | _ => 0

abbrev bufTy : (tb : Table) → Fin (tcTables nBuf tb) → BufTy
  | .hbm, ⟨0, _⟩ => ⟨S128x1x8192, .bf16⟩
  | .hbm, ⟨1, _⟩ => ⟨S8192x11264, .i8⟩
  | .hbm, ⟨2, _⟩ => ⟨S512x45056, .bf16⟩
  | .hbm, ⟨3, _⟩ => ⟨S512x45056, .bf16⟩
  | .hbm, ⟨4, _⟩ => ⟨S128x8192, .bf16⟩
  | .hbm, ⟨5, _⟩ => ⟨S128x45056, .bf16⟩
  | .local _ .vmem, ⟨0, _⟩ => ⟨S128x8192, .bf16⟩
  | .local _ .vmem, ⟨1, _⟩ => ⟨S8192x256, .i8⟩
  | .local _ .vmem, ⟨2, _⟩ => ⟨S8192x256, .i8⟩
  | .local _ .vmem, ⟨3, _⟩ => ⟨S128x1024, .bf16⟩
  | .local _ .vmem, ⟨4, _⟩ => ⟨S128x1024, .bf16⟩
  | .local _ .vmem, ⟨5, _⟩ => ⟨S2x2x8x512x128, .bf16⟩
  | .local _ .vmem, ⟨6, _⟩ => ⟨S2x1024x2x128, .bf16⟩
  | .local _ .vmem, ⟨7, _⟩ => ⟨S2x4x2x2x256x2x128, .bf16⟩
  | .local _ .vmem, ⟨8, _⟩ => ⟨S4x128x256, .f32⟩
  | _, _ => ⟨S128x1x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_scratch3 : Ref sig .tc := ⟨.vmem, 8, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![44], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 : BitVec 32 :=
  let c0_i32_141 : BitVec 32 := 0#32
  c0_i32_141
def k0_mult2 : BitVec 32 :=
  let c128_i32_142 : BitVec 32 := 128#32
  c128_i32_142
def k0_mult3 : BitVec 32 :=
  let c256_i32_143 : BitVec 32 := 256#32
  c256_i32_143
def k0_mult4 : BitVec 32 :=
  let c384_i32_144 : BitVec 32 := 384#32
  c384_i32_144
def k0_mult5 : BitVec 32 :=
  let c512_i32_145 : BitVec 32 := 512#32
  c512_i32_145
def k0_mult6 : BitVec 32 :=
  let c640_i32_146 : BitVec 32 := 640#32
  c640_i32_146
def k0_mult7 : BitVec 32 :=
  let c768_i32_147 : BitVec 32 := 768#32
  c768_i32_147
def k0_mult8 : BitVec 32 :=
  let c896_i32_148 : BitVec 32 := 896#32
  c896_i32_148
def k0_mult9 : BitVec 32 :=
  let c0_i32_149 : BitVec 32 := 0#32
  c0_i32_149
def k0_mult10 : BitVec 32 :=
  let c128_i32_150 : BitVec 32 := 128#32
  c128_i32_150
def k0_mult11 : BitVec 32 :=
  let c256_i32_151 : BitVec 32 := 256#32
  c256_i32_151
def k0_mult12 : BitVec 32 :=
  let c384_i32_152 : BitVec 32 := 384#32
  c384_i32_152
def k0_mult13 : BitVec 32 :=
  let c512_i32_153 : BitVec 32 := 512#32
  c512_i32_153
def k0_mult14 : BitVec 32 :=
  let c640_i32_154 : BitVec 32 := 640#32
  c640_i32_154
def k0_mult15 : BitVec 32 :=
  let c768_i32_155 : BitVec 32 := 768#32
  c768_i32_155
def k0_mult16 : BitVec 32 :=
  let c896_i32_156 : BitVec 32 := 896#32
  c896_i32_156
def k0_cond2 (i : grid0.Coords) : BitVec 1 :=
  let arg0 : BitVec 32 := BitVec.ofNat 32 (i 0).val
  let c1_i32 : BitVec 32 := 1#32
  let v4 : BitVec 32 := Scalar.addi arg0 c1_i32
  let c44_i32 : BitVec 32 := 44#32
  let v5 : BitVec 1 := Scalar.cmpi .slt v4 c44_i32
  let v6 : BitVec 32 := Scalar.extui v5
  let c0_i32_1 : BitVec 32 := 0#32
  let v7 : BitVec 1 := Scalar.cmpi .ne v6 c0_i32_1
  v7

def k0_mult17 (i : grid0.Coords) : BitVec 32 :=
  let arg0 : BitVec 32 := BitVec.ofNat 32 (i 0).val
  let c1_i32_141 : BitVec 32 := 1#32
  let v147 : BitVec 32 := Scalar.addi arg0 c1_i32_141
  let c1024_i32_143 : BitVec 32 := 1024#32
  let v149 : BitVec 32 := Scalar.muli v147 c1024_i32_143
  let c0_i32_144 : BitVec 32 := 0#32
  let v150 : BitVec 32 := Scalar.addi v149 c0_i32_144
  v150
def k0_mult18 (i : grid0.Coords) : BitVec 32 :=
  let arg0 : BitVec 32 := BitVec.ofNat 32 (i 0).val
  let c1_i32_141 : BitVec 32 := 1#32
  let v147 : BitVec 32 := Scalar.addi arg0 c1_i32_141
  let c1024_i32_145 : BitVec 32 := 1024#32
  let v152 : BitVec 32 := Scalar.muli v147 c1024_i32_145
  let c128_i32_146 : BitVec 32 := 128#32
  let v153 : BitVec 32 := Scalar.addi v152 c128_i32_146
  v153
def k0_mult19 (i : grid0.Coords) : BitVec 32 :=
  let arg0 : BitVec 32 := BitVec.ofNat 32 (i 0).val
  let c1_i32_141 : BitVec 32 := 1#32
  let v147 : BitVec 32 := Scalar.addi arg0 c1_i32_141
  let c1024_i32_147 : BitVec 32 := 1024#32
  let v155 : BitVec 32 := Scalar.muli v147 c1024_i32_147
  let c256_i32_148 : BitVec 32 := 256#32
  let v156 : BitVec 32 := Scalar.addi v155 c256_i32_148
  v156
def k0_mult20 (i : grid0.Coords) : BitVec 32 :=
  let arg0 : BitVec 32 := BitVec.ofNat 32 (i 0).val
  let c1_i32_141 : BitVec 32 := 1#32
  let v147 : BitVec 32 := Scalar.addi arg0 c1_i32_141
  let c1024_i32_149 : BitVec 32 := 1024#32
  let v158 : BitVec 32 := Scalar.muli v147 c1024_i32_149
  let c384_i32_150 : BitVec 32 := 384#32
  let v159 : BitVec 32 := Scalar.addi v158 c384_i32_150
  v159
def k0_mult21 (i : grid0.Coords) : BitVec 32 :=
  let arg0 : BitVec 32 := BitVec.ofNat 32 (i 0).val
  let c1_i32_141 : BitVec 32 := 1#32
  let v147 : BitVec 32 := Scalar.addi arg0 c1_i32_141
  let c1024_i32_151 : BitVec 32 := 1024#32
  let v161 : BitVec 32 := Scalar.muli v147 c1024_i32_151
  let c512_i32_152 : BitVec 32 := 512#32
  let v162 : BitVec 32 := Scalar.addi v161 c512_i32_152
  v162
def k0_mult22 (i : grid0.Coords) : BitVec 32 :=
  let arg0 : BitVec 32 := BitVec.ofNat 32 (i 0).val
  let c1_i32_141 : BitVec 32 := 1#32
  let v147 : BitVec 32 := Scalar.addi arg0 c1_i32_141
  let c1024_i32_153 : BitVec 32 := 1024#32
  let v164 : BitVec 32 := Scalar.muli v147 c1024_i32_153
  let c640_i32_154 : BitVec 32 := 640#32
  let v165 : BitVec 32 := Scalar.addi v164 c640_i32_154
  v165
def k0_mult23 (i : grid0.Coords) : BitVec 32 :=
  let arg0 : BitVec 32 := BitVec.ofNat 32 (i 0).val
  let c1_i32_141 : BitVec 32 := 1#32
  let v147 : BitVec 32 := Scalar.addi arg0 c1_i32_141
  let c1024_i32_155 : BitVec 32 := 1024#32
  let v167 : BitVec 32 := Scalar.muli v147 c1024_i32_155
  let c768_i32_156 : BitVec 32 := 768#32
  let v168 : BitVec 32 := Scalar.addi v167 c768_i32_156
  v168
def k0_mult24 (i : grid0.Coords) : BitVec 32 :=
  let arg0 : BitVec 32 := BitVec.ofNat 32 (i 0).val
  let c1_i32_141 : BitVec 32 := 1#32
  let v147 : BitVec 32 := Scalar.addi arg0 c1_i32_141
  let c1024_i32_157 : BitVec 32 := 1024#32
  let v170 : BitVec 32 := Scalar.muli v147 c1024_i32_157
  let c896_i32_158 : BitVec 32 := 896#32
  let v171 : BitVec 32 := Scalar.addi v170 c896_i32_158
  v171
def k0_mult25 (i : grid0.Coords) : BitVec 32 :=
  let arg0 : BitVec 32 := BitVec.ofNat 32 (i 0).val
  let c1_i32_141 : BitVec 32 := 1#32
  let v147 : BitVec 32 := Scalar.addi arg0 c1_i32_141
  let c1024_i32_159 : BitVec 32 := 1024#32
  let v173 : BitVec 32 := Scalar.muli v147 c1024_i32_159
  let c0_i32_160 : BitVec 32 := 0#32
  let v174 : BitVec 32 := Scalar.addi v173 c0_i32_160
  v174
def k0_mult26 (i : grid0.Coords) : BitVec 32 :=
  let arg0 : BitVec 32 := BitVec.ofNat 32 (i 0).val
  let c1_i32_141 : BitVec 32 := 1#32
  let v147 : BitVec 32 := Scalar.addi arg0 c1_i32_141
  let c1024_i32_161 : BitVec 32 := 1024#32
  let v176 : BitVec 32 := Scalar.muli v147 c1024_i32_161
  let c128_i32_162 : BitVec 32 := 128#32
  let v177 : BitVec 32 := Scalar.addi v176 c128_i32_162
  v177
def k0_mult27 (i : grid0.Coords) : BitVec 32 :=
  let arg0 : BitVec 32 := BitVec.ofNat 32 (i 0).val
  let c1_i32_141 : BitVec 32 := 1#32
  let v147 : BitVec 32 := Scalar.addi arg0 c1_i32_141
  let c1024_i32_163 : BitVec 32 := 1024#32
  let v179 : BitVec 32 := Scalar.muli v147 c1024_i32_163
  let c256_i32_164 : BitVec 32 := 256#32
  let v180 : BitVec 32 := Scalar.addi v179 c256_i32_164
  v180
def k0_mult28 (i : grid0.Coords) : BitVec 32 :=
  let arg0 : BitVec 32 := BitVec.ofNat 32 (i 0).val
  let c1_i32_141 : BitVec 32 := 1#32
  let v147 : BitVec 32 := Scalar.addi arg0 c1_i32_141
  let c1024_i32_165 : BitVec 32 := 1024#32
  let v182 : BitVec 32 := Scalar.muli v147 c1024_i32_165
  let c384_i32_166 : BitVec 32 := 384#32
  let v183 : BitVec 32 := Scalar.addi v182 c384_i32_166
  v183
def k0_mult29 (i : grid0.Coords) : BitVec 32 :=
  let arg0 : BitVec 32 := BitVec.ofNat 32 (i 0).val
  let c1_i32_141 : BitVec 32 := 1#32
  let v147 : BitVec 32 := Scalar.addi arg0 c1_i32_141
  let c1024_i32_167 : BitVec 32 := 1024#32
  let v185 : BitVec 32 := Scalar.muli v147 c1024_i32_167
  let c512_i32_168 : BitVec 32 := 512#32
  let v186 : BitVec 32 := Scalar.addi v185 c512_i32_168
  v186
def k0_mult30 (i : grid0.Coords) : BitVec 32 :=
  let arg0 : BitVec 32 := BitVec.ofNat 32 (i 0).val
  let c1_i32_141 : BitVec 32 := 1#32
  let v147 : BitVec 32 := Scalar.addi arg0 c1_i32_141
  let c1024_i32_169 : BitVec 32 := 1024#32
  let v188 : BitVec 32 := Scalar.muli v147 c1024_i32_169
  let c640_i32_170 : BitVec 32 := 640#32
  let v189 : BitVec 32 := Scalar.addi v188 c640_i32_170
  v189
def k0_mult31 (i : grid0.Coords) : BitVec 32 :=
  let arg0 : BitVec 32 := BitVec.ofNat 32 (i 0).val
  let c1_i32_141 : BitVec 32 := 1#32
  let v147 : BitVec 32 := Scalar.addi arg0 c1_i32_141
  let c1024_i32_171 : BitVec 32 := 1024#32
  let v191 : BitVec 32 := Scalar.muli v147 c1024_i32_171
  let c768_i32_172 : BitVec 32 := 768#32
  let v192 : BitVec 32 := Scalar.addi v191 c768_i32_172
  v192
def k0_mult32 (i : grid0.Coords) : BitVec 32 :=
  let arg0 : BitVec 32 := BitVec.ofNat 32 (i 0).val
  let c1_i32_141 : BitVec 32 := 1#32
  let v147 : BitVec 32 := Scalar.addi arg0 c1_i32_141
  let c1024_i32_173 : BitVec 32 := 1024#32
  let v194 : BitVec 32 := Scalar.muli v147 c1024_i32_173
  let c896_i32_174 : BitVec 32 := 896#32
  let v195 : BitVec 32 := Scalar.addi v194 c896_i32_174
  v195
def k0_off1 (i : grid0.Coords) : Fin 2 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_177 : BitVec 32 := 0#32
  ![v148.toNat, 0]
def k0_off2 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_175 : BitVec 32 := 0#32
  let c0_i32_176 : BitVec 32 := 0#32
  let c0_i32_178 : BitVec 32 := 0#32
  let c0_i32_179 : BitVec 32 := 0#32
  ![v148.toNat, 0, 0, 0, 0]
def k0_off3 (i : grid0.Coords) (c0_i32_144 : BitVec 32) : Fin 2 → Nat :=
  let c0_i32_180 : BitVec 32 := 0#32
  let arg0 : BitVec 32 := BitVec.ofNat 32 (i 0).val
  let c1_i32_141 : BitVec 32 := 1#32
  let v147 : BitVec 32 := Scalar.addi arg0 c1_i32_141
  let c1024_i32_143 : BitVec 32 := 1024#32
  let v149 : BitVec 32 := Scalar.muli v147 c1024_i32_143
  let v150 : BitVec 32 := Scalar.addi v149 c0_i32_144
  let v151 : BitVec 32 := v150
  ![0, v151.toNat]
def k0_off4 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_181 : BitVec 32 := 0#32
  let c1_i32_182 : BitVec 32 := 1#32
  let c0_i32_184 : BitVec 32 := 0#32
  let c0_i32_185 : BitVec 32 := 0#32
  ![v148.toNat, 0, 1, 0, 0]
def k0_off5 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_187 : BitVec 32 := 0#32
  let c2_i32_188 : BitVec 32 := 2#32
  let c0_i32_190 : BitVec 32 := 0#32
  let c0_i32_191 : BitVec 32 := 0#32
  ![v148.toNat, 0, 2, 0, 0]
def k0_off6 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_193 : BitVec 32 := 0#32
  let c3_i32_194 : BitVec 32 := 3#32
  let c0_i32_196 : BitVec 32 := 0#32
  let c0_i32_197 : BitVec 32 := 0#32
  ![v148.toNat, 0, 3, 0, 0]
def k0_off7 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_199 : BitVec 32 := 0#32
  let c4_i32_200 : BitVec 32 := 4#32
  let c0_i32_202 : BitVec 32 := 0#32
  let c0_i32_203 : BitVec 32 := 0#32
  ![v148.toNat, 0, 4, 0, 0]
def k0_off8 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_205 : BitVec 32 := 0#32
  let c5_i32_206 : BitVec 32 := 5#32
  let c0_i32_208 : BitVec 32 := 0#32
  let c0_i32_209 : BitVec 32 := 0#32
  ![v148.toNat, 0, 5, 0, 0]
def k0_off9 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_211 : BitVec 32 := 0#32
  let c6_i32_212 : BitVec 32 := 6#32
  let c0_i32_214 : BitVec 32 := 0#32
  let c0_i32_215 : BitVec 32 := 0#32
  ![v148.toNat, 0, 6, 0, 0]
def k0_off10 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c0_i32_217 : BitVec 32 := 0#32
  let c7_i32_218 : BitVec 32 := 7#32
  let c0_i32_220 : BitVec 32 := 0#32
  let c0_i32_221 : BitVec 32 := 0#32
  ![v148.toNat, 0, 7, 0, 0]
def k0_off11 (i : grid0.Coords) : Fin 2 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_225 : BitVec 32 := 1#32
  ![v148.toNat, 1]
def k0_off12 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_223 : BitVec 32 := 1#32
  let c0_i32_224 : BitVec 32 := 0#32
  let c0_i32_226 : BitVec 32 := 0#32
  let c0_i32_227 : BitVec 32 := 0#32
  ![v148.toNat, 1, 0, 0, 0]
def k0_off13 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_229 : BitVec 32 := 1#32
  let c1_i32_230 : BitVec 32 := 1#32
  let c0_i32_232 : BitVec 32 := 0#32
  let c0_i32_233 : BitVec 32 := 0#32
  ![v148.toNat, 1, 1, 0, 0]
def k0_off14 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_235 : BitVec 32 := 1#32
  let c2_i32_236 : BitVec 32 := 2#32
  let c0_i32_238 : BitVec 32 := 0#32
  let c0_i32_239 : BitVec 32 := 0#32
  ![v148.toNat, 1, 2, 0, 0]
def k0_off15 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_241 : BitVec 32 := 1#32
  let c3_i32_242 : BitVec 32 := 3#32
  let c0_i32_244 : BitVec 32 := 0#32
  let c0_i32_245 : BitVec 32 := 0#32
  ![v148.toNat, 1, 3, 0, 0]
def k0_off16 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_247 : BitVec 32 := 1#32
  let c4_i32_248 : BitVec 32 := 4#32
  let c0_i32_250 : BitVec 32 := 0#32
  let c0_i32_251 : BitVec 32 := 0#32
  ![v148.toNat, 1, 4, 0, 0]
def k0_off17 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_253 : BitVec 32 := 1#32
  let c5_i32_254 : BitVec 32 := 5#32
  let c0_i32_256 : BitVec 32 := 0#32
  let c0_i32_257 : BitVec 32 := 0#32
  ![v148.toNat, 1, 5, 0, 0]
def k0_off18 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_259 : BitVec 32 := 1#32
  let c6_i32_260 : BitVec 32 := 6#32
  let c0_i32_262 : BitVec 32 := 0#32
  let c0_i32_263 : BitVec 32 := 0#32
  ![v148.toNat, 1, 6, 0, 0]
def k0_off19 (i : grid0.Coords) : Fin 5 → Nat :=
  let c1_i32_142 : BitVec 32 := 1#32
  let arg0 : BitVec 32 := BitVec.ofNat 32 (i 0).val
  let c2_i32 : BitVec 32 := 2#32
  let v3 : BitVec 32 := Scalar.remsi arg0 c2_i32
  let v148 : BitVec 32 := Scalar.subi c1_i32_142 v3
  let c1_i32_265 : BitVec 32 := 1#32
  let c7_i32_266 : BitVec 32 := 7#32
  let c0_i32_268 : BitVec 32 := 0#32
  let c0_i32_269 : BitVec 32 := 0#32
  ![v148.toNat, 1, 7, 0, 0]
def k0_mult33 (i : grid0.Coords) : BitVec 32 :=
  let arg0 : BitVec 32 := BitVec.ofNat 32 (i 0).val
  let c1024_i32 : BitVec 32 := 1024#32
  let v8 : BitVec 32 := Scalar.muli arg0 c1024_i32
  let c0_i32_2 : BitVec 32 := 0#32
  let v9 : BitVec 32 := Scalar.addi v8 c0_i32_2
  v9
def k0_mult34 (i : grid0.Coords) : BitVec 32 :=
  let arg0 : BitVec 32 := BitVec.ofNat 32 (i 0).val
  let c1024_i32_3 : BitVec 32 := 1024#32
  let v11 : BitVec 32 := Scalar.muli arg0 c1024_i32_3
  let c128_i32 : BitVec 32 := 128#32
  let v12 : BitVec 32 := Scalar.addi v11 c128_i32
  v12
def k0_mult35 (i : grid0.Coords) : BitVec 32 :=
  let arg0 : BitVec 32 := BitVec.ofNat 32 (i 0).val
  let c1024_i32_4 : BitVec 32 := 1024#32
  let v14 : BitVec 32 := Scalar.muli arg0 c1024_i32_4
  let c256_i32 : BitVec 32 := 256#32
  let v15 : BitVec 32 := Scalar.addi v14 c256_i32
  v15
def k0_mult36 (i : grid0.Coords) : BitVec 32 :=
  let arg0 : BitVec 32 := BitVec.ofNat 32 (i 0).val
  let c1024_i32_5 : BitVec 32 := 1024#32
  let v17 : BitVec 32 := Scalar.muli arg0 c1024_i32_5
  let c384_i32 : BitVec 32 := 384#32
  let v18 : BitVec 32 := Scalar.addi v17 c384_i32
  v18
def k0_mult37 (i : grid0.Coords) : BitVec 32 :=
  let arg0 : BitVec 32 := BitVec.ofNat 32 (i 0).val
  let c1024_i32_6 : BitVec 32 := 1024#32
  let v20 : BitVec 32 := Scalar.muli arg0 c1024_i32_6
  let c512_i32 : BitVec 32 := 512#32
  let v21 : BitVec 32 := Scalar.addi v20 c512_i32
  v21
def k0_mult38 (i : grid0.Coords) : BitVec 32 :=
  let arg0 : BitVec 32 := BitVec.ofNat 32 (i 0).val
  let c1024_i32_7 : BitVec 32 := 1024#32
  let v23 : BitVec 32 := Scalar.muli arg0 c1024_i32_7
  let c640_i32 : BitVec 32 := 640#32
  let v24 : BitVec 32 := Scalar.addi v23 c640_i32
  v24
def k0_mult39 (i : grid0.Coords) : BitVec 32 :=
  let arg0 : BitVec 32 := BitVec.ofNat 32 (i 0).val
  let c1024_i32_8 : BitVec 32 := 1024#32
  let v26 : BitVec 32 := Scalar.muli arg0 c1024_i32_8
  let c768_i32 : BitVec 32 := 768#32
  let v27 : BitVec 32 := Scalar.addi v26 c768_i32
  v27
def k0_mult40 (i : grid0.Coords) : BitVec 32 :=
  let arg0 : BitVec 32 := BitVec.ofNat 32 (i 0).val
  let c1024_i32_9 : BitVec 32 := 1024#32
  let v29 : BitVec 32 := Scalar.muli arg0 c1024_i32_9
  let c896_i32 : BitVec 32 := 896#32
  let v30 : BitVec 32 := Scalar.addi v29 c896_i32
  v30
def k0_mult41 (i : grid0.Coords) : BitVec 32 :=
  let arg0 : BitVec 32 := BitVec.ofNat 32 (i 0).val
  let c1024_i32_10 : BitVec 32 := 1024#32
  let v32 : BitVec 32 := Scalar.muli arg0 c1024_i32_10
  let c0_i32_11 : BitVec 32 := 0#32
  let v33 : BitVec 32 := Scalar.addi v32 c0_i32_11
  v33
def k0_mult42 (i : grid0.Coords) : BitVec 32 :=
  let arg0 : BitVec 32 := BitVec.ofNat 32 (i 0).val
  let c1024_i32_12 : BitVec 32 := 1024#32
  let v35 : BitVec 32 := Scalar.muli arg0 c1024_i32_12
  let c128_i32_13 : BitVec 32 := 128#32
  let v36 : BitVec 32 := Scalar.addi v35 c128_i32_13
  v36
def k0_mult43 (i : grid0.Coords) : BitVec 32 :=
  let arg0 : BitVec 32 := BitVec.ofNat 32 (i 0).val
  let c1024_i32_14 : BitVec 32 := 1024#32
  let v38 : BitVec 32 := Scalar.muli arg0 c1024_i32_14
  let c256_i32_15 : BitVec 32 := 256#32
  let v39 : BitVec 32 := Scalar.addi v38 c256_i32_15
  v39
def k0_mult44 (i : grid0.Coords) : BitVec 32 :=
  let arg0 : BitVec 32 := BitVec.ofNat 32 (i 0).val
  let c1024_i32_16 : BitVec 32 := 1024#32
  let v41 : BitVec 32 := Scalar.muli arg0 c1024_i32_16
  let c384_i32_17 : BitVec 32 := 384#32
  let v42 : BitVec 32 := Scalar.addi v41 c384_i32_17
  v42
def k0_mult45 (i : grid0.Coords) : BitVec 32 :=
  let arg0 : BitVec 32 := BitVec.ofNat 32 (i 0).val
  let c1024_i32_18 : BitVec 32 := 1024#32
  let v44 : BitVec 32 := Scalar.muli arg0 c1024_i32_18
  let c512_i32_19 : BitVec 32 := 512#32
  let v45 : BitVec 32 := Scalar.addi v44 c512_i32_19
  v45
def k0_mult46 (i : grid0.Coords) : BitVec 32 :=
  let arg0 : BitVec 32 := BitVec.ofNat 32 (i 0).val
  let c1024_i32_20 : BitVec 32 := 1024#32
  let v47 : BitVec 32 := Scalar.muli arg0 c1024_i32_20
  let c640_i32_21 : BitVec 32 := 640#32
  let v48 : BitVec 32 := Scalar.addi v47 c640_i32_21
  v48
def k0_mult47 (i : grid0.Coords) : BitVec 32 :=
  let arg0 : BitVec 32 := BitVec.ofNat 32 (i 0).val
  let c1024_i32_22 : BitVec 32 := 1024#32
  let v50 : BitVec 32 := Scalar.muli arg0 c1024_i32_22
  let c768_i32_23 : BitVec 32 := 768#32
  let v51 : BitVec 32 := Scalar.addi v50 c768_i32_23
  v51
def k0_mult48 (i : grid0.Coords) : BitVec 32 :=
  let arg0 : BitVec 32 := BitVec.ofNat 32 (i 0).val
  let c1024_i32_24 : BitVec 32 := 1024#32
  let v53 : BitVec 32 := Scalar.muli arg0 c1024_i32_24
  let c896_i32_25 : BitVec 32 := 896#32
  let v54 : BitVec 32 := Scalar.addi v53 c896_i32_25
  v54
def k0_off20 (i : grid0.Coords) : Fin 2 → Nat :=
  let arg0 : BitVec 32 := BitVec.ofNat 32 (i 0).val
  let c2_i32 : BitVec 32 := 2#32
  let v3 : BitVec 32 := Scalar.remsi arg0 c2_i32
  let c0_i32_28 : BitVec 32 := 0#32
  ![v3.toNat, 0]
def k0_off21 (i : grid0.Coords) : Fin 5 → Nat :=
  let arg0 : BitVec 32 := BitVec.ofNat 32 (i 0).val
  let c2_i32 : BitVec 32 := 2#32
  let v3 : BitVec 32 := Scalar.remsi arg0 c2_i32
  let c0_i32_26 : BitVec 32 := 0#32
  let c0_i32_27 : BitVec 32 := 0#32
  let c0_i32_29 : BitVec 32 := 0#32
  let c0_i32_30 : BitVec 32 := 0#32
  ![v3.toNat, 0, 0, 0, 0]
def k0_off22 (i : grid0.Coords) (c0_i32_2 : BitVec 32) : Fin 2 → Nat :=
  let c0_i32_31 : BitVec 32 := 0#32
  let arg0 : BitVec 32 := BitVec.ofNat 32 (i 0).val
  let c1024_i32 : BitVec 32 := 1024#32
  let v8 : BitVec 32 := Scalar.muli arg0 c1024_i32
  let v9 : BitVec 32 := Scalar.addi v8 c0_i32_2
  let v10 : BitVec 32 := v9
  ![0, v10.toNat]
def k0_off23 (i : grid0.Coords) : Fin 5 → Nat :=
  let arg0 : BitVec 32 := BitVec.ofNat 32 (i 0).val
  let c2_i32 : BitVec 32 := 2#32
  let v3 : BitVec 32 := Scalar.remsi arg0 c2_i32
  let c0_i32_32 : BitVec 32 := 0#32
  let c1_i32_33 : BitVec 32 := 1#32
  let c0_i32_35 : BitVec 32 := 0#32
  let c0_i32_36 : BitVec 32 := 0#32
  ![v3.toNat, 0, 1, 0, 0]
def k0_off24 (i : grid0.Coords) : Fin 5 → Nat :=
  let arg0 : BitVec 32 := BitVec.ofNat 32 (i 0).val
  let c2_i32 : BitVec 32 := 2#32
  let v3 : BitVec 32 := Scalar.remsi arg0 c2_i32
  let c0_i32_38 : BitVec 32 := 0#32
  let c2_i32_39 : BitVec 32 := 2#32
  let c0_i32_41 : BitVec 32 := 0#32
  let c0_i32_42 : BitVec 32 := 0#32
  ![v3.toNat, 0, 2, 0, 0]
def k0_off25 (i : grid0.Coords) : Fin 5 → Nat :=
  let arg0 : BitVec 32 := BitVec.ofNat 32 (i 0).val
  let c2_i32 : BitVec 32 := 2#32
  let v3 : BitVec 32 := Scalar.remsi arg0 c2_i32
  let c0_i32_44 : BitVec 32 := 0#32
  let c3_i32 : BitVec 32 := 3#32
  let c0_i32_46 : BitVec 32 := 0#32
  let c0_i32_47 : BitVec 32 := 0#32
  ![v3.toNat, 0, 3, 0, 0]
def k0_off26 (i : grid0.Coords) : Fin 5 → Nat :=
  let arg0 : BitVec 32 := BitVec.ofNat 32 (i 0).val
  let c2_i32 : BitVec 32 := 2#32
  let v3 : BitVec 32 := Scalar.remsi arg0 c2_i32
  let c0_i32_49 : BitVec 32 := 0#32
  let c4_i32 : BitVec 32 := 4#32
  let c0_i32_51 : BitVec 32 := 0#32
  let c0_i32_52 : BitVec 32 := 0#32
  ![v3.toNat, 0, 4, 0, 0]
def k0_off27 (i : grid0.Coords) : Fin 5 → Nat :=
  let arg0 : BitVec 32 := BitVec.ofNat 32 (i 0).val
  let c2_i32 : BitVec 32 := 2#32
  let v3 : BitVec 32 := Scalar.remsi arg0 c2_i32
  let c0_i32_54 : BitVec 32 := 0#32
  let c5_i32 : BitVec 32 := 5#32
  let c0_i32_56 : BitVec 32 := 0#32
  let c0_i32_57 : BitVec 32 := 0#32
  ![v3.toNat, 0, 5, 0, 0]
def k0_off28 (i : grid0.Coords) : Fin 5 → Nat :=
  let arg0 : BitVec 32 := BitVec.ofNat 32 (i 0).val
  let c2_i32 : BitVec 32 := 2#32
  let v3 : BitVec 32 := Scalar.remsi arg0 c2_i32
  let c0_i32_59 : BitVec 32 := 0#32
  let c6_i32 : BitVec 32 := 6#32
  let c0_i32_61 : BitVec 32 := 0#32
  let c0_i32_62 : BitVec 32 := 0#32
  ![v3.toNat, 0, 6, 0, 0]
def k0_off29 (i : grid0.Coords) : Fin 5 → Nat :=
  let arg0 : BitVec 32 := BitVec.ofNat 32 (i 0).val
  let c2_i32 : BitVec 32 := 2#32
  let v3 : BitVec 32 := Scalar.remsi arg0 c2_i32
  let c0_i32_64 : BitVec 32 := 0#32
  let c7_i32 : BitVec 32 := 7#32
  let c0_i32_66 : BitVec 32 := 0#32
  let c0_i32_67 : BitVec 32 := 0#32
  ![v3.toNat, 0, 7, 0, 0]
def k0_off30 (i : grid0.Coords) : Fin 2 → Nat :=
  let arg0 : BitVec 32 := BitVec.ofNat 32 (i 0).val
  let c2_i32 : BitVec 32 := 2#32
  let v3 : BitVec 32 := Scalar.remsi arg0 c2_i32
  let c1_i32_71 : BitVec 32 := 1#32
  ![v3.toNat, 1]
def k0_off31 (i : grid0.Coords) : Fin 5 → Nat :=
  let arg0 : BitVec 32 := BitVec.ofNat 32 (i 0).val
  let c2_i32 : BitVec 32 := 2#32
  let v3 : BitVec 32 := Scalar.remsi arg0 c2_i32
  let c1_i32_69 : BitVec 32 := 1#32
  let c0_i32_70 : BitVec 32 := 0#32
  let c0_i32_72 : BitVec 32 := 0#32
  let c0_i32_73 : BitVec 32 := 0#32
  ![v3.toNat, 1, 0, 0, 0]
def k0_off32 (i : grid0.Coords) : Fin 5 → Nat :=
  let arg0 : BitVec 32 := BitVec.ofNat 32 (i 0).val
  let c2_i32 : BitVec 32 := 2#32
  let v3 : BitVec 32 := Scalar.remsi arg0 c2_i32
  let c1_i32_75 : BitVec 32 := 1#32
  let c1_i32_76 : BitVec 32 := 1#32
  let c0_i32_78 : BitVec 32 := 0#32
  let c0_i32_79 : BitVec 32 := 0#32
  ![v3.toNat, 1, 1, 0, 0]
def k0_off33 (i : grid0.Coords) : Fin 5 → Nat :=
  let arg0 : BitVec 32 := BitVec.ofNat 32 (i 0).val
  let c2_i32 : BitVec 32 := 2#32
  let v3 : BitVec 32 := Scalar.remsi arg0 c2_i32
  let c1_i32_81 : BitVec 32 := 1#32
  let c2_i32_82 : BitVec 32 := 2#32
  let c0_i32_84 : BitVec 32 := 0#32
  let c0_i32_85 : BitVec 32 := 0#32
  ![v3.toNat, 1, 2, 0, 0]
def k0_off34 (i : grid0.Coords) : Fin 5 → Nat :=
  let arg0 : BitVec 32 := BitVec.ofNat 32 (i 0).val
  let c2_i32 : BitVec 32 := 2#32
  let v3 : BitVec 32 := Scalar.remsi arg0 c2_i32
  let c1_i32_87 : BitVec 32 := 1#32
  let c3_i32_88 : BitVec 32 := 3#32
  let c0_i32_90 : BitVec 32 := 0#32
  let c0_i32_91 : BitVec 32 := 0#32
  ![v3.toNat, 1, 3, 0, 0]
def k0_off35 (i : grid0.Coords) : Fin 5 → Nat :=
  let arg0 : BitVec 32 := BitVec.ofNat 32 (i 0).val
  let c2_i32 : BitVec 32 := 2#32
  let v3 : BitVec 32 := Scalar.remsi arg0 c2_i32
  let c1_i32_93 : BitVec 32 := 1#32
  let c4_i32_94 : BitVec 32 := 4#32
  let c0_i32_96 : BitVec 32 := 0#32
  let c0_i32_97 : BitVec 32 := 0#32
  ![v3.toNat, 1, 4, 0, 0]
def k0_off36 (i : grid0.Coords) : Fin 5 → Nat :=
  let arg0 : BitVec 32 := BitVec.ofNat 32 (i 0).val
  let c2_i32 : BitVec 32 := 2#32
  let v3 : BitVec 32 := Scalar.remsi arg0 c2_i32
  let c1_i32_99 : BitVec 32 := 1#32
  let c5_i32_100 : BitVec 32 := 5#32
  let c0_i32_102 : BitVec 32 := 0#32
  let c0_i32_103 : BitVec 32 := 0#32
  ![v3.toNat, 1, 5, 0, 0]
def k0_off37 (i : grid0.Coords) : Fin 5 → Nat :=
  let arg0 : BitVec 32 := BitVec.ofNat 32 (i 0).val
  let c2_i32 : BitVec 32 := 2#32
  let v3 : BitVec 32 := Scalar.remsi arg0 c2_i32
  let c1_i32_105 : BitVec 32 := 1#32
  let c6_i32_106 : BitVec 32 := 6#32
  let c0_i32_108 : BitVec 32 := 0#32
  let c0_i32_109 : BitVec 32 := 0#32
  ![v3.toNat, 1, 6, 0, 0]
def k0_off38 (i : grid0.Coords) : Fin 5 → Nat :=
  let arg0 : BitVec 32 := BitVec.ofNat 32 (i 0).val
  let c2_i32 : BitVec 32 := 2#32
  let v3 : BitVec 32 := Scalar.remsi arg0 c2_i32
  let c1_i32_111 : BitVec 32 := 1#32
  let c7_i32_112 : BitVec 32 := 7#32
  let c0_i32_114 : BitVec 32 := 0#32
  let c0_i32_115 : BitVec 32 := 0#32
  ![v3.toNat, 1, 7, 0, 0]
@[reducible] def k0_t1_loop : Scf.Loop 32 :=
  let c0_i32_117 : BitVec 32 := 0#32
  let c2_i32_118 : BitVec 32 := 2#32
  let v136 : BitVec 32 := Scalar.addi c0_i32_117 c2_i32_118
  let c1_i32_119 : BitVec 32 := 1#32
  ⟨c0_i32_117, v136, c1_i32_119⟩
def k0_mult49 (k0_t1 : Fin k0_t1_loop.trips) : BitVec 32 :=
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  v147
def k0_off39 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v150 : Index := Scalar.indexCast v3
  let c0_142 : Index := 0#32
  let c0_143 : Index := 0#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v151 : Index := Scalar.indexCast v148
  let c0_144 : Index := 0#32
  ![v150.toNat, 0, 0, Nat.mul 2 v151.toNat, 0]
def k0_off40 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v163 : Index := Scalar.indexCast arg11
  let c0_145 : Index := 0#32
  let c0_146 : Index := 0#32
  ![v163.toNat, 0, 0, 0]
def k0_off41 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v168 : Index := Scalar.indexCast v3
  let c0_147 : Index := 0#32
  let c1 : Index := 1#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v169 : Index := Scalar.indexCast v148
  let c0_148 : Index := 0#32
  ![v168.toNat, 0, 1, Nat.mul 2 v169.toNat, 0]
def k0_off42 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v181 : Index := Scalar.indexCast arg11
  let c128 : Index := 128#32
  let c0_151 : Index := 0#32
  ![v181.toNat, 128, 0, 0]
def k0_off43 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v186 : Index := Scalar.indexCast v3
  let c0_152 : Index := 0#32
  let c2 : Index := 2#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v187 : Index := Scalar.indexCast v148
  let c0_153 : Index := 0#32
  ![v186.toNat, 0, 2, Nat.mul 2 v187.toNat, 0]
def k0_off44 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v199 : Index := Scalar.indexCast arg11
  let c256 : Index := 256#32
  let c0_156 : Index := 0#32
  ![v199.toNat, 256, 0, 0]
def k0_off45 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v204 : Index := Scalar.indexCast v3
  let c0_157 : Index := 0#32
  let c3 : Index := 3#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v205 : Index := Scalar.indexCast v148
  let c0_158 : Index := 0#32
  ![v204.toNat, 0, 3, Nat.mul 2 v205.toNat, 0]
def k0_off46 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v217 : Index := Scalar.indexCast arg11
  let c384 : Index := 384#32
  let c0_161 : Index := 0#32
  ![v217.toNat, 384, 0, 0]
def k0_off47 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v222 : Index := Scalar.indexCast v3
  let c0_162 : Index := 0#32
  let c4 : Index := 4#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v223 : Index := Scalar.indexCast v148
  let c0_163 : Index := 0#32
  ![v222.toNat, 0, 4, Nat.mul 2 v223.toNat, 0]
def k0_off48 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v235 : Index := Scalar.indexCast arg11
  let c512 : Index := 512#32
  let c0_166 : Index := 0#32
  ![v235.toNat, 512, 0, 0]
def k0_off49 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v240 : Index := Scalar.indexCast v3
  let c0_167 : Index := 0#32
  let c5 : Index := 5#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v241 : Index := Scalar.indexCast v148
  let c0_168 : Index := 0#32
  ![v240.toNat, 0, 5, Nat.mul 2 v241.toNat, 0]
def k0_off50 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v253 : Index := Scalar.indexCast arg11
  let c640 : Index := 640#32
  let c0_171 : Index := 0#32
  ![v253.toNat, 640, 0, 0]
def k0_off51 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v258 : Index := Scalar.indexCast v3
  let c0_172 : Index := 0#32
  let c6 : Index := 6#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v259 : Index := Scalar.indexCast v148
  let c0_173 : Index := 0#32
  ![v258.toNat, 0, 6, Nat.mul 2 v259.toNat, 0]
def k0_off52 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v271 : Index := Scalar.indexCast arg11
  let c768 : Index := 768#32
  let c0_176 : Index := 0#32
  ![v271.toNat, 768, 0, 0]
def k0_off53 (i : grid0.Coords) (k0_t1 : Fin k0_t1_loop.trips) : Fin 5 → Nat :=
  let arg0 : BitVec 32 := BitVec.ofNat 32 (i 0).val
  let c2_i32 : BitVec 32 := 2#32
  let v3 : BitVec 32 := Scalar.remsi arg0 c2_i32
  let v276 : Index := Scalar.indexCast v3
  let c0_177 : Index := 0#32
  let c7 : Index := 7#32
  let c0_i32_117 : BitVec 32 := 0#32
  let c1_i32_119 : BitVec 32 := 1#32
  let arg11 : BitVec 32 := Scf.iv c0_i32_117 c1_i32_119 k0_t1
  let c128_i32_141 : BitVec 32 := 128#32
  let v147 : BitVec 32 := Scalar.muli arg11 c128_i32_141
  let v148 : BitVec 32 := v147
  let v277 : Index := Scalar.indexCast v148
  let c0_178 : Index := 0#32
  ![v276.toNat, 0, 7, Nat.mul 2 v277.toNat, 0]
def k0_off54 (k0_t1 : Fin k0_t1_loop.trips) : Fin 4 → Nat :=
  let c0_i32_117 : BitVec 32 := 0#32
  let c1_i32_119 : BitVec 32 := 1#32
  let arg11 : BitVec 32 := Scf.iv c0_i32_117 c1_i32_119 k0_t1
  let v289 : Index := Scalar.indexCast arg11
  let c896 : Index := 896#32
  let c0_181 : Index := 0#32
  ![v289.toNat, 896, 0, 0]
@[reducible] def k0_t2_loop : Scf.Loop 32 :=
  let c0_i32_121 : BitVec 32 := 0#32
  let c2_i32_122 : BitVec 32 := 2#32
  let v137 : BitVec 32 := Scalar.addi c0_i32_121 c2_i32_122
  let c1_i32_123 : BitVec 32 := 1#32
  ⟨c0_i32_121, v137, c1_i32_123⟩
def k0_mult50 (k0_t2 : Fin k0_t2_loop.trips) : BitVec 32 :=
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  v147
def k0_off55 (k0_t2 : Fin k0_t2_loop.trips) : Fin 4 → Nat :=
  let c0_i32_121 : BitVec 32 := 0#32
  let c1_i32_123 : BitVec 32 := 1#32
  let arg11 : BitVec 32 := Scf.iv c0_i32_121 c1_i32_123 k0_t2
  let c0_i32_142 : BitVec 32 := 0#32
  let c0_i32_143 : BitVec 32 := 0#32
  ![arg11.toNat, 0, 0, 0]
def k0_off56 (k0_t2 : Fin k0_t2_loop.trips) : Fin 7 → Nat :=
  let c0_149 : Index := 0#32
  let c0_150 : Index := 0#32
  let c0_151 : Index := 0#32
  let c0_152 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v171 : Index := Scalar.indexCast v148
  let c0_153 : Index := 0#32
  ![0, 0, 0, 0, v171.toNat, 0, 0]
def k0_off57 (k0_t2 : Fin k0_t2_loop.trips) : Fin 7 → Nat :=
  let c0_154 : Index := 0#32
  let c0_155 : Index := 0#32
  let c0_156 : Index := 0#32
  let c1 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v175 : Index := Scalar.indexCast v148
  let c0_157 : Index := 0#32
  ![0, 0, 0, 1, v175.toNat, 0, 0]
def k0_off58 (k0_t2 : Fin k0_t2_loop.trips) : Fin 7 → Nat :=
  let c0_167 : Index := 0#32
  let c0_168 : Index := 0#32
  let c1_169 : Index := 1#32
  let c0_170 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v201 : Index := Scalar.indexCast v148
  let c0_171 : Index := 0#32
  ![0, 0, 1, 0, v201.toNat, 0, 0]
def k0_off59 (k0_t2 : Fin k0_t2_loop.trips) : Fin 7 → Nat :=
  let c0_172 : Index := 0#32
  let c0_173 : Index := 0#32
  let c1_174 : Index := 1#32
  let c1_175 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v205 : Index := Scalar.indexCast v148
  let c0_176 : Index := 0#32
  ![0, 0, 1, 1, v205.toNat, 0, 0]
def k0_off60 (k0_t2 : Fin k0_t2_loop.trips) : Fin 7 → Nat :=
  let c0_188 : Index := 0#32
  let c1_189 : Index := 1#32
  let c0_190 : Index := 0#32
  let c0_191 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v235 : Index := Scalar.indexCast v148
  let c0_192 : Index := 0#32
  ![0, 1, 0, 0, v235.toNat, 0, 0]
def k0_off61 (k0_t2 : Fin k0_t2_loop.trips) : Fin 7 → Nat :=
  let c0_193 : Index := 0#32
  let c1_194 : Index := 1#32
  let c0_195 : Index := 0#32
  let c1_196 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v239 : Index := Scalar.indexCast v148
  let c0_197 : Index := 0#32
  ![0, 1, 0, 1, v239.toNat, 0, 0]
def k0_off62 (k0_t2 : Fin k0_t2_loop.trips) : Fin 7 → Nat :=
  let c0_208 : Index := 0#32
  let c1_209 : Index := 1#32
  let c1_210 : Index := 1#32
  let c0_211 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v269 : Index := Scalar.indexCast v148
  let c0_212 : Index := 0#32
  ![0, 1, 1, 0, v269.toNat, 0, 0]
def k0_off63 (k0_t2 : Fin k0_t2_loop.trips) : Fin 7 → Nat :=
  let c0_213 : Index := 0#32
  let c1_214 : Index := 1#32
  let c1_215 : Index := 1#32
  let c1_216 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v273 : Index := Scalar.indexCast v148
  let c0_217 : Index := 0#32
  ![0, 1, 1, 1, v273.toNat, 0, 0]
def k0_off64 (k0_t2 : Fin k0_t2_loop.trips) : Fin 7 → Nat :=
  let c0_228 : Index := 0#32
  let c2_229 : Index := 2#32
  let c0_230 : Index := 0#32
  let c0_231 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v303 : Index := Scalar.indexCast v148
  let c0_232 : Index := 0#32
  ![0, 2, 0, 0, v303.toNat, 0, 0]
def k0_off65 (k0_t2 : Fin k0_t2_loop.trips) : Fin 7 → Nat :=
  let c0_233 : Index := 0#32
  let c2_234 : Index := 2#32
  let c0_235 : Index := 0#32
  let c1_236 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v307 : Index := Scalar.indexCast v148
  let c0_237 : Index := 0#32
  ![0, 2, 0, 1, v307.toNat, 0, 0]
def k0_off66 (k0_t2 : Fin k0_t2_loop.trips) : Fin 7 → Nat :=
  let c0_248 : Index := 0#32
  let c2_249 : Index := 2#32
  let c1_250 : Index := 1#32
  let c0_251 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v337 : Index := Scalar.indexCast v148
  let c0_252 : Index := 0#32
  ![0, 2, 1, 0, v337.toNat, 0, 0]
def k0_off67 (k0_t2 : Fin k0_t2_loop.trips) : Fin 7 → Nat :=
  let c0_253 : Index := 0#32
  let c2_254 : Index := 2#32
  let c1_255 : Index := 1#32
  let c1_256 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v341 : Index := Scalar.indexCast v148
  let c0_257 : Index := 0#32
  ![0, 2, 1, 1, v341.toNat, 0, 0]
def k0_off68 (k0_t2 : Fin k0_t2_loop.trips) : Fin 7 → Nat :=
  let c0_268 : Index := 0#32
  let c3_269 : Index := 3#32
  let c0_270 : Index := 0#32
  let c0_271 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v371 : Index := Scalar.indexCast v148
  let c0_272 : Index := 0#32
  ![0, 3, 0, 0, v371.toNat, 0, 0]
def k0_off69 (k0_t2 : Fin k0_t2_loop.trips) : Fin 7 → Nat :=
  let c0_273 : Index := 0#32
  let c3_274 : Index := 3#32
  let c0_275 : Index := 0#32
  let c1_276 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v375 : Index := Scalar.indexCast v148
  let c0_277 : Index := 0#32
  ![0, 3, 0, 1, v375.toNat, 0, 0]
def k0_off70 (k0_t2 : Fin k0_t2_loop.trips) : Fin 7 → Nat :=
  let c0_288 : Index := 0#32
  let c3_289 : Index := 3#32
  let c1_290 : Index := 1#32
  let c0_291 : Index := 0#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v405 : Index := Scalar.indexCast v148
  let c0_292 : Index := 0#32
  ![0, 3, 1, 0, v405.toNat, 0, 0]
def k0_off71 (k0_t2 : Fin k0_t2_loop.trips) : Fin 7 → Nat :=
  let c0_293 : Index := 0#32
  let c3_294 : Index := 3#32
  let c1_295 : Index := 1#32
  let c1_296 : Index := 1#32
  let c0_i32_121 : BitVec 32 := 0#32
  let c1_i32_123 : BitVec 32 := 1#32
  let arg11 : BitVec 32 := Scf.iv c0_i32_121 c1_i32_123 k0_t2
  let c128_i32_141 : BitVec 32 := 128#32
  let v147 : BitVec 32 := Scalar.muli arg11 c128_i32_141
  let v148 : BitVec 32 := v147
  let v409 : Index := Scalar.indexCast v148
  let c0_297 : Index := 0#32
  ![0, 3, 1, 1, v409.toNat, 0, 0]
@[reducible] def k0_t3_loop : Scf.Loop 32 :=
  let c0_i32_125 : BitVec 32 := 0#32
  let c2_i32_126 : BitVec 32 := 2#32
  let v138 : BitVec 32 := Scalar.addi c0_i32_125 c2_i32_126
  let c1_i32_127 : BitVec 32 := 1#32
  ⟨c0_i32_125, v138, c1_i32_127⟩
def k0_mult51 (k0_t3 : Fin k0_t3_loop.trips) : BitVec 32 :=
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  v147
def k0_off72 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v150 : Index := Scalar.indexCast v3
  let c1 : Index := 1#32
  let c0_142 : Index := 0#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v151 : Index := Scalar.indexCast v148
  let c0_143 : Index := 0#32
  ![v150.toNat, 1, 0, Nat.mul 2 v151.toNat, 0]
def k0_off73 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v163 : Index := Scalar.indexCast arg11
  let c0_144 : Index := 0#32
  let c0_145 : Index := 0#32
  ![v163.toNat, 0, 0, 0]
def k0_off74 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v168 : Index := Scalar.indexCast v3
  let c1_146 : Index := 1#32
  let c1_147 : Index := 1#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v169 : Index := Scalar.indexCast v148
  let c0_148 : Index := 0#32
  ![v168.toNat, 1, 1, Nat.mul 2 v169.toNat, 0]
def k0_off75 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v181 : Index := Scalar.indexCast arg11
  let c128 : Index := 128#32
  let c0_151 : Index := 0#32
  ![v181.toNat, 128, 0, 0]
def k0_off76 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v186 : Index := Scalar.indexCast v3
  let c1_152 : Index := 1#32
  let c2 : Index := 2#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v187 : Index := Scalar.indexCast v148
  let c0_153 : Index := 0#32
  ![v186.toNat, 1, 2, Nat.mul 2 v187.toNat, 0]
def k0_off77 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v199 : Index := Scalar.indexCast arg11
  let c256 : Index := 256#32
  let c0_156 : Index := 0#32
  ![v199.toNat, 256, 0, 0]
def k0_off78 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v204 : Index := Scalar.indexCast v3
  let c1_157 : Index := 1#32
  let c3 : Index := 3#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v205 : Index := Scalar.indexCast v148
  let c0_158 : Index := 0#32
  ![v204.toNat, 1, 3, Nat.mul 2 v205.toNat, 0]
def k0_off79 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v217 : Index := Scalar.indexCast arg11
  let c384 : Index := 384#32
  let c0_161 : Index := 0#32
  ![v217.toNat, 384, 0, 0]
def k0_off80 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v222 : Index := Scalar.indexCast v3
  let c1_162 : Index := 1#32
  let c4 : Index := 4#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v223 : Index := Scalar.indexCast v148
  let c0_163 : Index := 0#32
  ![v222.toNat, 1, 4, Nat.mul 2 v223.toNat, 0]
def k0_off81 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v235 : Index := Scalar.indexCast arg11
  let c512 : Index := 512#32
  let c0_166 : Index := 0#32
  ![v235.toNat, 512, 0, 0]
def k0_off82 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v240 : Index := Scalar.indexCast v3
  let c1_167 : Index := 1#32
  let c5 : Index := 5#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v241 : Index := Scalar.indexCast v148
  let c0_168 : Index := 0#32
  ![v240.toNat, 1, 5, Nat.mul 2 v241.toNat, 0]
def k0_off83 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v253 : Index := Scalar.indexCast arg11
  let c640 : Index := 640#32
  let c0_171 : Index := 0#32
  ![v253.toNat, 640, 0, 0]
def k0_off84 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v258 : Index := Scalar.indexCast v3
  let c1_172 : Index := 1#32
  let c6 : Index := 6#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v259 : Index := Scalar.indexCast v148
  let c0_173 : Index := 0#32
  ![v258.toNat, 1, 6, Nat.mul 2 v259.toNat, 0]
def k0_off85 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v271 : Index := Scalar.indexCast arg11
  let c768 : Index := 768#32
  let c0_176 : Index := 0#32
  ![v271.toNat, 768, 0, 0]
def k0_off86 (i : grid0.Coords) (k0_t3 : Fin k0_t3_loop.trips) : Fin 5 → Nat :=
  let arg0 : BitVec 32 := BitVec.ofNat 32 (i 0).val
  let c2_i32 : BitVec 32 := 2#32
  let v3 : BitVec 32 := Scalar.remsi arg0 c2_i32
  let v276 : Index := Scalar.indexCast v3
  let c1_177 : Index := 1#32
  let c7 : Index := 7#32
  let c0_i32_125 : BitVec 32 := 0#32
  let c1_i32_127 : BitVec 32 := 1#32
  let arg11 : BitVec 32 := Scf.iv c0_i32_125 c1_i32_127 k0_t3
  let c128_i32_141 : BitVec 32 := 128#32
  let v147 : BitVec 32 := Scalar.muli arg11 c128_i32_141
  let v148 : BitVec 32 := v147
  let v277 : Index := Scalar.indexCast v148
  let c0_178 : Index := 0#32
  ![v276.toNat, 1, 7, Nat.mul 2 v277.toNat, 0]
def k0_off87 (k0_t3 : Fin k0_t3_loop.trips) : Fin 4 → Nat :=
  let c0_i32_125 : BitVec 32 := 0#32
  let c1_i32_127 : BitVec 32 := 1#32
  let arg11 : BitVec 32 := Scf.iv c0_i32_125 c1_i32_127 k0_t3
  let v289 : Index := Scalar.indexCast arg11
  let c896 : Index := 896#32
  let c0_181 : Index := 0#32
  ![v289.toNat, 896, 0, 0]
@[reducible] def k0_t4_loop : Scf.Loop 32 :=
  let c0_i32_129 : BitVec 32 := 0#32
  let c2_i32_130 : BitVec 32 := 2#32
  let v139 : BitVec 32 := Scalar.addi c0_i32_129 c2_i32_130
  let c1_i32_131 : BitVec 32 := 1#32
  ⟨c0_i32_129, v139, c1_i32_131⟩
def k0_mult52 (k0_t4 : Fin k0_t4_loop.trips) : BitVec 32 :=
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  v147
def k0_off88 (k0_t4 : Fin k0_t4_loop.trips) : Fin 4 → Nat :=
  let c0_i32_129 : BitVec 32 := 0#32
  let c1_i32_131 : BitVec 32 := 1#32
  let arg11 : BitVec 32 := Scf.iv c0_i32_129 c1_i32_131 k0_t4
  let c0_i32_142 : BitVec 32 := 0#32
  let c0_i32_143 : BitVec 32 := 0#32
  ![arg11.toNat, 0, 0, 0]
def k0_off89 (k0_t4 : Fin k0_t4_loop.trips) : Fin 7 → Nat :=
  let c1 : Index := 1#32
  let c0_149 : Index := 0#32
  let c0_150 : Index := 0#32
  let c0_151 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v171 : Index := Scalar.indexCast v148
  let c0_152 : Index := 0#32
  ![1, 0, 0, 0, v171.toNat, 0, 0]
def k0_off90 (k0_t4 : Fin k0_t4_loop.trips) : Fin 7 → Nat :=
  let c1_153 : Index := 1#32
  let c0_154 : Index := 0#32
  let c0_155 : Index := 0#32
  let c1_156 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v175 : Index := Scalar.indexCast v148
  let c0_157 : Index := 0#32
  ![1, 0, 0, 1, v175.toNat, 0, 0]
def k0_off91 (k0_t4 : Fin k0_t4_loop.trips) : Fin 7 → Nat :=
  let c1_167 : Index := 1#32
  let c0_168 : Index := 0#32
  let c1_169 : Index := 1#32
  let c0_170 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v201 : Index := Scalar.indexCast v148
  let c0_171 : Index := 0#32
  ![1, 0, 1, 0, v201.toNat, 0, 0]
def k0_off92 (k0_t4 : Fin k0_t4_loop.trips) : Fin 7 → Nat :=
  let c1_172 : Index := 1#32
  let c0_173 : Index := 0#32
  let c1_174 : Index := 1#32
  let c1_175 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v205 : Index := Scalar.indexCast v148
  let c0_176 : Index := 0#32
  ![1, 0, 1, 1, v205.toNat, 0, 0]
def k0_off93 (k0_t4 : Fin k0_t4_loop.trips) : Fin 7 → Nat :=
  let c1_187 : Index := 1#32
  let c1_188 : Index := 1#32
  let c0_189 : Index := 0#32
  let c0_190 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v231 : Index := Scalar.indexCast v148
  let c0_191 : Index := 0#32
  ![1, 1, 0, 0, v231.toNat, 0, 0]
def k0_off94 (k0_t4 : Fin k0_t4_loop.trips) : Fin 7 → Nat :=
  let c1_192 : Index := 1#32
  let c1_193 : Index := 1#32
  let c0_194 : Index := 0#32
  let c1_195 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v235 : Index := Scalar.indexCast v148
  let c0_196 : Index := 0#32
  ![1, 1, 0, 1, v235.toNat, 0, 0]
def k0_off95 (k0_t4 : Fin k0_t4_loop.trips) : Fin 7 → Nat :=
  let c1_206 : Index := 1#32
  let c1_207 : Index := 1#32
  let c1_208 : Index := 1#32
  let c0_209 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v261 : Index := Scalar.indexCast v148
  let c0_210 : Index := 0#32
  ![1, 1, 1, 0, v261.toNat, 0, 0]
def k0_off96 (k0_t4 : Fin k0_t4_loop.trips) : Fin 7 → Nat :=
  let c1_211 : Index := 1#32
  let c1_212 : Index := 1#32
  let c1_213 : Index := 1#32
  let c1_214 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v265 : Index := Scalar.indexCast v148
  let c0_215 : Index := 0#32
  ![1, 1, 1, 1, v265.toNat, 0, 0]
def k0_off97 (k0_t4 : Fin k0_t4_loop.trips) : Fin 7 → Nat :=
  let c1_225 : Index := 1#32
  let c2_226 : Index := 2#32
  let c0_227 : Index := 0#32
  let c0_228 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v291 : Index := Scalar.indexCast v148
  let c0_229 : Index := 0#32
  ![1, 2, 0, 0, v291.toNat, 0, 0]
def k0_off98 (k0_t4 : Fin k0_t4_loop.trips) : Fin 7 → Nat :=
  let c1_230 : Index := 1#32
  let c2_231 : Index := 2#32
  let c0_232 : Index := 0#32
  let c1_233 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v295 : Index := Scalar.indexCast v148
  let c0_234 : Index := 0#32
  ![1, 2, 0, 1, v295.toNat, 0, 0]
def k0_off99 (k0_t4 : Fin k0_t4_loop.trips) : Fin 7 → Nat :=
  let c1_244 : Index := 1#32
  let c2_245 : Index := 2#32
  let c1_246 : Index := 1#32
  let c0_247 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v321 : Index := Scalar.indexCast v148
  let c0_248 : Index := 0#32
  ![1, 2, 1, 0, v321.toNat, 0, 0]
def k0_off100 (k0_t4 : Fin k0_t4_loop.trips) : Fin 7 → Nat :=
  let c1_249 : Index := 1#32
  let c2_250 : Index := 2#32
  let c1_251 : Index := 1#32
  let c1_252 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v325 : Index := Scalar.indexCast v148
  let c0_253 : Index := 0#32
  ![1, 2, 1, 1, v325.toNat, 0, 0]
def k0_off101 (k0_t4 : Fin k0_t4_loop.trips) : Fin 7 → Nat :=
  let c1_263 : Index := 1#32
  let c3_264 : Index := 3#32
  let c0_265 : Index := 0#32
  let c0_266 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v351 : Index := Scalar.indexCast v148
  let c0_267 : Index := 0#32
  ![1, 3, 0, 0, v351.toNat, 0, 0]
def k0_off102 (k0_t4 : Fin k0_t4_loop.trips) : Fin 7 → Nat :=
  let c1_268 : Index := 1#32
  let c3_269 : Index := 3#32
  let c0_270 : Index := 0#32
  let c1_271 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v355 : Index := Scalar.indexCast v148
  let c0_272 : Index := 0#32
  ![1, 3, 0, 1, v355.toNat, 0, 0]
def k0_off103 (k0_t4 : Fin k0_t4_loop.trips) : Fin 7 → Nat :=
  let c1_282 : Index := 1#32
  let c3_283 : Index := 3#32
  let c1_284 : Index := 1#32
  let c0_285 : Index := 0#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v381 : Index := Scalar.indexCast v148
  let c0_286 : Index := 0#32
  ![1, 3, 1, 0, v381.toNat, 0, 0]
def k0_off104 (k0_t4 : Fin k0_t4_loop.trips) : Fin 7 → Nat :=
  let c1_287 : Index := 1#32
  let c3_288 : Index := 3#32
  let c1_289 : Index := 1#32
  let c1_290 : Index := 1#32
  let c0_i32_129 : BitVec 32 := 0#32
  let c1_i32_131 : BitVec 32 := 1#32
  let arg11 : BitVec 32 := Scf.iv c0_i32_129 c1_i32_131 k0_t4
  let c128_i32_141 : BitVec 32 := 128#32
  let v147 : BitVec 32 := Scalar.muli arg11 c128_i32_141
  let v148 : BitVec 32 := v147
  let v385 : Index := Scalar.indexCast v148
  let c0_291 : Index := 0#32
  ![1, 3, 1, 1, v385.toNat, 0, 0]
@[reducible] def k0_t5_loop : Scf.Loop 32 :=
  let c0_i32_135 : BitVec 32 := 0#32
  let c8_i32 : BitVec 32 := 8#32
  let v144 : BitVec 32 := Scalar.addi c0_i32_135 c8_i32
  let c1_i32_136 : BitVec 32 := 1#32
  ⟨c0_i32_135, v144, c1_i32_136⟩
@[reducible] def k0_t6_loop : Scf.Loop 32 :=
  let c0_i32_141 : BitVec 32 := 0#32
  let c4_i32_142 : BitVec 32 := 4#32
  let v147 : BitVec 32 := Scalar.addi c0_i32_141 c4_i32_142
  let c1_i32_143 : BitVec 32 := 1#32
  ⟨c0_i32_141, v147, c1_i32_143⟩
@[reducible] def k0_t7_loop : Scf.Loop 32 :=
  let c0_i32_147 : BitVec 32 := 0#32
  let c4_i32_148 : BitVec 32 := 4#32
  let v151 : BitVec 32 := Scalar.addi c0_i32_147 c4_i32_148
  let c1_i32_149 : BitVec 32 := 1#32
  ⟨c0_i32_147, v151, c1_i32_149⟩
def k0_mult53 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let c0_i32_157 : BitVec 32 := 0#32
  let v164 : BitVec 32 := Scalar.addi v163 c0_i32_157
  let c2_i32_158 : BitVec 32 := 2#32
  let v165 : BitVec 32 := Scalar.muli v164 c2_i32_158
  let c16_i32 : BitVec 32 := 16#32
  let v166 : BitVec 32 := Scalar.muli v165 c16_i32
  v166
def k0_off105 (k0_t5 : Fin k0_t5_loop.trips) (k0_t7 : Fin k0_t7_loop.trips) (c0_i32_157 : BitVec 32) : Fin 2 → Nat :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let c2_i32_158 : BitVec 32 := 2#32
  let v165 : BitVec 32 := Scalar.muli v164 c2_i32_158
  let c16_i32 : BitVec 32 := 16#32
  let v166 : BitVec 32 := Scalar.muli v165 c16_i32
  let v167 : BitVec 32 := v166
  let v168 : Index := Scalar.indexCast v167
  let c0_159 : Index := 0#32
  ![v168.toNat, 0]
def k0_off106 (k0_t5 : Fin k0_t5_loop.trips) (k0_t6 : Fin k0_t6_loop.trips) (k0_t7 : Fin k0_t7_loop.trips) (c0_i32_157 : BitVec 32) : Fin 7 → Nat :=
  let c0_160 : Index := 0#32
  let c0_i32_141 : BitVec 32 := 0#32
  let c1_i32_143 : BitVec 32 := 1#32
  let arg12 : BitVec 32 := Scf.iv c0_i32_141 c1_i32_143 k0_t6
  let v175 : Index := Scalar.indexCast arg12
  let c0_161 : Index := 0#32
  let c0_162 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v176 : Index := Scalar.indexCast v164
  let c0_163 : Index := 0#32
  ![0, v175.toNat, 0, 0, v176.toNat, 0, 0]
def k0_off107 (k0_t5 : Fin k0_t5_loop.trips) (k0_t6 : Fin k0_t6_loop.trips) (k0_t7 : Fin k0_t7_loop.trips) (c0_i32_157 : BitVec 32) : Fin 7 → Nat :=
  let c1 : Index := 1#32
  let c0_i32_141 : BitVec 32 := 0#32
  let c1_i32_143 : BitVec 32 := 1#32
  let arg12 : BitVec 32 := Scf.iv c0_i32_141 c1_i32_143 k0_t6
  let v181 : Index := Scalar.indexCast arg12
  let c0_164 : Index := 0#32
  let c0_165 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v182 : Index := Scalar.indexCast v164
  let c0_166 : Index := 0#32
  ![1, v181.toNat, 0, 0, v182.toNat, 0, 0]
def k0_off108 (k0_t5 : Fin k0_t5_loop.trips) (k0_t6 : Fin k0_t6_loop.trips) (k0_t7 : Fin k0_t7_loop.trips) (c0_i32_157 : BitVec 32) : Fin 7 → Nat :=
  let c0_167 : Index := 0#32
  let c0_i32_141 : BitVec 32 := 0#32
  let c1_i32_143 : BitVec 32 := 1#32
  let arg12 : BitVec 32 := Scf.iv c0_i32_141 c1_i32_143 k0_t6
  let v190 : Index := Scalar.indexCast arg12
  let c0_168 : Index := 0#32
  let c1_169 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v191 : Index := Scalar.indexCast v164
  let c0_170 : Index := 0#32
  ![0, v190.toNat, 0, 1, v191.toNat, 0, 0]
def k0_off109 (k0_t5 : Fin k0_t5_loop.trips) (k0_t6 : Fin k0_t6_loop.trips) (k0_t7 : Fin k0_t7_loop.trips) (c0_i32_157 : BitVec 32) : Fin 7 → Nat :=
  let c1_171 : Index := 1#32
  let c0_i32_141 : BitVec 32 := 0#32
  let c1_i32_143 : BitVec 32 := 1#32
  let arg12 : BitVec 32 := Scf.iv c0_i32_141 c1_i32_143 k0_t6
  let v196 : Index := Scalar.indexCast arg12
  let c0_172 : Index := 0#32
  let c1_173 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_156 : BitVec 32 := 8#32
  let v163 : BitVec 32 := Scalar.muli v162 c8_i32_156
  let v164 : BitVec 32 := Scalar.addi v163 c0_i32_157
  let v197 : Index := Scalar.indexCast v164
  let c0_174 : Index := 0#32
  ![1, v196.toNat, 0, 1, v197.toNat, 0, 0]
def k0_mult54 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_175 : BitVec 32 := 8#32
  let v205 : BitVec 32 := Scalar.muli v162 c8_i32_175
  let c1_i32_176 : BitVec 32 := 1#32
  let v206 : BitVec 32 := Scalar.addi v205 c1_i32_176
  let c2_i32_177 : BitVec 32 := 2#32
  let v207 : BitVec 32 := Scalar.muli v206 c2_i32_177
  let c16_i32_178 : BitVec 32 := 16#32
  let v208 : BitVec 32 := Scalar.muli v207 c16_i32_178
  v208
def k0_mult55 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_196 : BitVec 32 := 8#32
  let v247 : BitVec 32 := Scalar.muli v162 c8_i32_196
  let c2_i32_197 : BitVec 32 := 2#32
  let v248 : BitVec 32 := Scalar.addi v247 c2_i32_197
  let c2_i32_198 : BitVec 32 := 2#32
  let v249 : BitVec 32 := Scalar.muli v248 c2_i32_198
  let c16_i32_199 : BitVec 32 := 16#32
  let v250 : BitVec 32 := Scalar.muli v249 c16_i32_199
  v250
def k0_mult56 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_217 : BitVec 32 := 8#32
  let v289 : BitVec 32 := Scalar.muli v162 c8_i32_217
  let c3_i32_218 : BitVec 32 := 3#32
  let v290 : BitVec 32 := Scalar.addi v289 c3_i32_218
  let c2_i32_219 : BitVec 32 := 2#32
  let v291 : BitVec 32 := Scalar.muli v290 c2_i32_219
  let c16_i32_220 : BitVec 32 := 16#32
  let v292 : BitVec 32 := Scalar.muli v291 c16_i32_220
  v292
def k0_mult57 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_238 : BitVec 32 := 8#32
  let v331 : BitVec 32 := Scalar.muli v162 c8_i32_238
  let c4_i32_239 : BitVec 32 := 4#32
  let v332 : BitVec 32 := Scalar.addi v331 c4_i32_239
  let c2_i32_240 : BitVec 32 := 2#32
  let v333 : BitVec 32 := Scalar.muli v332 c2_i32_240
  let c16_i32_241 : BitVec 32 := 16#32
  let v334 : BitVec 32 := Scalar.muli v333 c16_i32_241
  v334
def k0_mult58 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_259 : BitVec 32 := 8#32
  let v373 : BitVec 32 := Scalar.muli v162 c8_i32_259
  let c5_i32_260 : BitVec 32 := 5#32
  let v374 : BitVec 32 := Scalar.addi v373 c5_i32_260
  let c2_i32_261 : BitVec 32 := 2#32
  let v375 : BitVec 32 := Scalar.muli v374 c2_i32_261
  let c16_i32_262 : BitVec 32 := 16#32
  let v376 : BitVec 32 := Scalar.muli v375 c16_i32_262
  v376
def k0_mult59 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_280 : BitVec 32 := 8#32
  let v415 : BitVec 32 := Scalar.muli v162 c8_i32_280
  let c6_i32_281 : BitVec 32 := 6#32
  let v416 : BitVec 32 := Scalar.addi v415 c6_i32_281
  let c2_i32_282 : BitVec 32 := 2#32
  let v417 : BitVec 32 := Scalar.muli v416 c2_i32_282
  let c16_i32_283 : BitVec 32 := 16#32
  let v418 : BitVec 32 := Scalar.muli v417 c16_i32_283
  v418
def k0_mult60 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_301 : BitVec 32 := 8#32
  let v457 : BitVec 32 := Scalar.muli v162 c8_i32_301
  let c7_i32_302 : BitVec 32 := 7#32
  let v458 : BitVec 32 := Scalar.addi v457 c7_i32_302
  let c2_i32_303 : BitVec 32 := 2#32
  let v459 : BitVec 32 := Scalar.muli v458 c2_i32_303
  let c16_i32_304 : BitVec 32 := 16#32
  let v460 : BitVec 32 := Scalar.muli v459 c16_i32_304
  v460
def k0_mult61 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let c0_i32_323 : BitVec 32 := 0#32
  let v501 : BitVec 32 := Scalar.addi v500 c0_i32_323
  let c2_i32_324 : BitVec 32 := 2#32
  let v502 : BitVec 32 := Scalar.muli v501 c2_i32_324
  let c16_i32_325 : BitVec 32 := 16#32
  let v503 : BitVec 32 := Scalar.muli v502 c16_i32_325
  v503
def k0_off110 (k0_t5 : Fin k0_t5_loop.trips) (k0_t7 : Fin k0_t7_loop.trips) (c0_i32_323 : BitVec 32) : Fin 2 → Nat :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let c2_i32_324 : BitVec 32 := 2#32
  let v502 : BitVec 32 := Scalar.muli v501 c2_i32_324
  let c16_i32_325 : BitVec 32 := 16#32
  let v503 : BitVec 32 := Scalar.muli v502 c16_i32_325
  let v504 : BitVec 32 := v503
  let v505 : Index := Scalar.indexCast v504
  let c128 : Index := 128#32
  ![v505.toNat, 128]
def k0_off111 (k0_t5 : Fin k0_t5_loop.trips) (k0_t6 : Fin k0_t6_loop.trips) (k0_t7 : Fin k0_t7_loop.trips) (c0_i32_323 : BitVec 32) : Fin 7 → Nat :=
  let c0_326 : Index := 0#32
  let c0_i32_141 : BitVec 32 := 0#32
  let c1_i32_143 : BitVec 32 := 1#32
  let arg12 : BitVec 32 := Scf.iv c0_i32_141 c1_i32_143 k0_t6
  let v512 : Index := Scalar.indexCast arg12
  let c1_327 : Index := 1#32
  let c0_328 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v513 : Index := Scalar.indexCast v501
  let c0_329 : Index := 0#32
  ![0, v512.toNat, 1, 0, v513.toNat, 0, 0]
def k0_off112 (k0_t5 : Fin k0_t5_loop.trips) (k0_t6 : Fin k0_t6_loop.trips) (k0_t7 : Fin k0_t7_loop.trips) (c0_i32_323 : BitVec 32) : Fin 7 → Nat :=
  let c1_330 : Index := 1#32
  let c0_i32_141 : BitVec 32 := 0#32
  let c1_i32_143 : BitVec 32 := 1#32
  let arg12 : BitVec 32 := Scf.iv c0_i32_141 c1_i32_143 k0_t6
  let v518 : Index := Scalar.indexCast arg12
  let c1_331 : Index := 1#32
  let c0_332 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v519 : Index := Scalar.indexCast v501
  let c0_333 : Index := 0#32
  ![1, v518.toNat, 1, 0, v519.toNat, 0, 0]
def k0_off113 (k0_t5 : Fin k0_t5_loop.trips) (k0_t6 : Fin k0_t6_loop.trips) (k0_t7 : Fin k0_t7_loop.trips) (c0_i32_323 : BitVec 32) : Fin 7 → Nat :=
  let c0_334 : Index := 0#32
  let c0_i32_141 : BitVec 32 := 0#32
  let c1_i32_143 : BitVec 32 := 1#32
  let arg12 : BitVec 32 := Scf.iv c0_i32_141 c1_i32_143 k0_t6
  let v527 : Index := Scalar.indexCast arg12
  let c1_335 : Index := 1#32
  let c1_336 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v528 : Index := Scalar.indexCast v501
  let c0_337 : Index := 0#32
  ![0, v527.toNat, 1, 1, v528.toNat, 0, 0]
def k0_off114 (k0_t5 : Fin k0_t5_loop.trips) (k0_t6 : Fin k0_t6_loop.trips) (k0_t7 : Fin k0_t7_loop.trips) (c0_i32_323 : BitVec 32) : Fin 7 → Nat :=
  let c1_338 : Index := 1#32
  let c0_i32_141 : BitVec 32 := 0#32
  let c1_i32_143 : BitVec 32 := 1#32
  let arg12 : BitVec 32 := Scf.iv c0_i32_141 c1_i32_143 k0_t6
  let v533 : Index := Scalar.indexCast arg12
  let c1_339 : Index := 1#32
  let c1_340 : Index := 1#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_322 : BitVec 32 := 8#32
  let v500 : BitVec 32 := Scalar.muli v162 c8_i32_322
  let v501 : BitVec 32 := Scalar.addi v500 c0_i32_323
  let v534 : Index := Scalar.indexCast v501
  let c0_341 : Index := 0#32
  ![1, v533.toNat, 1, 1, v534.toNat, 0, 0]
def k0_mult62 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_342 : BitVec 32 := 8#32
  let v542 : BitVec 32 := Scalar.muli v162 c8_i32_342
  let c1_i32_343 : BitVec 32 := 1#32
  let v543 : BitVec 32 := Scalar.addi v542 c1_i32_343
  let c2_i32_344 : BitVec 32 := 2#32
  let v544 : BitVec 32 := Scalar.muli v543 c2_i32_344
  let c16_i32_345 : BitVec 32 := 16#32
  let v545 : BitVec 32 := Scalar.muli v544 c16_i32_345
  v545
def k0_mult63 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_363 : BitVec 32 := 8#32
  let v584 : BitVec 32 := Scalar.muli v162 c8_i32_363
  let c2_i32_364 : BitVec 32 := 2#32
  let v585 : BitVec 32 := Scalar.addi v584 c2_i32_364
  let c2_i32_365 : BitVec 32 := 2#32
  let v586 : BitVec 32 := Scalar.muli v585 c2_i32_365
  let c16_i32_366 : BitVec 32 := 16#32
  let v587 : BitVec 32 := Scalar.muli v586 c16_i32_366
  v587
def k0_mult64 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_384 : BitVec 32 := 8#32
  let v626 : BitVec 32 := Scalar.muli v162 c8_i32_384
  let c3_i32_385 : BitVec 32 := 3#32
  let v627 : BitVec 32 := Scalar.addi v626 c3_i32_385
  let c2_i32_386 : BitVec 32 := 2#32
  let v628 : BitVec 32 := Scalar.muli v627 c2_i32_386
  let c16_i32_387 : BitVec 32 := 16#32
  let v629 : BitVec 32 := Scalar.muli v628 c16_i32_387
  v629
def k0_mult65 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_405 : BitVec 32 := 8#32
  let v668 : BitVec 32 := Scalar.muli v162 c8_i32_405
  let c4_i32_406 : BitVec 32 := 4#32
  let v669 : BitVec 32 := Scalar.addi v668 c4_i32_406
  let c2_i32_407 : BitVec 32 := 2#32
  let v670 : BitVec 32 := Scalar.muli v669 c2_i32_407
  let c16_i32_408 : BitVec 32 := 16#32
  let v671 : BitVec 32 := Scalar.muli v670 c16_i32_408
  v671
def k0_mult66 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_426 : BitVec 32 := 8#32
  let v710 : BitVec 32 := Scalar.muli v162 c8_i32_426
  let c5_i32_427 : BitVec 32 := 5#32
  let v711 : BitVec 32 := Scalar.addi v710 c5_i32_427
  let c2_i32_428 : BitVec 32 := 2#32
  let v712 : BitVec 32 := Scalar.muli v711 c2_i32_428
  let c16_i32_429 : BitVec 32 := 16#32
  let v713 : BitVec 32 := Scalar.muli v712 c16_i32_429
  v713
def k0_mult67 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_447 : BitVec 32 := 8#32
  let v752 : BitVec 32 := Scalar.muli v162 c8_i32_447
  let c6_i32_448 : BitVec 32 := 6#32
  let v753 : BitVec 32 := Scalar.addi v752 c6_i32_448
  let c2_i32_449 : BitVec 32 := 2#32
  let v754 : BitVec 32 := Scalar.muli v753 c2_i32_449
  let c16_i32_450 : BitVec 32 := 16#32
  let v755 : BitVec 32 := Scalar.muli v754 c16_i32_450
  v755
def k0_mult68 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c8_i32_468 : BitVec 32 := 8#32
  let v794 : BitVec 32 := Scalar.muli v162 c8_i32_468
  let c7_i32_469 : BitVec 32 := 7#32
  let v795 : BitVec 32 := Scalar.addi v794 c7_i32_469
  let c2_i32_470 : BitVec 32 := 2#32
  let v796 : BitVec 32 := Scalar.muli v795 c2_i32_470
  let c16_i32_471 : BitVec 32 := 16#32
  let v797 : BitVec 32 := Scalar.muli v796 c16_i32_471
  v797
def k0_mult69 (k0_t5 : Fin k0_t5_loop.trips) (k0_t7 : Fin k0_t7_loop.trips) : BitVec 32 :=
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c256_i32_489 : BitVec 32 := 256#32
  let v838 : BitVec 32 := Scalar.muli v162 c256_i32_489
  v838
def k0_off115 (k0_t5 : Fin k0_t5_loop.trips) (k0_t7 : Fin k0_t7_loop.trips) : Fin 2 → Nat :=
  let c0_490 : Index := 0#32
  let c0_i32_135 : BitVec 32 := 0#32
  let c1_i32_136 : BitVec 32 := 1#32
  let arg11 : BitVec 32 := Scf.iv c0_i32_135 c1_i32_136 k0_t5
  let c4_i32_155 : BitVec 32 := 4#32
  let v161 : BitVec 32 := Scalar.muli arg11 c4_i32_155
  let c0_i32_147 : BitVec 32 := 0#32
  let c1_i32_149 : BitVec 32 := 1#32
  let arg13 : BitVec 32 := Scf.iv c0_i32_147 c1_i32_149 k0_t7
  let v162 : BitVec 32 := Scalar.addi v161 arg13
  let c256_i32_489 : BitVec 32 := 256#32
  let v838 : BitVec 32 := Scalar.muli v162 c256_i32_489
  let v839 : BitVec 32 := v838
  let v840 : Index := Scalar.indexCast v839
  ![0, v840.toNat]
def k0_off116 (k0_t6 : Fin k0_t6_loop.trips) : Fin 3 → Nat :=
  let c0_i32_141 : BitVec 32 := 0#32
  let c1_i32_143 : BitVec 32 := 1#32
  let arg12 : BitVec 32 := Scf.iv c0_i32_141 c1_i32_143 k0_t6
  let v153 : Index := Scalar.indexCast arg12
  let c0_151 : Index := 0#32
  let c0_152 : Index := 0#32
  ![v153.toNat, 0, 0]
@[reducible] def k0_t8_loop : Scf.Loop 32 :=
  let c0_i32_138 : BitVec 32 := 0#32
  let c64_i32 : BitVec 32 := 64#32
  let v146 : BitVec 32 := Scalar.addi c0_i32_138 c64_i32
  let c1_i32_139 : BitVec 32 := 1#32
  ⟨c0_i32_138, v146, c1_i32_139⟩
def k0_mult70 (k0_t8 : Fin k0_t8_loop.trips) : BitVec 32 :=
  let c0_i32_138 : BitVec 32 := 0#32
  let c1_i32_139 : BitVec 32 := 1#32
  let arg11 : BitVec 32 := Scf.iv c0_i32_138 c1_i32_139 k0_t8
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  v149
def k0_mult71 (k0_t8 : Fin k0_t8_loop.trips) : BitVec 32 :=
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  v152
def k0_off117 (k0_t8 : Fin k0_t8_loop.trips) : Fin 3 → Nat :=
  let c0_153 : Index := 0#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v182 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v183 : Index := Scalar.indexCast v150
  ![0, v182.toNat, v183.toNat]
def k0_off118 (k0_t8 : Fin k0_t8_loop.trips) : Fin 3 → Nat :=
  let c1 : Index := 1#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v196 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v197 : Index := Scalar.indexCast v150
  ![1, v196.toNat, v197.toNat]
def k0_off119 (k0_t8 : Fin k0_t8_loop.trips) : Fin 3 → Nat :=
  let c2 : Index := 2#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v210 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v211 : Index := Scalar.indexCast v150
  ![2, v210.toNat, v211.toNat]
def k0_off120 (k0_t8 : Fin k0_t8_loop.trips) : Fin 3 → Nat :=
  let c3 : Index := 3#32
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v224 : Index := Scalar.indexCast v153
  let c8_i32_141 : BitVec 32 := 8#32
  let v147 : BitVec 32 := Scalar.divsi arg11 c8_i32_141
  let c4_i32_142 : BitVec 32 := 4#32
  let v148 : BitVec 32 := Scalar.divsi v147 c4_i32_142
  let c128_i32_143 : BitVec 32 := 128#32
  let v149 : BitVec 32 := Scalar.muli v148 c128_i32_143
  let v150 : BitVec 32 := v149
  let v225 : Index := Scalar.indexCast v150
  ![3, v224.toNat, v225.toNat]
def k0_mult72 (k0_t8 : Fin k0_t8_loop.trips) : BitVec 32 :=
  let c0_i32_138 : BitVec 32 := 0#32
  let c1_i32_139 : BitVec 32 := 1#32
  let arg11 : BitVec 32 := Scf.iv c0_i32_138 c1_i32_139 k0_t8
  let c8_i32_141 : BitVec 32 := 8#32
  let v147 : BitVec 32 := Scalar.divsi arg11 c8_i32_141
  let c128_i32_171 : BitVec 32 := 128#32
  let v264 : BitVec 32 := Scalar.muli v147 c128_i32_171
  v264
def k0_off121 (k0_t8 : Fin k0_t8_loop.trips) : Fin 2 → Nat :=
  let c0_i32_138 : BitVec 32 := 0#32
  let c1_i32_139 : BitVec 32 := 1#32
  let arg11 : BitVec 32 := Scf.iv c0_i32_138 c1_i32_139 k0_t8
  let c8_i32_144 : BitVec 32 := 8#32
  let v151 : BitVec 32 := Scalar.remsi arg11 c8_i32_144
  let c16_i32 : BitVec 32 := 16#32
  let v152 : BitVec 32 := Scalar.muli v151 c16_i32
  let v153 : BitVec 32 := v152
  let v266 : Index := Scalar.indexCast v153
  let c8_i32_141 : BitVec 32 := 8#32
  let v147 : BitVec 32 := Scalar.divsi arg11 c8_i32_141
  let c128_i32_171 : BitVec 32 := 128#32
  let v264 : BitVec 32 := Scalar.muli v147 c128_i32_171
  let v265 : BitVec 32 := v264
  let v267 : Index := Scalar.indexCast v265
  ![v266.toNat, v267.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S128x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x256 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RefIdeal.lean ====
abbrev S128x1x8192 : Shape := ⟨3, ![128, 1, 8192]⟩
abbrev S8192x11264 : Shape := ⟨2, ![8192, 11264]⟩
abbrev S512x45056 : Shape := ⟨2, ![512, 45056]⟩
abbrev S128x8192 : Shape := ⟨2, ![128, 8192]⟩
abbrev S512x11264x4 : Shape := ⟨3, ![512, 11264, 4]⟩
abbrev S512x4x11264 : Shape := ⟨3, ![512, 4, 11264]⟩
abbrev S512x16x1x11264 : Shape := ⟨4, ![512, 16, 1, 11264]⟩
abbrev S4 : Shape := ⟨1, ![4]⟩
abbrev S_ : Shape := ⟨0, ![]⟩
abbrev S1x1x4x1 : Shape := ⟨4, ![1, 1, 4, 1]⟩
abbrev S512x16x4x11264 : Shape := ⟨4, ![512, 16, 4, 11264]⟩
abbrev S512x1x4x11264 : Shape := ⟨4, ![512, 1, 4, 11264]⟩
abbrev S8192x45056 : Shape := ⟨2, ![8192, 45056]⟩
abbrev S128x45056 : Shape := ⟨2, ![128, 45056]⟩
abbrev S128x4x11264 : Shape := ⟨3, ![128, 4, 11264]⟩
abbrev S128x11264x4 : Shape := ⟨3, ![128, 11264, 4]⟩

abbrev nBuf : Space → Nat
  | .hbm => 35
  | .vmem => 0
  | .smem => 0
  | _ => 0

abbrev bufTy : (tb : Table) → Fin (tcTables nBuf tb) → BufTy
  | .hbm, ⟨0, _⟩ => ⟨S128x1x8192, .bf16⟩
  | .hbm, ⟨1, _⟩ => ⟨S8192x11264, .i8⟩
  | .hbm, ⟨2, _⟩ => ⟨S512x45056, .bf16⟩
  | .hbm, ⟨3, _⟩ => ⟨S512x45056, .bf16⟩
  | .hbm, ⟨4, _⟩ => ⟨S128x8192, .bf16⟩
  | .hbm, ⟨5, _⟩ => ⟨S512x11264x4, .bf16⟩
  | .hbm, ⟨6, _⟩ => ⟨S512x4x11264, .bf16⟩
  | .hbm, ⟨7, _⟩ => ⟨S512x11264x4, .bf16⟩
  | .hbm, ⟨8, _⟩ => ⟨S512x4x11264, .bf16⟩
  | .hbm, ⟨9, _⟩ => ⟨S512x16x1x11264, .i8⟩
  | .hbm, ⟨10, _⟩ => ⟨S4, .i32⟩
  | .hbm, ⟨11, _⟩ => ⟨S_, .i32⟩
  | .hbm, ⟨12, _⟩ => ⟨S4, .i32⟩
  | .hbm, ⟨13, _⟩ => ⟨S4, .i32⟩
  | .hbm, ⟨14, _⟩ => ⟨S1x1x4x1, .i32⟩
  | .hbm, ⟨15, _⟩ => ⟨S512x16x1x11264, .i32⟩
  | .hbm, ⟨16, _⟩ => ⟨S512x16x4x11264, .i32⟩
  | .hbm, ⟨17, _⟩ => ⟨S512x16x4x11264, .i32⟩
  | .hbm, ⟨18, _⟩ => ⟨S512x16x4x11264, .i32⟩
  | .hbm, ⟨19, _⟩ => ⟨S_, .i32⟩
  | .hbm, ⟨20, _⟩ => ⟨S512x16x4x11264, .i32⟩
  | .hbm, ⟨21, _⟩ => ⟨S512x16x4x11264, .i32⟩
  | .hbm, ⟨22, _⟩ => ⟨S512x16x4x11264, .bf16⟩
  | .hbm, ⟨23, _⟩ => ⟨S512x1x4x11264, .bf16⟩
  | .hbm, ⟨24, _⟩ => ⟨S512x16x4x11264, .bf16⟩
  | .hbm, ⟨25, _⟩ => ⟨S512x16x4x11264, .bf16⟩
  | .hbm, ⟨26, _⟩ => ⟨S512x1x4x11264, .bf16⟩
  | .hbm, ⟨27, _⟩ => ⟨S512x16x4x11264, .bf16⟩
  | .hbm, ⟨28, _⟩ => ⟨S512x16x4x11264, .bf16⟩
  | .hbm, ⟨29, _⟩ => ⟨S8192x45056, .bf16⟩
  | .hbm, ⟨30, _⟩ => ⟨S128x45056, .f32⟩
  | .hbm, ⟨31, _⟩ => ⟨S128x45056, .bf16⟩
  | .hbm, ⟨32, _⟩ => ⟨S128x4x11264, .bf16⟩
  | .hbm, ⟨33, _⟩ => ⟨S128x11264x4, .bf16⟩
  | .hbm, ⟨34, _⟩ => ⟨S128x45056, .bf16⟩
  | _, _ => ⟨S128x1x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩

abbrev nD : Nat := 1
abbrev τ : Topo := Topo.v7x

variable {F : FTy → Type} [FloatOps F]
-- ==== Proof.Ref.lean ====
/- The reference program's side conditions, its frame, and the rule statements of `preserves`. -/
module

public import proofs.«01_k».proof.Defs
public import Idealize.ShloMosaic.Lib.Claim
public import Idealize.ShloMosaic.Lib.Quiescent
public import Idealize.ShloMosaic.Lib.Bf16PairInverse

@[expose] public section

set_option maxRecDepth 16384

noncomputable section

open Idealize.ShloMosaic Idealize.ShloMosaic.TcCoe Idealize.SL.Sem

namespace Cert.Proof.Ref

open Cert.RefIdeal

/-- The shape facts the reference states, each decided. -/
instance facts : Cert.RefIdeal.Facts where
  shapeCasts_S128x1x8192_S128x8192 := by decide
  shapeCasts_S512x45056_S512x11264x4 := by decide
  transposes_S512x11264x4_S512x4x11264_0_2_1 := by decide
  shapeCasts_S8192x11264_S512x16x1x11264 := by decide
  bcast_S_S4 := by decide
  shapeCasts_S4_S1x1x4x1 := by decide
  natLt_8_32 := by decide
  bcast_S512x16x1x11264_S512x16x4x11264_0_1_2_3 := by decide
  bcast_S1x1x4x1_S512x16x4x11264_0_1_2_3 := by decide
  bcast_S_S512x16x4x11264 := by decide
  bcast_S512x4x11264_S512x1x4x11264_0_2_3 := by decide
  bcast_S512x1x4x11264_S512x16x4x11264_0_1_2_3 := by decide
  shapeCasts_S512x16x4x11264_S8192x45056 := by decide
  bitsLt_bf16_f32 := by decide
  shapeCasts_S128x45056_S128x4x11264 := by decide
  transposes_S128x4x11264_S128x11264x4_0_2_1 := by decide
  shapeCasts_S128x11264x4_S128x45056 := by decide
  dot_S128x8192_S8192x45056_S128x45056_1_0_0_1_n_n_wf := by decide

/-- The reference leaves its arguments and its (empty) semaphores alone. -/
theorem frame : Cert.quiescent_RefIdeal := by
  intro m g hpre
  hlo_run
  · exact fun _ => ⟨trivial, trivial, trivial, trivial⟩
  · exact sem_eq_zero_of_no_sems (by decide) _

end Cert.Proof.Ref

namespace Cert.Proof.Rules

/-- The rewrites' statements: the two re-typed scratches, then one per access shape and the pack. -/
theorem preserves : Cert.preserves_Kernel_KernelIdeal := by
  open Cert.KernelIdeal IdealRules.bf16_pair in
  exact ⟨bufferStatement _ _, bufferStatement _ _, statement _ _, statement _ _, packStatement _, statement _ _,
    statement _ _, statement _ _, statement _ _, statement _ _⟩

end Cert.Proof.Rules

end
-- ==== Proof.DmaI.lean ====
/- The scale and minimum streams of the kernel: what one transfer moves, the batch of eight transfers on one
   semaphore cell, and the lemmas that step one issue and one wait. -/
module

public import proofs.«01_k».proof.Proof.Gen.KernelIdeal.Frame
public import Idealize.ShloMosaic.Lib.Batch
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-! ## Slots, cells and pieces -/

theorem cell_inb (s a : Fin 2) : ∀ x, (![s.val, a.val] : Fin 2 → ℕ) x + S1x1.size x ≤ S2x2.size x := by
  decide +revert

theorem piece_inb (s a : Fin 2) (t : Fin 8) :
    ∀ x, (![s.val, a.val, t.val, 0, 0] : Fin 5 → ℕ) x + S1x1x1x512x128.size x ≤ S2x2x8x512x128.size x := by
  decide +revert

theorem src_inb (j : Fin 44) (t : Fin 8) :
    ∀ x, (![0, 1024 * j.val + 128 * t.val] : Fin 2 → ℕ) x + S512x128.size x ≤ S512x45056.size x := by
  intro x
  match x with
  | ⟨0, _⟩ => show 0 + 512 ≤ 512; omega
  | ⟨1, _⟩ => show 1024 * j.val + 128 * t.val + 128 ≤ 45056; omega

/-- The semaphore of array `a` (0 scales, 1 minima) into slot `s`. -/
abbrev cellD (s a : Fin 2) : DmaSem sig :=
  ((cc0_scratch4.slice (Rect.unit (s := S2x2) ![s.val, a.val] S1x1.size (cell_inb s a))).squeeze S_ squeezes_S1x1_S_).sem

/-- The piece of the staging scratch one transfer fills: 512 rows of 128 columns. -/
abbrev pieceM (s a : Fin 2) (t : Fin 8) : Memref sig .tc .vmem S512x128 .bf16 :=
  ((Memref.whole cc0_scratch0).slice (Rect.unit (s := S2x2x8x512x128) ![s.val, a.val, t.val, 0, 0] S1x1x1x512x128.size (piece_inb s a t))
    (fun _ => rfl)).squeeze S512x128 squeezes_S1x1x1x512x128_S512x128

/-- The columns of step `j`'s transfer `t` in the array in HBM. -/
abbrev srcM (A : Memref sig .tc .hbm S512x45056 .bf16) (j : Fin 44) (t : Fin 8) : Memref sig .tc .hbm S512x128 .bf16 :=
  A.slice (Rect.unit (s := S512x45056) ![0, 1024 * j.val + 128 * t.val] S512x128.size (src_inb j t)) (fun _ => rfl)

/-- The array a stream reads: the scales, then the minima. -/
abbrev arrR (a : Fin 2) : Memref sig .tc .hbm S512x45056 .bf16 :=
  match a with
  | ⟨0, _⟩ => Memref.whole main_arg2
  | ⟨1, _⟩ => Memref.whole main_arg3

/-- What step `j` leaves in the staging scratch, at every index: the column of the array that lands there. -/
def stepBuf (c : Dev nD) (VA : (a : Fin 2) → Buf (Elt F) ((arrR a).view.loc (c : Thread nD τ))) (j : Fin 44) :
    Buf (Elt F) ((Memref.whole cc0_scratch0).view.loc (c : Thread nD τ)) :=
  fun (y : S2x2x8x512x128.Idx) =>
    (arrR (y 1)).view.read (Elt F) (VA (y 1))
      (fun x => match x with
        | ⟨0, _⟩ => (⟨(y 3).val, (y 3).isLt⟩ : Fin 512)
        | ⟨1, _⟩ => (⟨1024 * j.val + 128 * (y 2).val + (y 4).val, by
            have h2 : (y 2).val < 8 := (y 2).isLt
            have h4 : (y 4).val < 128 := (y 4).isLt
            omega⟩ : Fin 45056))

/-- What one transfer delivers: its piece at the step's contents, and its columns of the source back. -/
def deliv (c : Dev nD) (VA : (a : Fin 2) → Buf (Elt F) ((arrR a).view.loc (c : Thread nD τ))) (q : PosShare TreeShare)
    (s a : Fin 2) (j : Fin 44) (t : Fin 8) : sProp 𝕄 :=
  iprop(((pieceM s a t).view.loc (c : Thread nD τ) ↦[(pieceM s a t).view.set]{fullShare} stepBuf c VA j)
    ∗ ((srcM (arrR a) j t).view.loc (c : Thread nD τ) ↦[(srcM (arrR a) j t).view.set]{q} VA a))

instance deliv_storable (c : Dev nD) (VA : (a : Fin 2) → Buf (Elt F) ((arrR a).view.loc (c : Thread nD τ))) (q : PosShare TreeShare)
    (s a : Fin 2) (j : Fin 44) (t : Fin 8) : Storable (upEmb : UEmb _ 𝕄) (deliv c VA q s a j t) := by
  unfold deliv; infer_instance

/-- The bytes one transfer credits. -/
abbrev pieceN : ℕ := (pieceM 0 0 0).view.dmaCredit

/-- The batch of step `j` on the cell of array `a`, slot `s`: `k` transfers issued, `u` bytes waited for. -/
def batch (c : Dev nD) (VA : (a : Fin 2) → Buf (Elt F) ((arrR a).view.loc (c : Thread nD τ))) (q : PosShare TreeShare)
    (s a : Fin 2) (j : Fin 44) (k u : ℕ) : sProp 𝕄 :=
  Transfers.Batch (Lvl := ℕ) (countersEmb (U := Pipeline.UD sig nD τ)) (c : Thread nD τ) (.dma (cellD s a)) () pieceN
    (deliv c VA q s a j) k u

/-- Where an index of a piece lies in the staging scratch. -/
theorem piece_emb (s a : Fin 2) (t : Fin 8) (x : S512x128.Idx) :
    (pieceM s a t).view.emb x = (ix5 s a t (x 0) (x 1) : S2x2x8x512x128.Idx) := by
  have hr : Shape.reshapeEquiv squeezes_S1x1x1x512x128_S512x128.numel_eq x
      = (ix5 (0 : Fin 1) (0 : Fin 1) (0 : Fin 1) (x 0) (x 1) : S1x1x1x512x128.Idx) :=
    Shape.reshapeEquiv_eq_of_rowMajor _ (by
      rw [Shape.rowMajor_val_five, Shape.rowMajor_val_two]
      show ((((0 * 1 + 0) * 1 + 0) * 512 + (x 0).val) * 128 + (x 1).val) = (x 0).val * 128 + (x 1).val
      omega)
  show (Rect.unit (s := S2x2x8x512x128) ![s.val, a.val, t.val, 0, 0] S1x1x1x512x128.size (piece_inb s a t)).emb
    (Shape.reshapeEquiv squeezes_S1x1x1x512x128_S512x128.numel_eq x) = _
  rw [hr]
  funext ax
  apply Fin.ext
  rw [ValueKit.rect_emb_unit_val]
  match ax with
  | ⟨0, _⟩ => show s.val + 0 = s.val; omega
  | ⟨1, _⟩ => show a.val + 0 = a.val; omega
  | ⟨2, _⟩ => show t.val + 0 = t.val; omega
  | ⟨3, _⟩ => show 0 + (x 0).val = (x 0).val; omega
  | ⟨4, _⟩ => show 0 + (x 1).val = (x 1).val; omega

/-- The step's contents at an element of a piece are the source's there. -/
theorem stepBuf_piece (c : Dev nD) (VA : (a : Fin 2) → Buf (Elt F) ((arrR a).view.loc (c : Thread nD τ)))
    (s a : Fin 2) (j : Fin 44) (t : Fin 8) (x : S512x128.Idx) :
    stepBuf c VA j ((pieceM s a t).view.emb x) = (srcM (arrR a) j t).view.read (Elt F) (VA a) x := by
  rw [piece_emb]
  show (arrR a).view.read (Elt F) (VA a) _ = (arrR a).view.read (Elt F) (VA a)
    ((Rect.unit (s := S512x45056) ![0, 1024 * j.val + 128 * t.val] S512x128.size (src_inb j t)).emb x)
  congr 1
  funext ax
  apply Fin.ext
  rw [ValueKit.rect_emb_unit_val]
  match ax with
  | ⟨0, _⟩ => show (x 0).val = 0 + (x 0).val; omega
  | ⟨1, _⟩ => rfl

/-- A landed transfer is a delivery, whatever the piece held before. -/
theorem landed (c : Dev nD) (VA : (a : Fin 2) → Buf (Elt F) ((arrR a).view.loc (c : Thread nD τ))) (q : PosShare TreeShare)
    (s a : Fin 2) (j : Fin 44) (t : Fin 8) (fd : Buf (Elt F) ((pieceM s a t).view.loc (c : Thread nD τ))) :
    iprop(((pieceM s a t).view.loc (c : Thread nD τ) ↦[(pieceM s a t).view.set]{fullShare}
        ((pieceM s a t).view.write (Elt F) fd ((srcM (arrR a) j t).view.read (Elt F) (VA a)) Finset.univ))
      ∗ ((srcM (arrR a) j t).view.loc (c : Thread nD τ) ↦[(srcM (arrR a) j t).view.set]{q} VA a))
    ⊢ (deliv c VA q s a j t : sProp 𝕄) := by
  unfold deliv
  refine sep_mono_left (Entails.of_eq (pointsTo_congr fun i hi => ?_))
  obtain ⟨x, -, rfl⟩ := Finset.mem_map.mp hi
  rw [View.write_emb_of_mem _ _ (Finset.mem_univ x), stepBuf_piece]
  rfl

variable {𝒱 : Variants} {bd : Option 𝒱.V} {α : Type}

/-- One issue: the piece (held at anything) and its source columns are lent, the batch has one more transfer. -/
theorem wp_issue (c : Dev nD) (VA : (a : Fin 2) → Buf (Elt F) ((arrR a).view.loc (c : Thread nD τ))) (q : PosShare TreeShare)
    (s a : Fin 2) (j : Fin 44) (t : Fin 8) (fd : Buf (Elt F) ((Memref.whole cc0_scratch0).view.loc (c : Thread nD τ)))
    {A : Memref sig .tc .hbm S512x45056 .bf16} (hA : A = arrR a)
    {oc : Fin 2 → ℕ} {hc : ∀ x, oc x + S1x1.size x ≤ S2x2.size x} (hoc : oc = ![s.val, a.val])
    {od : Fin 5 → ℕ} {hd : ∀ x, od x + S1x1x1x512x128.size x ≤ S2x2x8x512x128.size x} (hod : od = ![s.val, a.val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    iprop(((srcM (arrR a) j t).view.loc (c : Thread nD τ) ↦[(srcM (arrR a) j t).view.set]{q} VA a)
      ∗ ((pieceM s a t).view.loc (c : Thread nD τ) ↦[(pieceM s a t).view.set]{fullShare} fd)
      ∗ batch c VA q s a j t.val 0)
    ⊢ iprop((batch c VA q s a j (t.val + 1) 0 -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  subst hA hoc hod hos
  exact Transfers.wp_dmaBatch (Lvl := ℕ) (countersEmb (U := Pipeline.UD sig nD τ)) _ (c : Thread nD τ) bd () pieceN rfl
    (Finset.Subset.refl _) t.isLt (Nat.zero_le _) (landed c VA q s a j t fd)

/-! ## A stream half issued, half waited for -/

/-- Stream `a` of step `j` with `k` transfers issued: the batch, and the pieces and source columns still at home. -/
def issuing (c : Dev nD) (VA : (a : Fin 2) → Buf (Elt F) ((arrR a).view.loc (c : Thread nD τ))) (q : PosShare TreeShare)
    (fd : Buf (Elt F) ((Memref.whole cc0_scratch0).view.loc (c : Thread nD τ))) (s a : Fin 2) (j : Fin 44) (k : ℕ) : sProp 𝕄 :=
  iprop(batch c VA q s a j k 0 ∗ bigSep (Transfers.pending (n := 8) k) (fun t =>
    iprop(((srcM (arrR a) j t).view.loc (c : Thread nD τ) ↦[(srcM (arrR a) j t).view.set]{q} VA a)
      ∗ ((pieceM s a t).view.loc (c : Thread nD τ) ↦[(pieceM s a t).view.set]{fullShare} fd))))

theorem pending_split (Φ : Fin 8 → sProp 𝕄) (t : Fin 8) :
    bigSep (Transfers.pending (n := 8) t.val) Φ = iprop(Φ t ∗ bigSep (Transfers.pending (n := 8) (t.val + 1)) Φ) := by
  rw [Transfers.pending_succ t.isLt, bigSep_insert (Transfers.not_mem_pending_succ t.isLt)]; rfl

/-- One issue, on the bundle. -/
theorem wp_issuing (c : Dev nD) (VA : (a : Fin 2) → Buf (Elt F) ((arrR a).view.loc (c : Thread nD τ))) (q : PosShare TreeShare)
    (fd : Buf (Elt F) ((Memref.whole cc0_scratch0).view.loc (c : Thread nD τ)))
    (s a : Fin 2) (j : Fin 44) (t : Fin 8)
    {A : Memref sig .tc .hbm S512x45056 .bf16} (hA : A = arrR a)
    {oc : Fin 2 → ℕ} {hc : ∀ x, oc x + S1x1.size x ≤ S2x2.size x} (hoc : oc = ![s.val, a.val])
    {od : Fin 5 → ℕ} {hd : ∀ x, od x + S1x1x1x512x128.size x ≤ S2x2x8x512x128.size x} (hod : od = ![s.val, a.val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    (issuing c VA q fd s a j t.val : sProp 𝕄)
    ⊢ iprop((issuing c VA q fd s a j (t.val + 1) -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  unfold issuing
  rw [pending_split _ t]
  iintro ⟨HB, ⟨Hs, Hd⟩, Hrest⟩ Hk
  iapply (wp_issue c VA q s a j t fd hA hoc hod hos) $$ [Hs Hd HB]
  · isplitl [Hs]; · iexact Hs
    isplitl [Hd]; · iexact Hd
    iexact HB
  iintro HB
  iapply Hk
  isplitl [HB]; · iexact HB
  iexact Hrest

/-- The core owes nothing, whatever it has waited for. -/
abbrev owesAny (c : Dev nD) : sProp 𝕄 := iprop(∃ W, owes (c : Thread nD τ) 0 W)

theorem pieceN_pos : 0 < pieceN := by decide

/-- One wait but the last: nothing comes back yet. -/
theorem wp_waiting (c : Dev nD) (VA : (a : Fin 2) → Buf (Elt F) ((arrR a).view.loc (c : Thread nD τ))) (q : PosShare TreeShare)
    (s a : Fin 2) (j : Fin 44) (n : ℕ) (hn : n < 7)
    {oc : Fin 2 → ℕ} {hc : ∀ x, oc x + S1x1.size x ≤ S2x2.size x} (hoc : oc = ![s.val, a.val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (iprop(batch c VA q s a j 8 (n * pieceN) ∗ owesAny c) : sProp 𝕄)
    ⊢ iprop((iprop(batch c VA q s a j 8 ((n + 1) * pieceN) ∗ owesAny c) -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hoc
  have hu : n * pieceN + pieceN < pieceN * 8 := by
    have h := Nat.mul_le_mul_right pieceN (show n + 2 ≤ 8 by omega)
    have hp := pieceN_pos
    rw [Nat.add_mul] at h; omega
  iintro ⟨HB, ⟨%W, HO⟩⟩ Hk
  unfold batch
  have hw := Transfers.wp_waitBatch (Lvl := ℕ) (defs := (defs₀ : Defs nD τ sig (Elt F) Λ₀)) (countersEmb (U := Pipeline.UD sig nD τ)) 𝒱 (c : Thread nD τ) bd
    (Q := Q) (k := k) (sem := cellD s a) (srcw := srcw) (hsrc := hsrc) (hdst := hdst) (D := deliv c VA q s a j) (W := W)
    (dstw := (((Memref.whole cc0_scratch0).slice (Rect.unit (s := S2x2x8x512x128) od S1x1x1x512x128.size hd) (fun _ => rfl)).squeeze S512x128 squeezes_S1x1x1x512x128_S512x128)) () (N := pieceN) rfl hu
  iapply hw $$ [HB HO]
  · isplitl [HB]; · iexact HB
    iexact HO
  iintro ⟨HB, HO⟩
  iapply Hk
  isplitl [HB]
  · rw [Nat.add_mul, Nat.one_mul]; iexact HB
  iexists _; iexact HO

/-- The last wait: every piece has landed, the semaphore is back at zero. -/
theorem wp_waitingLast (c : Dev nD) (VA : (a : Fin 2) → Buf (Elt F) ((arrR a).view.loc (c : Thread nD τ))) (q : PosShare TreeShare)
    (s a : Fin 2) (j : Fin 44)
    {oc : Fin 2 → ℕ} {hc : ∀ x, oc x + S1x1.size x ≤ S2x2.size x} (hoc : oc = ![s.val, a.val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (iprop(batch c VA q s a j 8 (7 * pieceN) ∗ owesAny c) : sProp 𝕄)
    ⊢ iprop((iprop(bigSep Finset.univ (deliv c VA q s a j) ∗ semVal ((c : Thread nD τ), .dma (cellD s a)) 0 ∗ owesAny c)
          -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hoc
  iintro ⟨HB, ⟨%W, HO⟩⟩ Hk
  unfold batch
  have hw := Transfers.wp_waitBatchLast (Lvl := ℕ) (defs := (defs₀ : Defs nD τ sig (Elt F) Λ₀)) (countersEmb (U := Pipeline.UD sig nD τ)) 𝒱 (c : Thread nD τ) bd
    (Q := Q) (k := k) (sem := cellD s a) (srcw := srcw) (hsrc := hsrc) (hdst := hdst) (D := deliv c VA q s a j) (W := W)
    (dstw := (((Memref.whole cc0_scratch0).slice (Rect.unit (s := S2x2x8x512x128) od S1x1x1x512x128.size hd) (fun _ => rfl)).squeeze S512x128 squeezes_S1x1x1x512x128_S512x128)) () (N := pieceN) rfl pieceN_pos
    (show 7 * pieceN + pieceN = pieceN * 8 by omega)
  iapply hw $$ [HB HO]
  · isplitl [HB]; · iexact HB
    iexact HO
  iintro ⟨HD, Hs, HO⟩
  iapply Hk
  isplitl [HD]; · iexact HD
  isplitl [Hs]; · iexact Hs
  iexists _; iexact HO

/-! ## A slot's pieces, an array's columns -/

/-- The elements of a slot of the staging scratch. -/
def slotSet (s : Fin 2) (c : Dev nD) : Finset (Idx ((Memref.whole cc0_scratch0).view.loc (c : Thread nD τ))) :=
  Finset.univ.filter fun y => ((y : S2x2x8x512x128.Idx) 0).val = s.val

theorem mem_slot (s : Fin 2) (c : Dev nD) (y : S2x2x8x512x128.Idx) : y ∈ slotSet s c ↔ y 0 = s :=
  ((Finset.mem_filter (p := fun y => ((y : S2x2x8x512x128.Idx) 0).val = s.val)).trans (and_iff_right (Finset.mem_univ _))).trans
    ⟨fun h => Fin.ext h, fun h => congrArg Fin.val h⟩

theorem mem_piece (s a : Fin 2) (t : Fin 8) (y : S2x2x8x512x128.Idx) :
    y ∈ (pieceM s a t).view.set ↔ y 0 = s ∧ y 1 = a ∧ y 2 = t := by
  have h3 : (y 3).val < 512 := (y 3).isLt
  have h4 : (y 4).val < 128 := (y 4).isLt
  rw [View.set_reshape]
  refine (ValueKit.mem_set_slice_whole_iff cc0_scratch0 _ y Rect.mem_set_unit).trans ?_
  constructor
  · intro h
    have h0 := h 0; have h1 := h 1; have h2 := h 2
    refine ⟨Fin.ext ?_, Fin.ext ?_, Fin.ext ?_⟩
    · have : s.val ≤ (y 0).val ∧ (y 0).val < s.val + 1 := h0
      omega
    · have : a.val ≤ (y 1).val ∧ (y 1).val < a.val + 1 := h1
      omega
    · have : t.val ≤ (y 2).val ∧ (y 2).val < t.val + 1 := h2
      omega
  · rintro ⟨rfl, rfl, rfl⟩ x
    match x with
    | ⟨0, _⟩ => show (y 0).val ≤ (y 0).val ∧ (y 0).val < (y 0).val + 1; omega
    | ⟨1, _⟩ => show (y 1).val ≤ (y 1).val ∧ (y 1).val < (y 1).val + 1; omega
    | ⟨2, _⟩ => show (y 2).val ≤ (y 2).val ∧ (y 2).val < (y 2).val + 1; omega
    | ⟨3, _⟩ => show 0 ≤ (y 3).val ∧ (y 3).val < 0 + 512; omega
    | ⟨4, _⟩ => show 0 ≤ (y 4).val ∧ (y 4).val < 0 + 128; omega

/-- A slot is its sixteen pieces. -/
theorem slot_pieces (c : Dev nD) (s : Fin 2) (f : Buf (Elt F) ((Memref.whole cc0_scratch0).view.loc (c : Thread nD τ))) :
    ((Memref.whole cc0_scratch0).view.loc (c : Thread nD τ) ↦[slotSet s c]{fullShare} f : sProp 𝕄)
    = iprop(bigSep Finset.univ (fun t : Fin 8 => (pieceM s 0 t).view.loc (c : Thread nD τ) ↦[(pieceM s 0 t).view.set]{fullShare} f)
        ∗ bigSep Finset.univ (fun t : Fin 8 => (pieceM s 1 t).view.loc (c : Thread nD τ) ↦[(pieceM s 1 t).view.set]{fullShare} f)) := by
  have hd : ∀ a : Fin 2, ∀ t ∈ (Finset.univ : Finset (Fin 8)), ∀ t' ∈ (Finset.univ : Finset (Fin 8)), t ≠ t' →
      Disjoint (pieceM s a t).view.set (pieceM s a t').view.set := fun a t _ t' _ h =>
    Finset.disjoint_left.mpr fun y hy hy' => h (((mem_piece s a t y).mp hy).2.2.symm.trans ((mem_piece s a t' y).mp hy').2.2)
  let U (a : Fin 2) : Finset (Idx ((Memref.whole cc0_scratch0).view.loc (c : Thread nD τ))) :=
    Finset.univ.biUnion fun t : Fin 8 => (pieceM s a t).view.set
  have hmU : ∀ (a : Fin 2) (y : S2x2x8x512x128.Idx), y ∈ U a ↔ y 0 = s ∧ y 1 = a := fun a y =>
    Finset.mem_biUnion.trans ⟨fun ⟨t, _, h⟩ => ⟨((mem_piece s a t y).mp h).1, ((mem_piece s a t y).mp h).2.1⟩,
      fun h => ⟨(y 2 : Fin 8), Finset.mem_univ _, (mem_piece s a (y 2) y).mpr ⟨h.1, h.2, rfl⟩⟩⟩
  have hu : slotSet s c = U 0 ∪ U 1 := by
    refine Finset.ext fun (y : S2x2x8x512x128.Idx) => (mem_slot s c y).trans (Iff.trans ?_ Finset.mem_union.symm)
    show _ ↔ y ∈ U 0 ∨ y ∈ U 1
    rw [hmU 0 y, hmU 1 y]
    constructor
    · intro h
      have h1 : y 1 = (0 : Fin 2) ∨ y 1 = (1 : Fin 2) := by
        have : (y 1).val < 2 := (y 1).isLt
        rcases (show (y 1).val = 0 ∨ (y 1).val = 1 by omega) with h | h
        · exact .inl (Fin.ext (show (y 1).val = 0 from h))
        · exact .inr (Fin.ext (show (y 1).val = 1 from h))
      rcases h1 with h1 | h1
      · exact .inl ⟨h, h1⟩
      · exact .inr ⟨h, h1⟩
    · rintro (h | h)
      · exact h.1
      · exact h.1
  have hdu : Disjoint (U 0) (U 1) := by
    refine Finset.disjoint_left.mpr fun (y : S2x2x8x512x128.Idx) hy hy' => ?_
    exact absurd (((hmU 0 y).mp hy).2.symm.trans ((hmU 1 y).mp hy').2) (show (0 : Fin 2) ≠ 1 by decide)
  have h0 := pointsTo_biUnion (Ix := Unit) (Name := ℕ) (U := Pipeline.UD sig nD τ) (Lvl := ℕ) (q := fullShare) (f := f)
    (ℓ := (Memref.whole cc0_scratch0).view.loc (c : Thread nD τ)) Finset.univ (fun t : Fin 8 => (pieceM s 0 t).view.set) (hd 0)
  have h1 := pointsTo_biUnion (Ix := Unit) (Name := ℕ) (U := Pipeline.UD sig nD τ) (Lvl := ℕ) (q := fullShare) (f := f)
    (ℓ := (Memref.whole cc0_scratch0).view.loc (c : Thread nD τ)) Finset.univ (fun t : Fin 8 => (pieceM s 1 t).view.set) (hd 1)
  rw [hu, BI.equiv_iff.mp ⟨(pointsTo_union hdu).1, (pointsTo_union hdu).2⟩]
  exact congrArg₂ (fun A B : sProp 𝕄 => iprop(A ∗ B)) h0 h1

/-- The scratch is its two slots. -/
theorem scratch_slots (c : Dev nD) (f : Buf (Elt F) ((Memref.whole cc0_scratch0).view.loc (c : Thread nD τ))) :
    ((Memref.whole cc0_scratch0).view.loc (c : Thread nD τ) ↦{fullShare} f : sProp 𝕄)
    ⊣⊢ iprop(((Memref.whole cc0_scratch0).view.loc (c : Thread nD τ) ↦[slotSet 0 c]{fullShare} f)
        ∗ ((Memref.whole cc0_scratch0).view.loc (c : Thread nD τ) ↦[slotSet 1 c]{fullShare} f)) := by
  have hu : (Finset.univ : Finset (Idx ((Memref.whole cc0_scratch0).view.loc (c : Thread nD τ)))) = slotSet 0 c ∪ slotSet 1 c := by
    refine (Finset.eq_univ_iff_forall.mpr fun (y : S2x2x8x512x128.Idx) => ?_).symm
    have : (y 0).val < 2 := (y 0).isLt
    rcases (show (y 0).val = 0 ∨ (y 0).val = 1 by omega) with h | h
    · exact Finset.mem_union_left _ ((mem_slot 0 c y).mpr (Fin.ext (show (y 0).val = 0 from h)))
    · exact Finset.mem_union_right _ ((mem_slot 1 c y).mpr (Fin.ext (show (y 0).val = 1 from h)))
  rw [show ((Memref.whole cc0_scratch0).view.loc (c : Thread nD τ) ↦{fullShare} f : sProp 𝕄)
    = ((Memref.whole cc0_scratch0).view.loc (c : Thread nD τ) ↦[slotSet 0 c ∪ slotSet 1 c]{fullShare} f) from by rw [← hu]]
  refine pointsTo_union (Finset.disjoint_left.mpr fun (y : S2x2x8x512x128.Idx) hy hy' => ?_)
  exact absurd (((mem_slot 0 c y).mp hy).symm.trans ((mem_slot 1 c y).mp hy')) (show (0 : Fin 2) ≠ 1 by decide)

theorem slots_join (c : Dev nD) (f g : Buf (Elt F) ((Memref.whole cc0_scratch0).view.loc (c : Thread nD τ))) :
    iprop(((Memref.whole cc0_scratch0).view.loc (c : Thread nD τ) ↦[slotSet 0 c]{fullShare} f)
        ∗ ((Memref.whole cc0_scratch0).view.loc (c : Thread nD τ) ↦[slotSet 1 c]{fullShare} g))
    ⊢ (iprop(∃ h, (Memref.whole cc0_scratch0).view.loc (c : Thread nD τ) ↦{fullShare} h) : sProp 𝕄) := by
  iintro ⟨H0, H1⟩
  iexists (slotSet 1 c).piecewise g f
  iapply (scratch_slots c _).2
  isplitl [H0]
  · rw [pointsTo_congr (f := (slotSet 1 c).piecewise g f) (g := f) fun (i : S2x2x8x512x128.Idx) hi => Finset.piecewise_eq_of_notMem _ _ _ fun h1 =>
      absurd (((mem_slot 0 c i).mp hi).symm.trans ((mem_slot 1 c i).mp h1)) (show (0 : Fin 2) ≠ 1 by decide)]
    iexact H0
  · rw [pointsTo_congr (f := (slotSet 1 c).piecewise g f) (g := g) fun i hi => Finset.piecewise_eq_of_mem _ _ _ hi]
    iexact H1

/-- The columns of array `a` that step `j` moves. -/
def colSet (c : Dev nD) (a : Fin 2) (j : Fin 44) : Finset (Idx ((arrR a).view.loc (c : Thread nD τ))) :=
  Finset.univ.biUnion fun t : Fin 8 => (srcM (arrR a) j t).view.set

theorem arr_cols (c : Dev nD) (q : PosShare TreeShare) (a : Fin 2) (j : Fin 44) (f : Buf (Elt F) ((arrR a).view.loc (c : Thread nD τ))) :
    ((arrR a).view.loc (c : Thread nD τ) ↦{q} f : sProp 𝕄)
    ⊣⊢ iprop(bigSep Finset.univ (fun t : Fin 8 => (srcM (arrR a) j t).view.loc (c : Thread nD τ) ↦[(srcM (arrR a) j t).view.set]{q} f)
      ∗ ((arrR a).view.loc (c : Thread nD τ) ↦[Finset.univ \ colSet c a j]{q} f)) := by
  have hd : ∀ t ∈ (Finset.univ : Finset (Fin 8)), ∀ t' ∈ (Finset.univ : Finset (Fin 8)), t ≠ t' →
      Disjoint (srcM (arrR a) j t).view.set (srcM (arrR a) j t').view.set := by
    intro t _ t' _ h
    change Disjoint ((arrR a).view.slice (Rect.unit (s := S512x45056) ![0, 1024 * j.val + 128 * t.val] S512x128.size (src_inb j t))).set
      ((arrR a).view.slice (Rect.unit (s := S512x45056) ![0, 1024 * j.val + 128 * t'.val] S512x128.size (src_inb j t'))).set
    rw [View.set_slice, View.set_slice]
    refine (Finset.disjoint_map _).mpr ?_
    refine Finset.disjoint_left.mpr fun y hy hy' => h (Fin.ext ?_)
    have h1 := (Rect.mem_set_unit.mp hy) 1
    have h2 := (Rect.mem_set_unit.mp hy') 1
    have h1' : 1024 * j.val + 128 * t.val ≤ (y 1).val ∧ (y 1).val < 1024 * j.val + 128 * t.val + 128 := h1
    have h2' : 1024 * j.val + 128 * t'.val ≤ (y 1).val ∧ (y 1).val < 1024 * j.val + 128 * t'.val + 128 := h2
    omega
  have hb : ((arrR a).view.loc (c : Thread nD τ) ↦[colSet c a j]{q} f : sProp 𝕄)
      = bigSep Finset.univ (fun t : Fin 8 => (srcM (arrR a) j t).view.loc (c : Thread nD τ) ↦[(srcM (arrR a) j t).view.set]{q} f) :=
    pointsTo_biUnion _ _ hd
  rw [← hb]
  exact pointsTo_split_subset (Finset.subset_univ _)

end Cert.KernelIdeal.Hand

end
-- ==== Proof.SlotI.lean ====
/- The slot of the staging scratch that a grid point reads. -/
module

public import proofs.«01_k».proof.Proof.Gen.KernelIdeal.Frame
public import proofs.«01_k».proof.Proof.Gen.KernelIdeal.Loops

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- A slot's rectangle lies in the staging scratch. -/
theorem slot_inb : ∀ (i : grid0.Coords) (a : Fin 5), (![(i 0).val % 2, 0, 0, 0, 0] : Fin 5 → ℕ) a + (![1, 2, 8, 512, 128] : Fin 5 → ℕ) a ≤ S2x2x8x512x128.size a := by
  decide +kernel

/-- The slot of the staging scratch that grid point `i` reads. -/
abbrev slotM {sp : Space} (m : Memref sig .tc sp S2x2x8x512x128 .bf16) (i : grid0.Coords) :=
  m.slice (Rect.unit (s := S2x2x8x512x128) ![(i 0).val % 2, 0, 0, 0, 0] ![1, 2, 8, 512, 128] (slot_inb i)) (fun _ => rfl)

/-- A half piece of the step's slot lies in the slot. -/
theorem slot_sub {sp : Space} (m : Memref sig .tc sp S2x2x8x512x128 .bf16) (i : grid0.Coords) {od : Fin 5 → ℕ}
    {hd : ∀ x, od x + S1x1x1x256x128.size x ≤ S2x2x8x512x128.size x} (h0 : od 0 = (i 0).val % 2) :
    (m.access (Rect.unit (s := S2x2x8x512x128) od S1x1x1x256x128.size hd)).set
      ⊆ (slotM m i).view.set := by
  rw [show (slotM m i).view.set = m.view.setOn (Rect.unit (s := S2x2x8x512x128) ![(i 0).val % 2, 0, 0, 0, 0] ![1, 2, 8, 512, 128] (slot_inb i)).set from View.set_slice .., View.set_slice]
  refine Finset.map_subset_map.mpr fun y hy => Rect.mem_set_unit.mpr fun a => ?_
  have hy' := Rect.mem_set_unit.mp hy
  have hlt : (y a).val < S2x2x8x512x128.size a := (y a).isLt
  match a with
  | ⟨0, _⟩ =>
    have h : od 0 ≤ (y 0).val ∧ (y 0).val < od 0 + 1 := hy' 0
    show (i 0).val % 2 ≤ (y 0).val ∧ (y 0).val < (i 0).val % 2 + 1
    omega
  | ⟨1, _⟩ => exact ⟨Nat.zero_le _, by have : (y 1).val < 2 := hlt; show (y 1).val < 0 + 2; omega⟩
  | ⟨2, _⟩ => exact ⟨Nat.zero_le _, by have : (y 2).val < 8 := hlt; show (y 2).val < 0 + 8; omega⟩
  | ⟨3, _⟩ => exact ⟨Nat.zero_le _, by have : (y 3).val < 512 := hlt; show (y 3).val < 0 + 512; omega⟩
  | ⟨4, _⟩ => exact ⟨Nat.zero_le _, by have : (y 4).val < 128 := hlt; show (y 4).val < 0 + 128; omega⟩

end Cert.KernelIdeal.Hand

end
-- ==== Proof.StreamI.lean ====
/- A slot of the staging scratch over time: free, with its step's transfers in flight, and landed. -/
module

public import proofs.«01_k».proof.Proof.DmaI
public import proofs.«01_k».proof.Proof.SlotI

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The half share of the arrays that a slot's transfers read with. -/
def shr (s : Fin 2) : PosShare TreeShare := if s = 0 then fullShare.left else fullShare.right

/-- The contents of the two arrays in HBM. -/
abbrev Arrs (F : FTy → Type) (c : Dev nD) := (a : Fin 2) → Buf (Elt F) ((arrR a).view.loc (c : Thread nD τ))

/-- A slot's half shares of both arrays. -/
def arrs (c : Dev nD) (VA : Arrs F c) (s : Fin 2) : sProp 𝕄 :=
  iprop(((arrR 0).view.loc (c : Thread nD τ) ↦{shr s} VA 0) ∗ ((arrR 1).view.loc (c : Thread nD τ) ↦{shr s} VA 1))

/-- A slot's two semaphores at zero. -/
def cells (c : Dev nD) (s : Fin 2) : sProp 𝕄 :=
  iprop(semVal ((c : Thread nD τ), .dma (cellD s 0)) 0 ∗ semVal ((c : Thread nD τ), .dma (cellD s 1)) 0)

/-- Nothing in flight into the slot. -/
def Free (c : Dev nD) (VA : Arrs F c) (s : Fin 2) : sProp 𝕄 :=
  iprop((∃ f, (Memref.whole cc0_scratch0).view.loc (c : Thread nD τ) ↦[slotSet s c]{fullShare} f) ∗ cells c s ∗ arrs c VA s)

/-- The columns of the arrays that step `j` leaves at home, at the slot's share. -/
def rest (c : Dev nD) (VA : Arrs F c) (s : Fin 2) (j : Fin 44) : sProp 𝕄 :=
  iprop(((arrR 0).view.loc (c : Thread nD τ) ↦[Finset.univ \ colSet c 0 j]{shr s} VA 0)
    ∗ ((arrR 1).view.loc (c : Thread nD τ) ↦[Finset.univ \ colSet c 1 j]{shr s} VA 1))

/-- All sixteen transfers of step `j` are in flight into the slot. -/
def Flight (c : Dev nD) (VA : Arrs F c) (s : Fin 2) (j : Fin 44) : sProp 𝕄 :=
  iprop(batch c VA (shr s) s 0 j 8 0 ∗ batch c VA (shr s) s 1 j 8 0 ∗ rest c VA s j)

/-- Step `j` has landed in the slot. -/
def Landed (c : Dev nD) (VA : Arrs F c) (s : Fin 2) (j : Fin 44) : sProp 𝕄 :=
  iprop(((Memref.whole cc0_scratch0).view.loc (c : Thread nD τ) ↦[slotSet s c]{fullShare} stepBuf c VA j) ∗ cells c s ∗ arrs c VA s)

theorem landed_free (c : Dev nD) (VA : Arrs F c) (s : Fin 2) (j : Fin 44) : Landed c VA s j ⊢ (Free c VA s : sProp 𝕄) := by
  unfold Landed Free
  iintro ⟨H, Hr⟩
  isplitl [H]; · iexists _; iexact H
  iexact Hr

/-- A step about to be issued: both streams at no transfer yet, and what stays at home. -/
def Start (c : Dev nD) (VA : Arrs F c) (s : Fin 2) (j : Fin 44) (k k' : ℕ) : sProp 𝕄 :=
  iprop(∃ f, issuing c VA (shr s) f s 0 j k ∗ issuing c VA (shr s) f s 1 j k' ∗ rest c VA s j)

theorem issuing_zero (c : Dev nD) (VA : Arrs F c) (q : PosShare TreeShare)
    (f : Buf (Elt F) ((Memref.whole cc0_scratch0).view.loc (c : Thread nD τ))) (s a : Fin 2) (j : Fin 44) :
    iprop(batch c VA q s a j 0 0
      ∗ bigSep Finset.univ (fun t : Fin 8 => (srcM (arrR a) j t).view.loc (c : Thread nD τ) ↦[(srcM (arrR a) j t).view.set]{q} VA a)
      ∗ bigSep Finset.univ (fun t : Fin 8 => (pieceM s a t).view.loc (c : Thread nD τ) ↦[(pieceM s a t).view.set]{fullShare} f))
    ⊢ (issuing c VA q f s a j 0 : sProp 𝕄) := by
  unfold issuing
  rw [Transfers.pending_zero]
  refine sep_mono_right ?_
  exact (Entails.of_eq (bigSep_sep' _ _ _).symm)

theorem issuing_eight (c : Dev nD) (VA : Arrs F c) (q : PosShare TreeShare)
    (f : Buf (Elt F) ((Memref.whole cc0_scratch0).view.loc (c : Thread nD τ))) (s a : Fin 2) (j : Fin 44) :
    (issuing c VA q f s a j 8 : sProp 𝕄) ⊢ batch c VA q s a j 8 0 := by
  unfold issuing
  iintro ⟨H, -⟩
  iexact H

/-- Opening a free slot for step `j`. -/
theorem start (c : Dev nD) (VA : Arrs F c) (s : Fin 2) (j : Fin 44) :
    (Free c VA s : sProp 𝕄) ⊢ |={Set.univ}=> Start c VA s j 0 0 := by
  unfold Free Start cells arrs rest
  iintro ⟨⟨%f, Hf⟩, ⟨Hc0, Hc1⟩, Ha0, Ha1⟩
  ihave Hb0 := (Transfers.batch_alloc' (Lvl := ℕ) (countersEmb (U := Pipeline.UD sig nD τ)) (c : Thread nD τ) () pieceN (deliv c VA (shr s) s 0 j)
    (sm := SemLoc.dma (cellD s 0)) (E := Set.univ)) $$ Hc0
  ihave Hb1 := (Transfers.batch_alloc' (Lvl := ℕ) (countersEmb (U := Pipeline.UD sig nD τ)) (c : Thread nD τ) () pieceN (deliv c VA (shr s) s 1 j)
    (sm := SemLoc.dma (cellD s 1)) (E := Set.univ)) $$ Hc1
  imod Hb0 with Hb0
  imod Hb1 with Hb1
  imodintro
  ihave Hf := (Entails.of_eq (slot_pieces c s f)) $$ Hf
  icases Hf with ⟨Hf0, Hf1⟩
  ihave Ha0 := (arr_cols c (shr s) 0 j (VA 0)).1 $$ Ha0
  ihave Ha1 := (arr_cols c (shr s) 1 j (VA 1)).1 $$ Ha1
  icases Ha0 with ⟨Hs0, Hr0⟩
  icases Ha1 with ⟨Hs1, Hr1⟩
  iexists f
  isplitl [Hb0 Hf0 Hs0]
  · iapply (issuing_zero c VA (shr s) f s 0 j)
    isplitl [Hb0]; · unfold batch; iexact Hb0
    isplitl [Hs0]; · iexact Hs0
    iexact Hf0
  isplitl [Hb1 Hf1 Hs1]
  · iapply (issuing_zero c VA (shr s) f s 1 j)
    isplitl [Hb1]; · unfold batch; iexact Hb1
    isplitl [Hs1]; · iexact Hs1
    iexact Hf1
  isplitl [Hr0]; · iexact Hr0
  iexact Hr1

theorem start_flight (c : Dev nD) (VA : Arrs F c) (s : Fin 2) (j : Fin 44) :
    (Start c VA s j 8 8 : sProp 𝕄) ⊢ Flight c VA s j := by
  unfold Start Flight
  iintro ⟨%f, H0, H1, Hr⟩
  isplitl [H0]; · iapply (issuing_eight c VA (shr s) f s 0 j); iexact H0
  isplitl [H1]; · iapply (issuing_eight c VA (shr s) f s 1 j); iexact H1
  iexact Hr

/-- Both streams delivered: the step has landed. -/
theorem join (c : Dev nD) (VA : Arrs F c) (s : Fin 2) (j : Fin 44) :
    iprop((bigSep Finset.univ (deliv c VA (shr s) s 0 j) ∗ semVal ((c : Thread nD τ), .dma (cellD s 0)) 0)
      ∗ (bigSep Finset.univ (deliv c VA (shr s) s 1 j) ∗ semVal ((c : Thread nD τ), .dma (cellD s 1)) 0) ∗ rest c VA s j)
    ⊢ (Landed c VA s j : sProp 𝕄) := by
  unfold Landed rest cells arrs
  have hd : ∀ a : Fin 2, (bigSep Finset.univ (deliv c VA (shr s) s a j) : sProp 𝕄) =
      iprop(bigSep Finset.univ (fun t : Fin 8 => (pieceM s a t).view.loc (c : Thread nD τ) ↦[(pieceM s a t).view.set]{fullShare} stepBuf c VA j)
        ∗ bigSep Finset.univ (fun t : Fin 8 => (srcM (arrR a) j t).view.loc (c : Thread nD τ) ↦[(srcM (arrR a) j t).view.set]{shr s} VA a)) := fun a =>
    bigSep_sep' _ _ _
  rw [hd 0, hd 1, slot_pieces]
  iintro ⟨⟨⟨Hp0, Hs0⟩, Hc0⟩, ⟨⟨Hp1, Hs1⟩, Hc1⟩, Hr0, Hr1⟩
  isplitl [Hp0 Hp1]
  · isplitl [Hp0]; · iexact Hp0
    iexact Hp1
  isplitl [Hc0 Hc1]
  · isplitl [Hc0]; · iexact Hc0
    iexact Hc1
  isplitl [Hs0 Hr0]
  · iapply (arr_cols c (shr s) 0 j (VA 0)).2
    isplitl [Hs0]; · iexact Hs0
    iexact Hr0
  iapply (arr_cols c (shr s) 1 j (VA 1)).2
  isplitl [Hs1]; · iexact Hs1
  iexact Hr1

variable {𝒱 : Variants} {bd : Option 𝒱.V} {α : Type}

/-- One issue of stream 0. -/
theorem wp_start0 (c : Dev nD) (VA : Arrs F c) (s : Fin 2) (j : Fin 44) (t : Fin 8) (n k0 k1 : ℕ) (hk0 : k0 = t.val) (hk1 : k1 = t.val + 1)
    {A : Memref sig .tc .hbm S512x45056 .bf16} (hA : A = arrR 0)
    {oc : Fin 2 → ℕ} {hc : ∀ x, oc x + S1x1.size x ≤ S2x2.size x} (hoc : oc = ![s.val, (0 : Fin 2).val])
    {od : Fin 5 → ℕ} {hd : ∀ x, od x + S1x1x1x512x128.size x ≤ S2x2x8x512x128.size x} (hod : od = ![s.val, (0 : Fin 2).val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    (Start c VA s j k0 n : sProp 𝕄)
    ⊢ iprop((Start c VA s j k1 n -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  subst hk0 hk1
  unfold Start
  iintro ⟨%f, H0, H1, Hr⟩ Hk
  iapply (wp_issuing c VA (shr s) f s 0 j t hA hoc hod hos) $$ H0
  iintro H0
  iapply Hk
  iexists f
  isplitl [H0]; · iexact H0
  isplitl [H1]; · iexact H1
  iexact Hr

/-- One issue of stream 1. -/
theorem wp_start1 (c : Dev nD) (VA : Arrs F c) (s : Fin 2) (j : Fin 44) (t : Fin 8) (n k0 k1 : ℕ) (hk0 : k0 = t.val) (hk1 : k1 = t.val + 1)
    {A : Memref sig .tc .hbm S512x45056 .bf16} (hA : A = arrR 1)
    {oc : Fin 2 → ℕ} {hc : ∀ x, oc x + S1x1.size x ≤ S2x2.size x} (hoc : oc = ![s.val, (1 : Fin 2).val])
    {od : Fin 5 → ℕ} {hd : ∀ x, od x + S1x1x1x512x128.size x ≤ S2x2x8x512x128.size x} (hod : od = ![s.val, (1 : Fin 2).val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    (Start c VA s j n k0 : sProp 𝕄)
    ⊢ iprop((Start c VA s j n k1 -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  subst hk0 hk1
  unfold Start
  iintro ⟨%f, H0, H1, Hr⟩ Hk
  iapply (wp_issuing c VA (shr s) f s 1 j t hA hoc hod hos) $$ H1
  iintro H1
  iapply Hk
  iexists f
  isplitl [H0]; · iexact H0
  isplitl [H1]; · iexact H1
  iexact Hr

/-- The slot of grid point `i` as the loops hold it. -/
theorem slotSet_eq (c : Dev nD) (i : grid0.Coords) (s : Fin 2) (hs : s.val = (i 0).val % 2) :
    slotSet s c = (slotM (Memref.whole cc0_scratch0) i).view.set := by
  refine Finset.ext fun (y : S2x2x8x512x128.Idx) => (mem_slot s c y).trans (Iff.symm ?_)
  refine (ValueKit.mem_set_slice_whole_iff cc0_scratch0 _ y Rect.mem_set_unit).trans ?_
  have h1 : (y 1).val < 2 := (y 1).isLt
  have h2 : (y 2).val < 8 := (y 2).isLt
  have h3 : (y 3).val < 512 := (y 3).isLt
  have h4 : (y 4).val < 128 := (y 4).isLt
  constructor
  · intro h
    have h0 : (i 0).val % 2 ≤ (y 0).val ∧ (y 0).val < (i 0).val % 2 + 1 := h 0
    exact Fin.ext (by omega)
  · rintro rfl x
    match x with
    | ⟨0, _⟩ => show (i 0).val % 2 ≤ (y 0).val ∧ (y 0).val < (i 0).val % 2 + 1; omega
    | ⟨1, _⟩ => show 0 ≤ (y 1).val ∧ (y 1).val < 0 + 2; omega
    | ⟨2, _⟩ => show 0 ≤ (y 2).val ∧ (y 2).val < 0 + 8; omega
    | ⟨3, _⟩ => show 0 ≤ (y 3).val ∧ (y 3).val < 0 + 512; omega
    | ⟨4, _⟩ => show 0 ≤ (y 4).val ∧ (y 4).val < 0 + 128; omega

end Cert.KernelIdeal.Hand

end
-- ==== Proof.PhaseI.lean ====
/- The body's transfers: the two guarded issues of sixteen, and the sixteen waits. -/
module

public import proofs.«01_k».proof.Proof.StreamI

@[expose] public section

set_option maxRecDepth 16384
set_option maxHeartbeats 2000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem cond1_iff : ∀ i : grid0.Coords, k0_cond1 i = 1#1 ↔ (i 0).val = 0 := by decide +kernel
theorem cond2_iff : ∀ i : grid0.Coords, k0_cond2 i = 1#1 ↔ (i 0).val + 1 < 44 := by decide +kernel

theorem point_lt (i : grid0.Coords) : (i 0).val < 44 := (i 0).isLt

/-- A grid point's step, its slot, and the other slot. -/
abbrev stepOf (i : grid0.Coords) : Fin 44 := ⟨(i 0).val, (i 0).isLt⟩
abbrev slotOf (i : grid0.Coords) : Fin 2 := ⟨(i 0).val % 2, Nat.mod_lt _ (by decide)⟩
abbrev slotNx (i : grid0.Coords) : Fin 2 := ⟨1 - (i 0).val % 2, by omega⟩

theorem part1_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : PUnit → sProp 𝕄} :
    (Start c VA 0 0 0 0 : sProp 𝕄) ⊢ iprop((∀ r, Start c VA 0 0 2 0 -∗ Q r)
      -∗ wp frame (wpE (defs₀ : Defs nD τ sig (Elt F) Λ₀) Variants.none (c : Thread nD τ) none) Set.univ (k0_part1 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part1_eq_skeleton]
  unfold k0_part1_skel
  simp only [Prog.bind_lift, Prog.pure_eq_ret, Prog.bind_ret, Prog.bind_op]
  iintro H Hk
  iapply (wp_start0 c VA 0 0 0 0 0 1 rfl rfl rfl rfl rfl rfl) $$ H
  iintro H
  iapply (wp_start0 c VA 0 0 1 0 1 2 rfl rfl rfl rfl rfl rfl) $$ H
  iintro H
  rw [wp_ret]
  imodintro
  iapply Hk
  iexact H

theorem part2_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : PUnit → sProp 𝕄} :
    (Start c VA 0 0 2 0 : sProp 𝕄) ⊢ iprop((∀ r, Start c VA 0 0 6 0 -∗ Q r)
      -∗ wp frame (wpE (defs₀ : Defs nD τ sig (Elt F) Λ₀) Variants.none (c : Thread nD τ) none) Set.univ (k0_part2 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part2_eq_skeleton]
  unfold k0_part2_skel
  simp only [Prog.bind_lift, Prog.pure_eq_ret, Prog.bind_ret, Prog.bind_op]
  iintro H Hk
  iapply (wp_start0 c VA 0 0 2 0 2 3 rfl rfl rfl rfl rfl rfl) $$ H
  iintro H
  iapply (wp_start0 c VA 0 0 3 0 3 4 rfl rfl rfl rfl rfl rfl) $$ H
  iintro H
  iapply (wp_start0 c VA 0 0 4 0 4 5 rfl rfl rfl rfl rfl rfl) $$ H
  iintro H
  iapply (wp_start0 c VA 0 0 5 0 5 6 rfl rfl rfl rfl rfl rfl) $$ H
  iintro H
  rw [wp_ret]
  imodintro
  iapply Hk
  iexact H

theorem part3_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : PUnit → sProp 𝕄} :
    (Start c VA 0 0 6 0 : sProp 𝕄) ⊢ iprop((∀ r, Start c VA 0 0 8 2 -∗ Q r)
      -∗ wp frame (wpE (defs₀ : Defs nD τ sig (Elt F) Λ₀) Variants.none (c : Thread nD τ) none) Set.univ (k0_part3 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part3_eq_skeleton]
  unfold k0_part3_skel
  simp only [Prog.bind_lift, Prog.pure_eq_ret, Prog.bind_ret, Prog.bind_op]
  iintro H Hk
  iapply (wp_start0 c VA 0 0 6 0 6 7 rfl rfl rfl rfl rfl rfl) $$ H
  iintro H
  iapply (wp_start0 c VA 0 0 7 0 7 8 rfl rfl rfl rfl rfl rfl) $$ H
  iintro H
  iapply (wp_start1 c VA 0 0 0 8 0 1 rfl rfl rfl rfl rfl rfl) $$ H
  iintro H
  iapply (wp_start1 c VA 0 0 1 8 1 2 rfl rfl rfl rfl rfl rfl) $$ H
  iintro H
  rw [wp_ret]
  imodintro
  iapply Hk
  iexact H

theorem part4_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : PUnit → sProp 𝕄} :
    (Start c VA 0 0 8 2 : sProp 𝕄) ⊢ iprop((∀ r, Start c VA 0 0 8 6 -∗ Q r)
      -∗ wp frame (wpE (defs₀ : Defs nD τ sig (Elt F) Λ₀) Variants.none (c : Thread nD τ) none) Set.univ (k0_part4 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part4_eq_skeleton]
  unfold k0_part4_skel
  simp only [Prog.bind_lift, Prog.pure_eq_ret, Prog.bind_ret, Prog.bind_op]
  iintro H Hk
  iapply (wp_start1 c VA 0 0 2 8 2 3 rfl rfl rfl rfl rfl rfl) $$ H
  iintro H
  iapply (wp_start1 c VA 0 0 3 8 3 4 rfl rfl rfl rfl rfl rfl) $$ H
  iintro H
  iapply (wp_start1 c VA 0 0 4 8 4 5 rfl rfl rfl rfl rfl rfl) $$ H
  iintro H
  iapply (wp_start1 c VA 0 0 5 8 5 6 rfl rfl rfl rfl rfl rfl) $$ H
  iintro H
  rw [wp_ret]
  imodintro
  iapply Hk
  iexact H

theorem off3_next (i : grid0.Coords) (h : (i 0).val + 1 < 44) (r : Fin 8) :
    k0_off3 i (BitVec.ofNat 32 (128 * r.val)) = ![0, 1024 * (⟨(i 0).val + 1, h⟩ : Fin 44).val + 128 * r.val] :=
  (k0_off3_eq i r).trans (congrArg (fun n : ℕ => (![0, n] : Fin 2 → ℕ)) (show 1024 * (i 0).val + 128 * r.val + 1024 = 1024 * ((i 0).val + 1) + 128 * r.val by omega))

theorem part6_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (h : (i 0).val + 1 < 44) (k0_h2 : k0_cond2 i = 1#1) (v147 : BitVec 32) (c1024 : BitVec 32) {Q : PUnit → sProp 𝕄} :
    (Start c VA (slotNx i) ⟨(i 0).val + 1, h⟩ 0 0 : sProp 𝕄) ⊢ iprop((∀ r, Start c VA (slotNx i) ⟨(i 0).val + 1, h⟩ 3 0 -∗ Q r)
      -∗ wp frame (wpE (defs₀ : Defs nD τ sig (Elt F) Λ₀) Variants.none (c : Thread nD τ) none) Set.univ (k0_part6 i arg1 harg1 arg2 harg2 (Memref.whole main_arg2) harg3 (Memref.whole main_arg3) harg4 arg5 harg5 (Memref.whole cc0_scratch0) harg6 arg7 harg7 arg8 harg8 arg9 harg9 cc0_scratch4 k0_h2 v147 c1024) Q) := by
  rw [k0_part6_eq_skeleton]
  unfold k0_part6_skel
  simp only [Prog.bind_lift, Prog.pure_eq_ret, Prog.bind_ret, Prog.bind_op]
  iintro H Hk
  iapply (wp_start0 c VA (slotNx i) ⟨(i 0).val + 1, h⟩ 0 0 0 1 rfl rfl rfl (k0_off1_eq i) (k0_off2_eq i) (off3_next i h 0)) $$ H
  iintro H
  iapply (wp_start0 c VA (slotNx i) ⟨(i 0).val + 1, h⟩ 1 0 1 2 rfl rfl rfl (k0_off1_eq i) (k0_off4_eq i) (off3_next i h 1)) $$ H
  iintro H
  iapply (wp_start0 c VA (slotNx i) ⟨(i 0).val + 1, h⟩ 2 0 2 3 rfl rfl rfl (k0_off1_eq i) (k0_off5_eq i) (off3_next i h 2)) $$ H
  iintro H
  rw [wp_ret]
  imodintro
  iapply Hk
  iexact H

theorem part7_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (h : (i 0).val + 1 < 44) (k0_h2 : k0_cond2 i = 1#1) {Q : PUnit → sProp 𝕄} :
    (Start c VA (slotNx i) ⟨(i 0).val + 1, h⟩ 3 0 : sProp 𝕄) ⊢ iprop((∀ r, Start c VA (slotNx i) ⟨(i 0).val + 1, h⟩ 8 0 -∗ Q r)
      -∗ wp frame (wpE (defs₀ : Defs nD τ sig (Elt F) Λ₀) Variants.none (c : Thread nD τ) none) Set.univ (k0_part7 i arg1 harg1 arg2 harg2 (Memref.whole main_arg2) harg3 (Memref.whole main_arg3) harg4 arg5 harg5 (Memref.whole cc0_scratch0) harg6 arg7 harg7 arg8 harg8 arg9 harg9 cc0_scratch4 k0_h2) Q) := by
  rw [k0_part7_eq_skeleton]
  unfold k0_part7_skel
  simp only [Prog.bind_lift, Prog.pure_eq_ret, Prog.bind_ret, Prog.bind_op]
  iintro H Hk
  iapply (wp_start0 c VA (slotNx i) ⟨(i 0).val + 1, h⟩ 3 0 3 4 rfl rfl rfl (k0_off1_eq i) (k0_off6_eq i) (off3_next i h 3)) $$ H
  iintro H
  iapply (wp_start0 c VA (slotNx i) ⟨(i 0).val + 1, h⟩ 4 0 4 5 rfl rfl rfl (k0_off1_eq i) (k0_off7_eq i) (off3_next i h 4)) $$ H
  iintro H
  iapply (wp_start0 c VA (slotNx i) ⟨(i 0).val + 1, h⟩ 5 0 5 6 rfl rfl rfl (k0_off1_eq i) (k0_off8_eq i) (off3_next i h 5)) $$ H
  iintro H
  iapply (wp_start0 c VA (slotNx i) ⟨(i 0).val + 1, h⟩ 6 0 6 7 rfl rfl rfl (k0_off1_eq i) (k0_off9_eq i) (off3_next i h 6)) $$ H
  iintro H
  iapply (wp_start0 c VA (slotNx i) ⟨(i 0).val + 1, h⟩ 7 0 7 8 rfl rfl rfl (k0_off1_eq i) (k0_off10_eq i) (off3_next i h 7)) $$ H
  iintro H
  rw [wp_ret]
  imodintro
  iapply Hk
  iexact H

theorem part8_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (h : (i 0).val + 1 < 44) (k0_h2 : k0_cond2 i = 1#1) {Q : PUnit → sProp 𝕄} :
    (Start c VA (slotNx i) ⟨(i 0).val + 1, h⟩ 8 0 : sProp 𝕄) ⊢ iprop((∀ r, Start c VA (slotNx i) ⟨(i 0).val + 1, h⟩ 8 5 -∗ Q r)
      -∗ wp frame (wpE (defs₀ : Defs nD τ sig (Elt F) Λ₀) Variants.none (c : Thread nD τ) none) Set.univ (k0_part8 i arg1 harg1 arg2 harg2 (Memref.whole main_arg2) harg3 (Memref.whole main_arg3) harg4 arg5 harg5 (Memref.whole cc0_scratch0) harg6 arg7 harg7 arg8 harg8 arg9 harg9 cc0_scratch4 k0_h2) Q) := by
  rw [k0_part8_eq_skeleton]
  unfold k0_part8_skel
  simp only [Prog.bind_lift, Prog.pure_eq_ret, Prog.bind_ret, Prog.bind_op]
  iintro H Hk
  iapply (wp_start1 c VA (slotNx i) ⟨(i 0).val + 1, h⟩ 0 8 0 1 rfl rfl rfl (k0_off11_eq i) (k0_off12_eq i) (off3_next i h 0)) $$ H
  iintro H
  iapply (wp_start1 c VA (slotNx i) ⟨(i 0).val + 1, h⟩ 1 8 1 2 rfl rfl rfl (k0_off11_eq i) (k0_off13_eq i) (off3_next i h 1)) $$ H
  iintro H
  iapply (wp_start1 c VA (slotNx i) ⟨(i 0).val + 1, h⟩ 2 8 2 3 rfl rfl rfl (k0_off11_eq i) (k0_off14_eq i) (off3_next i h 2)) $$ H
  iintro H
  iapply (wp_start1 c VA (slotNx i) ⟨(i 0).val + 1, h⟩ 3 8 3 4 rfl rfl rfl (k0_off11_eq i) (k0_off15_eq i) (off3_next i h 3)) $$ H
  iintro H
  iapply (wp_start1 c VA (slotNx i) ⟨(i 0).val + 1, h⟩ 4 8 4 5 rfl rfl rfl (k0_off11_eq i) (k0_off16_eq i) (off3_next i h 4)) $$ H
  iintro H
  rw [wp_ret]
  imodintro
  iapply Hk
  iexact H

/-- Before the body at grid point `i`: its slot free at the first point, else its step in flight; the other slot free. -/
def Pre (c : Dev nD) (VA : Arrs F c) (i : grid0.Coords) : sProp 𝕄 :=
  if (i 0).val = 0 then iprop(Free c VA (slotOf i) ∗ Free c VA (slotNx i)) else iprop(Flight c VA (slotOf i) (stepOf i) ∗ Free c VA (slotNx i))

/-- The next step in flight, if there is one. -/
def Next (c : Dev nD) (VA : Arrs F c) (i : grid0.Coords) : sProp 𝕄 :=
  if h : (i 0).val + 1 < 44 then Flight c VA (slotNx i) ⟨(i 0).val + 1, h⟩ else Free c VA (slotNx i)

theorem part5_run (c : Dev nD) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (a0 v3 : BitVec 32) {Q : (Σ' (v147 : BitVec 32), BitVec 32) → sProp 𝕄} :
    (iprop(∀ r, Q r) : sProp 𝕄) ⊢ wp frame (wpE (defs₀ : Defs nD τ sig (Elt F) Λ₀) Variants.none (c : Thread nD τ) none) Set.univ (k0_part5 i arg1 harg1 arg2 harg2 (Memref.whole main_arg2) harg3 (Memref.whole main_arg3) harg4 arg5 harg5 (Memref.whole cc0_scratch0) harg6 arg7 harg7 arg8 harg8 arg9 harg9 cc0_scratch4 a0 v3) Q := by
  rw [k0_part5_eq_skeleton]
  unfold k0_part5_skel
  simp only [Prog.pure_eq_ret]
  rw [wp_ret]
  iintro Hk
  imodintro
  iapply Hk

/-- The first guarded issue: the first point's own step. -/
theorem issueA_run (c : Dev nD) (VA : Arrs F c) (i : grid0.Coords) (R : sProp 𝕄) {α : Type} {p0 : k0_cond1 i = 1#1 → Prog (TpuEff nD τ sig (Elt F) Λ₀ .tc) α}
    {q : ¬ k0_cond1 i = 1#1 → Prog (TpuEff nD τ sig (Elt F) Λ₀ .tc) α} {Q : α → sProp 𝕄}
    (hp : ∀ (h : k0_cond1 i = 1#1), slotOf i = 0 → stepOf i = 0 → iprop(Start c VA 0 0 0 0 ∗ Free c VA (slotNx i) ∗ R) ⊢ wp frame (wpE (defs₀ : Defs nD τ sig (Elt F) Λ₀) Variants.none (c : Thread nD τ) none) Set.univ (p0 h) Q)
    (hq : ∀ h, iprop(Flight c VA (slotOf i) (stepOf i) ∗ Free c VA (slotNx i) ∗ R) ⊢ wp frame (wpE (defs₀ : Defs nD τ sig (Elt F) Λ₀) Variants.none (c : Thread nD τ) none) Set.univ (q h) Q) :
    iprop(Pre c VA i ∗ R) ⊢ wp frame (wpE (defs₀ : Defs nD τ sig (Elt F) Λ₀) Variants.none (c : Thread nD τ) none) Set.univ (if h : k0_cond1 i = 1#1 then p0 h else q h) Q := by
  unfold Pre
  by_cases h1 : k0_cond1 i = 1#1
  · have h := (cond1_iff i).mp h1
    have hs : slotOf i = 0 := Fin.ext (show (i 0).val % 2 = 0 by omega)
    have hj : stepOf i = 0 := Fin.ext h
    rw [dif_pos h1, if_pos h]
    have hp := hp h1 hs hj
    rw [hs]
    iintro ⟨⟨HF, HN⟩, HR⟩
    iapply (fupd_wp _ _)
    imod (start c VA 0 0) $$ HF with H
    imodintro
    iapply hp
    isplitl [H]; · iexact H
    isplitl [HN]; · iexact HN
    iexact HR
  · rw [dif_neg h1, if_neg fun h => h1 ((cond1_iff i).mpr h)]
    have hq := hq h1
    iintro ⟨⟨HF, HN⟩, HR⟩
    iapply hq
    isplitl [HF]; · iexact HF
    isplitl [HN]; · iexact HN
    iexact HR

/-- The second guarded issue: the next point's step. -/
theorem issueB_run (c : Dev nD) (VA : Arrs F c) (i : grid0.Coords) (R : sProp 𝕄) {α : Type} {p0 : k0_cond2 i = 1#1 → Prog (TpuEff nD τ sig (Elt F) Λ₀ .tc) α}
    {q : ¬ k0_cond2 i = 1#1 → Prog (TpuEff nD τ sig (Elt F) Λ₀ .tc) α} {Q : α → sProp 𝕄}
    (hp : ∀ (h2 : k0_cond2 i = 1#1) (h : (i 0).val + 1 < 44), iprop(Start c VA (slotNx i) ⟨(i 0).val + 1, h⟩ 0 0 ∗ R) ⊢ wp frame (wpE (defs₀ : Defs nD τ sig (Elt F) Λ₀) Variants.none (c : Thread nD τ) none) Set.univ (p0 h2) Q)
    (hq : ∀ h, iprop(Next c VA i ∗ R) ⊢ wp frame (wpE (defs₀ : Defs nD τ sig (Elt F) Λ₀) Variants.none (c : Thread nD τ) none) Set.univ (q h) Q) :
    iprop(Free c VA (slotNx i) ∗ R) ⊢ wp frame (wpE (defs₀ : Defs nD τ sig (Elt F) Λ₀) Variants.none (c : Thread nD τ) none) Set.univ (if h : k0_cond2 i = 1#1 then p0 h else q h) Q := by
  by_cases h2 : k0_cond2 i = 1#1
  · have h := (cond2_iff i).mp h2
    rw [dif_pos h2]
    have hp := hp h2 h
    iintro ⟨HN, HR⟩
    iapply (fupd_wp _ _)
    imod (start c VA (slotNx i) ⟨(i 0).val + 1, h⟩) $$ HN with H
    imodintro
    iapply hp
    isplitl [H]; · iexact H
    iexact HR
  · rw [dif_neg h2]
    have hq := hq h2
    unfold Next at hq
    rw [dif_neg fun h => h2 ((cond2_iff i).mpr h)] at hq
    exact hq

/-- The guarded issues of the body. -/
theorem issues_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : (Σ' (arg0 : BitVec 32) (v3 : BitVec 32) (v32 : BitVec 32), BitVec 32) → sProp 𝕄} :
    iprop(Pre c VA i ∗ (∀ r, iprop(Flight c VA (slotOf i) (stepOf i) ∗ Next c VA i) -∗ Q r)) ⊢ wp frame (wpE (defs₀ : Defs nD τ sig (Elt F) Λ₀) Variants.none (c : Thread nD τ) none) Set.univ (k0_part55 i arg1 harg1 arg2 harg2 (Memref.whole main_arg2) harg3 (Memref.whole main_arg3) harg4 arg5 harg5 (Memref.whole cc0_scratch0) harg6 arg7 harg7 arg8 harg8 arg9 harg9 cc0_scratch4) Q := by
  rw [k0_part55_eq_skeleton]
  unfold k0_part55_skel
  simp only [Prog.pure_eq_ret]
  refine issueA_run c VA i _ ?_ ?_
  · intro h1 hs hj
    have hfl : (Start c VA 0 0 8 8 : sProp 𝕄) ⊢ Flight c VA (slotOf i) (stepOf i) := by rw [hs, hj]; exact start_flight c VA 0 0
    iintro ⟨H, HN, Hk⟩
    rw [wp_bind]
    iapply (part1_run c VA i arg1 harg1 arg2 harg2 harg3 harg4 arg5 harg5 harg6 arg7 harg7 arg8 harg8 arg9 harg9) $$ H
    iintro %_ H
    rw [wp_bind]
    iapply (part2_run c VA i arg1 harg1 arg2 harg2 harg3 harg4 arg5 harg5 harg6 arg7 harg7 arg8 harg8 arg9 harg9) $$ H
    iintro %_ H
    rw [wp_bind]
    iapply (part3_run c VA i arg1 harg1 arg2 harg2 harg3 harg4 arg5 harg5 harg6 arg7 harg7 arg8 harg8 arg9 harg9) $$ H
    iintro %_ H
    rw [wp_bind]
    iapply (part4_run c VA i arg1 harg1 arg2 harg2 harg3 harg4 arg5 harg5 harg6 arg7 harg7 arg8 harg8 arg9 harg9) $$ H
    iintro %_ H
    simp only [Prog.bind_lift]
    iapply (wp_start1 c VA 0 0 6 8 6 7 rfl rfl rfl rfl rfl rfl) $$ H
    iintro H
    iapply (wp_start1 c VA 0 0 7 8 7 8 rfl rfl rfl rfl rfl rfl) $$ H
    iintro H
    ihave HF := hfl $$ H
    iapply (issueB_run c VA i iprop(Flight c VA (slotOf i) (stepOf i) ∗ (∀ r, iprop(Flight c VA (slotOf i) (stepOf i) ∗ Next c VA i) -∗ Q r)) (hp := ?hp) (hq := ?hq))
    case hp =>
      intro h2 h
      have hfl := start_flight c VA (slotNx i) ⟨(i 0).val + 1, h⟩
      iintro ⟨H, HF, Hk⟩
      rw [wp_bind]
      iapply (part5_run c i arg1 harg1 arg2 harg2 harg3 harg4 arg5 harg5 harg6 arg7 harg7 arg8 harg8 arg9 harg9 _ _)
      iintro %r
      rw [wp_bind]
      iapply (part6_run c VA i arg1 harg1 arg2 harg2 harg3 harg4 arg5 harg5 harg6 arg7 harg7 arg8 harg8 arg9 harg9 h h2 _ _) $$ H
      iintro %_ H
      rw [wp_bind]
      iapply (part7_run c VA i arg1 harg1 arg2 harg2 harg3 harg4 arg5 harg5 harg6 arg7 harg7 arg8 harg8 arg9 harg9 h h2) $$ H
      iintro %_ H
      rw [wp_bind]
      iapply (part8_run c VA i arg1 harg1 arg2 harg2 harg3 harg4 arg5 harg5 harg6 arg7 harg7 arg8 harg8 arg9 harg9 h h2) $$ H
      iintro %_ H
      simp only [Prog.bind_lift]
      iapply (wp_start1 c VA (slotNx i) ⟨(i 0).val + 1, h⟩ 5 8 5 6 rfl rfl rfl (k0_off11_eq i) (k0_off17_eq i) (off3_next i h 5)) $$ H
      iintro H
      iapply (wp_start1 c VA (slotNx i) ⟨(i 0).val + 1, h⟩ 6 8 6 7 rfl rfl rfl (k0_off11_eq i) (k0_off18_eq i) (off3_next i h 6)) $$ H
      iintro H
      iapply (wp_start1 c VA (slotNx i) ⟨(i 0).val + 1, h⟩ 7 8 7 8 rfl rfl rfl (k0_off11_eq i) (k0_off19_eq i) (off3_next i h 7)) $$ H
      iintro H
      rw [wp_ret]
      imodintro
      iapply Hk
      isplitl [HF]; · iexact HF
      unfold Next
      rw [dif_pos h]
      iapply hfl
      iexact H
    case hq =>
      intro h
      iintro ⟨HN, HF, Hk⟩
      rw [wp_ret]
      imodintro
      iapply Hk
      isplitl [HF]; · iexact HF
      iexact HN
    isplitl [HN]; · iexact HN
    isplitl [HF]; · iexact HF
    iexact Hk
  · intro h1
    iintro ⟨HF, HN, Hk⟩
    iapply (issueB_run c VA i iprop(Flight c VA (slotOf i) (stepOf i) ∗ (∀ r, iprop(Flight c VA (slotOf i) (stepOf i) ∗ Next c VA i) -∗ Q r)) (hp := ?hp) (hq := ?hq))
    case hp =>
      intro h2 h
      have hfl := start_flight c VA (slotNx i) ⟨(i 0).val + 1, h⟩
      iintro ⟨H, HF, Hk⟩
      rw [wp_bind]
      iapply (part5_run c i arg1 harg1 arg2 harg2 harg3 harg4 arg5 harg5 harg6 arg7 harg7 arg8 harg8 arg9 harg9 _ _)
      iintro %r
      rw [wp_bind]
      iapply (part6_run c VA i arg1 harg1 arg2 harg2 harg3 harg4 arg5 harg5 harg6 arg7 harg7 arg8 harg8 arg9 harg9 h h2 _ _) $$ H
      iintro %_ H
      rw [wp_bind]
      iapply (part7_run c VA i arg1 harg1 arg2 harg2 harg3 harg4 arg5 harg5 harg6 arg7 harg7 arg8 harg8 arg9 harg9 h h2) $$ H
      iintro %_ H
      rw [wp_bind]
      iapply (part8_run c VA i arg1 harg1 arg2 harg2 harg3 harg4 arg5 harg5 harg6 arg7 harg7 arg8 harg8 arg9 harg9 h h2) $$ H
      iintro %_ H
      simp only [Prog.bind_lift]
      iapply (wp_start1 c VA (slotNx i) ⟨(i 0).val + 1, h⟩ 5 8 5 6 rfl rfl rfl (k0_off11_eq i) (k0_off17_eq i) (off3_next i h 5)) $$ H
      iintro H
      iapply (wp_start1 c VA (slotNx i) ⟨(i 0).val + 1, h⟩ 6 8 6 7 rfl rfl rfl (k0_off11_eq i) (k0_off18_eq i) (off3_next i h 6)) $$ H
      iintro H
      iapply (wp_start1 c VA (slotNx i) ⟨(i 0).val + 1, h⟩ 7 8 7 8 rfl rfl rfl (k0_off11_eq i) (k0_off19_eq i) (off3_next i h 7)) $$ H
      iintro H
      rw [wp_ret]
      imodintro
      iapply Hk
      isplitl [HF]; · iexact HF
      unfold Next
      rw [dif_pos h]
      iapply hfl
      iexact H
    case hq =>
      intro h
      iintro ⟨HN, HF, Hk⟩
      rw [wp_ret]
      imodintro
      iapply Hk
      isplitl [HF]; · iexact HF
      iexact HN
    isplitl [HN]; · iexact HN
    isplitl [HF]; · iexact HF
    iexact Hk

end Cert.KernelIdeal.Hand

end
-- ==== Proof.WaitI.lean ====
/- The body's sixteen waits, and the body as its transfers followed by the work on the landed step. -/
module

public import proofs.«01_k».proof.Proof.PhaseI

@[expose] public section

set_option maxRecDepth 16384
set_option maxHeartbeats 2000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- `n` waits of the scale stream done. -/
def WA (c : Dev nD) (VA : Arrs F c) (s : Fin 2) (j : Fin 44) (n : ℕ) : sProp 𝕄 :=
  iprop(batch c VA (shr s) s 0 j 8 (n * pieceN) ∗ batch c VA (shr s) s 1 j 8 0 ∗ rest c VA s j ∗ owesAny c)

/-- The scale stream delivered, `n` waits of the minimum stream done. -/
def WB (c : Dev nD) (VA : Arrs F c) (s : Fin 2) (j : Fin 44) (n : ℕ) : sProp 𝕄 :=
  iprop((bigSep Finset.univ (deliv c VA (shr s) s 0 j) ∗ semVal ((c : Thread nD τ), .dma (cellD s 0)) 0)
    ∗ batch c VA (shr s) s 1 j 8 (n * pieceN) ∗ rest c VA s j ∗ owesAny c)

theorem flight_WA (c : Dev nD) (VA : Arrs F c) (s : Fin 2) (j : Fin 44) :
    iprop(Flight c VA s j ∗ owesAny c) ⊢ (WA c VA s j 0 : sProp 𝕄) := by
  unfold Flight WA
  rw [Nat.zero_mul]
  iintro ⟨⟨H0, H1, Hr⟩, HO⟩
  isplitl [H0]; · iexact H0
  isplitl [H1]; · iexact H1
  isplitl [Hr]; · iexact Hr
  iexact HO

variable {𝒱 : Variants} {bd : Option 𝒱.V} {α : Type}

theorem wp_WA (c : Dev nD) (VA : Arrs F c) (s : Fin 2) (j : Fin 44) (n n' : ℕ) (hn : n < 7) (hn' : n' = n + 1)
    {oc : Fin 2 → ℕ} {hc : ∀ x, oc x + S1x1.size x ≤ S2x2.size x} (hoc : oc = ![s.val, (0 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WA c VA s j n : sProp 𝕄)
    ⊢ iprop((WA c VA s j n' -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hn'
  unfold WA
  iintro ⟨H0, H1, Hr, HO⟩ Hk
  iapply (wp_waiting c VA (shr s) s 0 j n hn hoc) $$ [H0 HO]
  · isplitl [H0]; · iexact H0
    iexact HO
  iintro ⟨H0, HO⟩
  iapply Hk
  isplitl [H0]; · iexact H0
  isplitl [H1]; · iexact H1
  isplitl [Hr]; · iexact Hr
  iexact HO

theorem wp_WAlast (c : Dev nD) (VA : Arrs F c) (s : Fin 2) (j : Fin 44)
    {oc : Fin 2 → ℕ} {hc : ∀ x, oc x + S1x1.size x ≤ S2x2.size x} (hoc : oc = ![s.val, (0 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WA c VA s j 7 : sProp 𝕄)
    ⊢ iprop((WB c VA s j 0 -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  unfold WA WB
  rw [Nat.zero_mul]
  iintro ⟨H0, H1, Hr, HO⟩ Hk
  iapply (wp_waitingLast c VA (shr s) s 0 j hoc) $$ [H0 HO]
  · isplitl [H0]; · iexact H0
    iexact HO
  iintro ⟨H0, H0', HO⟩
  iapply Hk
  isplitl [H0 H0']
  · isplitl [H0]; · iexact H0
    iexact H0'
  isplitl [H1]; · iexact H1
  isplitl [Hr]; · iexact Hr
  iexact HO

theorem wp_WB (c : Dev nD) (VA : Arrs F c) (s : Fin 2) (j : Fin 44) (n n' : ℕ) (hn : n < 7) (hn' : n' = n + 1)
    {oc : Fin 2 → ℕ} {hc : ∀ x, oc x + S1x1.size x ≤ S2x2.size x} (hoc : oc = ![s.val, (1 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WB c VA s j n : sProp 𝕄)
    ⊢ iprop((WB c VA s j n' -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hn'
  unfold WB
  iintro ⟨H0, H1, Hr, HO⟩ Hk
  iapply (wp_waiting c VA (shr s) s 1 j n hn hoc) $$ [H1 HO]
  · isplitl [H1]; · iexact H1
    iexact HO
  iintro ⟨H1, HO⟩
  iapply Hk
  isplitl [H0]; · iexact H0
  isplitl [H1]; · iexact H1
  isplitl [Hr]; · iexact Hr
  iexact HO

theorem wp_WBlast (c : Dev nD) (VA : Arrs F c) (s : Fin 2) (j : Fin 44)
    {oc : Fin 2 → ℕ} {hc : ∀ x, oc x + S1x1.size x ≤ S2x2.size x} (hoc : oc = ![s.val, (1 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WB c VA s j 7 : sProp 𝕄)
    ⊢ iprop((iprop(Landed c VA s j ∗ owesAny c) -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  have hj := join c VA s j
  unfold WB
  iintro ⟨H0, H1, Hr, HO⟩ Hk
  iapply (wp_waitingLast c VA (shr s) s 1 j hoc) $$ [H1 HO]
  · isplitl [H1]; · iexact H1
    iexact HO
  iintro ⟨H1, H1', HO⟩
  iapply Hk
  isplitr [HO]
  · iapply hj
    isplitl [H0]; · iexact H0
    isplitl [H1 H1']
    · isplitl [H1]; · iexact H1
      iexact H1'
    iexact Hr
  iexact HO

theorem part56_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (a0 a1 a2 : BitVec 32) {Q : PUnit → sProp 𝕄} :
    (WA c VA (slotOf i) (stepOf i) 0 : sProp 𝕄) ⊢ iprop((WA c VA (slotOf i) (stepOf i) 1 -∗ Q ⟨⟩)
      -∗ wp frame (wpE (defs₀ : Defs nD τ sig (Elt F) Λ₀) Variants.none (c : Thread nD τ) none) Set.univ (k0_part56 i arg1 harg1 arg2 harg2 (Memref.whole main_arg2) harg3 (Memref.whole main_arg3) harg4 arg5 harg5 (Memref.whole cc0_scratch0) harg6 arg7 harg7 arg8 harg8 arg9 harg9 cc0_scratch4 a0 a1 a2) Q) := by
  rw [k0_part56_eq_skeleton]
  unfold k0_part56_skel
  simp only [Prog.bind_lift, Prog.pure_eq_ret, Prog.bind_ret, Prog.bind_op]
  iintro H Hk
  iapply (wp_WA c VA (slotOf i) (stepOf i) 0 1 (by decide) rfl (k0_off20_eq i)) $$ H
  iintro H
  rw [wp_ret]
  imodintro
  iapply Hk
  iexact H

theorem part57_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : PUnit → sProp 𝕄} :
    (WA c VA (slotOf i) (stepOf i) 1 : sProp 𝕄) ⊢ iprop((WA c VA (slotOf i) (stepOf i) 6 -∗ Q ⟨⟩)
      -∗ wp frame (wpE (defs₀ : Defs nD τ sig (Elt F) Λ₀) Variants.none (c : Thread nD τ) none) Set.univ (k0_part57 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part57_eq_skeleton]
  unfold k0_part57_skel
  simp only [Prog.bind_lift, Prog.pure_eq_ret, Prog.bind_ret, Prog.bind_op]
  iintro H Hk
  iapply (wp_WA c VA (slotOf i) (stepOf i) 1 2 (by decide) rfl (k0_off20_eq i)) $$ H
  iintro H
  iapply (wp_WA c VA (slotOf i) (stepOf i) 2 3 (by decide) rfl (k0_off20_eq i)) $$ H
  iintro H
  iapply (wp_WA c VA (slotOf i) (stepOf i) 3 4 (by decide) rfl (k0_off20_eq i)) $$ H
  iintro H
  iapply (wp_WA c VA (slotOf i) (stepOf i) 4 5 (by decide) rfl (k0_off20_eq i)) $$ H
  iintro H
  iapply (wp_WA c VA (slotOf i) (stepOf i) 5 6 (by decide) rfl (k0_off20_eq i)) $$ H
  iintro H
  rw [wp_ret]
  imodintro
  iapply Hk
  iexact H

theorem part58_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : PUnit → sProp 𝕄} :
    (WA c VA (slotOf i) (stepOf i) 6 : sProp 𝕄) ⊢ iprop((WB c VA (slotOf i) (stepOf i) 3 -∗ Q ⟨⟩)
      -∗ wp frame (wpE (defs₀ : Defs nD τ sig (Elt F) Λ₀) Variants.none (c : Thread nD τ) none) Set.univ (k0_part58 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part58_eq_skeleton]
  unfold k0_part58_skel
  simp only [Prog.bind_lift, Prog.pure_eq_ret, Prog.bind_ret, Prog.bind_op]
  iintro H Hk
  iapply (wp_WA c VA (slotOf i) (stepOf i) 6 7 (by decide) rfl (k0_off20_eq i)) $$ H
  iintro H
  iapply (wp_WAlast c VA (slotOf i) (stepOf i) (k0_off20_eq i)) $$ H
  iintro H
  iapply (wp_WB c VA (slotOf i) (stepOf i) 0 1 (by decide) rfl (k0_off30_eq i)) $$ H
  iintro H
  iapply (wp_WB c VA (slotOf i) (stepOf i) 1 2 (by decide) rfl (k0_off30_eq i)) $$ H
  iintro H
  iapply (wp_WB c VA (slotOf i) (stepOf i) 2 3 (by decide) rfl (k0_off30_eq i)) $$ H
  iintro H
  rw [wp_ret]
  imodintro
  iapply Hk
  iexact H

/-- The work on the landed step: both arrays transposed and packed, then the product and the interleaved rounding. -/
def work (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (v3 : BitVec 32) : Prog (TpuEff nD τ sig (Elt F) Λ₀ .tc) PUnit := do
  Scf.Loop.for k0_t1_loop k0_t1_ok ⟨⟩ (k0_t1_body i arg1 harg1 arg2 harg2 (Memref.whole main_arg2) harg3 (Memref.whole main_arg3) harg4 arg5 harg5 (Memref.whole cc0_scratch0) harg6 arg7 harg7 arg8 harg8 arg9 harg9 cc0_scratch4 v3)
  Scf.Loop.for k0_t2_loop k0_t2_ok ⟨⟩ (k0_t2_body i arg1 harg1 arg2 harg2 (Memref.whole main_arg2) harg3 (Memref.whole main_arg3) harg4 arg5 harg5 (Memref.whole cc0_scratch0) harg6 arg7 harg7 arg8 harg8 arg9 harg9 cc0_scratch4 v3)
  Scf.Loop.for k0_t3_loop k0_t3_ok ⟨⟩ (k0_t3_body i arg1 harg1 arg2 harg2 (Memref.whole main_arg2) harg3 (Memref.whole main_arg3) harg4 arg5 harg5 (Memref.whole cc0_scratch0) harg6 arg7 harg7 arg8 harg8 arg9 harg9 cc0_scratch4 v3)
  Scf.Loop.for k0_t4_loop k0_t4_ok ⟨⟩ (k0_t4_body i arg1 harg1 arg2 harg2 (Memref.whole main_arg2) harg3 (Memref.whole main_arg3) harg4 arg5 harg5 (Memref.whole cc0_scratch0) harg6 arg7 harg7 arg8 harg8 arg9 harg9 cc0_scratch4)
  let v141 : Vec F S4x128x256 .f32 ← Prog.lift (.load arg9 (Rect.unit (s := S4x128x256) ![0, 0, 0] S4x128x256.size inb_S4x128x256_S4x128x256_0_0_0).toLoadRect (View.loadsAt_vmem h_S4x128x256))
  Prog.lift (.store arg9 (Rect.unit (s := S4x128x256) ![0, 0, 0] S4x128x256.size inb_S4x128x256_S4x128x256_0_0_0) (k0_pay4 (F := F)) Finset.univ (View.stores_vmem_bits_univ h_S4x128x256 rfl) (.inl rfl))
  Scf.Loop.for k0_t5_loop k0_t5_ok ⟨⟩ (k0_t5_body i arg1 harg1 arg2 harg2 (Memref.whole main_arg2) harg3 (Memref.whole main_arg3) harg4 arg5 harg5 (Memref.whole cc0_scratch0) harg6 arg7 harg7 arg8 harg8 arg9 harg9 cc0_scratch4)
  have v145 : IVec S16x128 32 := iota .tc S16x128 32 [1] iota_S16x128_d1_w32
  Scf.Loop.for k0_t8_loop k0_t8_ok ⟨⟩ (k0_t8_body i arg1 harg1 arg2 harg2 (Memref.whole main_arg2) harg3 (Memref.whole main_arg3) harg4 arg5 harg5 (Memref.whole cc0_scratch0) harg6 arg7 harg7 arg8 harg8 arg9 harg9 cc0_scratch4 v145)
  pure ⟨⟩

/-- The body: its transfers, then the work on the landed step. -/
theorem body_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) {Q : PUnit → sProp 𝕄} :
    iprop(Pre c VA i ∗ owesAny c ∗ (∀ v3, iprop(Landed c VA (slotOf i) (stepOf i) ∗ Next c VA i ∗ owesAny c) -∗ wp frame (wpE (defs₀ : Defs nD τ sig (Elt F) Λ₀) Variants.none (c : Thread nD τ) none) Set.univ (work i arg1 harg1 arg2 harg2 harg3 harg4 arg5 harg5 harg6 arg7 harg7 arg8 harg8 arg9 harg9 v3) Q))
      ⊢ wp frame (wpE (defs₀ : Defs nD τ sig (Elt F) Λ₀) Variants.none (c : Thread nD τ) none) Set.univ (cc0_w2_linear i arg1 harg1 arg2 harg2 (Memref.whole main_arg2) harg3 (Memref.whole main_arg3) harg4 arg5 harg5 (Memref.whole cc0_scratch0) harg6 arg7 harg7 arg8 harg8 arg9 harg9 cc0_scratch4) Q := by
  have hfw := flight_WA c VA (slotOf i) (stepOf i)
  rw [cc0_w2_linear_eq_skeleton]
  unfold cc0_w2_linear_skel
  iintro ⟨HP, HO, Hk⟩
  rw [wp_bind]
  iapply (issues_run c VA i arg1 harg1 arg2 harg2 harg3 harg4 arg5 harg5 harg6 arg7 harg7 arg8 harg8 arg9 harg9)
  isplitl [HP]; · iexact HP
  iintro %r ⟨HF, HN⟩
  rw [wp_bind]
  ihave H := hfw $$ [HF HO]
  · isplitl [HF]; · iexact HF
    iexact HO
  iapply (part56_run c VA i arg1 harg1 arg2 harg2 harg3 harg4 arg5 harg5 harg6 arg7 harg7 arg8 harg8 arg9 harg9 _ _ _) $$ H
  iintro H
  rw [wp_bind]
  iapply (part57_run c VA i arg1 harg1 arg2 harg2 harg3 harg4 arg5 harg5 harg6 arg7 harg7 arg8 harg8 arg9 harg9) $$ H
  iintro H
  rw [wp_bind]
  iapply (part58_run c VA i arg1 harg1 arg2 harg2 harg3 harg4 arg5 harg5 harg6 arg7 harg7 arg8 harg8 arg9 harg9) $$ H
  iintro H
  rw [k0_part59_eq_skeleton]
  unfold k0_part59_skel
  simp only [Prog.bind_lift, Prog.pure_eq_ret, Prog.bind_ret, Prog.bind_op, Prog.bind_assoc]
  iapply (wp_WB c VA (slotOf i) (stepOf i) 3 4 (by decide) rfl (k0_off30_eq i)) $$ H
  iintro H
  iapply (wp_WB c VA (slotOf i) (stepOf i) 4 5 (by decide) rfl (k0_off30_eq i)) $$ H
  iintro H
  iapply (wp_WB c VA (slotOf i) (stepOf i) 5 6 (by decide) rfl (k0_off30_eq i)) $$ H
  iintro H
  iapply (wp_WB c VA (slotOf i) (stepOf i) 6 7 (by decide) rfl (k0_off30_eq i)) $$ H
  iintro H
  iapply (wp_WBlast c VA (slotOf i) (stepOf i) (k0_off30_eq i)) $$ H
  iintro H
  icases H with ⟨HL, HO⟩
  ispecialize Hk $$ %r.2.1 [HL HN HO]
  · isplitl [HL]; · iexact HL
    isplitl [HN]; · iexact HN
    iexact HO
  unfold work
  simp only [Prog.bind_lift, Prog.pure_eq_ret, Prog.bind_ret, Prog.bind_op, Prog.bind_assoc]
  iexact Hk

end Cert.KernelIdeal.Hand

end
-- ==== Proof.LoopsI.lean ====
/- The loops of the kernel's body as resources: which buffers one trip reads and which it may rewrite. -/
module

public import proofs.«01_k».proof.Proof.SlotI

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

set_option warn.classDefReducibility false in
/-- A transposing loop reads the step's slot of the staging scratch and rewrites the transposed scratch. -/
@[sl_loop] def loopR_t1 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v3 : BitVec 32) (X6 : BufTy.Contents (Elt F) arg6.view.ty) :
    LoopInvTy_k0_t1 (F := F) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop(((slotM arg6 i).view.loc (c : Thread nD τ) ↦[(slotM arg6 i).view.set]{fullShare} X6) ∗ (∃ f, (arg7.view.loc (c : Thread nD τ) ↦[arg7.view.set]{fullShare} f)))
  step k acc := by
    have h39 := slot_sub arg6 i (hd := k0_off39_inb i k) (by rw [k0_off39_eq]; rfl)
    have h41 := slot_sub arg6 i (hd := k0_off41_inb i k) (by rw [k0_off41_eq]; rfl)
    have h43 := slot_sub arg6 i (hd := k0_off43_inb i k) (by rw [k0_off43_eq]; rfl)
    have h45 := slot_sub arg6 i (hd := k0_off45_inb i k) (by rw [k0_off45_eq]; rfl)
    have h47 := slot_sub arg6 i (hd := k0_off47_inb i k) (by rw [k0_off47_eq]; rfl)
    have h49 := slot_sub arg6 i (hd := k0_off49_inb i k) (by rw [k0_off49_eq]; rfl)
    have h51 := slot_sub arg6 i (hd := k0_off51_inb i k) (by rw [k0_off51_eq]; rfl)
    have h53 := slot_sub arg6 i (hd := k0_off53_inb i k) (by rw [k0_off53_eq]; rfl)
    unfold k0_t1_body
    iintro ⟨H6, ⟨%f7, H7⟩⟩
    sl_exec
    sl_step
    sl_close

set_option warn.classDefReducibility false in
/-- A transposing loop reads the step's slot of the staging scratch and rewrites the transposed scratch. -/
@[sl_loop] def loopR_t3 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v3 : BitVec 32) (X6 : BufTy.Contents (Elt F) arg6.view.ty) :
    LoopInvTy_k0_t3 (F := F) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop(((slotM arg6 i).view.loc (c : Thread nD τ) ↦[(slotM arg6 i).view.set]{fullShare} X6) ∗ (∃ f, (arg7.view.loc (c : Thread nD τ) ↦[arg7.view.set]{fullShare} f)))
  step k acc := by
    have h72 := slot_sub arg6 i (hd := k0_off72_inb i k) (by rw [k0_off72_eq]; rfl)
    have h74 := slot_sub arg6 i (hd := k0_off74_inb i k) (by rw [k0_off74_eq]; rfl)
    have h76 := slot_sub arg6 i (hd := k0_off76_inb i k) (by rw [k0_off76_eq]; rfl)
    have h78 := slot_sub arg6 i (hd := k0_off78_inb i k) (by rw [k0_off78_eq]; rfl)
    have h80 := slot_sub arg6 i (hd := k0_off80_inb i k) (by rw [k0_off80_eq]; rfl)
    have h82 := slot_sub arg6 i (hd := k0_off82_inb i k) (by rw [k0_off82_eq]; rfl)
    have h84 := slot_sub arg6 i (hd := k0_off84_inb i k) (by rw [k0_off84_eq]; rfl)
    have h86 := slot_sub arg6 i (hd := k0_off86_inb i k) (by rw [k0_off86_eq]; rfl)
    unfold k0_t3_body
    iintro ⟨H6, ⟨%f7, H7⟩⟩
    sl_exec
    sl_step
    sl_close

set_option warn.classDefReducibility false in
/-- A spreading loop reads the transposed scratch and rewrites the spread one. -/
@[sl_loop] def loopR_t2 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v3 : BitVec 32)  :
    LoopInvTy_k0_t2 (F := F) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop((∃ f, (arg7.view.loc (c : Thread nD τ) ↦[arg7.view.set]{fullShare} f)) ∗ (∃ f, (arg8.view.loc (c : Thread nD τ) ↦[arg8.view.set]{fullShare} f)))
  step k acc := by
    unfold k0_t2_body
    iintro ⟨⟨%f7, H7⟩, ⟨%f8, H8⟩⟩
    sl_exec
    sl_step
    sl_close

set_option warn.classDefReducibility false in
/-- A spreading loop reads the transposed scratch and rewrites the spread one. -/
@[sl_loop] def loopR_t4 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2)  :
    LoopInvTy_k0_t4 (F := F) Unit ℕ (Pipeline.UD sig nD τ) ℕ Variants.none c none E i arg1 harg1 arg2 harg2 arg3 harg3 arg4 harg4 arg5 harg5 arg6 harg6 arg7 harg7 arg8 harg8 arg9 harg9 arg10 where
  inv k _u := iprop((∃ f, (arg7.view.loc (c : Thread nD τ) ↦[arg7.view.set]{fullShare} f)) ∗ (∃ f, (arg8.view.loc (c : Thread nD τ) ↦[arg8.view.set]{fullShare} f)))
  step k acc := by
    unfold k0_t4_body
    iintro ⟨⟨%f7, H7⟩, ⟨%f8, H8⟩⟩
    sl_exec
    sl_step
    sl_close

set_option warn.classDefReducibility false in
/-- The product loop reads the activations, the codes and the spread scratch. -/
@[sl_loop] def loopR_t7 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (k0_t5 : Fin k0_t5_loop.trips) (arg11 : BitVec 32) (k0_t6 : Fin k0_t6_loop.trips) (arg12 : BitVec 32) (v149 : BitVec 32) (init : FVec F S128x256 .f32) (X1 : BufTy.Contents (Elt F) arg1.view.ty) (X2 : BufTy.Contents (Elt F) arg2.view.ty) (X8 : BufTy.Contents (Elt F) arg8.view.ty) :
    LoopInvTy_k0_t7 (F := F) Unit ℕ (Pipeline.UD sig nD τ) ℕ Variants.none c none E i arg1 harg1 arg2 harg2 arg3 harg3 arg4 harg4 arg5 harg5 arg6 harg6 arg7 harg7 arg8 harg8 arg9 harg9 arg10 k0_t5 arg11 k0_t6 arg12 v149 init where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8))
  step k acc := by
    unfold k0_t7_body
    iintro ⟨H1, H2, H8⟩
    sl_exec
    sl_step
    sl_close

set_option warn.classDefReducibility false in
/-- The loop over the four fields adds into the accumulator. -/
@[sl_loop] def loopR_t6 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (k0_t5 : Fin k0_t5_loop.trips) (arg11 : BitVec 32) (X1 : BufTy.Contents (Elt F) arg1.view.ty) (X2 : BufTy.Contents (Elt F) arg2.view.ty) (X8 : BufTy.Contents (Elt F) arg8.view.ty) :
    LoopInvTy_k0_t6 (F := F) Unit ℕ (Pipeline.UD sig nD τ) ℕ Variants.none c none E i arg1 harg1 arg2 harg2 arg3 harg3 arg4 harg4 arg5 harg5 arg6 harg6 arg7 harg7 arg8 harg8 arg9 harg9 arg10 k0_t5 arg11 where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))
  step k acc := by
    unfold k0_t6_body
    iintro ⟨H1, H2, H8, ⟨%f9, H9⟩⟩
    sl_exec
    sl_step
    sl_close

set_option warn.classDefReducibility false in
/-- The loop over the reduction's chunks adds into the accumulator. -/
@[sl_loop] def loopR_t5 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (X1 : BufTy.Contents (Elt F) arg1.view.ty) (X2 : BufTy.Contents (Elt F) arg2.view.ty) (X8 : BufTy.Contents (Elt F) arg8.view.ty) :
    LoopInvTy_k0_t5 (F := F) Unit ℕ (Pipeline.UD sig nD τ) ℕ Variants.none c none E i arg1 harg1 arg2 harg2 arg3 harg3 arg4 harg4 arg5 harg5 arg6 harg6 arg7 harg7 arg8 harg8 arg9 harg9 arg10 where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))
  step k acc := by
    unfold k0_t5_body
    iintro ⟨H1, H2, H8, ⟨%f9, H9⟩⟩
    sl_exec
    sl_step
    sl_close

set_option warn.classDefReducibility false in
/-- The last loop reads the accumulator and rewrites the output block. -/
@[sl_loop] def loopR_t8 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v145 : IVec S16x128 32) (X9 : BufTy.Contents (Elt F) arg9.view.ty) :
    LoopInvTy_k0_t8 (F := F) Unit ℕ (Pipeline.UD sig nD τ) ℕ Variants.none c none E i arg1 harg1 arg2 harg2 arg3 harg3 arg4 harg4 arg5 harg5 arg6 harg6 arg7 harg7 arg8 harg8 arg9 harg9 arg10 v145 where
  inv k _u := iprop((arg9.view.loc (c : Thread nD τ) ↦[arg9.view.set]{fullShare} X9) ∗ (∃ f, (arg5.view.loc (c : Thread nD τ) ↦[arg5.view.set]{fullShare} f)))
  step k acc := by
    unfold k0_t8_body
    iintro ⟨H9, ⟨%f5, H5⟩⟩
    sl_exec
    sl_step
    sl_close

end Cert.KernelIdeal.Hand

end
-- ==== Proof.BodyI.lean ====
/- The work on a landed step as resources: it reads the two windows and the slot and rewrites the scratch buffers and the output block. -/
module

public import proofs.«01_k».proof.Proof.WaitI
public import proofs.«01_k».proof.Proof.LoopsI

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

theorem work_run (c : Dev nD) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (v3 : BitVec 32)
    (X1 : BufTy.Contents (Elt F) arg1.view.ty) (X2 : BufTy.Contents (Elt F) arg2.view.ty)
    (X6 : BufTy.Contents (Elt F) (Memref.whole cc0_scratch0 : Memref sig .tc .vmem S2x2x8x512x128 .bf16).view.ty) {Q : PUnit → sProp 𝕄} :
    iprop(iprop(((slotM (Memref.whole cc0_scratch0) i).view.loc (c : Thread nD τ) ↦[(slotM (Memref.whole cc0_scratch0) i).view.set]{fullShare} X6) ∗ (arg1.view.loc (c : Thread nD τ) ↦[arg1.view.set]{fullShare} X1) ∗ (arg2.view.loc (c : Thread nD τ) ↦[arg2.view.set]{fullShare} X2) ∗ (∃ f, (arg5.view.loc (c : Thread nD τ) ↦[arg5.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)))
      ∗ (iprop(((slotM (Memref.whole cc0_scratch0) i).view.loc (c : Thread nD τ) ↦[(slotM (Memref.whole cc0_scratch0) i).view.set]{fullShare} X6) ∗ (arg1.view.loc (c : Thread nD τ) ↦[arg1.view.set]{fullShare} X1) ∗ (arg2.view.loc (c : Thread nD τ) ↦[arg2.view.set]{fullShare} X2) ∗ (∃ f, (arg5.view.loc (c : Thread nD τ) ↦[arg5.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ Q ⟨⟩)) ⊢ wp frame (wpE (defs₀ : Defs nD τ sig (Elt F) Λ₀) Variants.none (c : Thread nD τ) none) Set.univ (work i arg1 harg1 arg2 harg2 harg3 harg4 arg5 harg5 harg6 arg7 harg7 arg8 harg8 arg9 harg9 v3) Q := by
  unfold work
  iintro ⟨⟨H6, H1, H2, ⟨%f5, H5⟩, ⟨%f7, H7⟩, ⟨%f8, H8⟩, ⟨%f9, H9⟩⟩, Hk⟩
  sl_exec
  sl_step
  iapply Hk
  sl_close

end Cert.KernelIdeal.Hand

end
-- ==== Proof.FrameI.lean ====
/- The frame run: what is in flight between grid points, the body's obligation, and the whole program's run. -/
module

public import proofs.«01_k».proof.Proof.BodyI
public import proofs.«01_k».proof.Defs
public import Idealize.ShloMosaic.Lib.Pipeline.Frame

@[expose] public section

set_option maxRecDepth 16384
set_option maxHeartbeats 2000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-- The kernel's own semaphores: one per slot and array. -/
abbrev osem0 : Fin 4 → SemLoc sig := fun j => (![.dma (cellD 0 0), .dma (cellD 0 1), .dma (cellD 1 0), .dma (cellD 1 1)] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (cellD 0 0)) 0 ∗ semVal ((c : Thread nD τ), .dma (cellD 0 1)) 0
          ∗ semVal ((c : Thread nD τ), .dma (cellD 1 0)) 0 ∗ semVal ((c : Thread nD τ), .dma (cellD 1 1)) 0) := by
  rw [Pipeline.ownSems0_eq_of_list c osem0 [0, 1, 2, 3] (by decide) (by decide)]; rfl

/-- The two arrays the transfers read. -/
def H0 : Finset (Ref sig .tc) := {main_arg2, main_arg3}
theorem H0_sub : H0 ⊆ Pipeline.restRefs sig spec0 := by decide

/-- The two arrays' contents at the region's entry. -/
abbrev VAm (c : Dev nD) : Arrs F c := fun a =>
  match a with
  | ⟨0, _⟩ => V m c main_arg2
  | ⟨1, _⟩ => V m c main_arg3

theorem hbmPts0_eq (c : Dev nD) :
    (bigSep H0 (fun b => ((c : Thread nD τ).loc b) ↦{fullShare} V m c b) : sProp 𝕄)
      = iprop(((arrR 0).view.loc (c : Thread nD τ) ↦{fullShare} VAm m c 0) ∗ ((arrR 1).view.loc (c : Thread nD τ) ↦{fullShare} VAm m c 1)) := by
  rw [BI.bigSep_eq_bigSepL_of_eq [main_arg2, main_arg3] (by decide) (by decide)]; rfl

/-- The three other scratch buffers, at anything, and the generator register. -/
def Scr (c : Dev nD) : sProp 𝕄 :=
  iprop((∃ f, (Memref.whole cc0_scratch1).view.loc (c : Thread nD τ) ↦{fullShare} f)
    ∗ (∃ f, (Memref.whole cc0_scratch2).view.loc (c : Thread nD τ) ↦{fullShare} f)
    ∗ (∃ f, (Memref.whole cc0_scratch3).view.loc (c : Thread nD τ) ↦{fullShare} f) ∗ (∃ r, prngReg c r))

theorem arr_shares (c : Dev nD) (a : Fin 2) (f : Buf (Elt F) ((arrR a).view.loc (c : Thread nD τ))) :
    ((arrR a).view.loc (c : Thread nD τ) ↦{fullShare} f : sProp 𝕄)
      ⊣⊢ iprop(((arrR a).view.loc (c : Thread nD τ) ↦{shr 0} f) ∗ ((arrR a).view.loc (c : Thread nD τ) ↦{shr 1} f)) :=
  pointsTo_share (PosShare.mem_left_op_right fullShare)

/-- Between grid points with nothing in flight: both slots free. -/
theorem phi_open (c : Dev nD) : (Pipeline.ΦD osem0 spec0 H0 (V m) c : sProp 𝕄) ⊢ iprop(Free c (VAm m c) 0 ∗ Free c (VAm m c) 1 ∗ Scr c) := by
  rw [Pipeline.ΦD_eq, scopedRest0_eq, ownSems00_eq, hbmPts0_eq]
  unfold Free Scr cells arrs
  iintro ⟨⟨⟨%f, Hf⟩, H1, H2, H3⟩, Hg, ⟨Hc00, Hc01, Hc10, Hc11⟩, ⟨Ha0, Ha1⟩⟩
  ihave Hf := (scratch_slots c f).1 $$ Hf
  icases Hf with ⟨Hf0, Hf1⟩
  ihave Ha0 := (arr_shares c 0 (VAm m c 0)).1 $$ Ha0
  icases Ha0 with ⟨Ha00, Ha01⟩
  ihave Ha1 := (arr_shares c 1 (VAm m c 1)).1 $$ Ha1
  icases Ha1 with ⟨Ha10, Ha11⟩
  isplitl [Hf0 Hc00 Hc01 Ha00 Ha10]
  · isplitl [Hf0]; · iexists f; iexact Hf0
    isplitl [Hc00 Hc01]
    · isplitl [Hc00]; · iexact Hc00
      iexact Hc01
    isplitl [Ha00]; · iexact Ha00
    iexact Ha10
  isplitl [Hf1 Hc10 Hc11 Ha01 Ha11]
  · isplitl [Hf1]; · iexists f; iexact Hf1
    isplitl [Hc10 Hc11]
    · isplitl [Hc10]; · iexact Hc10
      iexact Hc11
    isplitl [Ha01]; · iexact Ha01
    iexact Ha11
  isplitl [H1]; · iexact H1
  isplitl [H2]; · iexact H2
  isplitl [H3]; · iexact H3
  iexact Hg

theorem phi_close (c : Dev nD) : iprop(Free c (VAm m c) 0 ∗ Free c (VAm m c) 1 ∗ Scr c) ⊢ (Pipeline.ΦD osem0 spec0 H0 (V m) c : sProp 𝕄) := by
  rw [Pipeline.ΦD_eq, scopedRest0_eq, ownSems00_eq, hbmPts0_eq]
  unfold Free Scr cells arrs
  iintro ⟨⟨⟨%f, Hf0⟩, ⟨Hc00, Hc01⟩, Ha00, Ha10⟩, ⟨⟨%g, Hf1⟩, ⟨Hc10, Hc11⟩, Ha01, Ha11⟩, H1, H2, H3, Hg⟩
  isplitl [Hf0 Hf1 H1 H2 H3]
  · isplitl [Hf0 Hf1]
    · iapply (slots_join c f g)
      isplitl [Hf0]; · iexact Hf0
      iexact Hf1
    isplitl [H1]; · iexact H1
    isplitl [H2]; · iexact H2
    iexact H3
  isplitl [Hg]; · iexact Hg
  isplitl [Hc00 Hc01 Hc10 Hc11]
  · isplitl [Hc00]; · iexact Hc00
    isplitl [Hc01]; · iexact Hc01
    isplitl [Hc10]; · iexact Hc10
    iexact Hc11
  isplitl [Ha00 Ha01]
  · iapply (arr_shares c 0 (VAm m c 0)).2
    isplitl [Ha00]; · iexact Ha00
    iexact Ha01
  iapply (arr_shares c 1 (VAm m c 1)).2
  isplitl [Ha10]; · iexact Ha10
  iexact Ha11

/-- What holds between grid points: before point `n` strictly inside the grid, step `n` is in flight and the other slot free. -/
def PhiN (c : Dev nD) (n : ℕ) : sProp 𝕄 :=
  if h : 0 < n ∧ n < 44 then
    iprop(Flight c (VAm m c) ⟨n % 2, Nat.mod_lt _ (by decide)⟩ ⟨n, h.2⟩ ∗ Free c (VAm m c) ⟨1 - n % 2, by omega⟩ ∗ Scr c)
  else Pipeline.ΦD osem0 spec0 H0 (V m) c

theorem phi_in (c : Dev nD) (i : grid0.Coords) (n : ℕ) (hn : (i 0).val = n) : (PhiN m c n : sProp 𝕄) ⊢ iprop(Pre c (VAm m c) i ∗ Scr c) := by
  subst hn
  have h44 := point_lt i
  unfold PhiN Pre
  by_cases h0 : (i 0).val = 0
  · rw [dif_neg (by omega), if_pos h0]
    have hs : slotOf i = 0 := Fin.ext (show (i 0).val % 2 = 0 by omega)
    have hn : slotNx i = 1 := Fin.ext (show 1 - (i 0).val % 2 = 1 by omega)
    rw [hs, hn]
    refine (phi_open m c).trans ?_
    iintro ⟨H0, H1, H2⟩
    isplitr [H2]
    · isplitl [H0]; · iexact H0
      iexact H1
    iexact H2
  · rw [dif_pos ⟨by omega, h44⟩, if_neg h0]
    iintro ⟨H0, H1, H2⟩
    isplitr [H2]
    · isplitl [H0]; · iexact H0
      iexact H1
    iexact H2

theorem phi_out (c : Dev nD) (i : grid0.Coords) (n : ℕ) (hn : n = (i 0).val + 1) :
    iprop(Landed c (VAm m c) (slotOf i) (stepOf i) ∗ Next c (VAm m c) i ∗ Scr c) ⊢ (PhiN m c n : sProp 𝕄) := by
  subst hn
  have h44 := point_lt i
  have hlf := landed_free c (VAm m c) (slotOf i) (stepOf i)
  unfold PhiN Next
  by_cases h : (i 0).val + 1 < 44
  · rw [dif_pos h, dif_pos ⟨by omega, h⟩]
    have hs : (⟨((i 0).val + 1) % 2, Nat.mod_lt _ (by decide)⟩ : Fin 2) = slotNx i := Fin.ext (show ((i 0).val + 1) % 2 = 1 - (i 0).val % 2 by omega)
    have hn : (⟨1 - ((i 0).val + 1) % 2, by omega⟩ : Fin 2) = slotOf i := Fin.ext (show 1 - ((i 0).val + 1) % 2 = (i 0).val % 2 by omega)
    rw [hs, hn]
    iintro ⟨H0, H1, H2⟩
    isplitl [H1]; · iexact H1
    isplitl [H0]; · iapply hlf; iexact H0
    iexact H2
  · rw [dif_neg h, dif_neg (by omega)]
    have hs : slotOf i = 1 := Fin.ext (show (i 0).val % 2 = 1 by omega)
    have hn : slotNx i = 0 := Fin.ext (show 1 - (i 0).val % 2 = 0 by omega)
    rw [hs] at hlf ⊢
    rw [hn]
    refine BIBase.Entails.trans ?_ (phi_close m c)
    iintro ⟨H0, H1, H2⟩
    isplitl [H1]; · iexact H1
    isplitl [H0]; · iapply hlf; iexact H0
    iexact H2

/-- The contents a window's block may be left at, for the output. -/
abbrev Outs (F : FTy → Type) := (c : Dev nD) → (t : Fin cfg0.N) → ((cfg0.win 2).xblock (cfg0.grid.coords t)).Idx → Elt F (cfg0.win 2).elt

/-- The proof data at output contents `O`. -/
def dats (O : Outs F) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => O c t
  Φ t := PhiN m c t.val
  q _ := fullShare
  owed _ := 0

theorem A_eq (O : Outs F) (c : Dev nD) (w : Fin cfg0.W) : (dats m O 0 c).A w = V m c (Pipeline.arrRef spec0 w) := by
  dsimp only [dats]
theorem after0_0 (O : Outs F) (c : Dev nD) (t : Fin cfg0.N) : (dats m O 0 c).after 0 t = iblk m c 0 t := by dsimp only [dats]
theorem after0_1 (O : Outs F) (c : Dev nD) (t : Fin cfg0.N) : (dats m O 0 c).after 1 t = iblk m c 1 t := by dsimp only [dats]
theorem before0_0 (O : Outs F) (c : Dev nD) (t : Fin cfg0.N) (d) : (dats m O 0 c).before 0 t d = iblk m c 0 t :=
  (dats m O 0 c).before_in_eq_fetched 0 rfl (fun _ => rfl) (fun _ _ _ => rfl) (fun t => by rw [after0_0]; unfold Dat.blockOf iblk; rw [A_eq]; try rfl) t d
    |>.trans (by unfold Dat.fetched Dat.blockOf iblk; rw [A_eq]; try rfl)
theorem before0_1 (O : Outs F) (c : Dev nD) (t : Fin cfg0.N) (d) : (dats m O 0 c).before 1 t d = iblk m c 1 t :=
  (dats m O 0 c).before_in_eq_fetched 1 rfl (fun _ => rfl) (fun _ _ _ => rfl) (fun t => by rw [after0_1]; unfold Dat.blockOf iblk; rw [A_eq]; try rfl) t d
    |>.trans (by unfold Dat.fetched Dat.blockOf iblk; rw [A_eq]; try rfl)

theorem coords_val (t : Fin cfg0.N) : ((grid0.coords t) 0).val = t.val := by
  have h : ∀ t : Fin grid0.N, ((grid0.coords t) 0).val = t.val := by decide +kernel
  exact h t

theorem defs₀_row (t : Fin cfg0.N) :
    defs₀ (F := F) .tc cfg0.body (cfg0.bodyArgs t (cfg0.slots t)) = bodyAt0 t := by
  unfold defs₀; rw [Defs.onTc_tc]

theorem howed_rec (O : Outs F) (c : Dev nD) (t : Fin (cfg0.N + 1)) : ((dats m O 0 c).owesAt () t : sProp 𝕄) ⊢ owesAny c := by
  unfold Dat.owesAt Pipeline.owesWithin
  rw [show (dats m O 0 c).owed t = 0 from rfl]
  iintro ⟨%W, -, HW⟩
  iexists W; iexact HW

theorem howed_back (O : Outs F) (c : Dev nD) (t : Fin (cfg0.N + 1)) : owesAny c ⊢ ((dats m O 0 c).owesAt () t : sProp 𝕄) := by
  unfold Dat.owesAt Pipeline.owesWithin
  rw [show (dats m O 0 c).owed t = 0 from rfl]
  iintro ⟨%W, HW⟩
  iexists W; isplitr; · ipureintro; exact fun _ _ => Or.inl trivial
  iexact HW

theorem landed_slot (c : Dev nD) (VA : Arrs F c) (i : grid0.Coords) :
    Landed c VA (slotOf i) (stepOf i) = (iprop(((slotM (Memref.whole cc0_scratch0) i).view.loc (c : Thread nD τ)
        ↦[(slotM (Memref.whole cc0_scratch0) i).view.set]{fullShare} stepBuf c VA (stepOf i)) ∗ cells c (slotOf i) ∗ arrs c VA (slotOf i)) : sProp 𝕄) := by
  unfold Landed
  rw [slotSet_eq c i (slotOf i) rfl]

theorem pt_whole (c : Dev nD) (b : Ref sig .tc) (f : Buf (Elt F) ((Memref.whole b).view.loc (c : Thread nD τ))) :
    ((Memref.whole b).view.loc (c : Thread nD τ) ↦[(Memref.whole b).view.set]{fullShare} f : sProp 𝕄)
      = ((Memref.whole b).view.loc (c : Thread nD τ) ↦{fullShare} f) := by
  rw [show (Memref.whole b).view.set = Finset.univ from View.set_whole b]

/-- The output window's contents are not stated in this run. -/
def fgt : Fin cfg0.W → Bool := fun w => w.val == 2

/-- Output contents no statement reads. -/
abbrev O0 : Outs F := fun c t => iblk m c 2 t

theorem body_sound (c : Dev nD) (t : Fin cfg0.N) :
    iprop(PhiN m c t.val ∗ owesAny c ∗ owns (c : Thread nD τ) (st0_0 t) fullShare (iblk m c 0 t) ∗ owns (c : Thread nD τ) (st0_1 t) fullShare (iblk m c 1 t)
        ∗ (∃ X, owns (c : Thread nD τ) (st0_2 t) fullShare X))
      ⊢ wp frame (wpE (defs₀ (F := F)) Variants.none (c : Thread nD τ) none) Set.univ (bodyAt0 t) fun _ =>
        iprop(PhiN m c (t.val + 1) ∗ owesAny c ∗ owns (c : Thread nD τ) (st0_0 t) fullShare (iblk m c 0 t) ∗ owns (c : Thread nD τ) (st0_1 t) fullShare (iblk m c 1 t)
          ∗ (∃ X, owns (c : Thread nD τ) (st0_2 t) fullShare X)) := by
  have hin := phi_in m c (grid0.coords t) t.val (coords_val t)
  have hout := phi_out m c (grid0.coords t) (t.val + 1) (by rw [coords_val])
  rw [landed_slot] at hout
  unfold Scr at hin hout
  unfold owns
  iintro ⟨HP, HO, ⟨%f0, %h0, H0⟩, ⟨%f1, %h1, H1⟩, ⟨%X, %f2, -, H2⟩⟩
  ihave HP := hin $$ HP
  icases HP with ⟨HP, ⟨%e1, HS1⟩, ⟨%e2, HS2⟩, ⟨%e3, HS3⟩, Hg⟩
  iapply (body_run c (VAm m c) (grid0.coords t) _ _ _ _ _ _ _ _ _ _ _ _ _ _ _)
  isplitl [HP]; · iexact HP
  isplitl [HO]; · iexact HO
  iintro %v3 ⟨HL, HN, HO⟩
  ihave HL := (Entails.of_eq (landed_slot c (VAm m c) (grid0.coords t))) $$ HL
  icases HL with ⟨HL, HLr⟩
  iapply (work_run c (grid0.coords t) _ _ _ _ _ _ _ _ _ _ _ _ _ _ _ v3 f0 f1 (stepBuf c (VAm m c) (stepOf (grid0.coords t))))
  isplitl [HL H0 H1 H2 HS1 HS2 HS3]
  · isplitl [HL]; · iexact HL
    isplitl [H0]; · iexact H0
    isplitl [H1]; · iexact H1
    isplitl [H2]; · iexists f2; iexact H2
    isplitl [HS1]; · iexists e1; iapply (Entails.of_eq (pt_whole c cc0_scratch1 e1).symm); iexact HS1
    isplitl [HS2]; · iexists e2; iapply (Entails.of_eq (pt_whole c cc0_scratch2 e2).symm); iexact HS2
    iexists e3; iapply (Entails.of_eq (pt_whole c cc0_scratch3 e3).symm); iexact HS3
  iintro ⟨HL, H0, H1, ⟨%g2, H2⟩, ⟨%e1, HS1⟩, ⟨%e2, HS2⟩, ⟨%e3, HS3⟩⟩
  isplitl [HL HLr HN HS1 HS2 HS3 Hg]
  · iapply hout
    isplitl [HL HLr]
    · isplitl [HL]; · iexact HL
      iexact HLr
    isplitl [HN]; · iexact HN
    isplitl [HS1]; · iexists e1; iapply (Entails.of_eq (pt_whole c cc0_scratch1 e1)); iexact HS1
    isplitl [HS2]; · iexists e2; iapply (Entails.of_eq (pt_whole c cc0_scratch2 e2)); iexact HS2
    isplitl [HS3]; · iexists e3; iapply (Entails.of_eq (pt_whole c cc0_scratch3 e3)); iexact HS3
    iexact Hg
  isplitl [HO]; · iexact HO
  isplitl [H0]
  · iexists f0; isplitr; · ipureintro; exact h0
    iexact H0
  isplitl [H1]
  · iexists f1; isplitr; · ipureintro; exact h1
    iexact H1
  iexists _, g2; isplitr; · ipureintro; rfl
  iexact H2

theorem sound_body (c : Dev nD) (t : Fin cfg0.N) :
    iprop((dats m (O0 m) 0 c).Φ t.castSucc ∗ (dats m (O0 m) 0 c).owesAt () t.castSucc
        ∗ (∃ d, owns (c : Thread nD τ) (st0_0 t) fullShare ((dats m (O0 m) 0 c).before 0 t d))
        ∗ (∃ d, owns (c : Thread nD τ) (st0_1 t) fullShare ((dats m (O0 m) 0 c).before 1 t d))
        ∗ (∃ X, owns (c : Thread nD τ) (st0_2 t) fullShare X))
      ⊢ wp frame (wpE (defs₀ (F := F)) Variants.none (c : Thread nD τ) none) Set.univ (bodyAt0 t) fun _ =>
        iprop((dats m (O0 m) 0 c).Φ t.succ ∗ (dats m (O0 m) 0 c).owesAt () t.succ
          ∗ owns (c : Thread nD τ) (st0_0 t) fullShare ((dats m (O0 m) 0 c).after 0 t)
          ∗ owns (c : Thread nD τ) (st0_1 t) fullShare ((dats m (O0 m) 0 c).after 1 t)
          ∗ (∃ X, owns (c : Thread nD τ) (st0_2 t) fullShare X)) := by
  have hr := howed_rec m (O0 m) c t.castSucc
  have hb := howed_back m (O0 m) c t.succ
  simp only [before0_0, before0_1, after0_0, after0_1]
  rw [show (dats m (O0 m) 0 c).Φ t.castSucc = PhiN m c t.val from rfl, show (dats m (O0 m) 0 c).Φ t.succ = PhiN m c (t.val + 1) from rfl]
  iintro ⟨HP, HO, ⟨%d0, H0⟩, ⟨%d1, H1⟩, H2⟩
  iapply wp_wand $$ [HP HO H0 H1 H2]
  · iapply (body_sound m c t)
    isplitl [HP]; · iexact HP
    isplitl [HO]; · iapply hr; iexact HO
    isplitl [H0]; · iexact H0
    isplitl [H1]; · iexact H1
    iexact H2
  iintro %_ ⟨HP, HO, H0, H1, H2⟩
  isplitl [HP]; · iexact HP
  isplitl [HO]; · iapply hb; iexact HO
  isplitl [H0]; · iexact H0
  isplitl [H1]; · iexact H1
  iexact H2

theorem body_obligation (c : Dev nD) : BodyObligation (dats (F := F) m (O0 m) 0 c) (defs₀ (F := F)) Variants.none () Set.univ fgt := fun t => by
  rw [bigSep_W0, bigSep_W0, defs₀_row]
  exact triple_restated (sound_body m c t) rfl .rfl fun _ => .rfl

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program runs, its arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_dma_forget (Q' := _) cfgs (dats m (O0 m)) (0 : Fin 1) launch0 osem0 defs₀ Variants.none fgt ownSemFacts0 H0 H0_sub m ρ main
    (hbody := fun c => (body_obligation m c).loose) (hshare := fun c => (dats m (O0 m) 0 c).share_full fun _ => rfl)
    (howed := fun _ _ => rfl) (V := V m) (hmain := hmainD m) (hA := A_eq m (O0 m))
    (hin := fun _ => .rfl) (hout := fun _ => .rfl)
    (hQ' := fun r h => ⟨fun c => ⟨((h.1 c).2 main_arg0 (Pipeline.mem_restRefs_of main_arg0 (by decide) (by decide))).trans (V_main_arg0 m c),
      (h.1.arr_in c 1 rfl).trans ((A_eq m (O0 m) c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.KernelIdeal.Hand

end
-- ==== Proof.DmaK.lean ====
/- The scale and minimum streams of the kernel: what one transfer moves, the batch of eight transfers on one
   semaphore cell, and the lemmas that step one issue and one wait. -/
module

public import proofs.«01_k».proof.Proof.Gen.Kernel.Frame
public import Idealize.ShloMosaic.Lib.Batch
public import Idealize.ShloMosaic.Lib.Pipeline.ValueKit

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-! ## Slots, cells and pieces -/

theorem cell_inb (s a : Fin 2) : ∀ x, (![s.val, a.val] : Fin 2 → ℕ) x + S1x1.size x ≤ S2x2.size x := by
  decide +revert

theorem piece_inb (s a : Fin 2) (t : Fin 8) :
    ∀ x, (![s.val, a.val, t.val, 0, 0] : Fin 5 → ℕ) x + S1x1x1x512x128.size x ≤ S2x2x8x512x128.size x := by
  decide +revert

theorem src_inb (j : Fin 44) (t : Fin 8) :
    ∀ x, (![0, 1024 * j.val + 128 * t.val] : Fin 2 → ℕ) x + S512x128.size x ≤ S512x45056.size x := by
  intro x
  match x with
  | ⟨0, _⟩ => show 0 + 512 ≤ 512; omega
  | ⟨1, _⟩ => show 1024 * j.val + 128 * t.val + 128 ≤ 45056; omega

/-- The semaphore of array `a` (0 scales, 1 minima) into slot `s`. -/
abbrev cellD (s a : Fin 2) : DmaSem sig :=
  ((cc0_scratch4.slice (Rect.unit (s := S2x2) ![s.val, a.val] S1x1.size (cell_inb s a))).squeeze S_ squeezes_S1x1_S_).sem

/-- The piece of the staging scratch one transfer fills: 512 rows of 128 columns. -/
abbrev pieceM (s a : Fin 2) (t : Fin 8) : Memref sig .tc .vmem S512x128 .bf16 :=
  ((Memref.whole cc0_scratch0).slice (Rect.unit (s := S2x2x8x512x128) ![s.val, a.val, t.val, 0, 0] S1x1x1x512x128.size (piece_inb s a t))
    (fun _ => rfl)).squeeze S512x128 squeezes_S1x1x1x512x128_S512x128

/-- The columns of step `j`'s transfer `t` in the array in HBM. -/
abbrev srcM (A : Memref sig .tc .hbm S512x45056 .bf16) (j : Fin 44) (t : Fin 8) : Memref sig .tc .hbm S512x128 .bf16 :=
  A.slice (Rect.unit (s := S512x45056) ![0, 1024 * j.val + 128 * t.val] S512x128.size (src_inb j t)) (fun _ => rfl)

/-- The array a stream reads: the scales, then the minima. -/
abbrev arrR (a : Fin 2) : Memref sig .tc .hbm S512x45056 .bf16 :=
  match a with
  | ⟨0, _⟩ => Memref.whole main_arg2
  | ⟨1, _⟩ => Memref.whole main_arg3

/-- What step `j` leaves in the staging scratch, at every index: the column of the array that lands there. -/
def stepBuf (c : Dev nD) (VA : (a : Fin 2) → Buf (Elt F) ((arrR a).view.loc (c : Thread nD τ))) (j : Fin 44) :
    Buf (Elt F) ((Memref.whole cc0_scratch0).view.loc (c : Thread nD τ)) :=
  fun (y : S2x2x8x512x128.Idx) =>
    (arrR (y 1)).view.read (Elt F) (VA (y 1))
      (fun x => match x with
        | ⟨0, _⟩ => (⟨(y 3).val, (y 3).isLt⟩ : Fin 512)
        | ⟨1, _⟩ => (⟨1024 * j.val + 128 * (y 2).val + (y 4).val, by
            have h2 : (y 2).val < 8 := (y 2).isLt
            have h4 : (y 4).val < 128 := (y 4).isLt
            omega⟩ : Fin 45056))

/-- What one transfer delivers: its piece at the step's contents, and its columns of the source back. -/
def deliv (c : Dev nD) (VA : (a : Fin 2) → Buf (Elt F) ((arrR a).view.loc (c : Thread nD τ))) (q : PosShare TreeShare)
    (s a : Fin 2) (j : Fin 44) (t : Fin 8) : sProp 𝕄 :=
  iprop(((pieceM s a t).view.loc (c : Thread nD τ) ↦[(pieceM s a t).view.set]{fullShare} stepBuf c VA j)
    ∗ ((srcM (arrR a) j t).view.loc (c : Thread nD τ) ↦[(srcM (arrR a) j t).view.set]{q} VA a))

instance deliv_storable (c : Dev nD) (VA : (a : Fin 2) → Buf (Elt F) ((arrR a).view.loc (c : Thread nD τ))) (q : PosShare TreeShare)
    (s a : Fin 2) (j : Fin 44) (t : Fin 8) : Storable (upEmb : UEmb _ 𝕄) (deliv c VA q s a j t) := by
  unfold deliv; infer_instance

/-- The bytes one transfer credits. -/
abbrev pieceN : ℕ := (pieceM 0 0 0).view.dmaCredit

/-- The batch of step `j` on the cell of array `a`, slot `s`: `k` transfers issued, `u` bytes waited for. -/
def batch (c : Dev nD) (VA : (a : Fin 2) → Buf (Elt F) ((arrR a).view.loc (c : Thread nD τ))) (q : PosShare TreeShare)
    (s a : Fin 2) (j : Fin 44) (k u : ℕ) : sProp 𝕄 :=
  Transfers.Batch (Lvl := ℕ) (countersEmb (U := Pipeline.UD sig nD τ)) (c : Thread nD τ) (.dma (cellD s a)) () pieceN
    (deliv c VA q s a j) k u

/-- Where an index of a piece lies in the staging scratch. -/
theorem piece_emb (s a : Fin 2) (t : Fin 8) (x : S512x128.Idx) :
    (pieceM s a t).view.emb x = (ix5 s a t (x 0) (x 1) : S2x2x8x512x128.Idx) := by
  have hr : Shape.reshapeEquiv squeezes_S1x1x1x512x128_S512x128.numel_eq x
      = (ix5 (0 : Fin 1) (0 : Fin 1) (0 : Fin 1) (x 0) (x 1) : S1x1x1x512x128.Idx) :=
    Shape.reshapeEquiv_eq_of_rowMajor _ (by
      rw [Shape.rowMajor_val_five, Shape.rowMajor_val_two]
      show ((((0 * 1 + 0) * 1 + 0) * 512 + (x 0).val) * 128 + (x 1).val) = (x 0).val * 128 + (x 1).val
      omega)
  show (Rect.unit (s := S2x2x8x512x128) ![s.val, a.val, t.val, 0, 0] S1x1x1x512x128.size (piece_inb s a t)).emb
    (Shape.reshapeEquiv squeezes_S1x1x1x512x128_S512x128.numel_eq x) = _
  rw [hr]
  funext ax
  apply Fin.ext
  rw [ValueKit.rect_emb_unit_val]
  match ax with
  | ⟨0, _⟩ => show s.val + 0 = s.val; omega
  | ⟨1, _⟩ => show a.val + 0 = a.val; omega
  | ⟨2, _⟩ => show t.val + 0 = t.val; omega
  | ⟨3, _⟩ => show 0 + (x 0).val = (x 0).val; omega
  | ⟨4, _⟩ => show 0 + (x 1).val = (x 1).val; omega

/-- The step's contents at an element of a piece are the source's there. -/
theorem stepBuf_piece (c : Dev nD) (VA : (a : Fin 2) → Buf (Elt F) ((arrR a).view.loc (c : Thread nD τ)))
    (s a : Fin 2) (j : Fin 44) (t : Fin 8) (x : S512x128.Idx) :
    stepBuf c VA j ((pieceM s a t).view.emb x) = (srcM (arrR a) j t).view.read (Elt F) (VA a) x := by
  rw [piece_emb]
  show (arrR a).view.read (Elt F) (VA a) _ = (arrR a).view.read (Elt F) (VA a)
    ((Rect.unit (s := S512x45056) ![0, 1024 * j.val + 128 * t.val] S512x128.size (src_inb j t)).emb x)
  congr 1
  funext ax
  apply Fin.ext
  rw [ValueKit.rect_emb_unit_val]
  match ax with
  | ⟨0, _⟩ => show (x 0).val = 0 + (x 0).val; omega
  | ⟨1, _⟩ => rfl

/-- A landed transfer is a delivery, whatever the piece held before. -/
theorem landed (c : Dev nD) (VA : (a : Fin 2) → Buf (Elt F) ((arrR a).view.loc (c : Thread nD τ))) (q : PosShare TreeShare)
    (s a : Fin 2) (j : Fin 44) (t : Fin 8) (fd : Buf (Elt F) ((pieceM s a t).view.loc (c : Thread nD τ))) :
    iprop(((pieceM s a t).view.loc (c : Thread nD τ) ↦[(pieceM s a t).view.set]{fullShare}
        ((pieceM s a t).view.write (Elt F) fd ((srcM (arrR a) j t).view.read (Elt F) (VA a)) Finset.univ))
      ∗ ((srcM (arrR a) j t).view.loc (c : Thread nD τ) ↦[(srcM (arrR a) j t).view.set]{q} VA a))
    ⊢ (deliv c VA q s a j t : sProp 𝕄) := by
  unfold deliv
  refine sep_mono_left (Entails.of_eq (pointsTo_congr fun i hi => ?_))
  obtain ⟨x, -, rfl⟩ := Finset.mem_map.mp hi
  rw [View.write_emb_of_mem _ _ (Finset.mem_univ x), stepBuf_piece]
  rfl

variable {𝒱 : Variants} {bd : Option 𝒱.V} {α : Type}

/-- One issue: the piece (held at anything) and its source columns are lent, the batch has one more transfer. -/
theorem wp_issue (c : Dev nD) (VA : (a : Fin 2) → Buf (Elt F) ((arrR a).view.loc (c : Thread nD τ))) (q : PosShare TreeShare)
    (s a : Fin 2) (j : Fin 44) (t : Fin 8) (fd : Buf (Elt F) ((Memref.whole cc0_scratch0).view.loc (c : Thread nD τ)))
    {A : Memref sig .tc .hbm S512x45056 .bf16} (hA : A = arrR a)
    {oc : Fin 2 → ℕ} {hc : ∀ x, oc x + S1x1.size x ≤ S2x2.size x} (hoc : oc = ![s.val, a.val])
    {od : Fin 5 → ℕ} {hd : ∀ x, od x + S1x1x1x512x128.size x ≤ S2x2x8x512x128.size x} (hod : od = ![s.val, a.val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    iprop(((srcM (arrR a) j t).view.loc (c : Thread nD τ) ↦[(srcM (arrR a) j t).view.set]{q} VA a)
      ∗ ((pieceM s a t).view.loc (c : Thread nD τ) ↦[(pieceM s a t).view.set]{fullShare} fd)
      ∗ batch c VA q s a j t.val 0)
    ⊢ iprop((batch c VA q s a j (t.val + 1) 0 -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  subst hA hoc hod hos
  exact Transfers.wp_dmaBatch (Lvl := ℕ) (countersEmb (U := Pipeline.UD sig nD τ)) _ (c : Thread nD τ) bd () pieceN rfl
    (Finset.Subset.refl _) t.isLt (Nat.zero_le _) (landed c VA q s a j t fd)

/-! ## A stream half issued, half waited for -/

/-- Stream `a` of step `j` with `k` transfers issued: the batch, and the pieces and source columns still at home. -/
def issuing (c : Dev nD) (VA : (a : Fin 2) → Buf (Elt F) ((arrR a).view.loc (c : Thread nD τ))) (q : PosShare TreeShare)
    (fd : Buf (Elt F) ((Memref.whole cc0_scratch0).view.loc (c : Thread nD τ))) (s a : Fin 2) (j : Fin 44) (k : ℕ) : sProp 𝕄 :=
  iprop(batch c VA q s a j k 0 ∗ bigSep (Transfers.pending (n := 8) k) (fun t =>
    iprop(((srcM (arrR a) j t).view.loc (c : Thread nD τ) ↦[(srcM (arrR a) j t).view.set]{q} VA a)
      ∗ ((pieceM s a t).view.loc (c : Thread nD τ) ↦[(pieceM s a t).view.set]{fullShare} fd))))

theorem pending_split (Φ : Fin 8 → sProp 𝕄) (t : Fin 8) :
    bigSep (Transfers.pending (n := 8) t.val) Φ = iprop(Φ t ∗ bigSep (Transfers.pending (n := 8) (t.val + 1)) Φ) := by
  rw [Transfers.pending_succ t.isLt, bigSep_insert (Transfers.not_mem_pending_succ t.isLt)]; rfl

/-- One issue, on the bundle. -/
theorem wp_issuing (c : Dev nD) (VA : (a : Fin 2) → Buf (Elt F) ((arrR a).view.loc (c : Thread nD τ))) (q : PosShare TreeShare)
    (fd : Buf (Elt F) ((Memref.whole cc0_scratch0).view.loc (c : Thread nD τ)))
    (s a : Fin 2) (j : Fin 44) (t : Fin 8)
    {A : Memref sig .tc .hbm S512x45056 .bf16} (hA : A = arrR a)
    {oc : Fin 2 → ℕ} {hc : ∀ x, oc x + S1x1.size x ≤ S2x2.size x} (hoc : oc = ![s.val, a.val])
    {od : Fin 5 → ℕ} {hd : ∀ x, od x + S1x1x1x512x128.size x ≤ S2x2x8x512x128.size x} (hod : od = ![s.val, a.val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    (issuing c VA q fd s a j t.val : sProp 𝕄)
    ⊢ iprop((issuing c VA q fd s a j (t.val + 1) -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  unfold issuing
  rw [pending_split _ t]
  iintro ⟨HB, ⟨Hs, Hd⟩, Hrest⟩ Hk
  iapply (wp_issue c VA q s a j t fd hA hoc hod hos) $$ [Hs Hd HB]
  · isplitl [Hs]; · iexact Hs
    isplitl [Hd]; · iexact Hd
    iexact HB
  iintro HB
  iapply Hk
  isplitl [HB]; · iexact HB
  iexact Hrest

/-- The core owes nothing, whatever it has waited for. -/
abbrev owesAny (c : Dev nD) : sProp 𝕄 := iprop(∃ W, owes (c : Thread nD τ) 0 W)

theorem pieceN_pos : 0 < pieceN := by decide

/-- One wait but the last: nothing comes back yet. -/
theorem wp_waiting (c : Dev nD) (VA : (a : Fin 2) → Buf (Elt F) ((arrR a).view.loc (c : Thread nD τ))) (q : PosShare TreeShare)
    (s a : Fin 2) (j : Fin 44) (n : ℕ) (hn : n < 7)
    {oc : Fin 2 → ℕ} {hc : ∀ x, oc x + S1x1.size x ≤ S2x2.size x} (hoc : oc = ![s.val, a.val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (iprop(batch c VA q s a j 8 (n * pieceN) ∗ owesAny c) : sProp 𝕄)
    ⊢ iprop((iprop(batch c VA q s a j 8 ((n + 1) * pieceN) ∗ owesAny c) -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hoc
  have hu : n * pieceN + pieceN < pieceN * 8 := by
    have h := Nat.mul_le_mul_right pieceN (show n + 2 ≤ 8 by omega)
    have hp := pieceN_pos
    rw [Nat.add_mul] at h; omega
  iintro ⟨HB, ⟨%W, HO⟩⟩ Hk
  unfold batch
  have hw := Transfers.wp_waitBatch (Lvl := ℕ) (defs := (defs₀ : Defs nD τ sig (Elt F) Λ₀)) (countersEmb (U := Pipeline.UD sig nD τ)) 𝒱 (c : Thread nD τ) bd
    (Q := Q) (k := k) (sem := cellD s a) (srcw := srcw) (hsrc := hsrc) (hdst := hdst) (D := deliv c VA q s a j) (W := W)
    (dstw := (((Memref.whole cc0_scratch0).slice (Rect.unit (s := S2x2x8x512x128) od S1x1x1x512x128.size hd) (fun _ => rfl)).squeeze S512x128 squeezes_S1x1x1x512x128_S512x128)) () (N := pieceN) rfl hu
  iapply hw $$ [HB HO]
  · isplitl [HB]; · iexact HB
    iexact HO
  iintro ⟨HB, HO⟩
  iapply Hk
  isplitl [HB]
  · rw [Nat.add_mul, Nat.one_mul]; iexact HB
  iexists _; iexact HO

/-- The last wait: every piece has landed, the semaphore is back at zero. -/
theorem wp_waitingLast (c : Dev nD) (VA : (a : Fin 2) → Buf (Elt F) ((arrR a).view.loc (c : Thread nD τ))) (q : PosShare TreeShare)
    (s a : Fin 2) (j : Fin 44)
    {oc : Fin 2 → ℕ} {hc : ∀ x, oc x + S1x1.size x ≤ S2x2.size x} (hoc : oc = ![s.val, a.val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (iprop(batch c VA q s a j 8 (7 * pieceN) ∗ owesAny c) : sProp 𝕄)
    ⊢ iprop((iprop(bigSep Finset.univ (deliv c VA q s a j) ∗ semVal ((c : Thread nD τ), .dma (cellD s a)) 0 ∗ owesAny c)
          -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hoc
  iintro ⟨HB, ⟨%W, HO⟩⟩ Hk
  unfold batch
  have hw := Transfers.wp_waitBatchLast (Lvl := ℕ) (defs := (defs₀ : Defs nD τ sig (Elt F) Λ₀)) (countersEmb (U := Pipeline.UD sig nD τ)) 𝒱 (c : Thread nD τ) bd
    (Q := Q) (k := k) (sem := cellD s a) (srcw := srcw) (hsrc := hsrc) (hdst := hdst) (D := deliv c VA q s a j) (W := W)
    (dstw := (((Memref.whole cc0_scratch0).slice (Rect.unit (s := S2x2x8x512x128) od S1x1x1x512x128.size hd) (fun _ => rfl)).squeeze S512x128 squeezes_S1x1x1x512x128_S512x128)) () (N := pieceN) rfl pieceN_pos
    (show 7 * pieceN + pieceN = pieceN * 8 by omega)
  iapply hw $$ [HB HO]
  · isplitl [HB]; · iexact HB
    iexact HO
  iintro ⟨HD, Hs, HO⟩
  iapply Hk
  isplitl [HD]; · iexact HD
  isplitl [Hs]; · iexact Hs
  iexists _; iexact HO

/-! ## A slot's pieces, an array's columns -/

/-- The elements of a slot of the staging scratch. -/
def slotSet (s : Fin 2) (c : Dev nD) : Finset (Idx ((Memref.whole cc0_scratch0).view.loc (c : Thread nD τ))) :=
  Finset.univ.filter fun y => ((y : S2x2x8x512x128.Idx) 0).val = s.val

theorem mem_slot (s : Fin 2) (c : Dev nD) (y : S2x2x8x512x128.Idx) : y ∈ slotSet s c ↔ y 0 = s :=
  ((Finset.mem_filter (p := fun y => ((y : S2x2x8x512x128.Idx) 0).val = s.val)).trans (and_iff_right (Finset.mem_univ _))).trans
    ⟨fun h => Fin.ext h, fun h => congrArg Fin.val h⟩

theorem mem_piece (s a : Fin 2) (t : Fin 8) (y : S2x2x8x512x128.Idx) :
    y ∈ (pieceM s a t).view.set ↔ y 0 = s ∧ y 1 = a ∧ y 2 = t := by
  have h3 : (y 3).val < 512 := (y 3).isLt
  have h4 : (y 4).val < 128 := (y 4).isLt
  rw [View.set_reshape]
  refine (ValueKit.mem_set_slice_whole_iff cc0_scratch0 _ y Rect.mem_set_unit).trans ?_
  constructor
  · intro h
    have h0 := h 0; have h1 := h 1; have h2 := h 2
    refine ⟨Fin.ext ?_, Fin.ext ?_, Fin.ext ?_⟩
    · have : s.val ≤ (y 0).val ∧ (y 0).val < s.val + 1 := h0
      omega
    · have : a.val ≤ (y 1).val ∧ (y 1).val < a.val + 1 := h1
      omega
    · have : t.val ≤ (y 2).val ∧ (y 2).val < t.val + 1 := h2
      omega
  · rintro ⟨rfl, rfl, rfl⟩ x
    match x with
    | ⟨0, _⟩ => show (y 0).val ≤ (y 0).val ∧ (y 0).val < (y 0).val + 1; omega
    | ⟨1, _⟩ => show (y 1).val ≤ (y 1).val ∧ (y 1).val < (y 1).val + 1; omega
    | ⟨2, _⟩ => show (y 2).val ≤ (y 2).val ∧ (y 2).val < (y 2).val + 1; omega
    | ⟨3, _⟩ => show 0 ≤ (y 3).val ∧ (y 3).val < 0 + 512; omega
    | ⟨4, _⟩ => show 0 ≤ (y 4).val ∧ (y 4).val < 0 + 128; omega

/-- A slot is its sixteen pieces. -/
theorem slot_pieces (c : Dev nD) (s : Fin 2) (f : Buf (Elt F) ((Memref.whole cc0_scratch0).view.loc (c : Thread nD τ))) :
    ((Memref.whole cc0_scratch0).view.loc (c : Thread nD τ) ↦[slotSet s c]{fullShare} f : sProp 𝕄)
    = iprop(bigSep Finset.univ (fun t : Fin 8 => (pieceM s 0 t).view.loc (c : Thread nD τ) ↦[(pieceM s 0 t).view.set]{fullShare} f)
        ∗ bigSep Finset.univ (fun t : Fin 8 => (pieceM s 1 t).view.loc (c : Thread nD τ) ↦[(pieceM s 1 t).view.set]{fullShare} f)) := by
  have hd : ∀ a : Fin 2, ∀ t ∈ (Finset.univ : Finset (Fin 8)), ∀ t' ∈ (Finset.univ : Finset (Fin 8)), t ≠ t' →
      Disjoint (pieceM s a t).view.set (pieceM s a t').view.set := fun a t _ t' _ h =>
    Finset.disjoint_left.mpr fun y hy hy' => h (((mem_piece s a t y).mp hy).2.2.symm.trans ((mem_piece s a t' y).mp hy').2.2)
  let U (a : Fin 2) : Finset (Idx ((Memref.whole cc0_scratch0).view.loc (c : Thread nD τ))) :=
    Finset.univ.biUnion fun t : Fin 8 => (pieceM s a t).view.set
  have hmU : ∀ (a : Fin 2) (y : S2x2x8x512x128.Idx), y ∈ U a ↔ y 0 = s ∧ y 1 = a := fun a y =>
    Finset.mem_biUnion.trans ⟨fun ⟨t, _, h⟩ => ⟨((mem_piece s a t y).mp h).1, ((mem_piece s a t y).mp h).2.1⟩,
      fun h => ⟨(y 2 : Fin 8), Finset.mem_univ _, (mem_piece s a (y 2) y).mpr ⟨h.1, h.2, rfl⟩⟩⟩
  have hu : slotSet s c = U 0 ∪ U 1 := by
    refine Finset.ext fun (y : S2x2x8x512x128.Idx) => (mem_slot s c y).trans (Iff.trans ?_ Finset.mem_union.symm)
    show _ ↔ y ∈ U 0 ∨ y ∈ U 1
    rw [hmU 0 y, hmU 1 y]
    constructor
    · intro h
      have h1 : y 1 = (0 : Fin 2) ∨ y 1 = (1 : Fin 2) := by
        have : (y 1).val < 2 := (y 1).isLt
        rcases (show (y 1).val = 0 ∨ (y 1).val = 1 by omega) with h | h
        · exact .inl (Fin.ext (show (y 1).val = 0 from h))
        · exact .inr (Fin.ext (show (y 1).val = 1 from h))
      rcases h1 with h1 | h1
      · exact .inl ⟨h, h1⟩
      · exact .inr ⟨h, h1⟩
    · rintro (h | h)
      · exact h.1
      · exact h.1
  have hdu : Disjoint (U 0) (U 1) := by
    refine Finset.disjoint_left.mpr fun (y : S2x2x8x512x128.Idx) hy hy' => ?_
    exact absurd (((hmU 0 y).mp hy).2.symm.trans ((hmU 1 y).mp hy').2) (show (0 : Fin 2) ≠ 1 by decide)
  have h0 := pointsTo_biUnion (Ix := Unit) (Name := ℕ) (U := Pipeline.UD sig nD τ) (Lvl := ℕ) (q := fullShare) (f := f)
    (ℓ := (Memref.whole cc0_scratch0).view.loc (c : Thread nD τ)) Finset.univ (fun t : Fin 8 => (pieceM s 0 t).view.set) (hd 0)
  have h1 := pointsTo_biUnion (Ix := Unit) (Name := ℕ) (U := Pipeline.UD sig nD τ) (Lvl := ℕ) (q := fullShare) (f := f)
    (ℓ := (Memref.whole cc0_scratch0).view.loc (c : Thread nD τ)) Finset.univ (fun t : Fin 8 => (pieceM s 1 t).view.set) (hd 1)
  rw [hu, BI.equiv_iff.mp ⟨(pointsTo_union hdu).1, (pointsTo_union hdu).2⟩]
  exact congrArg₂ (fun A B : sProp 𝕄 => iprop(A ∗ B)) h0 h1

/-- The scratch is its two slots. -/
theorem scratch_slots (c : Dev nD) (f : Buf (Elt F) ((Memref.whole cc0_scratch0).view.loc (c : Thread nD τ))) :
    ((Memref.whole cc0_scratch0).view.loc (c : Thread nD τ) ↦{fullShare} f : sProp 𝕄)
    ⊣⊢ iprop(((Memref.whole cc0_scratch0).view.loc (c : Thread nD τ) ↦[slotSet 0 c]{fullShare} f)
        ∗ ((Memref.whole cc0_scratch0).view.loc (c : Thread nD τ) ↦[slotSet 1 c]{fullShare} f)) := by
  have hu : (Finset.univ : Finset (Idx ((Memref.whole cc0_scratch0).view.loc (c : Thread nD τ)))) = slotSet 0 c ∪ slotSet 1 c := by
    refine (Finset.eq_univ_iff_forall.mpr fun (y : S2x2x8x512x128.Idx) => ?_).symm
    have : (y 0).val < 2 := (y 0).isLt
    rcases (show (y 0).val = 0 ∨ (y 0).val = 1 by omega) with h | h
    · exact Finset.mem_union_left _ ((mem_slot 0 c y).mpr (Fin.ext (show (y 0).val = 0 from h)))
    · exact Finset.mem_union_right _ ((mem_slot 1 c y).mpr (Fin.ext (show (y 0).val = 1 from h)))
  rw [show ((Memref.whole cc0_scratch0).view.loc (c : Thread nD τ) ↦{fullShare} f : sProp 𝕄)
    = ((Memref.whole cc0_scratch0).view.loc (c : Thread nD τ) ↦[slotSet 0 c ∪ slotSet 1 c]{fullShare} f) from by rw [← hu]]
  refine pointsTo_union (Finset.disjoint_left.mpr fun (y : S2x2x8x512x128.Idx) hy hy' => ?_)
  exact absurd (((mem_slot 0 c y).mp hy).symm.trans ((mem_slot 1 c y).mp hy')) (show (0 : Fin 2) ≠ 1 by decide)

theorem slots_join (c : Dev nD) (f g : Buf (Elt F) ((Memref.whole cc0_scratch0).view.loc (c : Thread nD τ))) :
    iprop(((Memref.whole cc0_scratch0).view.loc (c : Thread nD τ) ↦[slotSet 0 c]{fullShare} f)
        ∗ ((Memref.whole cc0_scratch0).view.loc (c : Thread nD τ) ↦[slotSet 1 c]{fullShare} g))
    ⊢ (iprop(∃ h, (Memref.whole cc0_scratch0).view.loc (c : Thread nD τ) ↦{fullShare} h) : sProp 𝕄) := by
  iintro ⟨H0, H1⟩
  iexists (slotSet 1 c).piecewise g f
  iapply (scratch_slots c _).2
  isplitl [H0]
  · rw [pointsTo_congr (f := (slotSet 1 c).piecewise g f) (g := f) fun (i : S2x2x8x512x128.Idx) hi => Finset.piecewise_eq_of_notMem _ _ _ fun h1 =>
      absurd (((mem_slot 0 c i).mp hi).symm.trans ((mem_slot 1 c i).mp h1)) (show (0 : Fin 2) ≠ 1 by decide)]
    iexact H0
  · rw [pointsTo_congr (f := (slotSet 1 c).piecewise g f) (g := g) fun i hi => Finset.piecewise_eq_of_mem _ _ _ hi]
    iexact H1

/-- The columns of array `a` that step `j` moves. -/
def colSet (c : Dev nD) (a : Fin 2) (j : Fin 44) : Finset (Idx ((arrR a).view.loc (c : Thread nD τ))) :=
  Finset.univ.biUnion fun t : Fin 8 => (srcM (arrR a) j t).view.set

theorem arr_cols (c : Dev nD) (q : PosShare TreeShare) (a : Fin 2) (j : Fin 44) (f : Buf (Elt F) ((arrR a).view.loc (c : Thread nD τ))) :
    ((arrR a).view.loc (c : Thread nD τ) ↦{q} f : sProp 𝕄)
    ⊣⊢ iprop(bigSep Finset.univ (fun t : Fin 8 => (srcM (arrR a) j t).view.loc (c : Thread nD τ) ↦[(srcM (arrR a) j t).view.set]{q} f)
      ∗ ((arrR a).view.loc (c : Thread nD τ) ↦[Finset.univ \ colSet c a j]{q} f)) := by
  have hd : ∀ t ∈ (Finset.univ : Finset (Fin 8)), ∀ t' ∈ (Finset.univ : Finset (Fin 8)), t ≠ t' →
      Disjoint (srcM (arrR a) j t).view.set (srcM (arrR a) j t').view.set := by
    intro t _ t' _ h
    change Disjoint ((arrR a).view.slice (Rect.unit (s := S512x45056) ![0, 1024 * j.val + 128 * t.val] S512x128.size (src_inb j t))).set
      ((arrR a).view.slice (Rect.unit (s := S512x45056) ![0, 1024 * j.val + 128 * t'.val] S512x128.size (src_inb j t'))).set
    rw [View.set_slice, View.set_slice]
    refine (Finset.disjoint_map _).mpr ?_
    refine Finset.disjoint_left.mpr fun y hy hy' => h (Fin.ext ?_)
    have h1 := (Rect.mem_set_unit.mp hy) 1
    have h2 := (Rect.mem_set_unit.mp hy') 1
    have h1' : 1024 * j.val + 128 * t.val ≤ (y 1).val ∧ (y 1).val < 1024 * j.val + 128 * t.val + 128 := h1
    have h2' : 1024 * j.val + 128 * t'.val ≤ (y 1).val ∧ (y 1).val < 1024 * j.val + 128 * t'.val + 128 := h2
    omega
  have hb : ((arrR a).view.loc (c : Thread nD τ) ↦[colSet c a j]{q} f : sProp 𝕄)
      = bigSep Finset.univ (fun t : Fin 8 => (srcM (arrR a) j t).view.loc (c : Thread nD τ) ↦[(srcM (arrR a) j t).view.set]{q} f) :=
    pointsTo_biUnion _ _ hd
  rw [← hb]
  exact pointsTo_split_subset (Finset.subset_univ _)

end Cert.Kernel.Hand

end
-- ==== Proof.LoopsK.lean ====
/- The loops of the kernel's body as resources: which buffers one trip reads and which it may rewrite. -/
module

public import proofs.«01_k».proof.Proof.Gen.Kernel.Frame
public import proofs.«01_k».proof.Proof.Gen.Kernel.Loops

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel Cert.Kernel.Gen

variable {F : FTy → Type} [BitOps F]

local notation "𝕄" => MT nD τ sig Unit (Elt F) ℕ (Pipeline.UD sig nD τ) ℕ

/-- A slot's rectangle lies in the staging scratch. -/
theorem slot_inb : ∀ (i : grid0.Coords) (a : Fin 5), (![(i 0).val % 2, 0, 0, 0, 0] : Fin 5 → ℕ) a + (![1, 2, 8, 512, 128] : Fin 5 → ℕ) a ≤ S2x2x8x512x128.size a := by
  decide +kernel

/-- The slot of the staging scratch that grid point `i` reads. -/
abbrev slotM {sp : Space} (m : Memref sig .tc sp S2x2x8x512x128 .bf16) (i : grid0.Coords) :=
  m.slice (Rect.unit (s := S2x2x8x512x128) ![(i 0).val % 2, 0, 0, 0, 0] ![1, 2, 8, 512, 128] (slot_inb i)) (fun _ => rfl)

/-- A half piece of the step's slot lies in the slot. -/
theorem slot_sub {sp : Space} (m : Memref sig .tc sp S2x2x8x512x128 .bf16) (i : grid0.Coords) {od : Fin 5 → ℕ}
    {hd : ∀ x, od x + S1x1x1x256x128.size x ≤ S2x2x8x512x128.size x} (h0 : od 0 = (i 0).val % 2) :
    (m.access (Rect.unit (s := S2x2x8x512x128) od S1x1x1x256x128.size hd)).set
      ⊆ (slotM m i).view.set := by
  rw [show (slotM m i).view.set = m.view.setOn (Rect.unit (s := S2x2x8x512x128) ![(i 0).val % 2, 0, 0, 0, 0] ![1, 2, 8, 512, 128] (slot_inb i)).set from View.set_slice .., View.set_slice]
  refine Finset.map_subset_map.mpr fun y hy => Rect.mem_set_unit.mpr fun a => ?_
  have hy' := Rect.mem_set_unit.mp hy
  have hlt : (y a).val < S2x2x8x512x128.size a := (y a).isLt
  match a with
  | ⟨0, _⟩ =>
    have h : od 0 ≤ (y 0).val ∧ (y 0).val < od 0 + 1 := hy' 0
    show (i 0).val % 2 ≤ (y 0).val ∧ (y 0).val < (i 0).val % 2 + 1
    omega
  | ⟨1, _⟩ => exact ⟨Nat.zero_le _, by have : (y 1).val < 2 := hlt; show (y 1).val < 0 + 2; omega⟩
  | ⟨2, _⟩ => exact ⟨Nat.zero_le _, by have : (y 2).val < 8 := hlt; show (y 2).val < 0 + 8; omega⟩
  | ⟨3, _⟩ => exact ⟨Nat.zero_le _, by have : (y 3).val < 512 := hlt; show (y 3).val < 0 + 512; omega⟩
  | ⟨4, _⟩ => exact ⟨Nat.zero_le _, by have : (y 4).val < 128 := hlt; show (y 4).val < 0 + 128; omega⟩

set_option warn.classDefReducibility false in
/-- A transposing loop reads the step's slot of the staging scratch and rewrites the transposed scratch. -/
@[sl_loop] def loopR_t1 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2) (v3 : BitVec 32) (X6 : BufTy.Contents (Elt F) arg6.view.ty) :
    LoopInvTy_k0_t1 (F := F) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop(((slotM arg6 i).view.loc (c : Thread nD τ) ↦[(slotM arg6 i).view.set]{fullShare} X6) ∗ (∃ f, (arg7.view.loc (c : Thread nD τ) ↦[arg7.view.set]{fullShare} f)))
  step k acc := by
    have h39 := slot_sub arg6 i (hd := k0_off39_inb i k) (by rw [k0_off39_eq]; rfl)
    have h41 := slot_sub arg6 i (hd := k0_off41_inb i k) (by rw [k0_off41_eq]; rfl)
    have h43 := slot_sub arg6 i (hd := k0_off43_inb i k) (by rw [k0_off43_eq]; rfl)
    have h45 := slot_sub arg6 i (hd := k0_off45_inb i k) (by rw [k0_off45_eq]; rfl)
    have h47 := slot_sub arg6 i (hd := k0_off47_inb i k) (by rw [k0_off47_eq]; rfl)
    have h49 := slot_sub arg6 i (hd := k0_off49_inb i k) (by rw [k0_off49_eq]; rfl)
    have h51 := slot_sub arg6 i (hd := k0_off51_inb i k) (by rw [k0_off51_eq]; rfl)
    have h53 := slot_sub arg6 i (hd := k0_off53_inb i k) (by rw [k0_off53_eq]; rfl)
    unfold k0_t1_body
    iintro ⟨H6, ⟨%f7, H7⟩⟩
    sl_exec
    sl_step
    sl_close

set_option warn.classDefReducibility false in
/-- A transposing loop reads the step's slot of the staging scratch and rewrites the transposed scratch. -/
@[sl_loop] def loopR_t3 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2) (v3 : BitVec 32) (X6 : BufTy.Contents (Elt F) arg6.view.ty) :
    LoopInvTy_k0_t3 (F := F) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop(((slotM arg6 i).view.loc (c : Thread nD τ) ↦[(slotM arg6 i).view.set]{fullShare} X6) ∗ (∃ f, (arg7.view.loc (c : Thread nD τ) ↦[arg7.view.set]{fullShare} f)))
  step k acc := by
    have h72 := slot_sub arg6 i (hd := k0_off72_inb i k) (by rw [k0_off72_eq]; rfl)
    have h74 := slot_sub arg6 i (hd := k0_off74_inb i k) (by rw [k0_off74_eq]; rfl)
    have h76 := slot_sub arg6 i (hd := k0_off76_inb i k) (by rw [k0_off76_eq]; rfl)
    have h78 := slot_sub arg6 i (hd := k0_off78_inb i k) (by rw [k0_off78_eq]; rfl)
    have h80 := slot_sub arg6 i (hd := k0_off80_inb i k) (by rw [k0_off80_eq]; rfl)
    have h82 := slot_sub arg6 i (hd := k0_off82_inb i k) (by rw [k0_off82_eq]; rfl)
    have h84 := slot_sub arg6 i (hd := k0_off84_inb i k) (by rw [k0_off84_eq]; rfl)
    have h86 := slot_sub arg6 i (hd := k0_off86_inb i k) (by rw [k0_off86_eq]; rfl)
    unfold k0_t3_body
    iintro ⟨H6, ⟨%f7, H7⟩⟩
    sl_exec
    sl_step
    sl_close

set_option warn.classDefReducibility false in
/-- A spreading loop reads the transposed scratch and rewrites the spread one. -/
@[sl_loop] def loopR_t2 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2) (v3 : BitVec 32)  :
    LoopInvTy_k0_t2 (F := F) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop((∃ f, (arg7.view.loc (c : Thread nD τ) ↦[arg7.view.set]{fullShare} f)) ∗ (∃ f, (arg8.view.loc (c : Thread nD τ) ↦[arg8.view.set]{fullShare} f)))
  step k acc := by
    unfold k0_t2_body
    iintro ⟨⟨%f7, H7⟩, ⟨%f8, H8⟩⟩
    sl_exec
    sl_step
    sl_close

set_option warn.classDefReducibility false in
/-- A spreading loop reads the transposed scratch and rewrites the spread one. -/
@[sl_loop] def loopR_t4 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2)  :
    LoopInvTy_k0_t4 (F := F) Unit ℕ (Pipeline.UD sig nD τ) ℕ Variants.none c none E i arg1 harg1 arg2 harg2 arg3 harg3 arg4 harg4 arg5 harg5 arg6 harg6 arg7 harg7 arg8 harg8 arg9 harg9 arg10 where
  inv k _u := iprop((∃ f, (arg7.view.loc (c : Thread nD τ) ↦[arg7.view.set]{fullShare} f)) ∗ (∃ f, (arg8.view.loc (c : Thread nD τ) ↦[arg8.view.set]{fullShare} f)))
  step k acc := by
    unfold k0_t4_body
    iintro ⟨⟨%f7, H7⟩, ⟨%f8, H8⟩⟩
    sl_exec
    sl_step
    sl_close

set_option warn.classDefReducibility false in
/-- The product loop reads the activations, the codes and the spread scratch. -/
@[sl_loop] def loopR_t7 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2) (k0_t5 : Fin k0_t5_loop.trips) (arg11 : BitVec 32) (k0_t6 : Fin k0_t6_loop.trips) (arg12 : BitVec 32) (v149 : BitVec 32) (init : FVec F S128x256 .f32) (X1 : BufTy.Contents (Elt F) arg1.view.ty) (X2 : BufTy.Contents (Elt F) arg2.view.ty) (X8 : BufTy.Contents (Elt F) arg8.view.ty) :
    LoopInvTy_k0_t7 (F := F) Unit ℕ (Pipeline.UD sig nD τ) ℕ Variants.none c none E i arg1 harg1 arg2 harg2 arg3 harg3 arg4 harg4 arg5 harg5 arg6 harg6 arg7 harg7 arg8 harg8 arg9 harg9 arg10 k0_t5 arg11 k0_t6 arg12 v149 init where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8))
  step k acc := by
    unfold k0_t7_body
    iintro ⟨H1, H2, H8⟩
    sl_exec
    sl_step
    sl_close

set_option warn.classDefReducibility false in
/-- The loop over the four fields adds into the accumulator. -/
@[sl_loop] def loopR_t6 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2) (k0_t5 : Fin k0_t5_loop.trips) (arg11 : BitVec 32) (X1 : BufTy.Contents (Elt F) arg1.view.ty) (X2 : BufTy.Contents (Elt F) arg2.view.ty) (X8 : BufTy.Contents (Elt F) arg8.view.ty) :
    LoopInvTy_k0_t6 (F := F) Unit ℕ (Pipeline.UD sig nD τ) ℕ Variants.none c none E i arg1 harg1 arg2 harg2 arg3 harg3 arg4 harg4 arg5 harg5 arg6 harg6 arg7 harg7 arg8 harg8 arg9 harg9 arg10 k0_t5 arg11 where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))
  step k acc := by
    unfold k0_t6_body
    iintro ⟨H1, H2, H8, ⟨%f9, H9⟩⟩
    sl_exec
    sl_step
    sl_close

set_option warn.classDefReducibility false in
/-- The loop over the reduction's chunks adds into the accumulator. -/
@[sl_loop] def loopR_t5 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2) (X1 : BufTy.Contents (Elt F) arg1.view.ty) (X2 : BufTy.Contents (Elt F) arg2.view.ty) (X8 : BufTy.Contents (Elt F) arg8.view.ty) :
    LoopInvTy_k0_t5 (F := F) Unit ℕ (Pipeline.UD sig nD τ) ℕ Variants.none c none E i arg1 harg1 arg2 harg2 arg3 harg3 arg4 harg4 arg5 harg5 arg6 harg6 arg7 harg7 arg8 harg8 arg9 harg9 arg10 where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8) ∗ (∃ f, (arg9.view.loc (c : Thread nD τ) ↦[arg9.view.set]{fullShare} f)))
  step k acc := by
    unfold k0_t5_body
    iintro ⟨H1, H2, H8, ⟨%f9, H9⟩⟩
    sl_exec
    sl_step
    sl_close

set_option warn.classDefReducibility false in
/-- The last loop reads the accumulator and rewrites the output block. -/
@[sl_loop] def loopR_t8 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (arg10 : DmaSems sig S2x2) (v145 : IVec S16x128 32) (X9 : BufTy.Contents (Elt F) arg9.view.ty) :
    LoopInvTy_k0_t8 (F := F) Unit ℕ (Pipeline.UD sig nD τ) ℕ Variants.none c none E i arg1 harg1 arg2 harg2 arg3 harg3 arg4 harg4 arg5 harg5 arg6 harg6 arg7 harg7 arg8 harg8 arg9 harg9 arg10 v145 where
  inv k _u := iprop((arg9.view.loc (c : Thread nD τ) ↦[arg9.view.set]{fullShare} X9) ∗ (∃ f, (arg5.view.loc (c : Thread nD τ) ↦[arg5.view.set]{fullShare} f)))
  step k acc := by
    unfold k0_t8_body
    iintro ⟨H9, ⟨%f5, H5⟩⟩
    sl_exec
    sl_step
    sl_close

end Cert.Kernel.Hand

end
-- ==== Proof.StreamK.lean ====
/- A slot of the staging scratch over time: free, with its step's transfers in flight, and landed. -/
module

public import proofs.«01_k».proof.Proof.DmaK
public import proofs.«01_k».proof.Proof.LoopsK

@[expose] public section

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-- The half share of the arrays that a slot's transfers read with. -/
def shr (s : Fin 2) : PosShare TreeShare := if s = 0 then fullShare.left else fullShare.right

/-- The contents of the two arrays in HBM. -/
abbrev Arrs (F : FTy → Type) (c : Dev nD) := (a : Fin 2) → Buf (Elt F) ((arrR a).view.loc (c : Thread nD τ))

/-- A slot's half shares of both arrays. -/
def arrs (c : Dev nD) (VA : Arrs F c) (s : Fin 2) : sProp 𝕄 :=
  iprop(((arrR 0).view.loc (c : Thread nD τ) ↦{shr s} VA 0) ∗ ((arrR 1).view.loc (c : Thread nD τ) ↦{shr s} VA 1))

/-- A slot's two semaphores at zero. -/
def cells (c : Dev nD) (s : Fin 2) : sProp 𝕄 :=
  iprop(semVal ((c : Thread nD τ), .dma (cellD s 0)) 0 ∗ semVal ((c : Thread nD τ), .dma (cellD s 1)) 0)

/-- Nothing in flight into the slot. -/
def Free (c : Dev nD) (VA : Arrs F c) (s : Fin 2) : sProp 𝕄 :=
  iprop((∃ f, (Memref.whole cc0_scratch0).view.loc (c : Thread nD τ) ↦[slotSet s c]{fullShare} f) ∗ cells c s ∗ arrs c VA s)

/-- The columns of the arrays that step `j` leaves at home, at the slot's share. -/
def rest (c : Dev nD) (VA : Arrs F c) (s : Fin 2) (j : Fin 44) : sProp 𝕄 :=
  iprop(((arrR 0).view.loc (c : Thread nD τ) ↦[Finset.univ \ colSet c 0 j]{shr s} VA 0)
    ∗ ((arrR 1).view.loc (c : Thread nD τ) ↦[Finset.univ \ colSet c 1 j]{shr s} VA 1))

/-- All sixteen transfers of step `j` are in flight into the slot. -/
def Flight (c : Dev nD) (VA : Arrs F c) (s : Fin 2) (j : Fin 44) : sProp 𝕄 :=
  iprop(batch c VA (shr s) s 0 j 8 0 ∗ batch c VA (shr s) s 1 j 8 0 ∗ rest c VA s j)

/-- Step `j` has landed in the slot. -/
def Landed (c : Dev nD) (VA : Arrs F c) (s : Fin 2) (j : Fin 44) : sProp 𝕄 :=
  iprop(((Memref.whole cc0_scratch0).view.loc (c : Thread nD τ) ↦[slotSet s c]{fullShare} stepBuf c VA j) ∗ cells c s ∗ arrs c VA s)

theorem landed_free (c : Dev nD) (VA : Arrs F c) (s : Fin 2) (j : Fin 44) : Landed c VA s j ⊢ (Free c VA s : sProp 𝕄) := by
  unfold Landed Free
  iintro ⟨H, Hr⟩
  isplitl [H]; · iexists _; iexact H
  iexact Hr

/-- A step about to be issued: both streams at no transfer yet, and what stays at home. -/
def Start (c : Dev nD) (VA : Arrs F c) (s : Fin 2) (j : Fin 44) (k k' : ℕ) : sProp 𝕄 :=
  iprop(∃ f, issuing c VA (shr s) f s 0 j k ∗ issuing c VA (shr s) f s 1 j k' ∗ rest c VA s j)

theorem issuing_zero (c : Dev nD) (VA : Arrs F c) (q : PosShare TreeShare)
    (f : Buf (Elt F) ((Memref.whole cc0_scratch0).view.loc (c : Thread nD τ))) (s a : Fin 2) (j : Fin 44) :
    iprop(batch c VA q s a j 0 0
      ∗ bigSep Finset.univ (fun t : Fin 8 => (srcM (arrR a) j t).view.loc (c : Thread nD τ) ↦[(srcM (arrR a) j t).view.set]{q} VA a)
      ∗ bigSep Finset.univ (fun t : Fin 8 => (pieceM s a t).view.loc (c : Thread nD τ) ↦[(pieceM s a t).view.set]{fullShare} f))
    ⊢ (issuing c VA q f s a j 0 : sProp 𝕄) := by
  unfold issuing
  rw [Transfers.pending_zero]
  refine sep_mono_right ?_
  exact (Entails.of_eq (bigSep_sep' _ _ _).symm)

theorem issuing_eight (c : Dev nD) (VA : Arrs F c) (q : PosShare TreeShare)
    (f : Buf (Elt F) ((Memref.whole cc0_scratch0).view.loc (c : Thread nD τ))) (s a : Fin 2) (j : Fin 44) :
    (issuing c VA q f s a j 8 : sProp 𝕄) ⊢ batch c VA q s a j 8 0 := by
  unfold issuing
  iintro ⟨H, -⟩
  iexact H

/-- Opening a free slot for step `j`. -/
theorem start (c : Dev nD) (VA : Arrs F c) (s : Fin 2) (j : Fin 44) :
    (Free c VA s : sProp 𝕄) ⊢ |={Set.univ}=> Start c VA s j 0 0 := by
  unfold Free Start cells arrs rest
  iintro ⟨⟨%f, Hf⟩, ⟨Hc0, Hc1⟩, Ha0, Ha1⟩
  ihave Hb0 := (Transfers.batch_alloc' (Lvl := ℕ) (countersEmb (U := Pipeline.UD sig nD τ)) (c : Thread nD τ) () pieceN (deliv c VA (shr s) s 0 j)
    (sm := SemLoc.dma (cellD s 0)) (E := Set.univ)) $$ Hc0
  ihave Hb1 := (Transfers.batch_alloc' (Lvl := ℕ) (countersEmb (U := Pipeline.UD sig nD τ)) (c : Thread nD τ) () pieceN (deliv c VA (shr s) s 1 j)
    (sm := SemLoc.dma (cellD s 1)) (E := Set.univ)) $$ Hc1
  imod Hb0 with Hb0
  imod Hb1 with Hb1
  imodintro
  ihave Hf := (Entails.of_eq (slot_pieces c s f)) $$ Hf
  icases Hf with ⟨Hf0, Hf1⟩
  ihave Ha0 := (arr_cols c (shr s) 0 j (VA 0)).1 $$ Ha0
  ihave Ha1 := (arr_cols c (shr s) 1 j (VA 1)).1 $$ Ha1
  icases Ha0 with ⟨Hs0, Hr0⟩
  icases Ha1 with ⟨Hs1, Hr1⟩
  iexists f
  isplitl [Hb0 Hf0 Hs0]
  · iapply (issuing_zero c VA (shr s) f s 0 j)
    isplitl [Hb0]; · unfold batch; iexact Hb0
    isplitl [Hs0]; · iexact Hs0
    iexact Hf0
  isplitl [Hb1 Hf1 Hs1]
  · iapply (issuing_zero c VA (shr s) f s 1 j)
    isplitl [Hb1]; · unfold batch; iexact Hb1
    isplitl [Hs1]; · iexact Hs1
    iexact Hf1
  isplitl [Hr0]; · iexact Hr0
  iexact Hr1

theorem start_flight (c : Dev nD) (VA : Arrs F c) (s : Fin 2) (j : Fin 44) :
    (Start c VA s j 8 8 : sProp 𝕄) ⊢ Flight c VA s j := by
  unfold Start Flight
  iintro ⟨%f, H0, H1, Hr⟩
  isplitl [H0]; · iapply (issuing_eight c VA (shr s) f s 0 j); iexact H0
  isplitl [H1]; · iapply (issuing_eight c VA (shr s) f s 1 j); iexact H1
  iexact Hr

/-- Both streams delivered: the step has landed. -/
theorem join (c : Dev nD) (VA : Arrs F c) (s : Fin 2) (j : Fin 44) :
    iprop((bigSep Finset.univ (deliv c VA (shr s) s 0 j) ∗ semVal ((c : Thread nD τ), .dma (cellD s 0)) 0)
      ∗ (bigSep Finset.univ (deliv c VA (shr s) s 1 j) ∗ semVal ((c : Thread nD τ), .dma (cellD s 1)) 0) ∗ rest c VA s j)
    ⊢ (Landed c VA s j : sProp 𝕄) := by
  unfold Landed rest cells arrs
  have hd : ∀ a : Fin 2, (bigSep Finset.univ (deliv c VA (shr s) s a j) : sProp 𝕄) =
      iprop(bigSep Finset.univ (fun t : Fin 8 => (pieceM s a t).view.loc (c : Thread nD τ) ↦[(pieceM s a t).view.set]{fullShare} stepBuf c VA j)
        ∗ bigSep Finset.univ (fun t : Fin 8 => (srcM (arrR a) j t).view.loc (c : Thread nD τ) ↦[(srcM (arrR a) j t).view.set]{shr s} VA a)) := fun a =>
    bigSep_sep' _ _ _
  rw [hd 0, hd 1, slot_pieces]
  iintro ⟨⟨⟨Hp0, Hs0⟩, Hc0⟩, ⟨⟨Hp1, Hs1⟩, Hc1⟩, Hr0, Hr1⟩
  isplitl [Hp0 Hp1]
  · isplitl [Hp0]; · iexact Hp0
    iexact Hp1
  isplitl [Hc0 Hc1]
  · isplitl [Hc0]; · iexact Hc0
    iexact Hc1
  isplitl [Hs0 Hr0]
  · iapply (arr_cols c (shr s) 0 j (VA 0)).2
    isplitl [Hs0]; · iexact Hs0
    iexact Hr0
  iapply (arr_cols c (shr s) 1 j (VA 1)).2
  isplitl [Hs1]; · iexact Hs1
  iexact Hr1

variable {𝒱 : Variants} {bd : Option 𝒱.V} {α : Type}

/-- One issue of stream 0. -/
theorem wp_start0 (c : Dev nD) (VA : Arrs F c) (s : Fin 2) (j : Fin 44) (t : Fin 8) (n k0 k1 : ℕ) (hk0 : k0 = t.val) (hk1 : k1 = t.val + 1)
    {A : Memref sig .tc .hbm S512x45056 .bf16} (hA : A = arrR 0)
    {oc : Fin 2 → ℕ} {hc : ∀ x, oc x + S1x1.size x ≤ S2x2.size x} (hoc : oc = ![s.val, (0 : Fin 2).val])
    {od : Fin 5 → ℕ} {hd : ∀ x, od x + S1x1x1x512x128.size x ≤ S2x2x8x512x128.size x} (hod : od = ![s.val, (0 : Fin 2).val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    (Start c VA s j k0 n : sProp 𝕄)
    ⊢ iprop((Start c VA s j k1 n -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  subst hk0 hk1
  unfold Start
  iintro ⟨%f, H0, H1, Hr⟩ Hk
  iapply (wp_issuing c VA (shr s) f s 0 j t hA hoc hod hos) $$ H0
  iintro H0
  iapply Hk
  iexists f
  isplitl [H0]; · iexact H0
  isplitl [H1]; · iexact H1
  iexact Hr

/-- One issue of stream 1. -/
theorem wp_start1 (c : Dev nD) (VA : Arrs F c) (s : Fin 2) (j : Fin 44) (t : Fin 8) (n k0 k1 : ℕ) (hk0 : k0 = t.val) (hk1 : k1 = t.val + 1)
    {A : Memref sig .tc .hbm S512x45056 .bf16} (hA : A = arrR 1)
    {oc : Fin 2 → ℕ} {hc : ∀ x, oc x + S1x1.size x ≤ S2x2.size x} (hoc : oc = ![s.val, (1 : Fin 2).val])
    {od : Fin 5 → ℕ} {hd : ∀ x, od x + S1x1x1x512x128.size x ≤ S2x2x8x512x128.size x} (hod : od = ![s.val, (1 : Fin 2).val, t.val, 0, 0])
    {os : Fin 2 → ℕ} {hs : ∀ x, os x + S512x128.size x ≤ S512x45056.size x} (hos : os = ![0, 1024 * j.val + 128 * t.val])
    {hsrc : (A.slice (Rect.unit (s := S512x45056) os S512x128.size hs) (fun _ => rfl)).view.WordExact}
    {hdst : (((Memref.whole cc0_scratch0).slice (Rect.unit (s := S2x2x8x512x128) od S1x1x1x512x128.size hd) (fun _ => rfl)).squeeze S512x128 squeezes_S1x1x1x512x128_S512x128).view.WordExact}
    {hsem : DmaTarget.Typed (nD := nD) (τ := τ) (p := (.tc : Proc τ)) .hbm (SemLoc.dma ((cc0_scratch4.slice (Rect.unit (s := S2x2) oc S1x1.size hc)).squeeze S_ squeezes_S1x1_S_).sem)
      (.here (((Memref.whole cc0_scratch0).slice (Rect.unit (s := S2x2x8x512x128) od S1x1x1x512x128.size hd) (fun _ => rfl)).squeeze S512x128 squeezes_S1x1x1x512x128_S512x128))}
    {k : PUnit → Prog (TpuEff nD τ sig (Elt F) Λ₀ .tc) α} {Q : α → sProp 𝕄} :
    (Start c VA s j n k0 : sProp 𝕄)
    ⊢ iprop((Start c VA s j n k1 -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.enqueueDma (A.slice (Rect.unit (s := S512x45056) os S512x128.size hs) (fun _ => rfl))
            (.here (((Memref.whole cc0_scratch0).slice (Rect.unit (s := S2x2x8x512x128) od S1x1x1x512x128.size hd) (fun _ => rfl)).squeeze S512x128 squeezes_S1x1x1x512x128_S512x128))
            (.dma ((cc0_scratch4.slice (Rect.unit (s := S2x2) oc S1x1.size hc)).squeeze S_ squeezes_S1x1_S_).sem) hsrc hdst hsem) k) Q) := by
  subst hk0 hk1
  unfold Start
  iintro ⟨%f, H0, H1, Hr⟩ Hk
  iapply (wp_issuing c VA (shr s) f s 1 j t hA hoc hod hos) $$ H1
  iintro H1
  iapply Hk
  iexists f
  isplitl [H0]; · iexact H0
  isplitl [H1]; · iexact H1
  iexact Hr

/-- The slot of grid point `i` as the loops hold it. -/
theorem slotSet_eq (c : Dev nD) (i : grid0.Coords) (s : Fin 2) (hs : s.val = (i 0).val % 2) :
    slotSet s c = (slotM (Memref.whole cc0_scratch0) i).view.set := by
  refine Finset.ext fun (y : S2x2x8x512x128.Idx) => (mem_slot s c y).trans (Iff.symm ?_)
  refine (ValueKit.mem_set_slice_whole_iff cc0_scratch0 _ y Rect.mem_set_unit).trans ?_
  have h1 : (y 1).val < 2 := (y 1).isLt
  have h2 : (y 2).val < 8 := (y 2).isLt
  have h3 : (y 3).val < 512 := (y 3).isLt
  have h4 : (y 4).val < 128 := (y 4).isLt
  constructor
  · intro h
    have h0 : (i 0).val % 2 ≤ (y 0).val ∧ (y 0).val < (i 0).val % 2 + 1 := h 0
    exact Fin.ext (by omega)
  · rintro rfl x
    match x with
    | ⟨0, _⟩ => show (i 0).val % 2 ≤ (y 0).val ∧ (y 0).val < (i 0).val % 2 + 1; omega
    | ⟨1, _⟩ => show 0 ≤ (y 1).val ∧ (y 1).val < 0 + 2; omega
    | ⟨2, _⟩ => show 0 ≤ (y 2).val ∧ (y 2).val < 0 + 8; omega
    | ⟨3, _⟩ => show 0 ≤ (y 3).val ∧ (y 3).val < 0 + 512; omega
    | ⟨4, _⟩ => show 0 ≤ (y 4).val ∧ (y 4).val < 0 + 128; omega

end Cert.Kernel.Hand

end
-- ==== Proof.PhaseK.lean ====
/- The body's transfers: the two guarded issues of sixteen, and the sixteen waits. -/
module

public import proofs.«01_k».proof.Proof.StreamK

@[expose] public section

set_option maxRecDepth 16384
set_option maxHeartbeats 2000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

theorem cond1_iff : ∀ i : grid0.Coords, k0_cond1 i = 1#1 ↔ (i 0).val = 0 := by decide +kernel
theorem cond2_iff : ∀ i : grid0.Coords, k0_cond2 i = 1#1 ↔ (i 0).val + 1 < 44 := by decide +kernel

theorem point_lt (i : grid0.Coords) : (i 0).val < 44 := (i 0).isLt

/-- A grid point's step, its slot, and the other slot. -/
abbrev stepOf (i : grid0.Coords) : Fin 44 := ⟨(i 0).val, (i 0).isLt⟩
abbrev slotOf (i : grid0.Coords) : Fin 2 := ⟨(i 0).val % 2, Nat.mod_lt _ (by decide)⟩
abbrev slotNx (i : grid0.Coords) : Fin 2 := ⟨1 - (i 0).val % 2, by omega⟩

theorem part1_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : PUnit → sProp 𝕄} :
    (Start c VA 0 0 0 0 : sProp 𝕄) ⊢ iprop((∀ r, Start c VA 0 0 2 0 -∗ Q r)
      -∗ wp frame (wpE (defs₀ : Defs nD τ sig (Elt F) Λ₀) Variants.none (c : Thread nD τ) none) Set.univ (k0_part1 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part1_eq_skeleton]
  unfold k0_part1_skel
  simp only [Prog.bind_lift, Prog.pure_eq_ret, Prog.bind_ret, Prog.bind_op]
  iintro H Hk
  iapply (wp_start0 c VA 0 0 0 0 0 1 rfl rfl rfl rfl rfl rfl) $$ H
  iintro H
  iapply (wp_start0 c VA 0 0 1 0 1 2 rfl rfl rfl rfl rfl rfl) $$ H
  iintro H
  rw [wp_ret]
  imodintro
  iapply Hk
  iexact H

theorem part2_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : PUnit → sProp 𝕄} :
    (Start c VA 0 0 2 0 : sProp 𝕄) ⊢ iprop((∀ r, Start c VA 0 0 6 0 -∗ Q r)
      -∗ wp frame (wpE (defs₀ : Defs nD τ sig (Elt F) Λ₀) Variants.none (c : Thread nD τ) none) Set.univ (k0_part2 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part2_eq_skeleton]
  unfold k0_part2_skel
  simp only [Prog.bind_lift, Prog.pure_eq_ret, Prog.bind_ret, Prog.bind_op]
  iintro H Hk
  iapply (wp_start0 c VA 0 0 2 0 2 3 rfl rfl rfl rfl rfl rfl) $$ H
  iintro H
  iapply (wp_start0 c VA 0 0 3 0 3 4 rfl rfl rfl rfl rfl rfl) $$ H
  iintro H
  iapply (wp_start0 c VA 0 0 4 0 4 5 rfl rfl rfl rfl rfl rfl) $$ H
  iintro H
  iapply (wp_start0 c VA 0 0 5 0 5 6 rfl rfl rfl rfl rfl rfl) $$ H
  iintro H
  rw [wp_ret]
  imodintro
  iapply Hk
  iexact H

theorem part3_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : PUnit → sProp 𝕄} :
    (Start c VA 0 0 6 0 : sProp 𝕄) ⊢ iprop((∀ r, Start c VA 0 0 8 2 -∗ Q r)
      -∗ wp frame (wpE (defs₀ : Defs nD τ sig (Elt F) Λ₀) Variants.none (c : Thread nD τ) none) Set.univ (k0_part3 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part3_eq_skeleton]
  unfold k0_part3_skel
  simp only [Prog.bind_lift, Prog.pure_eq_ret, Prog.bind_ret, Prog.bind_op]
  iintro H Hk
  iapply (wp_start0 c VA 0 0 6 0 6 7 rfl rfl rfl rfl rfl rfl) $$ H
  iintro H
  iapply (wp_start0 c VA 0 0 7 0 7 8 rfl rfl rfl rfl rfl rfl) $$ H
  iintro H
  iapply (wp_start1 c VA 0 0 0 8 0 1 rfl rfl rfl rfl rfl rfl) $$ H
  iintro H
  iapply (wp_start1 c VA 0 0 1 8 1 2 rfl rfl rfl rfl rfl rfl) $$ H
  iintro H
  rw [wp_ret]
  imodintro
  iapply Hk
  iexact H

theorem part4_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : PUnit → sProp 𝕄} :
    (Start c VA 0 0 8 2 : sProp 𝕄) ⊢ iprop((∀ r, Start c VA 0 0 8 6 -∗ Q r)
      -∗ wp frame (wpE (defs₀ : Defs nD τ sig (Elt F) Λ₀) Variants.none (c : Thread nD τ) none) Set.univ (k0_part4 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part4_eq_skeleton]
  unfold k0_part4_skel
  simp only [Prog.bind_lift, Prog.pure_eq_ret, Prog.bind_ret, Prog.bind_op]
  iintro H Hk
  iapply (wp_start1 c VA 0 0 2 8 2 3 rfl rfl rfl rfl rfl rfl) $$ H
  iintro H
  iapply (wp_start1 c VA 0 0 3 8 3 4 rfl rfl rfl rfl rfl rfl) $$ H
  iintro H
  iapply (wp_start1 c VA 0 0 4 8 4 5 rfl rfl rfl rfl rfl rfl) $$ H
  iintro H
  iapply (wp_start1 c VA 0 0 5 8 5 6 rfl rfl rfl rfl rfl rfl) $$ H
  iintro H
  rw [wp_ret]
  imodintro
  iapply Hk
  iexact H

theorem off3_next (i : grid0.Coords) (h : (i 0).val + 1 < 44) (r : Fin 8) :
    k0_off3 i (BitVec.ofNat 32 (128 * r.val)) = ![0, 1024 * (⟨(i 0).val + 1, h⟩ : Fin 44).val + 128 * r.val] :=
  (k0_off3_eq i r).trans (congrArg (fun n : ℕ => (![0, n] : Fin 2 → ℕ)) (show 1024 * (i 0).val + 128 * r.val + 1024 = 1024 * ((i 0).val + 1) + 128 * r.val by omega))

theorem part6_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (h : (i 0).val + 1 < 44) (k0_h2 : k0_cond2 i = 1#1) (v147 : BitVec 32) (c1024 : BitVec 32) {Q : PUnit → sProp 𝕄} :
    (Start c VA (slotNx i) ⟨(i 0).val + 1, h⟩ 0 0 : sProp 𝕄) ⊢ iprop((∀ r, Start c VA (slotNx i) ⟨(i 0).val + 1, h⟩ 3 0 -∗ Q r)
      -∗ wp frame (wpE (defs₀ : Defs nD τ sig (Elt F) Λ₀) Variants.none (c : Thread nD τ) none) Set.univ (k0_part6 i arg1 harg1 arg2 harg2 (Memref.whole main_arg2) harg3 (Memref.whole main_arg3) harg4 arg5 harg5 (Memref.whole cc0_scratch0) harg6 arg7 harg7 arg8 harg8 arg9 harg9 cc0_scratch4 k0_h2 v147 c1024) Q) := by
  rw [k0_part6_eq_skeleton]
  unfold k0_part6_skel
  simp only [Prog.bind_lift, Prog.pure_eq_ret, Prog.bind_ret, Prog.bind_op]
  iintro H Hk
  iapply (wp_start0 c VA (slotNx i) ⟨(i 0).val + 1, h⟩ 0 0 0 1 rfl rfl rfl (k0_off1_eq i) (k0_off2_eq i) (off3_next i h 0)) $$ H
  iintro H
  iapply (wp_start0 c VA (slotNx i) ⟨(i 0).val + 1, h⟩ 1 0 1 2 rfl rfl rfl (k0_off1_eq i) (k0_off4_eq i) (off3_next i h 1)) $$ H
  iintro H
  iapply (wp_start0 c VA (slotNx i) ⟨(i 0).val + 1, h⟩ 2 0 2 3 rfl rfl rfl (k0_off1_eq i) (k0_off5_eq i) (off3_next i h 2)) $$ H
  iintro H
  rw [wp_ret]
  imodintro
  iapply Hk
  iexact H

theorem part7_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (h : (i 0).val + 1 < 44) (k0_h2 : k0_cond2 i = 1#1) {Q : PUnit → sProp 𝕄} :
    (Start c VA (slotNx i) ⟨(i 0).val + 1, h⟩ 3 0 : sProp 𝕄) ⊢ iprop((∀ r, Start c VA (slotNx i) ⟨(i 0).val + 1, h⟩ 8 0 -∗ Q r)
      -∗ wp frame (wpE (defs₀ : Defs nD τ sig (Elt F) Λ₀) Variants.none (c : Thread nD τ) none) Set.univ (k0_part7 i arg1 harg1 arg2 harg2 (Memref.whole main_arg2) harg3 (Memref.whole main_arg3) harg4 arg5 harg5 (Memref.whole cc0_scratch0) harg6 arg7 harg7 arg8 harg8 arg9 harg9 cc0_scratch4 k0_h2) Q) := by
  rw [k0_part7_eq_skeleton]
  unfold k0_part7_skel
  simp only [Prog.bind_lift, Prog.pure_eq_ret, Prog.bind_ret, Prog.bind_op]
  iintro H Hk
  iapply (wp_start0 c VA (slotNx i) ⟨(i 0).val + 1, h⟩ 3 0 3 4 rfl rfl rfl (k0_off1_eq i) (k0_off6_eq i) (off3_next i h 3)) $$ H
  iintro H
  iapply (wp_start0 c VA (slotNx i) ⟨(i 0).val + 1, h⟩ 4 0 4 5 rfl rfl rfl (k0_off1_eq i) (k0_off7_eq i) (off3_next i h 4)) $$ H
  iintro H
  iapply (wp_start0 c VA (slotNx i) ⟨(i 0).val + 1, h⟩ 5 0 5 6 rfl rfl rfl (k0_off1_eq i) (k0_off8_eq i) (off3_next i h 5)) $$ H
  iintro H
  iapply (wp_start0 c VA (slotNx i) ⟨(i 0).val + 1, h⟩ 6 0 6 7 rfl rfl rfl (k0_off1_eq i) (k0_off9_eq i) (off3_next i h 6)) $$ H
  iintro H
  iapply (wp_start0 c VA (slotNx i) ⟨(i 0).val + 1, h⟩ 7 0 7 8 rfl rfl rfl (k0_off1_eq i) (k0_off10_eq i) (off3_next i h 7)) $$ H
  iintro H
  rw [wp_ret]
  imodintro
  iapply Hk
  iexact H

theorem part8_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (h : (i 0).val + 1 < 44) (k0_h2 : k0_cond2 i = 1#1) {Q : PUnit → sProp 𝕄} :
    (Start c VA (slotNx i) ⟨(i 0).val + 1, h⟩ 8 0 : sProp 𝕄) ⊢ iprop((∀ r, Start c VA (slotNx i) ⟨(i 0).val + 1, h⟩ 8 5 -∗ Q r)
      -∗ wp frame (wpE (defs₀ : Defs nD τ sig (Elt F) Λ₀) Variants.none (c : Thread nD τ) none) Set.univ (k0_part8 i arg1 harg1 arg2 harg2 (Memref.whole main_arg2) harg3 (Memref.whole main_arg3) harg4 arg5 harg5 (Memref.whole cc0_scratch0) harg6 arg7 harg7 arg8 harg8 arg9 harg9 cc0_scratch4 k0_h2) Q) := by
  rw [k0_part8_eq_skeleton]
  unfold k0_part8_skel
  simp only [Prog.bind_lift, Prog.pure_eq_ret, Prog.bind_ret, Prog.bind_op]
  iintro H Hk
  iapply (wp_start1 c VA (slotNx i) ⟨(i 0).val + 1, h⟩ 0 8 0 1 rfl rfl rfl (k0_off11_eq i) (k0_off12_eq i) (off3_next i h 0)) $$ H
  iintro H
  iapply (wp_start1 c VA (slotNx i) ⟨(i 0).val + 1, h⟩ 1 8 1 2 rfl rfl rfl (k0_off11_eq i) (k0_off13_eq i) (off3_next i h 1)) $$ H
  iintro H
  iapply (wp_start1 c VA (slotNx i) ⟨(i 0).val + 1, h⟩ 2 8 2 3 rfl rfl rfl (k0_off11_eq i) (k0_off14_eq i) (off3_next i h 2)) $$ H
  iintro H
  iapply (wp_start1 c VA (slotNx i) ⟨(i 0).val + 1, h⟩ 3 8 3 4 rfl rfl rfl (k0_off11_eq i) (k0_off15_eq i) (off3_next i h 3)) $$ H
  iintro H
  iapply (wp_start1 c VA (slotNx i) ⟨(i 0).val + 1, h⟩ 4 8 4 5 rfl rfl rfl (k0_off11_eq i) (k0_off16_eq i) (off3_next i h 4)) $$ H
  iintro H
  rw [wp_ret]
  imodintro
  iapply Hk
  iexact H

/-- Before the body at grid point `i`: its slot free at the first point, else its step in flight; the other slot free. -/
def Pre (c : Dev nD) (VA : Arrs F c) (i : grid0.Coords) : sProp 𝕄 :=
  if (i 0).val = 0 then iprop(Free c VA (slotOf i) ∗ Free c VA (slotNx i)) else iprop(Flight c VA (slotOf i) (stepOf i) ∗ Free c VA (slotNx i))

/-- The next step in flight, if there is one. -/
def Next (c : Dev nD) (VA : Arrs F c) (i : grid0.Coords) : sProp 𝕄 :=
  if h : (i 0).val + 1 < 44 then Flight c VA (slotNx i) ⟨(i 0).val + 1, h⟩ else Free c VA (slotNx i)

theorem part5_run (c : Dev nD) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (a0 v3 : BitVec 32) {Q : (Σ' (v147 : BitVec 32), BitVec 32) → sProp 𝕄} :
    (iprop(∀ r, Q r) : sProp 𝕄) ⊢ wp frame (wpE (defs₀ : Defs nD τ sig (Elt F) Λ₀) Variants.none (c : Thread nD τ) none) Set.univ (k0_part5 i arg1 harg1 arg2 harg2 (Memref.whole main_arg2) harg3 (Memref.whole main_arg3) harg4 arg5 harg5 (Memref.whole cc0_scratch0) harg6 arg7 harg7 arg8 harg8 arg9 harg9 cc0_scratch4 a0 v3) Q := by
  rw [k0_part5_eq_skeleton]
  unfold k0_part5_skel
  simp only [Prog.pure_eq_ret]
  rw [wp_ret]
  iintro Hk
  imodintro
  iapply Hk

/-- The first guarded issue: the first point's own step. -/
theorem issueA_run (c : Dev nD) (VA : Arrs F c) (i : grid0.Coords) (R : sProp 𝕄) {α : Type} {p0 : k0_cond1 i = 1#1 → Prog (TpuEff nD τ sig (Elt F) Λ₀ .tc) α}
    {q : ¬ k0_cond1 i = 1#1 → Prog (TpuEff nD τ sig (Elt F) Λ₀ .tc) α} {Q : α → sProp 𝕄}
    (hp : ∀ (h : k0_cond1 i = 1#1), slotOf i = 0 → stepOf i = 0 → iprop(Start c VA 0 0 0 0 ∗ Free c VA (slotNx i) ∗ R) ⊢ wp frame (wpE (defs₀ : Defs nD τ sig (Elt F) Λ₀) Variants.none (c : Thread nD τ) none) Set.univ (p0 h) Q)
    (hq : ∀ h, iprop(Flight c VA (slotOf i) (stepOf i) ∗ Free c VA (slotNx i) ∗ R) ⊢ wp frame (wpE (defs₀ : Defs nD τ sig (Elt F) Λ₀) Variants.none (c : Thread nD τ) none) Set.univ (q h) Q) :
    iprop(Pre c VA i ∗ R) ⊢ wp frame (wpE (defs₀ : Defs nD τ sig (Elt F) Λ₀) Variants.none (c : Thread nD τ) none) Set.univ (if h : k0_cond1 i = 1#1 then p0 h else q h) Q := by
  unfold Pre
  by_cases h1 : k0_cond1 i = 1#1
  · have h := (cond1_iff i).mp h1
    have hs : slotOf i = 0 := Fin.ext (show (i 0).val % 2 = 0 by omega)
    have hj : stepOf i = 0 := Fin.ext h
    rw [dif_pos h1, if_pos h]
    have hp := hp h1 hs hj
    rw [hs]
    iintro ⟨⟨HF, HN⟩, HR⟩
    iapply (fupd_wp _ _)
    imod (start c VA 0 0) $$ HF with H
    imodintro
    iapply hp
    isplitl [H]; · iexact H
    isplitl [HN]; · iexact HN
    iexact HR
  · rw [dif_neg h1, if_neg fun h => h1 ((cond1_iff i).mpr h)]
    have hq := hq h1
    iintro ⟨⟨HF, HN⟩, HR⟩
    iapply hq
    isplitl [HF]; · iexact HF
    isplitl [HN]; · iexact HN
    iexact HR

/-- The second guarded issue: the next point's step. -/
theorem issueB_run (c : Dev nD) (VA : Arrs F c) (i : grid0.Coords) (R : sProp 𝕄) {α : Type} {p0 : k0_cond2 i = 1#1 → Prog (TpuEff nD τ sig (Elt F) Λ₀ .tc) α}
    {q : ¬ k0_cond2 i = 1#1 → Prog (TpuEff nD τ sig (Elt F) Λ₀ .tc) α} {Q : α → sProp 𝕄}
    (hp : ∀ (h2 : k0_cond2 i = 1#1) (h : (i 0).val + 1 < 44), iprop(Start c VA (slotNx i) ⟨(i 0).val + 1, h⟩ 0 0 ∗ R) ⊢ wp frame (wpE (defs₀ : Defs nD τ sig (Elt F) Λ₀) Variants.none (c : Thread nD τ) none) Set.univ (p0 h2) Q)
    (hq : ∀ h, iprop(Next c VA i ∗ R) ⊢ wp frame (wpE (defs₀ : Defs nD τ sig (Elt F) Λ₀) Variants.none (c : Thread nD τ) none) Set.univ (q h) Q) :
    iprop(Free c VA (slotNx i) ∗ R) ⊢ wp frame (wpE (defs₀ : Defs nD τ sig (Elt F) Λ₀) Variants.none (c : Thread nD τ) none) Set.univ (if h : k0_cond2 i = 1#1 then p0 h else q h) Q := by
  by_cases h2 : k0_cond2 i = 1#1
  · have h := (cond2_iff i).mp h2
    rw [dif_pos h2]
    have hp := hp h2 h
    iintro ⟨HN, HR⟩
    iapply (fupd_wp _ _)
    imod (start c VA (slotNx i) ⟨(i 0).val + 1, h⟩) $$ HN with H
    imodintro
    iapply hp
    isplitl [H]; · iexact H
    iexact HR
  · rw [dif_neg h2]
    have hq := hq h2
    unfold Next at hq
    rw [dif_neg fun h => h2 ((cond2_iff i).mpr h)] at hq
    exact hq

/-- The guarded issues of the body. -/
theorem issues_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : (Σ' (arg0 : BitVec 32) (v3 : BitVec 32) (v32 : BitVec 32), BitVec 32) → sProp 𝕄} :
    iprop(Pre c VA i ∗ (∀ r, iprop(Flight c VA (slotOf i) (stepOf i) ∗ Next c VA i) -∗ Q r)) ⊢ wp frame (wpE (defs₀ : Defs nD τ sig (Elt F) Λ₀) Variants.none (c : Thread nD τ) none) Set.univ (k0_part48 i arg1 harg1 arg2 harg2 (Memref.whole main_arg2) harg3 (Memref.whole main_arg3) harg4 arg5 harg5 (Memref.whole cc0_scratch0) harg6 arg7 harg7 arg8 harg8 arg9 harg9 cc0_scratch4) Q := by
  rw [k0_part48_eq_skeleton]
  unfold k0_part48_skel
  simp only [Prog.pure_eq_ret]
  refine issueA_run c VA i _ ?_ ?_
  · intro h1 hs hj
    have hfl : (Start c VA 0 0 8 8 : sProp 𝕄) ⊢ Flight c VA (slotOf i) (stepOf i) := by rw [hs, hj]; exact start_flight c VA 0 0
    iintro ⟨H, HN, Hk⟩
    rw [wp_bind]
    iapply (part1_run c VA i arg1 harg1 arg2 harg2 harg3 harg4 arg5 harg5 harg6 arg7 harg7 arg8 harg8 arg9 harg9) $$ H
    iintro %_ H
    rw [wp_bind]
    iapply (part2_run c VA i arg1 harg1 arg2 harg2 harg3 harg4 arg5 harg5 harg6 arg7 harg7 arg8 harg8 arg9 harg9) $$ H
    iintro %_ H
    rw [wp_bind]
    iapply (part3_run c VA i arg1 harg1 arg2 harg2 harg3 harg4 arg5 harg5 harg6 arg7 harg7 arg8 harg8 arg9 harg9) $$ H
    iintro %_ H
    rw [wp_bind]
    iapply (part4_run c VA i arg1 harg1 arg2 harg2 harg3 harg4 arg5 harg5 harg6 arg7 harg7 arg8 harg8 arg9 harg9) $$ H
    iintro %_ H
    simp only [Prog.bind_lift]
    iapply (wp_start1 c VA 0 0 6 8 6 7 rfl rfl rfl rfl rfl rfl) $$ H
    iintro H
    iapply (wp_start1 c VA 0 0 7 8 7 8 rfl rfl rfl rfl rfl rfl) $$ H
    iintro H
    ihave HF := hfl $$ H
    iapply (issueB_run c VA i iprop(Flight c VA (slotOf i) (stepOf i) ∗ (∀ r, iprop(Flight c VA (slotOf i) (stepOf i) ∗ Next c VA i) -∗ Q r)) (hp := ?hp) (hq := ?hq))
    case hp =>
      intro h2 h
      have hfl := start_flight c VA (slotNx i) ⟨(i 0).val + 1, h⟩
      iintro ⟨H, HF, Hk⟩
      rw [wp_bind]
      iapply (part5_run c i arg1 harg1 arg2 harg2 harg3 harg4 arg5 harg5 harg6 arg7 harg7 arg8 harg8 arg9 harg9 _ _)
      iintro %r
      rw [wp_bind]
      iapply (part6_run c VA i arg1 harg1 arg2 harg2 harg3 harg4 arg5 harg5 harg6 arg7 harg7 arg8 harg8 arg9 harg9 h h2 _ _) $$ H
      iintro %_ H
      rw [wp_bind]
      iapply (part7_run c VA i arg1 harg1 arg2 harg2 harg3 harg4 arg5 harg5 harg6 arg7 harg7 arg8 harg8 arg9 harg9 h h2) $$ H
      iintro %_ H
      rw [wp_bind]
      iapply (part8_run c VA i arg1 harg1 arg2 harg2 harg3 harg4 arg5 harg5 harg6 arg7 harg7 arg8 harg8 arg9 harg9 h h2) $$ H
      iintro %_ H
      simp only [Prog.bind_lift]
      iapply (wp_start1 c VA (slotNx i) ⟨(i 0).val + 1, h⟩ 5 8 5 6 rfl rfl rfl (k0_off11_eq i) (k0_off17_eq i) (off3_next i h 5)) $$ H
      iintro H
      iapply (wp_start1 c VA (slotNx i) ⟨(i 0).val + 1, h⟩ 6 8 6 7 rfl rfl rfl (k0_off11_eq i) (k0_off18_eq i) (off3_next i h 6)) $$ H
      iintro H
      iapply (wp_start1 c VA (slotNx i) ⟨(i 0).val + 1, h⟩ 7 8 7 8 rfl rfl rfl (k0_off11_eq i) (k0_off19_eq i) (off3_next i h 7)) $$ H
      iintro H
      rw [wp_ret]
      imodintro
      iapply Hk
      isplitl [HF]; · iexact HF
      unfold Next
      rw [dif_pos h]
      iapply hfl
      iexact H
    case hq =>
      intro h
      iintro ⟨HN, HF, Hk⟩
      rw [wp_ret]
      imodintro
      iapply Hk
      isplitl [HF]; · iexact HF
      iexact HN
    isplitl [HN]; · iexact HN
    isplitl [HF]; · iexact HF
    iexact Hk
  · intro h1
    iintro ⟨HF, HN, Hk⟩
    iapply (issueB_run c VA i iprop(Flight c VA (slotOf i) (stepOf i) ∗ (∀ r, iprop(Flight c VA (slotOf i) (stepOf i) ∗ Next c VA i) -∗ Q r)) (hp := ?hp) (hq := ?hq))
    case hp =>
      intro h2 h
      have hfl := start_flight c VA (slotNx i) ⟨(i 0).val + 1, h⟩
      iintro ⟨H, HF, Hk⟩
      rw [wp_bind]
      iapply (part5_run c i arg1 harg1 arg2 harg2 harg3 harg4 arg5 harg5 harg6 arg7 harg7 arg8 harg8 arg9 harg9 _ _)
      iintro %r
      rw [wp_bind]
      iapply (part6_run c VA i arg1 harg1 arg2 harg2 harg3 harg4 arg5 harg5 harg6 arg7 harg7 arg8 harg8 arg9 harg9 h h2 _ _) $$ H
      iintro %_ H
      rw [wp_bind]
      iapply (part7_run c VA i arg1 harg1 arg2 harg2 harg3 harg4 arg5 harg5 harg6 arg7 harg7 arg8 harg8 arg9 harg9 h h2) $$ H
      iintro %_ H
      rw [wp_bind]
      iapply (part8_run c VA i arg1 harg1 arg2 harg2 harg3 harg4 arg5 harg5 harg6 arg7 harg7 arg8 harg8 arg9 harg9 h h2) $$ H
      iintro %_ H
      simp only [Prog.bind_lift]
      iapply (wp_start1 c VA (slotNx i) ⟨(i 0).val + 1, h⟩ 5 8 5 6 rfl rfl rfl (k0_off11_eq i) (k0_off17_eq i) (off3_next i h 5)) $$ H
      iintro H
      iapply (wp_start1 c VA (slotNx i) ⟨(i 0).val + 1, h⟩ 6 8 6 7 rfl rfl rfl (k0_off11_eq i) (k0_off18_eq i) (off3_next i h 6)) $$ H
      iintro H
      iapply (wp_start1 c VA (slotNx i) ⟨(i 0).val + 1, h⟩ 7 8 7 8 rfl rfl rfl (k0_off11_eq i) (k0_off19_eq i) (off3_next i h 7)) $$ H
      iintro H
      rw [wp_ret]
      imodintro
      iapply Hk
      isplitl [HF]; · iexact HF
      unfold Next
      rw [dif_pos h]
      iapply hfl
      iexact H
    case hq =>
      intro h
      iintro ⟨HN, HF, Hk⟩
      rw [wp_ret]
      imodintro
      iapply Hk
      isplitl [HF]; · iexact HF
      iexact HN
    isplitl [HN]; · iexact HN
    isplitl [HF]; · iexact HF
    iexact Hk

end Cert.Kernel.Hand

end
-- ==== Proof.WaitK.lean ====
/- The body's sixteen waits, and the body as its transfers followed by the work on the landed step. -/
module

public import proofs.«01_k».proof.Proof.PhaseK

@[expose] public section

set_option maxRecDepth 16384
set_option maxHeartbeats 2000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

/-- `n` waits of the scale stream done. -/
def WA (c : Dev nD) (VA : Arrs F c) (s : Fin 2) (j : Fin 44) (n : ℕ) : sProp 𝕄 :=
  iprop(batch c VA (shr s) s 0 j 8 (n * pieceN) ∗ batch c VA (shr s) s 1 j 8 0 ∗ rest c VA s j ∗ owesAny c)

/-- The scale stream delivered, `n` waits of the minimum stream done. -/
def WB (c : Dev nD) (VA : Arrs F c) (s : Fin 2) (j : Fin 44) (n : ℕ) : sProp 𝕄 :=
  iprop((bigSep Finset.univ (deliv c VA (shr s) s 0 j) ∗ semVal ((c : Thread nD τ), .dma (cellD s 0)) 0)
    ∗ batch c VA (shr s) s 1 j 8 (n * pieceN) ∗ rest c VA s j ∗ owesAny c)

theorem flight_WA (c : Dev nD) (VA : Arrs F c) (s : Fin 2) (j : Fin 44) :
    iprop(Flight c VA s j ∗ owesAny c) ⊢ (WA c VA s j 0 : sProp 𝕄) := by
  unfold Flight WA
  rw [Nat.zero_mul]
  iintro ⟨⟨H0, H1, Hr⟩, HO⟩
  isplitl [H0]; · iexact H0
  isplitl [H1]; · iexact H1
  isplitl [Hr]; · iexact Hr
  iexact HO

variable {𝒱 : Variants} {bd : Option 𝒱.V} {α : Type}

theorem wp_WA (c : Dev nD) (VA : Arrs F c) (s : Fin 2) (j : Fin 44) (n n' : ℕ) (hn : n < 7) (hn' : n' = n + 1)
    {oc : Fin 2 → ℕ} {hc : ∀ x, oc x + S1x1.size x ≤ S2x2.size x} (hoc : oc = ![s.val, (0 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WA c VA s j n : sProp 𝕄)
    ⊢ iprop((WA c VA s j n' -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hn'
  unfold WA
  iintro ⟨H0, H1, Hr, HO⟩ Hk
  iapply (wp_waiting c VA (shr s) s 0 j n hn hoc) $$ [H0 HO]
  · isplitl [H0]; · iexact H0
    iexact HO
  iintro ⟨H0, HO⟩
  iapply Hk
  isplitl [H0]; · iexact H0
  isplitl [H1]; · iexact H1
  isplitl [Hr]; · iexact Hr
  iexact HO

theorem wp_WAlast (c : Dev nD) (VA : Arrs F c) (s : Fin 2) (j : Fin 44)
    {oc : Fin 2 → ℕ} {hc : ∀ x, oc x + S1x1.size x ≤ S2x2.size x} (hoc : oc = ![s.val, (0 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WA c VA s j 7 : sProp 𝕄)
    ⊢ iprop((WB c VA s j 0 -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  unfold WA WB
  rw [Nat.zero_mul]
  iintro ⟨H0, H1, Hr, HO⟩ Hk
  iapply (wp_waitingLast c VA (shr s) s 0 j hoc) $$ [H0 HO]
  · isplitl [H0]; · iexact H0
    iexact HO
  iintro ⟨H0, H0', HO⟩
  iapply Hk
  isplitl [H0 H0']
  · isplitl [H0]; · iexact H0
    iexact H0'
  isplitl [H1]; · iexact H1
  isplitl [Hr]; · iexact Hr
  iexact HO

theorem wp_WB (c : Dev nD) (VA : Arrs F c) (s : Fin 2) (j : Fin 44) (n n' : ℕ) (hn : n < 7) (hn' : n' = n + 1)
    {oc : Fin 2 → ℕ} {hc : ∀ x, oc x + S1x1.size x ≤ S2x2.size x} (hoc : oc = ![s.val, (1 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WB c VA s j n : sProp 𝕄)
    ⊢ iprop((WB c VA s j n' -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  subst hn'
  unfold WB
  iintro ⟨H0, H1, Hr, HO⟩ Hk
  iapply (wp_waiting c VA (shr s) s 1 j n hn hoc) $$ [H1 HO]
  · isplitl [H1]; · iexact H1
    iexact HO
  iintro ⟨H1, HO⟩
  iapply Hk
  isplitl [H0]; · iexact H0
  isplitl [H1]; · iexact H1
  isplitl [Hr]; · iexact Hr
  iexact HO

theorem wp_WBlast (c : Dev nD) (VA : Arrs F c) (s : Fin 2) (j : Fin 44)
    {oc : Fin 2 → ℕ} {hc : ∀ x, oc x + S1x1.size x ≤ S2x2.size x} (hoc : oc = ![s.val, (1 : Fin 2).val])
    {srcw : Memref sig .tc .hbm S512x128 .bf16}
    {od : Fin 5 → ℕ} {hd : ∀ x, od x + S1x1x1x512x128.size x ≤ S2x2x8x512x128.size x}
    {hsrc : srcw.view.WordExact}
    {hdst : (((Memref.whole cc0_scratch0).slice (Rect.unit (s := S2x2x8x512x128) od S1x1x1x512x128.size hd) (fun _ => rfl)).squeeze S512x128 squeezes_S1x1x1x512x128_S512x128).view.WordExact}
    {k : PUnit → Prog (TpuEff nD τ sig (Elt F) Λ₀ .tc) α} {Q : α → sProp 𝕄} :
    (WB c VA s j 7 : sProp 𝕄)
    ⊢ iprop((iprop(Landed c VA s j ∗ owesAny c) -∗ wp frame (wpE (defs₀ : Defs nD τ sig (Elt F) Λ₀) 𝒱 (c : Thread nD τ) bd) Set.univ (k ⟨⟩) Q)
        -∗ wp frame (wpE (defs₀ : Defs nD τ sig (Elt F) Λ₀) 𝒱 (c : Thread nD τ) bd) Set.univ
          (.op (.waitDma2 ((cc0_scratch4.slice (Rect.unit (s := S2x2) oc S1x1.size hc)).squeeze S_ squeezes_S1x1_S_).sem srcw
            (((Memref.whole cc0_scratch0).slice (Rect.unit (s := S2x2x8x512x128) od S1x1x1x512x128.size hd) (fun _ => rfl)).squeeze S512x128 squeezes_S1x1x1x512x128_S512x128)
            hsrc hdst) k) Q) := by
  have hj := join c VA s j
  unfold WB
  iintro ⟨H0, H1, Hr, HO⟩ Hk
  iapply (wp_waitingLast c VA (shr s) s 1 j hoc) $$ [H1 HO]
  · isplitl [H1]; · iexact H1
    iexact HO
  iintro ⟨H1, H1', HO⟩
  iapply Hk
  isplitr [HO]
  · iapply hj
    isplitl [H0]; · iexact H0
    isplitl [H1 H1']
    · isplitl [H1]; · iexact H1
      iexact H1'
    iexact Hr
  iexact HO

theorem part49_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (a0 a1 a2 : BitVec 32) {Q : PUnit → sProp 𝕄} :
    (WA c VA (slotOf i) (stepOf i) 0 : sProp 𝕄) ⊢ iprop((WA c VA (slotOf i) (stepOf i) 1 -∗ Q ⟨⟩)
      -∗ wp frame (wpE (defs₀ : Defs nD τ sig (Elt F) Λ₀) Variants.none (c : Thread nD τ) none) Set.univ (k0_part49 i arg1 harg1 arg2 harg2 (Memref.whole main_arg2) harg3 (Memref.whole main_arg3) harg4 arg5 harg5 (Memref.whole cc0_scratch0) harg6 arg7 harg7 arg8 harg8 arg9 harg9 cc0_scratch4 a0 a1 a2) Q) := by
  rw [k0_part49_eq_skeleton]
  unfold k0_part49_skel
  simp only [Prog.bind_lift, Prog.pure_eq_ret, Prog.bind_ret, Prog.bind_op]
  iintro H Hk
  iapply (wp_WA c VA (slotOf i) (stepOf i) 0 1 (by decide) rfl (k0_off20_eq i)) $$ H
  iintro H
  rw [wp_ret]
  imodintro
  iapply Hk
  iexact H

theorem part50_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : PUnit → sProp 𝕄} :
    (WA c VA (slotOf i) (stepOf i) 1 : sProp 𝕄) ⊢ iprop((WA c VA (slotOf i) (stepOf i) 6 -∗ Q ⟨⟩)
      -∗ wp frame (wpE (defs₀ : Defs nD τ sig (Elt F) Λ₀) Variants.none (c : Thread nD τ) none) Set.univ (k0_part50 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part50_eq_skeleton]
  unfold k0_part50_skel
  simp only [Prog.bind_lift, Prog.pure_eq_ret, Prog.bind_ret, Prog.bind_op]
  iintro H Hk
  iapply (wp_WA c VA (slotOf i) (stepOf i) 1 2 (by decide) rfl (k0_off20_eq i)) $$ H
  iintro H
  iapply (wp_WA c VA (slotOf i) (stepOf i) 2 3 (by decide) rfl (k0_off20_eq i)) $$ H
  iintro H
  iapply (wp_WA c VA (slotOf i) (stepOf i) 3 4 (by decide) rfl (k0_off20_eq i)) $$ H
  iintro H
  iapply (wp_WA c VA (slotOf i) (stepOf i) 4 5 (by decide) rfl (k0_off20_eq i)) $$ H
  iintro H
  iapply (wp_WA c VA (slotOf i) (stepOf i) 5 6 (by decide) rfl (k0_off20_eq i)) $$ H
  iintro H
  rw [wp_ret]
  imodintro
  iapply Hk
  iexact H

theorem part51_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : PUnit → sProp 𝕄} :
    (WA c VA (slotOf i) (stepOf i) 6 : sProp 𝕄) ⊢ iprop((WB c VA (slotOf i) (stepOf i) 3 -∗ Q ⟨⟩)
      -∗ wp frame (wpE (defs₀ : Defs nD τ sig (Elt F) Λ₀) Variants.none (c : Thread nD τ) none) Set.univ (k0_part51 i arg1 harg1 arg2 harg2 (Memref.whole main_arg2) harg3 (Memref.whole main_arg3) harg4 arg5 harg5 (Memref.whole cc0_scratch0) harg6 arg7 harg7 arg8 harg8 arg9 harg9 cc0_scratch4) Q) := by
  rw [k0_part51_eq_skeleton]
  unfold k0_part51_skel
  simp only [Prog.bind_lift, Prog.pure_eq_ret, Prog.bind_ret, Prog.bind_op]
  iintro H Hk
  iapply (wp_WA c VA (slotOf i) (stepOf i) 6 7 (by decide) rfl (k0_off20_eq i)) $$ H
  iintro H
  iapply (wp_WAlast c VA (slotOf i) (stepOf i) (k0_off20_eq i)) $$ H
  iintro H
  iapply (wp_WB c VA (slotOf i) (stepOf i) 0 1 (by decide) rfl (k0_off30_eq i)) $$ H
  iintro H
  iapply (wp_WB c VA (slotOf i) (stepOf i) 1 2 (by decide) rfl (k0_off30_eq i)) $$ H
  iintro H
  iapply (wp_WB c VA (slotOf i) (stepOf i) 2 3 (by decide) rfl (k0_off30_eq i)) $$ H
  iintro H
  rw [wp_ret]
  imodintro
  iapply Hk
  iexact H

/-- The work on the landed step: both arrays transposed and packed, then the product and the interleaved rounding. -/
def work (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (v3 : BitVec 32) : Prog (TpuEff nD τ sig (Elt F) Λ₀ .tc) PUnit := do
  Scf.Loop.for k0_t1_loop k0_t1_ok ⟨⟩ (k0_t1_body i arg1 harg1 arg2 harg2 (Memref.whole main_arg2) harg3 (Memref.whole main_arg3) harg4 arg5 harg5 (Memref.whole cc0_scratch0) harg6 arg7 harg7 arg8 harg8 arg9 harg9 cc0_scratch4 v3)
  Scf.Loop.for k0_t2_loop k0_t2_ok ⟨⟩ (k0_t2_body i arg1 harg1 arg2 harg2 (Memref.whole main_arg2) harg3 (Memref.whole main_arg3) harg4 arg5 harg5 (Memref.whole cc0_scratch0) harg6 arg7 harg7 arg8 harg8 arg9 harg9 cc0_scratch4 v3)
  Scf.Loop.for k0_t3_loop k0_t3_ok ⟨⟩ (k0_t3_body i arg1 harg1 arg2 harg2 (Memref.whole main_arg2) harg3 (Memref.whole main_arg3) harg4 arg5 harg5 (Memref.whole cc0_scratch0) harg6 arg7 harg7 arg8 harg8 arg9 harg9 cc0_scratch4 v3)
  Scf.Loop.for k0_t4_loop k0_t4_ok ⟨⟩ (k0_t4_body i arg1 harg1 arg2 harg2 (Memref.whole main_arg2) harg3 (Memref.whole main_arg3) harg4 arg5 harg5 (Memref.whole cc0_scratch0) harg6 arg7 harg7 arg8 harg8 arg9 harg9 cc0_scratch4)
  let v141 : Vec F S4x128x256 .f32 ← Prog.lift (.load arg9 (Rect.unit (s := S4x128x256) ![0, 0, 0] S4x128x256.size inb_S4x128x256_S4x128x256_0_0_0).toLoadRect (View.loadsAt_vmem h_S4x128x256))
  Prog.lift (.store arg9 (Rect.unit (s := S4x128x256) ![0, 0, 0] S4x128x256.size inb_S4x128x256_S4x128x256_0_0_0) (k0_pay3 (F := F)) Finset.univ (View.stores_vmem_bits_univ h_S4x128x256 rfl) (.inl rfl))
  Scf.Loop.for k0_t5_loop k0_t5_ok ⟨⟩ (k0_t5_body i arg1 harg1 arg2 harg2 (Memref.whole main_arg2) harg3 (Memref.whole main_arg3) harg4 arg5 harg5 (Memref.whole cc0_scratch0) harg6 arg7 harg7 arg8 harg8 arg9 harg9 cc0_scratch4)
  have v145 : IVec S16x128 32 := iota .tc S16x128 32 [1] iota_S16x128_d1_w32
  Scf.Loop.for k0_t8_loop k0_t8_ok ⟨⟩ (k0_t8_body i arg1 harg1 arg2 harg2 (Memref.whole main_arg2) harg3 (Memref.whole main_arg3) harg4 arg5 harg5 (Memref.whole cc0_scratch0) harg6 arg7 harg7 arg8 harg8 arg9 harg9 cc0_scratch4 v145)
  pure ⟨⟩

/-- The body: its transfers, then the work on the landed step. -/
theorem body_run (c : Dev nD) (VA : Arrs F c) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) {Q : PUnit → sProp 𝕄} :
    iprop(Pre c VA i ∗ owesAny c ∗ (∀ v3, iprop(Landed c VA (slotOf i) (stepOf i) ∗ Next c VA i ∗ owesAny c) -∗ wp frame (wpE (defs₀ : Defs nD τ sig (Elt F) Λ₀) Variants.none (c : Thread nD τ) none) Set.univ (work i arg1 harg1 arg2 harg2 harg3 harg4 arg5 harg5 harg6 arg7 harg7 arg8 harg8 arg9 harg9 v3) Q))
      ⊢ wp frame (wpE (defs₀ : Defs nD τ sig (Elt F) Λ₀) Variants.none (c : Thread nD τ) none) Set.univ (cc0_w2_linear i arg1 harg1 arg2 harg2 (Memref.whole main_arg2) harg3 (Memref.whole main_arg3) harg4 arg5 harg5 (Memref.whole cc0_scratch0) harg6 arg7 harg7 arg8 harg8 arg9 harg9 cc0_scratch4) Q := by
  have hfw := flight_WA c VA (slotOf i) (stepOf i)
  rw [cc0_w2_linear_eq_skeleton]
  unfold cc0_w2_linear_skel
  iintro ⟨HP, HO, Hk⟩
  rw [wp_bind]
  iapply (issues_run c VA i arg1 harg1 arg2 harg2 harg3 harg4 arg5 harg5 harg6 arg7 harg7 arg8 harg8 arg9 harg9)
  isplitl [HP]; · iexact HP
  iintro %r ⟨HF, HN⟩
  rw [wp_bind]
  ihave H := hfw $$ [HF HO]
  · isplitl [HF]; · iexact HF
    iexact HO
  iapply (part49_run c VA i arg1 harg1 arg2 harg2 harg3 harg4 arg5 harg5 harg6 arg7 harg7 arg8 harg8 arg9 harg9 _ _ _) $$ H
  iintro H
  rw [wp_bind]
  iapply (part50_run c VA i arg1 harg1 arg2 harg2 harg3 harg4 arg5 harg5 harg6 arg7 harg7 arg8 harg8 arg9 harg9) $$ H
  iintro H
  rw [wp_bind]
  iapply (part51_run c VA i arg1 harg1 arg2 harg2 harg3 harg4 arg5 harg5 harg6 arg7 harg7 arg8 harg8 arg9 harg9) $$ H
  iintro H
  rw [k0_part52_eq_skeleton]
  unfold k0_part52_skel
  simp only [Prog.bind_lift, Prog.pure_eq_ret, Prog.bind_ret, Prog.bind_op, Prog.bind_assoc]
  iapply (wp_WB c VA (slotOf i) (stepOf i) 3 4 (by decide) rfl (k0_off30_eq i)) $$ H
  iintro H
  iapply (wp_WB c VA (slotOf i) (stepOf i) 4 5 (by decide) rfl (k0_off30_eq i)) $$ H
  iintro H
  iapply (wp_WB c VA (slotOf i) (stepOf i) 5 6 (by decide) rfl (k0_off30_eq i)) $$ H
  iintro H
  iapply (wp_WB c VA (slotOf i) (stepOf i) 6 7 (by decide) rfl (k0_off30_eq i)) $$ H
  iintro H
  iapply (wp_WBlast c VA (slotOf i) (stepOf i) (k0_off30_eq i)) $$ H
  iintro H
  icases H with ⟨HL, HO⟩
  ispecialize Hk $$ %r.2.1 [HL HN HO]
  · isplitl [HL]; · iexact HL
    isplitl [HN]; · iexact HN
    iexact HO
  unfold work
  simp only [Prog.bind_lift, Prog.pure_eq_ret, Prog.bind_ret, Prog.bind_op, Prog.bind_assoc]
  iexact Hk

end Cert.Kernel.Hand

end
-- ==== Proof.BodyK.lean ====
/- The work on a landed step as resources: it reads the two windows and the slot and rewrites the scratch buffers and the output block. -/
module

public import proofs.«01_k».proof.Proof.WaitK

@[expose] public section

set_option maxRecDepth 16384
set_option maxHeartbeats 4000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

theorem work_run (c : Dev nD) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x128 .i32) (harg7 : arg7.IsWhole) (arg8 : Memref sig .tc .vmem S2x4x2x2x256x128 .i32) (harg8 : arg8.IsWhole) (arg9 : Memref sig .tc .vmem S4x128x256 .f32) (harg9 : arg9.IsWhole) (v3 : BitVec 32)
    (X1 : BufTy.Contents (Elt F) arg1.view.ty) (X2 : BufTy.Contents (Elt F) arg2.view.ty)
    (X6 : BufTy.Contents (Elt F) (Memref.whole cc0_scratch0 : Memref sig .tc .vmem S2x2x8x512x128 .bf16).view.ty) {Q : PUnit → sProp 𝕄} :
    iprop(iprop(((slotM (Memref.whole cc0_scratch0) i).view.loc (c : Thread nD τ) ↦[(slotM (Memref.whole cc0_scratch0) i).view.set]{fullShare} X6) ∗ (arg1.view.loc (c : Thread nD τ) ↦[arg1.view.set]{fullShare} X1) ∗ (arg2.view.loc (c : Thread nD τ) ↦[arg2.view.set]{fullShare} X2) ∗ (∃ f, (arg5.view.loc (c : Thread nD τ) ↦[arg5.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)))
      ∗ (iprop(((slotM (Memref.whole cc0_scratch0) i).view.loc (c : Thread nD τ) ↦[(slotM (Memref.whole cc0_scratch0) i).view.set]{fullShare} X6) ∗ (arg1.view.loc (c : Thread nD τ) ↦[arg1.view.set]{fullShare} X1) ∗ (arg2.view.loc (c : Thread nD τ) ↦[arg2.view.set]{fullShare} X2) ∗ (∃ f, (arg5.view.loc (c : Thread nD τ) ↦[arg5.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ Q ⟨⟩)) ⊢ wp frame (wpE (defs₀ : Defs nD τ sig (Elt F) Λ₀) Variants.none (c : Thread nD τ) none) Set.univ (work i arg1 harg1 arg2 harg2 harg3 harg4 arg5 harg5 harg6 arg7 harg7 arg8 harg8 arg9 harg9 v3) Q := by
  unfold work
  iintro ⟨⟨H6, H1, H2, ⟨%f5, H5⟩, ⟨%f7, H7⟩, ⟨%f8, H8⟩, ⟨%f9, H9⟩⟩, Hk⟩
  sl_exec
  sl_step
  iapply Hk
  sl_close

end Cert.Kernel.Hand

end
-- ==== Proof.FrameK.lean ====
/- The frame run: what is in flight between grid points, the body's obligation, and the whole program's run. -/
module

public import proofs.«01_k».proof.Proof.BodyK
public import proofs.«01_k».proof.Defs
public import Idealize.ShloMosaic.Lib.Pipeline.Frame

@[expose] public section

set_option maxRecDepth 16384
set_option maxHeartbeats 2000000

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [BitOps F]

local notation "𝕄" => MT nD τ sig Unit (Elt F) ℕ (Pipeline.UD sig nD τ) ℕ

variable (m : (ℓ : Loc nD τ sig) → Buf (Elt F) ℓ) (ρ : Dev nD → PrngReg)

/-- The kernel's own semaphores: one per slot and array. -/
abbrev osem0 : Fin 4 → SemLoc sig := fun j => (![.dma (cellD 0 0), .dma (cellD 0 1), .dma (cellD 1 0), .dma (cellD 1 1)] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (cellD 0 0)) 0 ∗ semVal ((c : Thread nD τ), .dma (cellD 0 1)) 0
          ∗ semVal ((c : Thread nD τ), .dma (cellD 1 0)) 0 ∗ semVal ((c : Thread nD τ), .dma (cellD 1 1)) 0) := by
  rw [Pipeline.ownSems0_eq_of_list c osem0 [0, 1, 2, 3] (by decide) (by decide)]; rfl

/-- The two arrays the transfers read. -/
def H0 : Finset (Ref sig .tc) := {main_arg2, main_arg3}
theorem H0_sub : H0 ⊆ Pipeline.restRefs sig spec0 := by decide

/-- The two arrays' contents at the region's entry. -/
abbrev VAm (c : Dev nD) : Arrs F c := fun a =>
  match a with
  | ⟨0, _⟩ => V m c main_arg2
  | ⟨1, _⟩ => V m c main_arg3

theorem hbmPts0_eq (c : Dev nD) :
    (bigSep H0 (fun b => ((c : Thread nD τ).loc b) ↦{fullShare} V m c b) : sProp 𝕄)
      = iprop(((arrR 0).view.loc (c : Thread nD τ) ↦{fullShare} VAm m c 0) ∗ ((arrR 1).view.loc (c : Thread nD τ) ↦{fullShare} VAm m c 1)) := by
  rw [BI.bigSep_eq_bigSepL_of_eq [main_arg2, main_arg3] (by decide) (by decide)]; rfl

/-- The three other scratch buffers, at anything, and the generator register. -/
def Scr (c : Dev nD) : sProp 𝕄 :=
  iprop((∃ f, (Memref.whole cc0_scratch1).view.loc (c : Thread nD τ) ↦{fullShare} f)
    ∗ (∃ f, (Memref.whole cc0_scratch2).view.loc (c : Thread nD τ) ↦{fullShare} f)
    ∗ (∃ f, (Memref.whole cc0_scratch3).view.loc (c : Thread nD τ) ↦{fullShare} f) ∗ (∃ r, prngReg c r))

theorem arr_shares (c : Dev nD) (a : Fin 2) (f : Buf (Elt F) ((arrR a).view.loc (c : Thread nD τ))) :
    ((arrR a).view.loc (c : Thread nD τ) ↦{fullShare} f : sProp 𝕄)
      ⊣⊢ iprop(((arrR a).view.loc (c : Thread nD τ) ↦{shr 0} f) ∗ ((arrR a).view.loc (c : Thread nD τ) ↦{shr 1} f)) :=
  pointsTo_share (PosShare.mem_left_op_right fullShare)

/-- Between grid points with nothing in flight: both slots free. -/
theorem phi_open (c : Dev nD) : (Pipeline.ΦD osem0 spec0 H0 (V m) c : sProp 𝕄) ⊢ iprop(Free c (VAm m c) 0 ∗ Free c (VAm m c) 1 ∗ Scr c) := by
  rw [Pipeline.ΦD_eq, scopedRest0_eq, ownSems00_eq, hbmPts0_eq]
  unfold Free Scr cells arrs
  iintro ⟨⟨⟨%f, Hf⟩, H1, H2, H3⟩, Hg, ⟨Hc00, Hc01, Hc10, Hc11⟩, ⟨Ha0, Ha1⟩⟩
  ihave Hf := (scratch_slots c f).1 $$ Hf
  icases Hf with ⟨Hf0, Hf1⟩
  ihave Ha0 := (arr_shares c 0 (VAm m c 0)).1 $$ Ha0
  icases Ha0 with ⟨Ha00, Ha01⟩
  ihave Ha1 := (arr_shares c 1 (VAm m c 1)).1 $$ Ha1
  icases Ha1 with ⟨Ha10, Ha11⟩
  isplitl [Hf0 Hc00 Hc01 Ha00 Ha10]
  · isplitl [Hf0]; · iexists f; iexact Hf0
    isplitl [Hc00 Hc01]
    · isplitl [Hc00]; · iexact Hc00
      iexact Hc01
    isplitl [Ha00]; · iexact Ha00
    iexact Ha10
  isplitl [Hf1 Hc10 Hc11 Ha01 Ha11]
  · isplitl [Hf1]; · iexists f; iexact Hf1
    isplitl [Hc10 Hc11]
    · isplitl [Hc10]; · iexact Hc10
      iexact Hc11
    isplitl [Ha01]; · iexact Ha01
    iexact Ha11
  isplitl [H1]; · iexact H1
  isplitl [H2]; · iexact H2
  isplitl [H3]; · iexact H3
  iexact Hg

theorem phi_close (c : Dev nD) : iprop(Free c (VAm m c) 0 ∗ Free c (VAm m c) 1 ∗ Scr c) ⊢ (Pipeline.ΦD osem0 spec0 H0 (V m) c : sProp 𝕄) := by
  rw [Pipeline.ΦD_eq, scopedRest0_eq, ownSems00_eq, hbmPts0_eq]
  unfold Free Scr cells arrs
  iintro ⟨⟨⟨%f, Hf0⟩, ⟨Hc00, Hc01⟩, Ha00, Ha10⟩, ⟨⟨%g, Hf1⟩, ⟨Hc10, Hc11⟩, Ha01, Ha11⟩, H1, H2, H3, Hg⟩
  isplitl [Hf0 Hf1 H1 H2 H3]
  · isplitl [Hf0 Hf1]
    · iapply (slots_join c f g)
      isplitl [Hf0]; · iexact Hf0
      iexact Hf1
    isplitl [H1]; · iexact H1
    isplitl [H2]; · iexact H2
    iexact H3
  isplitl [Hg]; · iexact Hg
  isplitl [Hc00 Hc01 Hc10 Hc11]
  · isplitl [Hc00]; · iexact Hc00
    isplitl [Hc01]; · iexact Hc01
    isplitl [Hc10]; · iexact Hc10
    iexact Hc11
  isplitl [Ha00 Ha01]
  · iapply (arr_shares c 0 (VAm m c 0)).2
    isplitl [Ha00]; · iexact Ha00
    iexact Ha01
  iapply (arr_shares c 1 (VAm m c 1)).2
  isplitl [Ha10]; · iexact Ha10
  iexact Ha11

/-- What holds between grid points: before point `n` strictly inside the grid, step `n` is in flight and the other slot free. -/
def PhiN (c : Dev nD) (n : ℕ) : sProp 𝕄 :=
  if h : 0 < n ∧ n < 44 then
    iprop(Flight c (VAm m c) ⟨n % 2, Nat.mod_lt _ (by decide)⟩ ⟨n, h.2⟩ ∗ Free c (VAm m c) ⟨1 - n % 2, by omega⟩ ∗ Scr c)
  else Pipeline.ΦD osem0 spec0 H0 (V m) c

theorem phi_in (c : Dev nD) (i : grid0.Coords) (n : ℕ) (hn : (i 0).val = n) : (PhiN m c n : sProp 𝕄) ⊢ iprop(Pre c (VAm m c) i ∗ Scr c) := by
  subst hn
  have h44 := point_lt i
  unfold PhiN Pre
  by_cases h0 : (i 0).val = 0
  · rw [dif_neg (by omega), if_pos h0]
    have hs : slotOf i = 0 := Fin.ext (show (i 0).val % 2 = 0 by omega)
    have hn : slotNx i = 1 := Fin.ext (show 1 - (i 0).val % 2 = 1 by omega)
    rw [hs, hn]
    refine (phi_open m c).trans ?_
    iintro ⟨H0, H1, H2⟩
    isplitr [H2]
    · isplitl [H0]; · iexact H0
      iexact H1
    iexact H2
  · rw [dif_pos ⟨by omega, h44⟩, if_neg h0]
    iintro ⟨H0, H1, H2⟩
    isplitr [H2]
    · isplitl [H0]; · iexact H0
      iexact H1
    iexact H2

theorem phi_out (c : Dev nD) (i : grid0.Coords) (n : ℕ) (hn : n = (i 0).val + 1) :
    iprop(Landed c (VAm m c) (slotOf i) (stepOf i) ∗ Next c (VAm m c) i ∗ Scr c) ⊢ (PhiN m c n : sProp 𝕄) := by
  subst hn
  have h44 := point_lt i
  have hlf := landed_free c (VAm m c) (slotOf i) (stepOf i)
  unfold PhiN Next
  by_cases h : (i 0).val + 1 < 44
  · rw [dif_pos h, dif_pos ⟨by omega, h⟩]
    have hs : (⟨((i 0).val + 1) % 2, Nat.mod_lt _ (by decide)⟩ : Fin 2) = slotNx i := Fin.ext (show ((i 0).val + 1) % 2 = 1 - (i 0).val % 2 by omega)
    have hn : (⟨1 - ((i 0).val + 1) % 2, by omega⟩ : Fin 2) = slotOf i := Fin.ext (show 1 - ((i 0).val + 1) % 2 = (i 0).val % 2 by omega)
    rw [hs, hn]
    iintro ⟨H0, H1, H2⟩
    isplitl [H1]; · iexact H1
    isplitl [H0]; · iapply hlf; iexact H0
    iexact H2
  · rw [dif_neg h, dif_neg (by omega)]
    have hs : slotOf i = 1 := Fin.ext (show (i 0).val % 2 = 1 by omega)
    have hn : slotNx i = 0 := Fin.ext (show 1 - (i 0).val % 2 = 0 by omega)
    rw [hs] at hlf ⊢
    rw [hn]
    refine BIBase.Entails.trans ?_ (phi_close m c)
    iintro ⟨H0, H1, H2⟩
    isplitl [H1]; · iexact H1
    isplitl [H0]; · iapply hlf; iexact H0
    iexact H2

/-- The contents a window's block may be left at, for the output. -/
abbrev Outs (F : FTy → Type) := (c : Dev nD) → (t : Fin cfg0.N) → ((cfg0.win 2).xblock (cfg0.grid.coords t)).Idx → Elt F (cfg0.win 2).elt

/-- The proof data at output contents `O`. -/
def dats (O : Outs F) (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => O c t
  Φ t := PhiN m c t.val
  q _ := fullShare
  owed _ := 0

theorem A_eq (O : Outs F) (c : Dev nD) (w : Fin cfg0.W) : (dats m O 0 c).A w = V m c (Pipeline.arrRef spec0 w) := by
  dsimp only [dats]
theorem after0_0 (O : Outs F) (c : Dev nD) (t : Fin cfg0.N) : (dats m O 0 c).after 0 t = iblk m c 0 t := by dsimp only [dats]
theorem after0_1 (O : Outs F) (c : Dev nD) (t : Fin cfg0.N) : (dats m O 0 c).after 1 t = iblk m c 1 t := by dsimp only [dats]
theorem before0_0 (O : Outs F) (c : Dev nD) (t : Fin cfg0.N) (d) : (dats m O 0 c).before 0 t d = iblk m c 0 t :=
  (dats m O 0 c).before_in_eq_fetched 0 rfl (fun _ => rfl) (fun _ _ _ => rfl) (fun t => by rw [after0_0]; unfold Dat.blockOf iblk; rw [A_eq]; try rfl) t d
    |>.trans (by unfold Dat.fetched Dat.blockOf iblk; rw [A_eq]; try rfl)
theorem before0_1 (O : Outs F) (c : Dev nD) (t : Fin cfg0.N) (d) : (dats m O 0 c).before 1 t d = iblk m c 1 t :=
  (dats m O 0 c).before_in_eq_fetched 1 rfl (fun _ => rfl) (fun _ _ _ => rfl) (fun t => by rw [after0_1]; unfold Dat.blockOf iblk; rw [A_eq]; try rfl) t d
    |>.trans (by unfold Dat.fetched Dat.blockOf iblk; rw [A_eq]; try rfl)

theorem coords_val (t : Fin cfg0.N) : ((grid0.coords t) 0).val = t.val := by
  have h : ∀ t : Fin grid0.N, ((grid0.coords t) 0).val = t.val := by decide +kernel
  exact h t

theorem defs₀_row (t : Fin cfg0.N) :
    defs₀ (F := F) .tc cfg0.body (cfg0.bodyArgs t (cfg0.slots t)) = bodyAt0 t := by
  unfold defs₀; rw [Defs.onTc_tc]

theorem howed_rec (O : Outs F) (c : Dev nD) (t : Fin (cfg0.N + 1)) : ((dats m O 0 c).owesAt () t : sProp 𝕄) ⊢ owesAny c := by
  unfold Dat.owesAt Pipeline.owesWithin
  rw [show (dats m O 0 c).owed t = 0 from rfl]
  iintro ⟨%W, -, HW⟩
  iexists W; iexact HW

theorem howed_back (O : Outs F) (c : Dev nD) (t : Fin (cfg0.N + 1)) : owesAny c ⊢ ((dats m O 0 c).owesAt () t : sProp 𝕄) := by
  unfold Dat.owesAt Pipeline.owesWithin
  rw [show (dats m O 0 c).owed t = 0 from rfl]
  iintro ⟨%W, HW⟩
  iexists W; isplitr; · ipureintro; exact fun _ _ => Or.inl trivial
  iexact HW

theorem landed_slot (c : Dev nD) (VA : Arrs F c) (i : grid0.Coords) :
    Landed c VA (slotOf i) (stepOf i) = (iprop(((slotM (Memref.whole cc0_scratch0) i).view.loc (c : Thread nD τ)
        ↦[(slotM (Memref.whole cc0_scratch0) i).view.set]{fullShare} stepBuf c VA (stepOf i)) ∗ cells c (slotOf i) ∗ arrs c VA (slotOf i)) : sProp 𝕄) := by
  unfold Landed
  rw [slotSet_eq c i (slotOf i) rfl]

theorem pt_whole (c : Dev nD) (b : Ref sig .tc) (f : Buf (Elt F) ((Memref.whole b).view.loc (c : Thread nD τ))) :
    ((Memref.whole b).view.loc (c : Thread nD τ) ↦[(Memref.whole b).view.set]{fullShare} f : sProp 𝕄)
      = ((Memref.whole b).view.loc (c : Thread nD τ) ↦{fullShare} f) := by
  rw [show (Memref.whole b).view.set = Finset.univ from View.set_whole b]

/-- The output window's contents are not stated in this run. -/
def fgt : Fin cfg0.W → Bool := fun w => w.val == 2

/-- Output contents no statement reads. -/
abbrev O0 : Outs F := fun c t => iblk m c 2 t

theorem body_sound (c : Dev nD) (t : Fin cfg0.N) :
    iprop(PhiN m c t.val ∗ owesAny c ∗ owns (c : Thread nD τ) (st0_0 t) fullShare (iblk m c 0 t) ∗ owns (c : Thread nD τ) (st0_1 t) fullShare (iblk m c 1 t)
        ∗ (∃ X, owns (c : Thread nD τ) (st0_2 t) fullShare X))
      ⊢ wp frame (wpE (defs₀ (F := F)) Variants.none (c : Thread nD τ) none) Set.univ (bodyAt0 t) fun _ =>
        iprop(PhiN m c (t.val + 1) ∗ owesAny c ∗ owns (c : Thread nD τ) (st0_0 t) fullShare (iblk m c 0 t) ∗ owns (c : Thread nD τ) (st0_1 t) fullShare (iblk m c 1 t)
          ∗ (∃ X, owns (c : Thread nD τ) (st0_2 t) fullShare X)) := by
  have hin := phi_in m c (grid0.coords t) t.val (coords_val t)
  have hout := phi_out m c (grid0.coords t) (t.val + 1) (by rw [coords_val])
  rw [landed_slot] at hout
  unfold Scr at hin hout
  unfold owns
  iintro ⟨HP, HO, ⟨%f0, %h0, H0⟩, ⟨%f1, %h1, H1⟩, ⟨%X, %f2, -, H2⟩⟩
  ihave HP := hin $$ HP
  icases HP with ⟨HP, ⟨%e1, HS1⟩, ⟨%e2, HS2⟩, ⟨%e3, HS3⟩, Hg⟩
  iapply (body_run c (VAm m c) (grid0.coords t) _ _ _ _ _ _ _ _ _ _ _ _ _ _ _)
  isplitl [HP]; · iexact HP
  isplitl [HO]; · iexact HO
  iintro %v3 ⟨HL, HN, HO⟩
  ihave HL := (Entails.of_eq (landed_slot c (VAm m c) (grid0.coords t))) $$ HL
  icases HL with ⟨HL, HLr⟩
  iapply (work_run c (grid0.coords t) _ _ _ _ _ _ _ _ _ _ _ _ _ _ _ v3 f0 f1 (stepBuf c (VAm m c) (stepOf (grid0.coords t))))
  isplitl [HL H0 H1 H2 HS1 HS2 HS3]
  · isplitl [HL]; · iexact HL
    isplitl [H0]; · iexact H0
    isplitl [H1]; · iexact H1
    isplitl [H2]; · iexists f2; iexact H2
    isplitl [HS1]; · iexists e1; iapply (Entails.of_eq (pt_whole c cc0_scratch1 e1).symm); iexact HS1
    isplitl [HS2]; · iexists e2; iapply (Entails.of_eq (pt_whole c cc0_scratch2 e2).symm); iexact HS2
    iexists e3; iapply (Entails.of_eq (pt_whole c cc0_scratch3 e3).symm); iexact HS3
  iintro ⟨HL, H0, H1, ⟨%g2, H2⟩, ⟨%e1, HS1⟩, ⟨%e2, HS2⟩, ⟨%e3, HS3⟩⟩
  isplitl [HL HLr HN HS1 HS2 HS3 Hg]
  · iapply hout
    isplitl [HL HLr]
    · isplitl [HL]; · iexact HL
      iexact HLr
    isplitl [HN]; · iexact HN
    isplitl [HS1]; · iexists e1; iapply (Entails.of_eq (pt_whole c cc0_scratch1 e1)); iexact HS1
    isplitl [HS2]; · iexists e2; iapply (Entails.of_eq (pt_whole c cc0_scratch2 e2)); iexact HS2
    isplitl [HS3]; · iexists e3; iapply (Entails.of_eq (pt_whole c cc0_scratch3 e3)); iexact HS3
    iexact Hg
  isplitl [HO]; · iexact HO
  isplitl [H0]
  · iexists f0; isplitr; · ipureintro; exact h0
    iexact H0
  isplitl [H1]
  · iexists f1; isplitr; · ipureintro; exact h1
    iexact H1
  iexists _, g2; isplitr; · ipureintro; rfl
  iexact H2

theorem sound_body (c : Dev nD) (t : Fin cfg0.N) :
    iprop((dats m (O0 m) 0 c).Φ t.castSucc ∗ (dats m (O0 m) 0 c).owesAt () t.castSucc
        ∗ (∃ d, owns (c : Thread nD τ) (st0_0 t) fullShare ((dats m (O0 m) 0 c).before 0 t d))
        ∗ (∃ d, owns (c : Thread nD τ) (st0_1 t) fullShare ((dats m (O0 m) 0 c).before 1 t d))
        ∗ (∃ X, owns (c : Thread nD τ) (st0_2 t) fullShare X))
      ⊢ wp frame (wpE (defs₀ (F := F)) Variants.none (c : Thread nD τ) none) Set.univ (bodyAt0 t) fun _ =>
        iprop((dats m (O0 m) 0 c).Φ t.succ ∗ (dats m (O0 m) 0 c).owesAt () t.succ
          ∗ owns (c : Thread nD τ) (st0_0 t) fullShare ((dats m (O0 m) 0 c).after 0 t)
          ∗ owns (c : Thread nD τ) (st0_1 t) fullShare ((dats m (O0 m) 0 c).after 1 t)
          ∗ (∃ X, owns (c : Thread nD τ) (st0_2 t) fullShare X)) := by
  have hr := howed_rec m (O0 m) c t.castSucc
  have hb := howed_back m (O0 m) c t.succ
  simp only [before0_0, before0_1, after0_0, after0_1]
  rw [show (dats m (O0 m) 0 c).Φ t.castSucc = PhiN m c t.val from rfl, show (dats m (O0 m) 0 c).Φ t.succ = PhiN m c (t.val + 1) from rfl]
  iintro ⟨HP, HO, ⟨%d0, H0⟩, ⟨%d1, H1⟩, H2⟩
  iapply wp_wand $$ [HP HO H0 H1 H2]
  · iapply (body_sound m c t)
    isplitl [HP]; · iexact HP
    isplitl [HO]; · iapply hr; iexact HO
    isplitl [H0]; · iexact H0
    isplitl [H1]; · iexact H1
    iexact H2
  iintro %_ ⟨HP, HO, H0, H1, H2⟩
  isplitl [HP]; · iexact HP
  isplitl [HO]; · iapply hb; iexact HO
  isplitl [H0]; · iexact H0
  isplitl [H1]; · iexact H1
  iexact H2

theorem body_obligation (c : Dev nD) : BodyObligation (dats (F := F) m (O0 m) 0 c) (defs₀ (F := F)) Variants.none () Set.univ fgt := fun t => by
  rw [bigSep_W0, bigSep_W0, defs₀_row]
  exact triple_restated (sound_body m c t) rfl .rfl fun _ => .rfl

theorem hmainD : Pipeline.HMain (Ix := Unit) (Name := ℕ) (U := Pipeline.UD sig nD τ) (Lvl := ℕ) cfgs 0 defs₀ Variants.none m (main (F := F)) (V m) :=
  Pipeline.hmain_prefix cfgs 0 defs₀ Variants.none m main hostOps0 hostOps0_sub hostOps0_fresh main_chain

set_option backward.isDefEq.respectTransparency.types false in
/-- The whole program runs, its arguments end unchanged and every semaphore at zero. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  Pipeline.θ_run_frame_dma_forget (Q' := _) cfgs (dats m (O0 m)) (0 : Fin 1) launch0 osem0 defs₀ Variants.none fgt ownSemFacts0 H0 H0_sub m ρ main
    (hbody := fun c => (body_obligation m c).loose) (hshare := fun c => (dats m (O0 m) 0 c).share_full fun _ => rfl)
    (howed := fun _ _ => rfl) (V := V m) (hmain := hmainD m) (hA := A_eq m (O0 m))
    (hin := fun _ => .rfl) (hout := fun _ => .rfl)
    (hQ' := fun r h => ⟨fun c => ⟨((h.1 c).2 main_arg0 (Pipeline.mem_restRefs_of main_arg0 (by decide) (by decide))).trans (V_main_arg0 m c),
      (h.1.arr_in c 1 rfl).trans ((A_eq m (O0 m) c 1).trans (V_main_arg1 m c)),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩)

end Cert.Kernel.Hand

end
-- ==== Proof.ValI.lean ====
/- The closed forms of the scratch buffers, and how a list of stores fills one of them. -/
module

public import proofs.«01_k».proof.Proof.SlotI
public import Idealize.ShloMosaic.PureOps.Ideal
public import Idealize.ShloMosaic.Lib.Pointwise
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Cert.KernelIdeal Cert.KernelIdeal.Gen

/-- Stores that all agree with one function keep an agreement and extend it to their rectangles. -/
theorem writes_good {κ : Kind} {sp : Space} {s : Shape} {e : EltTy} {Val : EltTy → Type} (v : View sig κ sp s e) (f : v.ty.Contents Val)
    (G : s.Idx → Val e) (L : List (View.Piece Val s e)) (hG : ∀ p ∈ L, ∀ x : p.1.shape.Idx, p.2 x = G (p.1.emb x))
    (y : s.Idx) (h : v.read Val f y = G y ∨ ∃ p ∈ L, y ∈ p.1.set) : v.read Val (v.writes Val f L) y = G y := by
  by_cases hp : ∃ p ∈ L, y ∈ p.1.set
  · exact View.read_writes_apply_of_pieces v f G L hG y hp
  · rw [View.read_writes_apply_of_forall_not_mem v f y L (fun p hm hy => hp ⟨p, hm, hy⟩)]
    exact h.resolve_right hp

/-! ### The transposed scratch -/

/-- A half-word block of the staging scratch, its words transposed. -/
def T7 (w : Vec Ideal S1x1x1x256x128 .bf16) (x : S1x128x2x128.Idx) : EReal :=
  w (ix5 0 0 0 ⟨2 * (x 3).val + (x 2).val, by have h3 : (x 3).val < 128 := (x 3).isLt; have h2 : (x 2).val < 2 := (x 2).isLt; omega⟩ (x 1))

/-- The transposed scratch of array `a`, from the staging scratch `Y`. -/
def G7 (a : Fin 2) (i : grid0.Coords) (Y : S2x2x8x512x128.Idx → EReal) (y : S2x1024x2x128.Idx) : EReal :=
  Y (ix5 ⟨(i 0).val % 2, by omega⟩ a ⟨(y 1).val / 128, by have h : (y 1).val < 1024 := (y 1).isLt; omega⟩
    ⟨2 * (128 * (y 0).val + (y 3).val) + (y 2).val, by
      have h0 : (y 0).val < 2 := (y 0).isLt; have h3 : (y 3).val < 128 := (y 3).isLt; have h2 : (y 2).val < 2 := (y 2).isLt; omega⟩
    ⟨(y 1).val % 128, by omega⟩)

theorem pick7 (w : Vec Ideal S1x1x1x256x128 .bf16) (x : S1x128x2x128.Idx) {p q : Fin 256} (hp : p.val = 2 * (x 3).val) (hq : q.val = 2 * (x 3).val + 1) :
    (if (x 2).val % 2 = 0 then w (ix5 0 0 0 p (x 1)) else w (ix5 0 0 0 q (x 1))) = T7 w x := by
  have h2 : (x 2).val < 2 := (x 2).isLt
  unfold T7
  split
  · congr 1; congr 1; apply Fin.ext; simp only; omega
  · congr 1; congr 1; apply Fin.ext; simp only; omega

theorem t7_eq (a : Fin 2) (t : ℕ) (i : grid0.Coords) (k : ℕ) {sp : Space} (m : Memref sig .tc sp S2x2x8x512x128 .bf16)
    (X6 : BufTy.Contents (Elt Ideal) m.view.ty) {od : Fin 5 → ℕ} {hd : ∀ x, od x + S1x1x1x256x128.size x ≤ S2x2x8x512x128.size x}
    {oe : Fin 4 → ℕ} {he : ∀ x, oe x + S1x128x2x128.size x ≤ S2x1024x2x128.size x}
    (h0 : od = ![(i 0).val % 2, a.val, t, 256 * k, 0]) (h1 : oe = ![k, 128 * t, 0, 0]) (x : S1x128x2x128.Idx) :
    T7 (m.view.readAt (Elt Ideal) (Rect.unit (s := S2x2x8x512x128) od S1x1x1x256x128.size hd).toLoadRect X6) x
      = G7 a i (m.view.read (Elt Ideal) X6) ((Rect.unit (s := S2x1024x2x128) oe S1x128x2x128.size he).emb x) := by
  subst h0 h1
  have e0 : (x 0).val < 1 := (x 0).isLt
  have e1 : (x 1).val < 128 := (x 1).isLt
  have e2 : (x 2).val < 2 := (x 2).isLt
  have e3 : (x 3).val < 128 := (x 3).isLt
  unfold T7 G7
  show m.view.read (Elt Ideal) X6 _ = m.view.read (Elt Ideal) X6 _
  congr 1
  funext b
  apply Fin.ext
  fin_cases b
  · show (i 0).val % 2 + 1 * 0 = (i 0).val % 2; omega
  · show a.val + 1 * 0 = a.val; omega
  · show t + 1 * 0 = (128 * t + 1 * (x 1).val) / 128; omega
  · show 256 * k + 1 * (2 * (x 3).val + (x 2).val) = 2 * (128 * (k + 1 * (x 0).val) + (0 + 1 * (x 3).val)) + (0 + 1 * (x 2).val); omega
  · show 0 + 1 * (x 1).val = (128 * t + 1 * (x 1).val) % 128; omega

/-- The transposed scratch is right in the rows of the trips before `k`. -/
def Good7 (a : Fin 2) (i : grid0.Coords) {arg6 : Memref sig .tc .vmem S2x2x8x512x128 .bf16} {arg7 : Memref sig .tc .vmem S2x1024x2x128 .bf16}
    (X6 : BufTy.Contents (Elt Ideal) arg6.view.ty) (k : ℕ) (f : BufTy.Contents (Elt Ideal) arg7.view.ty) : Prop :=
  ∀ y : S2x1024x2x128.Idx, (y 0).val < k → arg7.view.read (Elt Ideal) f y = G7 a i (arg6.view.read (Elt Ideal) X6) y

@[simp] theorem good7_zero (a : Fin 2) (i : grid0.Coords) {arg6 : Memref sig .tc .vmem S2x2x8x512x128 .bf16} {arg7 : Memref sig .tc .vmem S2x1024x2x128 .bf16}
    (X6 : BufTy.Contents (Elt Ideal) arg6.view.ty) (f : BufTy.Contents (Elt Ideal) arg7.view.ty) : Good7 (arg6 := arg6) a i X6 0 f :=
  fun y h => absurd h (Nat.not_lt_zero _)

theorem mem7 {oe : Fin 4 → ℕ} {he : ∀ x, oe x + S1x128x2x128.size x ≤ S2x1024x2x128.size x} {t k : ℕ} (h1 : oe = ![k, 128 * t, 0, 0])
    (y : S2x1024x2x128.Idx) (hk : (y 0).val = k) (ht : (y 1).val / 128 = t) : y ∈ (Rect.unit (s := S2x1024x2x128) oe S1x128x2x128.size he).set := by
  subst h1
  have e2 : (y 2).val < 2 := (y 2).isLt
  have e3 : (y 3).val < 128 := (y 3).isLt
  refine Rect.mem_set_unit.mpr fun a => ?_
  fin_cases a
  · show k ≤ (y 0).val ∧ (y 0).val < k + 1; omega
  · show 128 * t ≤ (y 1).val ∧ (y 1).val < 128 * t + 128; omega
  · show 0 ≤ (y 2).val ∧ (y 2).val < 0 + 2; omega
  · show 0 ≤ (y 3).val ∧ (y 3).val < 0 + 128; omega

/-! ### The spread scratch -/

/-- A leading axis of one, dropped. -/
theorem sq_idx (h : S1024x2x128.numel = S1x1024x2x128.numel) (y : S1024x2x128.Idx) : (Shape.reshapeEquiv h y : S1x1024x2x128.Idx) = ix4 0 (y 0) (y 1) (y 2) := by
  refine Shape.reshapeEquiv_eq_of_rowMajor h ?_
  refine (Shape.rowMajor_val_four _).trans (Eq.trans ?_ (Shape.rowMajor_val_three _).symm)
  show ((0 * 1024 + (y 0).val) * 2 + (y 1).val) * 128 + (y 2).val = ((y 0).val * 2 + (y 1).val) * 128 + (y 2).val
  omega

/-- A slice of the transposed scratch, read through its squeezed view. -/
theorem sq_read (arg7 : Memref sig .tc .vmem S2x1024x2x128 .bf16) (f : BufTy.Contents (Elt Ideal) arg7.view.ty) {od : Fin 4 → ℕ} {hd}
   (y : S1024x2x128.Idx) :
   ((arg7.slice (Rect.unit (s := S2x1024x2x128) od S1x1024x2x128.size hd) (fun _ => rfl)).squeeze S1024x2x128 squeezes_S1x1024x2x128_S1024x2x128).view.read (Elt Ideal) f y
     = arg7.view.read (Elt Ideal) f ((Rect.unit (s := S2x1024x2x128) od S1x1024x2x128.size hd).emb (ix4 0 (y 0) (y 1) (y 2))) :=
  congrArg (fun z => arg7.view.read (Elt Ideal) f ((Rect.unit (s := S2x1024x2x128) od S1x1024x2x128.size hd).emb z)) (sq_idx (by decide) y)

/-- Every fourth row of one slab of the transposed scratch, one half of each word, transposed and scaled. -/
def T8 (h : Fin 2) (c : EReal) (w : Vec Ideal S128x2x128 .bf16) (x : S1x1x1x1x128x2x128.Idx) : EReal :=
  w (ix3 (x 6) h (x 4)) * c

/-- The scale's factor of each field. -/
def sc : ℕ → EReal
  | 0 => 1
  | 1 => Ideal.ofBits .bf16 0x3E80#16
  | 2 => Ideal.ofBits .bf16 0x3D80#16
  | _ => Ideal.ofBits .bf16 0x3C80#16

/-- The spread scratch, from the staging scratch `Y`. -/
def G8 (i : grid0.Coords) (Y : S2x2x8x512x128.Idx → EReal) (y : S2x4x2x2x256x2x128.Idx) : EReal :=
  G7 (y 0) i Y (ix4 ⟨(y 4).val / 128, by have h : (y 4).val < 256 := (y 4).isLt; omega⟩
    ⟨512 * (y 2).val + 4 * (y 6).val + (y 1).val, by
      have h1 : (y 1).val < 4 := (y 1).isLt; have h2 : (y 2).val < 2 := (y 2).isLt; have h6 : (y 6).val < 128 := (y 6).isLt; omega⟩
    (y 3) ⟨(y 4).val % 128, by omega⟩) * (if (y 0).val = 0 then sc (y 1).val else 1)

theorem t8_eq (a f ct h : ℕ) (ha : a < 2) (hf : f < 4) (hct : ct < 2) (hh : h < 2) (i : grid0.Coords) (k : ℕ) (hk : k < 2)
    (arg7 : Memref sig .tc .vmem S2x1024x2x128 .bf16) (f7 : BufTy.Contents (Elt Ideal) arg7.view.ty) (Y : S2x2x8x512x128.Idx → EReal)
    (hg : ∀ y : S2x1024x2x128.Idx, arg7.view.read (Elt Ideal) f7 y = G7 ⟨a, ha⟩ i Y y)
    {c : EReal} (hc : c = if a = 0 then sc f else 1)
    {od : Fin 4 → ℕ} {hd : ∀ x, od x + S1x1024x2x128.size x ≤ S2x1024x2x128.size x} {st : Fin 3 → ℕ} {hst}
    {oe : Fin 7 → ℕ} {he : ∀ x, oe x + S1x1x1x1x128x2x128.size x ≤ S2x4x2x2x256x2x128.size x}
    (h0 : od = ![k, 0, 0, 0]) (h2 : st = ![512 * ct + f, 0, 0]) (h1 : oe = ![a, f, ct, h, 128 * k, 0, 0]) (x : S1x1x1x1x128x2x128.Idx) :
    T8 ⟨h, hh⟩ c (((arg7.slice (Rect.unit (s := S2x1024x2x128) od S1x1024x2x128.size hd) (fun _ => rfl)).squeeze S1024x2x128 squeezes_S1x1024x2x128_S1024x2x128).view.readAt (Elt Ideal) (⟨st, S128x2x128.size, ![4, 1, 1], hst⟩ : LoadRect S1024x2x128) f7) x
      = G8 i Y ((Rect.unit (s := S2x4x2x2x256x2x128) oe S1x1x1x1x128x2x128.size he).emb x) := by
  subst h0 h1 h2 hc
  have e0 : (x 0).val < 1 := (x 0).isLt
  have e1 : (x 1).val < 1 := (x 1).isLt
  have e2 : (x 2).val < 1 := (x 2).isLt
  have e3 : (x 3).val < 1 := (x 3).isLt
  have e4 : (x 4).val < 128 := (x 4).isLt
  have e5 : (x 5).val < 2 := (x 5).isLt
  have e6 : (x 6).val < 128 := (x 6).isLt
  unfold T8 G8
  refine congrArg₂ (· * ·) ((sq_read arg7 f7 _).trans ((hg _).trans ?_)) ?_
  · have ea : (⟨a, ha⟩ : Fin 2) = (Rect.unit (s := S2x4x2x2x256x2x128) ![a, f, ct, h, 128 * k, 0, 0] S1x1x1x1x128x2x128.size he).emb x 0 :=
      Fin.ext (by show a = a + 1 * (x 0).val; omega)
    rw [← ea]
    refine congrArg (G7 ⟨a, ha⟩ i Y) ?_
    funext b
    apply Fin.ext
    fin_cases b
    · show k + 1 * 0 = (128 * k + 1 * (x 4).val) / 128; omega
    · show 0 + 1 * (512 * ct + f + 4 * (x 6).val) = 512 * (ct + 1 * (x 2).val) + 4 * (0 + 1 * (x 6).val) + (f + 1 * (x 1).val); omega
    · show 0 + 1 * (0 + 1 * h) = h + 1 * (x 3).val; omega
    · show 0 + 1 * (0 + 1 * (x 4).val) = (128 * k + 1 * (x 4).val) % 128; omega
  · show (if a = 0 then sc f else 1) = if a + 1 * (x 0).val = 0 then sc (f + 1 * (x 1).val) else 1
    rw [show a + 1 * (x 0).val = a by omega, show f + 1 * (x 1).val = f by omega]

/-- The spread scratch is right in the slabs of the trips before `n`, counted over both arrays. -/
def Good8 (i : grid0.Coords) {arg6 : Memref sig .tc .vmem S2x2x8x512x128 .bf16} {arg8 : Memref sig .tc .vmem S2x4x2x2x256x2x128 .bf16}
    (X6 : BufTy.Contents (Elt Ideal) arg6.view.ty) (n : ℕ) (f : BufTy.Contents (Elt Ideal) arg8.view.ty) : Prop :=
  ∀ y : S2x4x2x2x256x2x128.Idx, 2 * (y 0).val + (y 4).val / 128 < n → arg8.view.read (Elt Ideal) f y = G8 i (arg6.view.read (Elt Ideal) X6) y

@[simp] theorem good8_zero (i : grid0.Coords) {arg6 : Memref sig .tc .vmem S2x2x8x512x128 .bf16} {arg8 : Memref sig .tc .vmem S2x4x2x2x256x2x128 .bf16}
    (X6 : BufTy.Contents (Elt Ideal) arg6.view.ty) (f : BufTy.Contents (Elt Ideal) arg8.view.ty) : Good8 (arg6 := arg6) i X6 0 f :=
  fun y h => absurd h (Nat.not_lt_zero _)

theorem mem8 {oe : Fin 7 → ℕ} {he : ∀ x, oe x + S1x1x1x1x128x2x128.size x ≤ S2x4x2x2x256x2x128.size x} {a f ct h k : ℕ}
    (h1 : oe = ![a, f, ct, h, 128 * k, 0, 0])
    (y : S2x4x2x2x256x2x128.Idx) (hk : (y 4).val / 128 = k) (ha : (y 0).val = a) (hf : (y 1).val = f) (hct : (y 2).val = ct) (hh : (y 3).val = h) :
    y ∈ (Rect.unit (s := S2x4x2x2x256x2x128) oe S1x1x1x1x128x2x128.size he).set := by
  subst h1
  have e5 : (y 5).val < 2 := (y 5).isLt
  have e6 : (y 6).val < 128 := (y 6).isLt
  refine Rect.mem_set_unit.mpr fun b => ?_
  fin_cases b
  · show a ≤ (y 0).val ∧ (y 0).val < a + 1; omega
  · show f ≤ (y 1).val ∧ (y 1).val < f + 1; omega
  · show ct ≤ (y 2).val ∧ (y 2).val < ct + 1; omega
  · show h ≤ (y 3).val ∧ (y 3).val < h + 1; omega
  · show 128 * k ≤ (y 4).val ∧ (y 4).val < 128 * k + 128; omega
  · show 0 ≤ (y 5).val ∧ (y 5).val < 0 + 2; omega
  · show 0 ≤ (y 6).val ∧ (y 6).val < 0 + 128; omega

end Cert.KernelIdeal.Hand

end
-- ==== Proof.T1V.lean ====
/- The two transposing loops as values: each fills the transposed scratch with the staging scratch's words, transposed. -/
module

public import proofs.«01_k».proof.Proof.ValI

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (Pipeline.UD sig nD τ) ℕ

theorem p10_T7 (w : Vec Ideal S1x1x1x256x128 .bf16) (x : S1x128x2x128.Idx) : k0_pay10 w x = T7 w x := by
  pointwise [k0_pay10]
  exact pick7 w x rfl rfl

theorem p13_T7 (w : Vec Ideal S1x1x1x256x128 .bf16) (x : S1x128x2x128.Idx) : k0_pay13 (k0_pay11 w) (k0_pay12 w) x = T7 w x := by
  pointwise [k0_pay13, k0_pay11, k0_pay12]
  exact pick7 w x rfl rfl

theorem p14_T7 (w : Vec Ideal S1x1x1x256x128 .bf16) (x : S1x128x2x128.Idx) : k0_pay14 w x = T7 w x := by
  pointwise [k0_pay14]
  exact pick7 w x rfl rfl

theorem p17_T7 (w : Vec Ideal S1x1x1x256x128 .bf16) (x : S1x128x2x128.Idx) : k0_pay17 (k0_pay15 w) (k0_pay16 w) x = T7 w x := by
  pointwise [k0_pay17, k0_pay15, k0_pay16]
  exact pick7 w x rfl rfl

theorem p18_T7 (w : Vec Ideal S1x1x1x256x128 .bf16) (x : S1x128x2x128.Idx) : k0_pay18 w x = T7 w x := by
  pointwise [k0_pay18]
  exact pick7 w x rfl rfl

theorem p21_T7 (w : Vec Ideal S1x1x1x256x128 .bf16) (x : S1x128x2x128.Idx) : k0_pay21 (k0_pay19 w) (k0_pay20 w) x = T7 w x := by
  pointwise [k0_pay21, k0_pay19, k0_pay20]
  exact pick7 w x rfl rfl

theorem p22_T7 (w : Vec Ideal S1x1x1x256x128 .bf16) (x : S1x128x2x128.Idx) : k0_pay22 w x = T7 w x := by
  pointwise [k0_pay22]
  exact pick7 w x rfl rfl

theorem p164_T7 (w : Vec Ideal S1x1x1x256x128 .bf16) (x : S1x128x2x128.Idx) : k0_pay164 (k0_pay23 w) (k0_pay24 w) x = T7 w x := by
  pointwise [k0_pay164, k0_pay23, k0_pay24]
  exact pick7 w x rfl rfl

theorem p52_T7 (w : Vec Ideal S1x1x1x256x128 .bf16) (x : S1x128x2x128.Idx) : k0_pay52 w x = T7 w x := by
  pointwise [k0_pay52]
  exact pick7 w x rfl rfl

theorem p55_T7 (w : Vec Ideal S1x1x1x256x128 .bf16) (x : S1x128x2x128.Idx) : k0_pay55 (k0_pay53 w) (k0_pay54 w) x = T7 w x := by
  pointwise [k0_pay55, k0_pay53, k0_pay54]
  exact pick7 w x rfl rfl

theorem p56_T7 (w : Vec Ideal S1x1x1x256x128 .bf16) (x : S1x128x2x128.Idx) : k0_pay56 w x = T7 w x := by
  pointwise [k0_pay56]
  exact pick7 w x rfl rfl

theorem p59_T7 (w : Vec Ideal S1x1x1x256x128 .bf16) (x : S1x128x2x128.Idx) : k0_pay59 (k0_pay57 w) (k0_pay58 w) x = T7 w x := by
  pointwise [k0_pay59, k0_pay57, k0_pay58]
  exact pick7 w x rfl rfl

theorem p60_T7 (w : Vec Ideal S1x1x1x256x128 .bf16) (x : S1x128x2x128.Idx) : k0_pay60 w x = T7 w x := by
  pointwise [k0_pay60]
  exact pick7 w x rfl rfl

theorem p63_T7 (w : Vec Ideal S1x1x1x256x128 .bf16) (x : S1x128x2x128.Idx) : k0_pay63 (k0_pay61 w) (k0_pay62 w) x = T7 w x := by
  pointwise [k0_pay63, k0_pay61, k0_pay62]
  exact pick7 w x rfl rfl

theorem p64_T7 (w : Vec Ideal S1x1x1x256x128 .bf16) (x : S1x128x2x128.Idx) : k0_pay64 w x = T7 w x := by
  pointwise [k0_pay64]
  exact pick7 w x rfl rfl

theorem p1_T7 (w : Vec Ideal S1x1x1x256x128 .bf16) (x : S1x128x2x128.Idx) : k0_pay1 (k0_pay65 w) (k0_pay66 w) x = T7 w x := by
  pointwise [k0_pay1, k0_pay65, k0_pay66]
  exact pick7 w x rfl rfl

set_option warn.classDefReducibility false in
/-- A transposing loop: after its trips before `k` the transposed scratch is right in the rows of those trips. -/
@[sl_loop] def loopV_t1 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v3 : BitVec 32) (X6 : BufTy.Contents (Elt Ideal) arg6.view.ty) :
    LoopInvTy_k0_t1 (F := Ideal) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop(((slotM arg6 i).view.loc (c : Thread nD τ) ↦[(slotM arg6 i).view.set]{fullShare} X6) ∗ (∃ f, ⌜Good7 (arg6 := arg6) (arg7 := arg7) 0 i X6 k f⌝ ∗ (arg7.view.loc (c : Thread nD τ) ↦[arg7.view.set]{fullShare} f)))
  step k acc := by
    have h39 := slot_sub arg6 i (hd := k0_off39_inb i k) (by rw [k0_off39_eq]; rfl)
    have h41 := slot_sub arg6 i (hd := k0_off41_inb i k) (by rw [k0_off41_eq]; rfl)
    have h43 := slot_sub arg6 i (hd := k0_off43_inb i k) (by rw [k0_off43_eq]; rfl)
    have h45 := slot_sub arg6 i (hd := k0_off45_inb i k) (by rw [k0_off45_eq]; rfl)
    have h47 := slot_sub arg6 i (hd := k0_off47_inb i k) (by rw [k0_off47_eq]; rfl)
    have h49 := slot_sub arg6 i (hd := k0_off49_inb i k) (by rw [k0_off49_eq]; rfl)
    have h51 := slot_sub arg6 i (hd := k0_off51_inb i k) (by rw [k0_off51_eq]; rfl)
    have h53 := slot_sub arg6 i (hd := k0_off53_inb i k) (by rw [k0_off53_eq]; rfl)
    unfold k0_t1_body
    iintro ⟨H6, ⟨%f7, %hf7, H7⟩⟩
    sl_exec
    sl_step
    isplitl [H6]
    · iexact H6
    iexists _
    isplitr
    swap
    · iexact H7
    · ipureintro
      intro y hy
      refine writes_good arg7.view f7 (G7 0 i (arg6.view.read (Elt Ideal) X6)) _ ?_ y ?_
      · intro p hp
        simp only [List.mem_cons, List.not_mem_nil, or_false] at hp
        rcases hp with rfl | rfl | rfl | rfl | rfl | rfl | rfl | rfl
        · exact fun x => (p164_T7 _ x).trans (t7_eq 0 7 i k.val arg6 X6 (k0_off53_eq i k) (k0_off54_eq k) (he := k0_off54_inb k) x)
        · exact fun x => (p22_T7 _ x).trans (t7_eq 0 6 i k.val arg6 X6 (k0_off51_eq i k) (k0_off52_eq k) (he := k0_off52_inb k) x)
        · exact fun x => (p21_T7 _ x).trans (t7_eq 0 5 i k.val arg6 X6 (k0_off49_eq i k) (k0_off50_eq k) (he := k0_off50_inb k) x)
        · exact fun x => (p18_T7 _ x).trans (t7_eq 0 4 i k.val arg6 X6 (k0_off47_eq i k) (k0_off48_eq k) (he := k0_off48_inb k) x)
        · exact fun x => (p17_T7 _ x).trans (t7_eq 0 3 i k.val arg6 X6 (k0_off45_eq i k) (k0_off46_eq k) (he := k0_off46_inb k) x)
        · exact fun x => (p14_T7 _ x).trans (t7_eq 0 2 i k.val arg6 X6 (k0_off43_eq i k) (k0_off44_eq k) (he := k0_off44_inb k) x)
        · exact fun x => (p13_T7 _ x).trans (t7_eq 0 1 i k.val arg6 X6 (k0_off41_eq i k) (k0_off42_eq k) (he := k0_off42_inb k) x)
        · exact fun x => (p10_T7 _ x).trans (t7_eq 0 0 i k.val arg6 X6 (k0_off39_eq i k) (k0_off40_eq k) (he := k0_off40_inb k) x)
      · by_cases h : (y 0).val < k.val
        · exact Or.inl (hf7 y h)
        right
        have hk : (y 0).val = k.val := by omega
        have h1 : (y 1).val < 1024 := (y 1).isLt
        obtain ht | ht | ht | ht | ht | ht | ht | ht : (y 1).val / 128 = 7 ∨ (y 1).val / 128 = 6 ∨ (y 1).val / 128 = 5 ∨ (y 1).val / 128 = 4 ∨ (y 1).val / 128 = 3 ∨ (y 1).val / 128 = 2 ∨ (y 1).val / 128 = 1 ∨ (y 1).val / 128 = 0 := by omega
        · exact ⟨_, List.mem_cons_self, mem7 (he := k0_off54_inb k) (k0_off54_eq k) y hk ht⟩
        · exact ⟨_, List.mem_cons_of_mem _ (List.mem_cons_self), mem7 (he := k0_off52_inb k) (k0_off52_eq k) y hk ht⟩
        · exact ⟨_, List.mem_cons_of_mem _ (List.mem_cons_of_mem _ (List.mem_cons_self)), mem7 (he := k0_off50_inb k) (k0_off50_eq k) y hk ht⟩
        · exact ⟨_, List.mem_cons_of_mem _ (List.mem_cons_of_mem _ (List.mem_cons_of_mem _ (List.mem_cons_self))), mem7 (he := k0_off48_inb k) (k0_off48_eq k) y hk ht⟩
        · exact ⟨_, List.mem_cons_of_mem _ (List.mem_cons_of_mem _ (List.mem_cons_of_mem _ (List.mem_cons_of_mem _ (List.mem_cons_self)))), mem7 (he := k0_off46_inb k) (k0_off46_eq k) y hk ht⟩
        · exact ⟨_, List.mem_cons_of_mem _ (List.mem_cons_of_mem _ (List.mem_cons_of_mem _ (List.mem_cons_of_mem _ (List.mem_cons_of_mem _ (List.mem_cons_self))))), mem7 (he := k0_off44_inb k) (k0_off44_eq k) y hk ht⟩
        · exact ⟨_, List.mem_cons_of_mem _ (List.mem_cons_of_mem _ (List.mem_cons_of_mem _ (List.mem_cons_of_mem _ (List.mem_cons_of_mem _ (List.mem_cons_of_mem _ (List.mem_cons_self)))))), mem7 (he := k0_off42_inb k) (k0_off42_eq k) y hk ht⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem7 (he := k0_off40_inb k) (k0_off40_eq k) y hk ht⟩

set_option warn.classDefReducibility false in
/-- A transposing loop: after its trips before `k` the transposed scratch is right in the rows of those trips. -/
def loopV_t3 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v3 : BitVec 32) (X6 : BufTy.Contents (Elt Ideal) arg6.view.ty) :
    LoopInvTy_k0_t3 (F := Ideal) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop(((slotM arg6 i).view.loc (c : Thread nD τ) ↦[(slotM arg6 i).view.set]{fullShare} X6) ∗ (∃ f, ⌜Good7 (arg6 := arg6) (arg7 := arg7) 1 i X6 k f⌝ ∗ (arg7.view.loc (c : Thread nD τ) ↦[arg7.view.set]{fullShare} f)))
  step k acc := by
    have h72 := slot_sub arg6 i (hd := k0_off72_inb i k) (by rw [k0_off72_eq]; rfl)
    have h74 := slot_sub arg6 i (hd := k0_off74_inb i k) (by rw [k0_off74_eq]; rfl)
    have h76 := slot_sub arg6 i (hd := k0_off76_inb i k) (by rw [k0_off76_eq]; rfl)
    have h78 := slot_sub arg6 i (hd := k0_off78_inb i k) (by rw [k0_off78_eq]; rfl)
    have h80 := slot_sub arg6 i (hd := k0_off80_inb i k) (by rw [k0_off80_eq]; rfl)
    have h82 := slot_sub arg6 i (hd := k0_off82_inb i k) (by rw [k0_off82_eq]; rfl)
    have h84 := slot_sub arg6 i (hd := k0_off84_inb i k) (by rw [k0_off84_eq]; rfl)
    have h86 := slot_sub arg6 i (hd := k0_off86_inb i k) (by rw [k0_off86_eq]; rfl)
    unfold k0_t3_body
    iintro ⟨H6, ⟨%f7, %hf7, H7⟩⟩
    sl_exec
    sl_step
    isplitl [H6]
    · iexact H6
    iexists _
    isplitr
    swap
    · iexact H7
    · ipureintro
      intro y hy
      refine writes_good arg7.view f7 (G7 1 i (arg6.view.read (Elt Ideal) X6)) _ ?_ y ?_
      · intro p hp
        simp only [List.mem_cons, List.not_mem_nil, or_false] at hp
        rcases hp with rfl | rfl | rfl | rfl | rfl | rfl | rfl | rfl
        · exact fun x => (p1_T7 _ x).trans (t7_eq 1 7 i k.val arg6 X6 (k0_off86_eq i k) (k0_off87_eq k) (he := k0_off87_inb k) x)
        · exact fun x => (p64_T7 _ x).trans (t7_eq 1 6 i k.val arg6 X6 (k0_off84_eq i k) (k0_off85_eq k) (he := k0_off85_inb k) x)
        · exact fun x => (p63_T7 _ x).trans (t7_eq 1 5 i k.val arg6 X6 (k0_off82_eq i k) (k0_off83_eq k) (he := k0_off83_inb k) x)
        · exact fun x => (p60_T7 _ x).trans (t7_eq 1 4 i k.val arg6 X6 (k0_off80_eq i k) (k0_off81_eq k) (he := k0_off81_inb k) x)
        · exact fun x => (p59_T7 _ x).trans (t7_eq 1 3 i k.val arg6 X6 (k0_off78_eq i k) (k0_off79_eq k) (he := k0_off79_inb k) x)
        · exact fun x => (p56_T7 _ x).trans (t7_eq 1 2 i k.val arg6 X6 (k0_off76_eq i k) (k0_off77_eq k) (he := k0_off77_inb k) x)
        · exact fun x => (p55_T7 _ x).trans (t7_eq 1 1 i k.val arg6 X6 (k0_off74_eq i k) (k0_off75_eq k) (he := k0_off75_inb k) x)
        · exact fun x => (p52_T7 _ x).trans (t7_eq 1 0 i k.val arg6 X6 (k0_off72_eq i k) (k0_off73_eq k) (he := k0_off73_inb k) x)
      · by_cases h : (y 0).val < k.val
        · exact Or.inl (hf7 y h)
        right
        have hk : (y 0).val = k.val := by omega
        have h1 : (y 1).val < 1024 := (y 1).isLt
        obtain ht | ht | ht | ht | ht | ht | ht | ht : (y 1).val / 128 = 7 ∨ (y 1).val / 128 = 6 ∨ (y 1).val / 128 = 5 ∨ (y 1).val / 128 = 4 ∨ (y 1).val / 128 = 3 ∨ (y 1).val / 128 = 2 ∨ (y 1).val / 128 = 1 ∨ (y 1).val / 128 = 0 := by omega
        · exact ⟨_, List.mem_cons_self, mem7 (he := k0_off87_inb k) (k0_off87_eq k) y hk ht⟩
        · exact ⟨_, List.mem_cons_of_mem _ (List.mem_cons_self), mem7 (he := k0_off85_inb k) (k0_off85_eq k) y hk ht⟩
        · exact ⟨_, List.mem_cons_of_mem _ (List.mem_cons_of_mem _ (List.mem_cons_self)), mem7 (he := k0_off83_inb k) (k0_off83_eq k) y hk ht⟩
        · exact ⟨_, List.mem_cons_of_mem _ (List.mem_cons_of_mem _ (List.mem_cons_of_mem _ (List.mem_cons_self))), mem7 (he := k0_off81_inb k) (k0_off81_eq k) y hk ht⟩
        · exact ⟨_, List.mem_cons_of_mem _ (List.mem_cons_of_mem _ (List.mem_cons_of_mem _ (List.mem_cons_of_mem _ (List.mem_cons_self)))), mem7 (he := k0_off79_inb k) (k0_off79_eq k) y hk ht⟩
        · exact ⟨_, List.mem_cons_of_mem _ (List.mem_cons_of_mem _ (List.mem_cons_of_mem _ (List.mem_cons_of_mem _ (List.mem_cons_of_mem _ (List.mem_cons_self))))), mem7 (he := k0_off77_inb k) (k0_off77_eq k) y hk ht⟩
        · exact ⟨_, List.mem_cons_of_mem _ (List.mem_cons_of_mem _ (List.mem_cons_of_mem _ (List.mem_cons_of_mem _ (List.mem_cons_of_mem _ (List.mem_cons_of_mem _ (List.mem_cons_self)))))), mem7 (he := k0_off75_inb k) (k0_off75_eq k) y hk ht⟩
        · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem7 (he := k0_off73_inb k) (k0_off73_eq k) y hk ht⟩

end Cert.KernelIdeal.Hand

end
-- ==== Proof.SpreadI.lean ====
/- A block of words with both halves equal, read at one index. -/
module

public import proofs.«01_k».proof.Proof.SlotI
public import Idealize.ShloMosaic.PureOps.Ideal
public import Idealize.ShloMosaic.Lib.Pointwise

@[expose] public section

set_option maxRecDepth 16384
noncomputable section
namespace Cert.KernelIdeal.Hand
open Idealize.ShloMosaic Idealize.ShloMosaic.TcCoe Idealize.ShloMosaic.Tactic
open Cert.KernelIdeal Cert.KernelIdeal.Gen

/-- The two rows of a pair hold the same row of `v`. -/
theorem spread_apply (v : FVec Ideal S128x128 .bf16) (x : S1x1x1x1x128x2x128.Idx) :
    interleaveRows S1x1x1x1x128x2x128 (shapeCast S1x1x1x1x128x1x128 (shapeCast S1x1x1x1x128x128 v shapeCasts_S128x128_S1x1x1x1x128x128) shapeCasts_S1x1x1x1x128x128_S1x1x1x1x128x1x128) (shapeCast S1x1x1x1x128x1x128 (shapeCast S1x1x1x1x128x128 v shapeCasts_S128x128_S1x1x1x1x128x128) shapeCasts_S1x1x1x1x128x128_S1x1x1x1x128x1x128) bitcasts_S1x1x1x1x128x2x128_w16_S1x1x1x1x128x1x128_w32 x = v (ix2 (x 4) (x 6)) := by
  pointwise []
  simp only [ite_self]

end Cert.KernelIdeal.Hand

end
-- ==== Proof.T2V.lean ====
/- The two spreading loops as values: each fills its array's half of the spread scratch from the transposed scratch, the scales with the field's factor. -/
module

public import proofs.«01_k».proof.Proof.ValI
public import proofs.«01_k».proof.Proof.SpreadI

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (Pipeline.UD sig nD τ) ℕ

theorem p25_T8 (w : Vec Ideal S128x2x128 .bf16) (x : S1x1x1x1x128x2x128.Idx) : k0_pay25 w x = T8 0 (sc 0) w x := by
  refine (spread_apply _ x).trans ?_
  show _ = w (ix3 (x 6) 0 (x 4)) * _
  rw [show sc 0 = (1 : EReal) from rfl, mul_one]
  generalize x 4 = r
  generalize x 6 = l
  pointwise []

theorem p26_T8 (w : Vec Ideal S128x2x128 .bf16) (x : S1x1x1x1x128x2x128.Idx) : k0_pay26 w x = T8 1 (sc 0) w x := by
  refine (spread_apply _ x).trans ?_
  show _ = w (ix3 (x 6) 1 (x 4)) * _
  rw [show sc 0 = (1 : EReal) from rfl, mul_one]
  generalize x 4 = r
  generalize x 6 = l
  pointwise []

theorem p27_T8 (w : Vec Ideal S128x2x128 .bf16) (x : S1x1x1x1x128x2x128.Idx) : k0_pay27 w x = T8 0 (sc 0) w x := by
  refine (spread_apply _ x).trans ?_
  show _ = w (ix3 (x 6) 0 (x 4)) * _
  rw [show sc 0 = (1 : EReal) from rfl, mul_one]
  generalize x 4 = r
  generalize x 6 = l
  pointwise []

theorem p28_T8 (w : Vec Ideal S128x2x128 .bf16) (x : S1x1x1x1x128x2x128.Idx) : k0_pay28 w x = T8 1 (sc 0) w x := by
  refine (spread_apply _ x).trans ?_
  show _ = w (ix3 (x 6) 1 (x 4)) * _
  rw [show sc 0 = (1 : EReal) from rfl, mul_one]
  generalize x 4 = r
  generalize x 6 = l
  pointwise []

theorem p30_T8 (w : Vec Ideal S128x2x128 .bf16) (x : S1x1x1x1x128x2x128.Idx) : k0_pay30 w x = T8 0 (sc 1) w x := by
  refine (spread_apply _ x).trans ?_
  show _ = w (ix3 (x 6) 0 (x 4)) * _
  have hr : (x 4).val < 128 := (x 4).isLt
  generalize x 4 = r at hr ⊢
  generalize x 6 = l
  first
    | (pointwise []; done)
    | (pointwise [k0_pay29]; done)
    | (pointwise [k0_pay29]
       rw [if_pos (by omega)]
       exact congrArg (fun z => w (ix3 l 0 z) * _) (Fin.ext (by show (2 * r.val + 0) / 2 = r.val; omega)))
    | (pointwise [k0_pay29]
       rw [if_pos (by omega)]
       exact congrArg (fun z => w (ix3 l 0 z) * _) (Fin.ext (by show (2 * r.val) / 2 = r.val; omega)))

theorem p31_T8 (w : Vec Ideal S128x2x128 .bf16) (x : S1x1x1x1x128x2x128.Idx) : k0_pay31 w x = T8 1 (sc 1) w x := by
  refine (spread_apply _ x).trans ?_
  show _ = w (ix3 (x 6) 1 (x 4)) * _
  have hr : (x 4).val < 128 := (x 4).isLt
  generalize x 4 = r at hr ⊢
  generalize x 6 = l
  first
    | (pointwise []; done)
    | (pointwise [k0_pay29]; done)
    | (pointwise [k0_pay29]
       rw [if_neg (by omega)]
       exact congrArg (fun z => w (ix3 l 1 z) * _) (Fin.ext (by show (2 * r.val + 1) / 2 = r.val; omega)))
    | (pointwise [k0_pay29]
       rw [if_neg (by omega)]
       exact congrArg (fun z => w (ix3 l 1 z) * _) (Fin.ext (by show (2 * r.val) / 2 = r.val; omega)))

theorem p34_T8 (w : Vec Ideal S128x2x128 .bf16) (x : S1x1x1x1x128x2x128.Idx) : k0_pay34 w x = T8 0 (sc 1) w x := by
  refine (spread_apply _ x).trans ?_
  show _ = w (ix3 (x 6) 0 (x 4)) * _
  have hr : (x 4).val < 128 := (x 4).isLt
  generalize x 4 = r at hr ⊢
  generalize x 6 = l
  first
    | (pointwise []; done)
    | (pointwise [k0_pay32]; done)
    | (pointwise [k0_pay32]
       rw [if_pos (by omega)]
       exact congrArg (fun z => w (ix3 l 0 z) * _) (Fin.ext (by show (2 * r.val + 0) / 2 = r.val; omega)))
    | (pointwise [k0_pay32]
       rw [if_pos (by omega)]
       exact congrArg (fun z => w (ix3 l 0 z) * _) (Fin.ext (by show (2 * r.val) / 2 = r.val; omega)))

theorem p35_T8 (w : Vec Ideal S128x2x128 .bf16) (x : S1x1x1x1x128x2x128.Idx) : k0_pay35 (k0_pay33 w) x = T8 1 (sc 1) w x := by
  refine (spread_apply _ x).trans ?_
  show _ = w (ix3 (x 6) 1 (x 4)) * _
  have hr : (x 4).val < 128 := (x 4).isLt
  generalize x 4 = r at hr ⊢
  generalize x 6 = l
  first
    | (pointwise []; done)
    | (pointwise [k0_pay33, k0_pay32]; done)
    | (pointwise [k0_pay33, k0_pay32]
       rw [if_neg (by omega)]
       exact congrArg (fun z => w (ix3 l 1 z) * _) (Fin.ext (by show (2 * r.val + 1) / 2 = r.val; omega)))
    | (pointwise [k0_pay33, k0_pay32]
       rw [if_neg (by omega)]
       exact congrArg (fun z => w (ix3 l 1 z) * _) (Fin.ext (by show (2 * r.val) / 2 = r.val; omega)))

theorem p38_T8 (w : Vec Ideal S128x2x128 .bf16) (x : S1x1x1x1x128x2x128.Idx) : k0_pay38 w x = T8 0 (sc 2) w x := by
  refine (spread_apply _ x).trans ?_
  show _ = w (ix3 (x 6) 0 (x 4)) * _
  have hr : (x 4).val < 128 := (x 4).isLt
  generalize x 4 = r at hr ⊢
  generalize x 6 = l
  first
    | (pointwise []; done)
    | (pointwise [k0_pay36]; done)
    | (pointwise [k0_pay36]
       rw [if_pos (by omega)]
       exact congrArg (fun z => w (ix3 l 0 z) * _) (Fin.ext (by show (2 * r.val + 0) / 2 = r.val; omega)))
    | (pointwise [k0_pay36]
       rw [if_pos (by omega)]
       exact congrArg (fun z => w (ix3 l 0 z) * _) (Fin.ext (by show (2 * r.val) / 2 = r.val; omega)))

theorem p40_T8 (w : Vec Ideal S128x2x128 .bf16) (x : S1x1x1x1x128x2x128.Idx) : k0_pay40 (k0_pay37 w) x = T8 1 (sc 2) w x := by
  refine (spread_apply _ x).trans ?_
  show _ = w (ix3 (x 6) 1 (x 4)) * _
  have hr : (x 4).val < 128 := (x 4).isLt
  generalize x 4 = r at hr ⊢
  generalize x 6 = l
  first
    | (pointwise []; done)
    | (pointwise [k0_pay37, k0_pay36]; done)
    | (pointwise [k0_pay37, k0_pay36]
       rw [if_neg (by omega)]
       exact congrArg (fun z => w (ix3 l 1 z) * _) (Fin.ext (by show (2 * r.val + 1) / 2 = r.val; omega)))
    | (pointwise [k0_pay37, k0_pay36]
       rw [if_neg (by omega)]
       exact congrArg (fun z => w (ix3 l 1 z) * _) (Fin.ext (by show (2 * r.val) / 2 = r.val; omega)))

theorem p43_T8 (w : Vec Ideal S128x2x128 .bf16) (x : S1x1x1x1x128x2x128.Idx) : k0_pay43 w x = T8 0 (sc 2) w x := by
  refine (spread_apply _ x).trans ?_
  show _ = w (ix3 (x 6) 0 (x 4)) * _
  have hr : (x 4).val < 128 := (x 4).isLt
  generalize x 4 = r at hr ⊢
  generalize x 6 = l
  first
    | (pointwise []; done)
    | (pointwise [k0_pay41]; done)
    | (pointwise [k0_pay41]
       rw [if_pos (by omega)]
       exact congrArg (fun z => w (ix3 l 0 z) * _) (Fin.ext (by show (2 * r.val + 0) / 2 = r.val; omega)))
    | (pointwise [k0_pay41]
       rw [if_pos (by omega)]
       exact congrArg (fun z => w (ix3 l 0 z) * _) (Fin.ext (by show (2 * r.val) / 2 = r.val; omega)))

theorem p44_T8 (w : Vec Ideal S128x2x128 .bf16) (x : S1x1x1x1x128x2x128.Idx) : k0_pay44 (k0_pay42 w) x = T8 1 (sc 2) w x := by
  refine (spread_apply _ x).trans ?_
  show _ = w (ix3 (x 6) 1 (x 4)) * _
  have hr : (x 4).val < 128 := (x 4).isLt
  generalize x 4 = r at hr ⊢
  generalize x 6 = l
  first
    | (pointwise []; done)
    | (pointwise [k0_pay42, k0_pay41]; done)
    | (pointwise [k0_pay42, k0_pay41]
       rw [if_neg (by omega)]
       exact congrArg (fun z => w (ix3 l 1 z) * _) (Fin.ext (by show (2 * r.val + 1) / 2 = r.val; omega)))
    | (pointwise [k0_pay42, k0_pay41]
       rw [if_neg (by omega)]
       exact congrArg (fun z => w (ix3 l 1 z) * _) (Fin.ext (by show (2 * r.val) / 2 = r.val; omega)))

theorem p47_T8 (w : Vec Ideal S128x2x128 .bf16) (x : S1x1x1x1x128x2x128.Idx) : k0_pay47 w x = T8 0 (sc 3) w x := by
  refine (spread_apply _ x).trans ?_
  show _ = w (ix3 (x 6) 0 (x 4)) * _
  have hr : (x 4).val < 128 := (x 4).isLt
  generalize x 4 = r at hr ⊢
  generalize x 6 = l
  first
    | (pointwise []; done)
    | (pointwise [k0_pay45]; done)
    | (pointwise [k0_pay45]
       rw [if_pos (by omega)]
       exact congrArg (fun z => w (ix3 l 0 z) * _) (Fin.ext (by show (2 * r.val + 0) / 2 = r.val; omega)))
    | (pointwise [k0_pay45]
       rw [if_pos (by omega)]
       exact congrArg (fun z => w (ix3 l 0 z) * _) (Fin.ext (by show (2 * r.val) / 2 = r.val; omega)))

theorem p48_T8 (w : Vec Ideal S128x2x128 .bf16) (x : S1x1x1x1x128x2x128.Idx) : k0_pay48 (k0_pay46 w) x = T8 1 (sc 3) w x := by
  refine (spread_apply _ x).trans ?_
  show _ = w (ix3 (x 6) 1 (x 4)) * _
  have hr : (x 4).val < 128 := (x 4).isLt
  generalize x 4 = r at hr ⊢
  generalize x 6 = l
  first
    | (pointwise []; done)
    | (pointwise [k0_pay46, k0_pay45]; done)
    | (pointwise [k0_pay46, k0_pay45]
       rw [if_neg (by omega)]
       exact congrArg (fun z => w (ix3 l 1 z) * _) (Fin.ext (by show (2 * r.val + 1) / 2 = r.val; omega)))
    | (pointwise [k0_pay46, k0_pay45]
       rw [if_neg (by omega)]
       exact congrArg (fun z => w (ix3 l 1 z) * _) (Fin.ext (by show (2 * r.val) / 2 = r.val; omega)))

theorem p51_T8 (w : Vec Ideal S128x2x128 .bf16) (x : S1x1x1x1x128x2x128.Idx) : k0_pay51 w x = T8 0 (sc 3) w x := by
  refine (spread_apply _ x).trans ?_
  show _ = w (ix3 (x 6) 0 (x 4)) * _
  have hr : (x 4).val < 128 := (x 4).isLt
  generalize x 4 = r at hr ⊢
  generalize x 6 = l
  first
    | (pointwise []; done)
    | (pointwise [k0_pay49]; done)
    | (pointwise [k0_pay49]
       rw [if_pos (by omega)]
       exact congrArg (fun z => w (ix3 l 0 z) * _) (Fin.ext (by show (2 * r.val + 0) / 2 = r.val; omega)))
    | (pointwise [k0_pay49]
       rw [if_pos (by omega)]
       exact congrArg (fun z => w (ix3 l 0 z) * _) (Fin.ext (by show (2 * r.val) / 2 = r.val; omega)))

theorem p165_T8 (w : Vec Ideal S128x2x128 .bf16) (x : S1x1x1x1x128x2x128.Idx) : k0_pay165 (k0_pay50 w) x = T8 1 (sc 3) w x := by
  refine (spread_apply _ x).trans ?_
  show _ = w (ix3 (x 6) 1 (x 4)) * _
  have hr : (x 4).val < 128 := (x 4).isLt
  generalize x 4 = r at hr ⊢
  generalize x 6 = l
  first
    | (pointwise []; done)
    | (pointwise [k0_pay50, k0_pay49]; done)
    | (pointwise [k0_pay50, k0_pay49]
       rw [if_neg (by omega)]
       exact congrArg (fun z => w (ix3 l 1 z) * _) (Fin.ext (by show (2 * r.val + 1) / 2 = r.val; omega)))
    | (pointwise [k0_pay50, k0_pay49]
       rw [if_neg (by omega)]
       exact congrArg (fun z => w (ix3 l 1 z) * _) (Fin.ext (by show (2 * r.val) / 2 = r.val; omega)))

theorem p67_T8 (w : Vec Ideal S128x2x128 .bf16) (x : S1x1x1x1x128x2x128.Idx) : k0_pay67 w x = T8 0 (1) w x := by
  refine (spread_apply _ x).trans ?_
  show _ = w (ix3 (x 6) 0 (x 4)) * _
  rw [mul_one]
  generalize x 4 = r
  generalize x 6 = l
  pointwise []

theorem p68_T8 (w : Vec Ideal S128x2x128 .bf16) (x : S1x1x1x1x128x2x128.Idx) : k0_pay68 w x = T8 1 (1) w x := by
  refine (spread_apply _ x).trans ?_
  show _ = w (ix3 (x 6) 1 (x 4)) * _
  rw [mul_one]
  generalize x 4 = r
  generalize x 6 = l
  pointwise []

theorem p69_T8 (w : Vec Ideal S128x2x128 .bf16) (x : S1x1x1x1x128x2x128.Idx) : k0_pay69 w x = T8 0 (1) w x := by
  refine (spread_apply _ x).trans ?_
  show _ = w (ix3 (x 6) 0 (x 4)) * _
  rw [mul_one]
  generalize x 4 = r
  generalize x 6 = l
  pointwise []

theorem p70_T8 (w : Vec Ideal S128x2x128 .bf16) (x : S1x1x1x1x128x2x128.Idx) : k0_pay70 w x = T8 1 (1) w x := by
  refine (spread_apply _ x).trans ?_
  show _ = w (ix3 (x 6) 1 (x 4)) * _
  rw [mul_one]
  generalize x 4 = r
  generalize x 6 = l
  pointwise []

theorem p71_T8 (w : Vec Ideal S128x2x128 .bf16) (x : S1x1x1x1x128x2x128.Idx) : k0_pay71 w x = T8 0 (1) w x := by
  refine (spread_apply _ x).trans ?_
  show _ = w (ix3 (x 6) 0 (x 4)) * _
  rw [mul_one]
  generalize x 4 = r
  generalize x 6 = l
  pointwise []

theorem p72_T8 (w : Vec Ideal S128x2x128 .bf16) (x : S1x1x1x1x128x2x128.Idx) : k0_pay72 w x = T8 1 (1) w x := by
  refine (spread_apply _ x).trans ?_
  show _ = w (ix3 (x 6) 1 (x 4)) * _
  rw [mul_one]
  generalize x 4 = r
  generalize x 6 = l
  pointwise []

theorem p73_T8 (w : Vec Ideal S128x2x128 .bf16) (x : S1x1x1x1x128x2x128.Idx) : k0_pay73 w x = T8 0 (1) w x := by
  refine (spread_apply _ x).trans ?_
  show _ = w (ix3 (x 6) 0 (x 4)) * _
  rw [mul_one]
  generalize x 4 = r
  generalize x 6 = l
  pointwise []

theorem p74_T8 (w : Vec Ideal S128x2x128 .bf16) (x : S1x1x1x1x128x2x128.Idx) : k0_pay74 w x = T8 1 (1) w x := by
  refine (spread_apply _ x).trans ?_
  show _ = w (ix3 (x 6) 1 (x 4)) * _
  rw [mul_one]
  generalize x 4 = r
  generalize x 6 = l
  pointwise []

theorem p76_T8 (w : Vec Ideal S128x2x128 .bf16) (x : S1x1x1x1x128x2x128.Idx) : k0_pay76 (k0_pay75 w) x = T8 0 (1) w x := by
  refine (spread_apply _ x).trans ?_
  show _ = w (ix3 (x 6) 0 (x 4)) * _
  rw [mul_one]
  generalize x 4 = r
  generalize x 6 = l
  pointwise [k0_pay75]

theorem p77_T8 (w : Vec Ideal S128x2x128 .bf16) (x : S1x1x1x1x128x2x128.Idx) : k0_pay77 w x = T8 1 (1) w x := by
  refine (spread_apply _ x).trans ?_
  show _ = w (ix3 (x 6) 1 (x 4)) * _
  rw [mul_one]
  generalize x 4 = r
  generalize x 6 = l
  pointwise []

theorem p80_T8 (w : Vec Ideal S128x2x128 .bf16) (x : S1x1x1x1x128x2x128.Idx) : k0_pay80 (k0_pay78 w) x = T8 0 (1) w x := by
  refine (spread_apply _ x).trans ?_
  show _ = w (ix3 (x 6) 0 (x 4)) * _
  rw [mul_one]
  generalize x 4 = r
  generalize x 6 = l
  pointwise [k0_pay78]

theorem p81_T8 (w : Vec Ideal S128x2x128 .bf16) (x : S1x1x1x1x128x2x128.Idx) : k0_pay81 (k0_pay79 w) x = T8 1 (1) w x := by
  refine (spread_apply _ x).trans ?_
  show _ = w (ix3 (x 6) 1 (x 4)) * _
  rw [mul_one]
  generalize x 4 = r
  generalize x 6 = l
  pointwise [k0_pay79]

theorem p84_T8 (w : Vec Ideal S128x2x128 .bf16) (x : S1x1x1x1x128x2x128.Idx) : k0_pay84 (k0_pay83 w) x = T8 0 (1) w x := by
  refine (spread_apply _ x).trans ?_
  show _ = w (ix3 (x 6) 0 (x 4)) * _
  rw [mul_one]
  generalize x 4 = r
  generalize x 6 = l
  pointwise [k0_pay83]

theorem p85_T8 (w : Vec Ideal S128x2x128 .bf16) (x : S1x1x1x1x128x2x128.Idx) : k0_pay85 (k0_pay82 w) x = T8 1 (1) w x := by
  refine (spread_apply _ x).trans ?_
  show _ = w (ix3 (x 6) 1 (x 4)) * _
  rw [mul_one]
  generalize x 4 = r
  generalize x 6 = l
  pointwise [k0_pay82]

theorem p2_T8 (w : Vec Ideal S128x2x128 .bf16) (x : S1x1x1x1x128x2x128.Idx) : k0_pay2 (k0_pay86 w) x = T8 0 (1) w x := by
  refine (spread_apply _ x).trans ?_
  show _ = w (ix3 (x 6) 0 (x 4)) * _
  rw [mul_one]
  generalize x 4 = r
  generalize x 6 = l
  pointwise [k0_pay86]

theorem p3_T8 (w : Vec Ideal S128x2x128 .bf16) (x : S1x1x1x1x128x2x128.Idx) : k0_pay3 (k0_pay87 w) x = T8 1 (1) w x := by
  refine (spread_apply _ x).trans ?_
  show _ = w (ix3 (x 6) 1 (x 4)) * _
  rw [mul_one]
  generalize x 4 = r
  generalize x 6 = l
  pointwise [k0_pay87]

set_option warn.classDefReducibility false in
/-- A spreading loop: after its trips before `k` the spread scratch is right in the slabs of those trips. -/
@[sl_loop] def loopV_t2 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v3 : BitVec 32) (X6 : BufTy.Contents (Elt Ideal) arg6.view.ty) :
    LoopInvTy_k0_t2 (F := Ideal) Unit ℕ (Pipeline.UD sig nD τ) ℕ Variants.none c none E i arg1 harg1 arg2 harg2 arg3 harg3 arg4 harg4 arg5 harg5 arg6 harg6 arg7 harg7 arg8 harg8 arg9 harg9 arg10 v3 where
  inv k _u := iprop(((slotM arg6 i).view.loc (c : Thread nD τ) ↦[(slotM arg6 i).view.set]{fullShare} X6) ∗ (∃ f, ⌜Good7 (arg6 := arg6) (arg7 := arg7) 0 i X6 2 f⌝ ∗ (arg7.view.loc (c : Thread nD τ) ↦[arg7.view.set]{fullShare} f)) ∗ (∃ f, ⌜Good8 (arg6 := arg6) (arg8 := arg8) i X6 (0 + k) f⌝ ∗ (arg8.view.loc (c : Thread nD τ) ↦[arg8.view.set]{fullShare} f)))
  step k acc := by
    have hg : ∀ f7, Good7 (arg6 := arg6) (arg7 := arg7) 0 i X6 2 f7 → ∀ y, arg7.view.read (Elt Ideal) f7 y = G7 0 i (arg6.view.read (Elt Ideal) X6) y := fun f7 h y => h y (y 0).isLt
    have hk2 : k.val < 2 := k.isLt
    unfold k0_t2_body
    iintro ⟨H6, ⟨%f7, %hf7, H7⟩, ⟨%f8, %hf8, H8⟩⟩
    have hg7 := hg f7 hf7
    sl_exec
    sl_step
    isplitl [H6]
    · iexact H6
    isplitl [H7]
    · iexists f7
      isplitr
      swap
      · iexact H7
      · ipureintro
        exact hf7
    iexists _
    isplitr
    swap
    · iexact H8
    · ipureintro
      intro y hy
      refine writes_good arg8.view f8 (G8 i (arg6.view.read (Elt Ideal) X6)) _ ?_ y ?_
      · intro p hp
        simp only [List.mem_cons, List.not_mem_nil, or_false] at hp
        rcases hp with rfl | rfl | rfl | rfl | rfl | rfl | rfl | rfl | rfl | rfl | rfl | rfl | rfl | rfl | rfl | rfl
        · exact fun x => (p165_T8 _ x).trans (t8_eq 0 3 1 1 (by decide) (by decide) (by decide) (by decide) i k.val hk2 arg7 f7 (arg6.view.read (Elt Ideal) X6) hg7 rfl (k0_off55_eq k) rfl (k0_off71_eq k) (he := k0_off71_inb k) x)
        · exact fun x => (p51_T8 _ x).trans (t8_eq 0 3 1 0 (by decide) (by decide) (by decide) (by decide) i k.val hk2 arg7 f7 (arg6.view.read (Elt Ideal) X6) hg7 rfl (k0_off55_eq k) rfl (k0_off70_eq k) (he := k0_off70_inb k) x)
        · exact fun x => (p48_T8 _ x).trans (t8_eq 0 3 0 1 (by decide) (by decide) (by decide) (by decide) i k.val hk2 arg7 f7 (arg6.view.read (Elt Ideal) X6) hg7 rfl (k0_off55_eq k) rfl (k0_off69_eq k) (he := k0_off69_inb k) x)
        · exact fun x => (p47_T8 _ x).trans (t8_eq 0 3 0 0 (by decide) (by decide) (by decide) (by decide) i k.val hk2 arg7 f7 (arg6.view.read (Elt Ideal) X6) hg7 rfl (k0_off55_eq k) rfl (k0_off68_eq k) (he := k0_off68_inb k) x)
        · exact fun x => (p44_T8 _ x).trans (t8_eq 0 2 1 1 (by decide) (by decide) (by decide) (by decide) i k.val hk2 arg7 f7 (arg6.view.read (Elt Ideal) X6) hg7 rfl (k0_off55_eq k) rfl (k0_off67_eq k) (he := k0_off67_inb k) x)
        · exact fun x => (p43_T8 _ x).trans (t8_eq 0 2 1 0 (by decide) (by decide) (by decide) (by decide) i k.val hk2 arg7 f7 (arg6.view.read (Elt Ideal) X6) hg7 rfl (k0_off55_eq k) rfl (k0_off66_eq k) (he := k0_off66_inb k) x)
        · exact fun x => (p40_T8 _ x).trans (t8_eq 0 2 0 1 (by decide) (by decide) (by decide) (by decide) i k.val hk2 arg7 f7 (arg6.view.read (Elt Ideal) X6) hg7 rfl (k0_off55_eq k) rfl (k0_off65_eq k) (he := k0_off65_inb k) x)
        · exact fun x => (p38_T8 _ x).trans (t8_eq 0 2 0 0 (by decide) (by decide) (by decide) (by decide) i k.val hk2 arg7 f7 (arg6.view.read (Elt Ideal) X6) hg7 rfl (k0_off55_eq k) rfl (k0_off64_eq k) (he := k0_off64_inb k) x)
        · exact fun x => (p35_T8 _ x).trans (t8_eq 0 1 1 1 (by decide) (by decide) (by decide) (by decide) i k.val hk2 arg7 f7 (arg6.view.read (Elt Ideal) X6) hg7 rfl (k0_off55_eq k) rfl (k0_off63_eq k) (he := k0_off63_inb k) x)
        · exact fun x => (p34_T8 _ x).trans (t8_eq 0 1 1 0 (by decide) (by decide) (by decide) (by decide) i k.val hk2 arg7 f7 (arg6.view.read (Elt Ideal) X6) hg7 rfl (k0_off55_eq k) rfl (k0_off62_eq k) (he := k0_off62_inb k) x)
        · exact fun x => (p31_T8 _ x).trans (t8_eq 0 1 0 1 (by decide) (by decide) (by decide) (by decide) i k.val hk2 arg7 f7 (arg6.view.read (Elt Ideal) X6) hg7 rfl (k0_off55_eq k) rfl (k0_off61_eq k) (he := k0_off61_inb k) x)
        · exact fun x => (p30_T8 _ x).trans (t8_eq 0 1 0 0 (by decide) (by decide) (by decide) (by decide) i k.val hk2 arg7 f7 (arg6.view.read (Elt Ideal) X6) hg7 rfl (k0_off55_eq k) rfl (k0_off60_eq k) (he := k0_off60_inb k) x)
        · exact fun x => (p28_T8 _ x).trans (t8_eq 0 0 1 1 (by decide) (by decide) (by decide) (by decide) i k.val hk2 arg7 f7 (arg6.view.read (Elt Ideal) X6) hg7 rfl (k0_off55_eq k) rfl (k0_off59_eq k) (he := k0_off59_inb k) x)
        · exact fun x => (p27_T8 _ x).trans (t8_eq 0 0 1 0 (by decide) (by decide) (by decide) (by decide) i k.val hk2 arg7 f7 (arg6.view.read (Elt Ideal) X6) hg7 rfl (k0_off55_eq k) rfl (k0_off58_eq k) (he := k0_off58_inb k) x)
        · exact fun x => (p26_T8 _ x).trans (t8_eq 0 0 0 1 (by decide) (by decide) (by decide) (by decide) i k.val hk2 arg7 f7 (arg6.view.read (Elt Ideal) X6) hg7 rfl (k0_off55_eq k) rfl (k0_off57_eq k) (he := k0_off57_inb k) x)
        · exact fun x => (p25_T8 _ x).trans (t8_eq 0 0 0 0 (by decide) (by decide) (by decide) (by decide) i k.val hk2 arg7 f7 (arg6.view.read (Elt Ideal) X6) hg7 rfl (k0_off55_eq k) rfl (k0_off56_eq k) (he := k0_off56_inb k) x)
      · have h4 : (y 4).val < 256 := (y 4).isLt
        have h0 : (y 0).val < 2 := (y 0).isLt
        have h1 : (y 1).val < 4 := (y 1).isLt
        have h2 : (y 2).val < 2 := (y 2).isLt
        have h3 : (y 3).val < 2 := (y 3).isLt
        by_cases h : 2 * (y 0).val + (y 4).val / 128 < 0 + k.val
        · exact Or.inl (hf8 y h)
        right
        have ha : (y 0).val = 0 := by omega
        have hk : (y 4).val / 128 = k.val := by omega
        obtain hf | hf | hf | hf : (y 1).val = 3 ∨ (y 1).val = 2 ∨ (y 1).val = 1 ∨ (y 1).val = 0 := by omega
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_self, mem8 (he := k0_off71_inb k) (k0_off71_eq k) y hk ha hf ht.1 ht.2⟩
          · exact ⟨_, List.mem_cons_of_mem _ (List.mem_cons_self), mem8 (he := k0_off70_inb k) (k0_off70_eq k) y hk ha hf ht.1 ht.2⟩
          · exact ⟨_, List.mem_cons_of_mem _ (List.mem_cons_of_mem _ (List.mem_cons_self)), mem8 (he := k0_off69_inb k) (k0_off69_eq k) y hk ha hf ht.1 ht.2⟩
          · exact ⟨_, List.mem_cons_of_mem _ (List.mem_cons_of_mem _ (List.mem_cons_of_mem _ (List.mem_cons_self))), mem8 (he := k0_off68_inb k) (k0_off68_eq k) y hk ha hf ht.1 ht.2⟩
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_of_mem _ (List.mem_cons_of_mem _ (List.mem_cons_of_mem _ (List.mem_cons_of_mem _ (List.mem_cons_self)))), mem8 (he := k0_off67_inb k) (k0_off67_eq k) y hk ha hf ht.1 ht.2⟩
          · exact ⟨_, List.mem_cons_of_mem _ (List.mem_cons_of_mem _ (List.mem_cons_of_mem _ (List.mem_cons_of_mem _ (List.mem_cons_of_mem _ (List.mem_cons_self))))), mem8 (he := k0_off66_inb k) (k0_off66_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_self)))))), mem8 (he := k0_off65_inb k) (k0_off65_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem8 (he := k0_off64_inb k) (k0_off64_eq k) y hk ha hf ht.1 ht.2⟩
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem8 (he := k0_off63_inb k) (k0_off63_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem8 (he := k0_off62_inb k) (k0_off62_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem8 (he := k0_off61_inb k) (k0_off61_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem8 (he := k0_off60_inb k) (k0_off60_eq k) y hk ha hf ht.1 ht.2⟩
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem8 (he := k0_off59_inb k) (k0_off59_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem8 (he := k0_off58_inb k) (k0_off58_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem8 (he := k0_off57_inb k) (k0_off57_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem8 (he := k0_off56_inb k) (k0_off56_eq k) y hk ha hf ht.1 ht.2⟩

set_option warn.classDefReducibility false in
/-- A spreading loop: after its trips before `k` the spread scratch is right in the slabs of those trips. -/
@[sl_loop] def loopV_t4 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (X6 : BufTy.Contents (Elt Ideal) arg6.view.ty) :
    LoopInvTy_k0_t4 (F := Ideal) Unit ℕ (Pipeline.UD sig nD τ) ℕ Variants.none c none E i arg1 harg1 arg2 harg2 arg3 harg3 arg4 harg4 arg5 harg5 arg6 harg6 arg7 harg7 arg8 harg8 arg9 harg9 arg10 where
  inv k _u := iprop(((slotM arg6 i).view.loc (c : Thread nD τ) ↦[(slotM arg6 i).view.set]{fullShare} X6) ∗ (∃ f, ⌜Good7 (arg6 := arg6) (arg7 := arg7) 1 i X6 2 f⌝ ∗ (arg7.view.loc (c : Thread nD τ) ↦[arg7.view.set]{fullShare} f)) ∗ (∃ f, ⌜Good8 (arg6 := arg6) (arg8 := arg8) i X6 (2 + k) f⌝ ∗ (arg8.view.loc (c : Thread nD τ) ↦[arg8.view.set]{fullShare} f)))
  step k acc := by
    have hg : ∀ f7, Good7 (arg6 := arg6) (arg7 := arg7) 1 i X6 2 f7 → ∀ y, arg7.view.read (Elt Ideal) f7 y = G7 1 i (arg6.view.read (Elt Ideal) X6) y := fun f7 h y => h y (y 0).isLt
    have hk2 : k.val < 2 := k.isLt
    unfold k0_t4_body
    iintro ⟨H6, ⟨%f7, %hf7, H7⟩, ⟨%f8, %hf8, H8⟩⟩
    have hg7 := hg f7 hf7
    sl_exec
    sl_step
    isplitl [H6]
    · iexact H6
    isplitl [H7]
    · iexists f7
      isplitr
      swap
      · iexact H7
      · ipureintro
        exact hf7
    iexists _
    isplitr
    swap
    · iexact H8
    · ipureintro
      intro y hy
      refine writes_good arg8.view f8 (G8 i (arg6.view.read (Elt Ideal) X6)) _ ?_ y ?_
      · intro p hp
        simp only [List.mem_cons, List.not_mem_nil, or_false] at hp
        rcases hp with rfl | rfl | rfl | rfl | rfl | rfl | rfl | rfl | rfl | rfl | rfl | rfl | rfl | rfl | rfl | rfl
        · exact fun x => (p3_T8 _ x).trans (t8_eq 1 3 1 1 (by decide) (by decide) (by decide) (by decide) i k.val hk2 arg7 f7 (arg6.view.read (Elt Ideal) X6) hg7 rfl (k0_off88_eq k) rfl (k0_off104_eq k) (he := k0_off104_inb k) x)
        · exact fun x => (p2_T8 _ x).trans (t8_eq 1 3 1 0 (by decide) (by decide) (by decide) (by decide) i k.val hk2 arg7 f7 (arg6.view.read (Elt Ideal) X6) hg7 rfl (k0_off88_eq k) rfl (k0_off103_eq k) (he := k0_off103_inb k) x)
        · exact fun x => (p85_T8 _ x).trans (t8_eq 1 3 0 1 (by decide) (by decide) (by decide) (by decide) i k.val hk2 arg7 f7 (arg6.view.read (Elt Ideal) X6) hg7 rfl (k0_off88_eq k) rfl (k0_off102_eq k) (he := k0_off102_inb k) x)
        · exact fun x => (p84_T8 _ x).trans (t8_eq 1 3 0 0 (by decide) (by decide) (by decide) (by decide) i k.val hk2 arg7 f7 (arg6.view.read (Elt Ideal) X6) hg7 rfl (k0_off88_eq k) rfl (k0_off101_eq k) (he := k0_off101_inb k) x)
        · exact fun x => (p81_T8 _ x).trans (t8_eq 1 2 1 1 (by decide) (by decide) (by decide) (by decide) i k.val hk2 arg7 f7 (arg6.view.read (Elt Ideal) X6) hg7 rfl (k0_off88_eq k) rfl (k0_off100_eq k) (he := k0_off100_inb k) x)
        · exact fun x => (p80_T8 _ x).trans (t8_eq 1 2 1 0 (by decide) (by decide) (by decide) (by decide) i k.val hk2 arg7 f7 (arg6.view.read (Elt Ideal) X6) hg7 rfl (k0_off88_eq k) rfl (k0_off99_eq k) (he := k0_off99_inb k) x)
        · exact fun x => (p77_T8 _ x).trans (t8_eq 1 2 0 1 (by decide) (by decide) (by decide) (by decide) i k.val hk2 arg7 f7 (arg6.view.read (Elt Ideal) X6) hg7 rfl (k0_off88_eq k) rfl (k0_off98_eq k) (he := k0_off98_inb k) x)
        · exact fun x => (p76_T8 _ x).trans (t8_eq 1 2 0 0 (by decide) (by decide) (by decide) (by decide) i k.val hk2 arg7 f7 (arg6.view.read (Elt Ideal) X6) hg7 rfl (k0_off88_eq k) rfl (k0_off97_eq k) (he := k0_off97_inb k) x)
        · exact fun x => (p74_T8 _ x).trans (t8_eq 1 1 1 1 (by decide) (by decide) (by decide) (by decide) i k.val hk2 arg7 f7 (arg6.view.read (Elt Ideal) X6) hg7 rfl (k0_off88_eq k) rfl (k0_off96_eq k) (he := k0_off96_inb k) x)
        · exact fun x => (p73_T8 _ x).trans (t8_eq 1 1 1 0 (by decide) (by decide) (by decide) (by decide) i k.val hk2 arg7 f7 (arg6.view.read (Elt Ideal) X6) hg7 rfl (k0_off88_eq k) rfl (k0_off95_eq k) (he := k0_off95_inb k) x)
        · exact fun x => (p72_T8 _ x).trans (t8_eq 1 1 0 1 (by decide) (by decide) (by decide) (by decide) i k.val hk2 arg7 f7 (arg6.view.read (Elt Ideal) X6) hg7 rfl (k0_off88_eq k) rfl (k0_off94_eq k) (he := k0_off94_inb k) x)
        · exact fun x => (p71_T8 _ x).trans (t8_eq 1 1 0 0 (by decide) (by decide) (by decide) (by decide) i k.val hk2 arg7 f7 (arg6.view.read (Elt Ideal) X6) hg7 rfl (k0_off88_eq k) rfl (k0_off93_eq k) (he := k0_off93_inb k) x)
        · exact fun x => (p70_T8 _ x).trans (t8_eq 1 0 1 1 (by decide) (by decide) (by decide) (by decide) i k.val hk2 arg7 f7 (arg6.view.read (Elt Ideal) X6) hg7 rfl (k0_off88_eq k) rfl (k0_off92_eq k) (he := k0_off92_inb k) x)
        · exact fun x => (p69_T8 _ x).trans (t8_eq 1 0 1 0 (by decide) (by decide) (by decide) (by decide) i k.val hk2 arg7 f7 (arg6.view.read (Elt Ideal) X6) hg7 rfl (k0_off88_eq k) rfl (k0_off91_eq k) (he := k0_off91_inb k) x)
        · exact fun x => (p68_T8 _ x).trans (t8_eq 1 0 0 1 (by decide) (by decide) (by decide) (by decide) i k.val hk2 arg7 f7 (arg6.view.read (Elt Ideal) X6) hg7 rfl (k0_off88_eq k) rfl (k0_off90_eq k) (he := k0_off90_inb k) x)
        · exact fun x => (p67_T8 _ x).trans (t8_eq 1 0 0 0 (by decide) (by decide) (by decide) (by decide) i k.val hk2 arg7 f7 (arg6.view.read (Elt Ideal) X6) hg7 rfl (k0_off88_eq k) rfl (k0_off89_eq k) (he := k0_off89_inb k) x)
      · have h4 : (y 4).val < 256 := (y 4).isLt
        have h0 : (y 0).val < 2 := (y 0).isLt
        have h1 : (y 1).val < 4 := (y 1).isLt
        have h2 : (y 2).val < 2 := (y 2).isLt
        have h3 : (y 3).val < 2 := (y 3).isLt
        by_cases h : 2 * (y 0).val + (y 4).val / 128 < 2 + k.val
        · exact Or.inl (hf8 y h)
        right
        have ha : (y 0).val = 1 := by omega
        have hk : (y 4).val / 128 = k.val := by omega
        obtain hf | hf | hf | hf : (y 1).val = 3 ∨ (y 1).val = 2 ∨ (y 1).val = 1 ∨ (y 1).val = 0 := by omega
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_self, mem8 (he := k0_off104_inb k) (k0_off104_eq k) y hk ha hf ht.1 ht.2⟩
          · exact ⟨_, List.mem_cons_of_mem _ (List.mem_cons_self), mem8 (he := k0_off103_inb k) (k0_off103_eq k) y hk ha hf ht.1 ht.2⟩
          · exact ⟨_, List.mem_cons_of_mem _ (List.mem_cons_of_mem _ (List.mem_cons_self)), mem8 (he := k0_off102_inb k) (k0_off102_eq k) y hk ha hf ht.1 ht.2⟩
          · exact ⟨_, List.mem_cons_of_mem _ (List.mem_cons_of_mem _ (List.mem_cons_of_mem _ (List.mem_cons_self))), mem8 (he := k0_off101_inb k) (k0_off101_eq k) y hk ha hf ht.1 ht.2⟩
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_of_mem _ (List.mem_cons_of_mem _ (List.mem_cons_of_mem _ (List.mem_cons_of_mem _ (List.mem_cons_self)))), mem8 (he := k0_off100_inb k) (k0_off100_eq k) y hk ha hf ht.1 ht.2⟩
          · exact ⟨_, List.mem_cons_of_mem _ (List.mem_cons_of_mem _ (List.mem_cons_of_mem _ (List.mem_cons_of_mem _ (List.mem_cons_of_mem _ (List.mem_cons_self))))), mem8 (he := k0_off99_inb k) (k0_off99_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_self)))))), mem8 (he := k0_off98_inb k) (k0_off98_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), mem8 (he := k0_off97_inb k) (k0_off97_eq k) y hk ha hf ht.1 ht.2⟩
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), mem8 (he := k0_off96_inb k) (k0_off96_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), mem8 (he := k0_off95_inb k) (k0_off95_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), mem8 (he := k0_off94_inb k) (k0_off94_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), mem8 (he := k0_off93_inb k) (k0_off93_eq k) y hk ha hf ht.1 ht.2⟩
        · obtain ht | ht | ht | ht : ((y 2).val = 1 ∧ (y 3).val = 1) ∨ ((y 2).val = 1 ∧ (y 3).val = 0) ∨ ((y 2).val = 0 ∧ (y 3).val = 1) ∨ ((y 2).val = 0 ∧ (y 3).val = 0) := by omega
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), mem8 (he := k0_off92_inb k) (k0_off92_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), mem8 (he := k0_off91_inb k) (k0_off91_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), mem8 (he := k0_off90_inb k) (k0_off90_eq k) y hk ha hf ht.1 ht.2⟩
          · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), mem8 (he := k0_off89_inb k) (k0_off89_eq k) y hk ha hf ht.1 ht.2⟩

end Cert.KernelIdeal.Hand

end
-- ==== Proof.WgtI.lean ====
/- The weights' pieces, read at an index. -/
module

public import proofs.«01_k».proof.Proof.ValI
public import Idealize.ShloMosaic.Lib.BitcastFour

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

/-- One row of factors, over all sixteen rows of its group. -/
def dup (raw : Vec Ideal S1x1x1x1x1x2x128 .bf16) : FVec Ideal S16x128 .bf16 :=
  have lo : FVec Ideal S1x128 .bf16 := (shapeCast S1x128 (shapeCast S1x1x1x1x1x128 (rowsOfParity 0 S1x1x1x1x1x1x128 raw bitcasts_S1x1x1x1x1x2x128_w16_S1x1x1x1x1x1x128_w32) shapeCasts_S1x1x1x1x1x1x128_S1x1x1x1x1x128) shapeCasts_S1x1x1x1x1x128_S1x128 : FVec Ideal S1x128 .bf16)
  have hi : FVec Ideal S1x128 .bf16 := (shapeCast S1x128 (shapeCast S1x1x1x1x1x128 (rowsOfParity 1 S1x1x1x1x1x1x128 raw bitcasts_S1x1x1x1x1x2x128_w16_S1x1x1x1x1x1x128_w32) shapeCasts_S1x1x1x1x1x1x128_S1x1x1x1x1x128) shapeCasts_S1x1x1x1x1x128_S1x128 : FVec Ideal S1x128 .bf16)
  interleaveRows S16x128 (concatenate S8x128 0 [⟨S1x128, lo⟩, ⟨S1x128, lo⟩, ⟨S1x128, lo⟩, ⟨S1x128, lo⟩, ⟨S1x128, lo⟩, ⟨S1x128, lo⟩, ⟨S1x128, lo⟩, ⟨S1x128, lo⟩] concatenates_S1x128_S1x128_S1x128_S1x128_S1x128_S1x128_S1x128_S1x128_S8x128_d0) (concatenate S8x128 0 [⟨S1x128, hi⟩, ⟨S1x128, hi⟩, ⟨S1x128, hi⟩, ⟨S1x128, hi⟩, ⟨S1x128, hi⟩, ⟨S1x128, hi⟩, ⟨S1x128, hi⟩, ⟨S1x128, hi⟩] concatenates_S1x128_S1x128_S1x128_S1x128_S1x128_S1x128_S1x128_S1x128_S8x128_d0) bitcasts_S16x128_w16_S8x128_w32

theorem dup_apply (raw : Vec Ideal S1x1x1x1x1x2x128 .bf16) (x : S16x128.Idx) : dup raw x = raw (ix7 0 0 0 0 0 ⟨(x 0).val % 2, Nat.mod_lt _ (by decide)⟩ (x 1)) := by
  pointwise [dup]
  simp only [dite_eq_ite, ite_self]
  by_cases h : (x 0).val % 2 = 0
  · rw [if_pos h]
    exact congrArg (fun z => raw (ix7 0 0 0 0 0 z (x 1))) (Fin.ext h.symm)
  · rw [if_neg h]
    exact congrArg (fun z => raw (ix7 0 0 0 0 0 z (x 1))) (Fin.ext (by show 1 = (x 0).val % 2; omega))

/-- The codes of one field of a tile of packed bytes. -/
def codes (m : BitVec 32) (b : Vec Ideal S32x128 .i8) : FVec Ideal S32x128 .bf16 :=
  uitofp .bf16 (bitcast S32x128 8 (andi (bitcast S8x128 32 b bitcasts_S32x128_w8_S8x128_w32) (broadcast S8x128 m)) bitcasts_S8x128_w32_S32x128_w8)

theorem byte_and (m : BitVec 32) (μ : BitVec 8) (hm : ∀ q < 32, m.getLsbD q = μ.getLsbD (q % 8)) (b : Vec Ideal S32x128 .i8) (x : S32x128.Idx) :
    bitcast S32x128 8 (andi (bitcast S8x128 32 b bitcasts_S32x128_w8_S8x128_w32) (broadcast S8x128 m)) bitcasts_S8x128_w32_S32x128_w8 x = (b x : BitVec 8) &&& μ := by
  apply BitVec.eq_of_getLsbD_eq
  intro q hq
  have h0 : (x 0).val < 32 := (x 0).isLt
  have hrow : S32x128.row x = (x 0).val := rfl
  rw [bitcast_getLsbD _ _ x q hq (by decide)]
  have e : Shape.Bitcasts.srcIdx bitcasts_S8x128_w32_S32x128_w8 x ((S32x128.row x * 8 + q) / 32) (fun a ha => (Nat.div_lt_iff_lt_mul (by decide)).2 (bitcasts_S8x128_w32_S32x128_w8.pos_lt x q hq a ha))
      = ix2 (⟨(x 0).val / 4, by omega⟩ : Fin 8) (x 1 : Fin 128) := by
    funext c
    match c with
    | ⟨0, _⟩ => exact Fin.ext ((bitcasts_S8x128_w32_S32x128_w8.srcIdx_row _ _ _ ⟨0, Nat.zero_lt_two⟩ rfl).trans (by show ((x 0).val * 8 + q) / 32 = (x 0).val / 4; omega))
    | ⟨1, _⟩ => exact Fin.ext (bitcasts_S8x128_w32_S32x128_w8.srcIdx_other _ _ _ ⟨1, Nat.one_lt_two⟩ (by show ¬ 1 + 2 = 2; omega))
  rw [e]
  have hx : x = ix2 (x 0 : Fin 32) (x 1 : Fin 128) := by funext c; match c with | ⟨0, _⟩ => rfl | ⟨1, _⟩ => rfl
  have hq' : (S32x128.row x * 8 + q) % 32 < 32 := Nat.mod_lt _ (by decide)
  show BitVec.getLsbD (bitcast S8x128 32 b bitcasts_S32x128_w8_S8x128_w32 (ix2 (⟨(x 0).val / 4, by omega⟩ : Fin 8) (x 1 : Fin 128)) &&& m) ((S32x128.row x * 8 + q) % 32) = _
  rw [BitVec.getLsbD_and, BitVec.getLsbD_and, hm _ hq', show (S32x128.row x * 8 + q) % 32 % 8 = q by omega]
  have e2 := bitcast_8_32_getLsbD_ix2 (R := 32) (r := 8) (n := 128) b bitcasts_S32x128_w8_S8x128_w32 (⟨(x 0).val / 4, by omega⟩ : Fin 8) (x 1 : Fin 128) _ hq' (x 0 : Fin 32)
    (by show (x 0).val = 4 * ((x 0).val / 4) + ((x 0).val * 8 + q) % 32 / 8; omega)
  refine congrArg (fun z => z && BitVec.getLsbD μ q) (Eq.trans e2 ?_)
  rw [show (S32x128.row x * 8 + q) % 32 % 8 = q by omega]
  exact congrArg (fun z => BitVec.getLsbD (b z) q) hx.symm

theorem codes_apply (m : BitVec 32) (μ : BitVec 8) (hm : ∀ q < 32, m.getLsbD q = μ.getLsbD (q % 8)) (b : Vec Ideal S32x128 .i8) (x : S32x128.Idx) :
    codes m b x = FloatOps.uitofp (F := Ideal) .bf16 ((b x : BitVec 8) &&& μ) :=
  congrArg (FloatOps.uitofp (F := Ideal) .bf16) (byte_and m μ hm b x)

/-- Concatenating sixteen groups' rows. -/
def cat16 (P : Fin 16 → FVec Ideal S16x128 .bf16) : FVec Ideal S256x128 .bf16 :=
  concatenate S256x128 0 [⟨S16x128, P 0⟩, ⟨S16x128, P 1⟩, ⟨S16x128, P 2⟩, ⟨S16x128, P 3⟩, ⟨S16x128, P 4⟩, ⟨S16x128, P 5⟩, ⟨S16x128, P 6⟩, ⟨S16x128, P 7⟩, ⟨S16x128, P 8⟩, ⟨S16x128, P 9⟩, ⟨S16x128, P 10⟩, ⟨S16x128, P 11⟩, ⟨S16x128, P 12⟩, ⟨S16x128, P 13⟩, ⟨S16x128, P 14⟩, ⟨S16x128, P 15⟩] concatenates_S16x128_S16x128_S16x128_S16x128_S16x128_S16x128_S16x128_S16x128_S16x128_S16x128_S16x128_S16x128_S16x128_S16x128_S16x128_S16x128_S256x128_d0

theorem cat16_apply (P : Fin 16 → FVec Ideal S16x128 .bf16) (x : S256x128.Idx) : cat16 P x = P ⟨(x 0).val / 16, by have h : (x 0).val < 256 := (x 0).isLt; omega⟩ (ix2 (⟨(x 0).val % 16, by omega⟩ : Fin 16) (x 1 : Fin 128)) :=
  concatenate_ofFn_apply (s₁ := S16x128) (t := S256x128) 0 P concatenates_S16x128_S16x128_S16x128_S16x128_S16x128_S16x128_S16x128_S16x128_S16x128_S16x128_S16x128_S16x128_S16x128_S16x128_S16x128_S16x128_S256x128_d0 rfl 16 rfl x _ rfl _ rfl
    (fun b hb => by
      match b, hb with
      | ⟨0, _⟩, hb => exact absurd rfl hb
      | ⟨1, _⟩, _ => rfl)

theorem pay7_apply (tot : FVec Ideal S128x256 .f32) (p q : FVec Ideal S256x128 .bf16) (a : Vec Ideal S128x256 .bf16) (x : S128x256.Idx) :
    k0_pay7 tot p q a x = tot x + ∑ y : Fin 256, a (ix2 (x 0) y) * if h : (x 1).val < 128 then p (ix2 y ⟨(x 1).val, h⟩) else q (ix2 y ⟨(x 1).val - 128, by have h1 : (x 1).val < 256 := (x 1).isLt; omega⟩) := by
  pointwise [k0_pay7]

/-- The weights of one group and one tile of columns. -/
def piece0 (m : BitVec 32) (b : Vec Ideal S32x128 .i8) (r0 r1 : Vec Ideal S1x1x1x1x1x2x128 .bf16) : FVec Ideal S16x128 .bf16 :=
  addf (mulf (extractStridedSlice S16x128 ![0, 0] (codes m b) slices_S32x128_o0_0_S16x128) (dup r0)) (dup r1)
def piece1 (m : BitVec 32) (b : Vec Ideal S32x128 .i8) (r0 r1 : Vec Ideal S1x1x1x1x1x2x128 .bf16) : FVec Ideal S16x128 .bf16 :=
  addf (mulf (extractStridedSlice S16x128 ![16, 0] (codes m b) slices_S32x128_o16_0_S16x128) (dup r0)) (dup r1)

theorem piece0_apply (m : BitVec 32) (b : Vec Ideal S32x128 .i8) (r0 r1 : Vec Ideal S1x1x1x1x1x2x128 .bf16) (q : Fin 16) (l : Fin 128) :
    piece0 m b r0 r1 (ix2 q l) = codes m b (ix2 (⟨16 * 0 + q.val, by omega⟩ : Fin 32) l) * dup r0 (ix2 q l) + dup r1 (ix2 q l) := by
  pointwise [piece0]
  try rfl
theorem piece1_apply (m : BitVec 32) (b : Vec Ideal S32x128 .i8) (r0 r1 : Vec Ideal S1x1x1x1x1x2x128 .bf16) (q : Fin 16) (l : Fin 128) :
    piece1 m b r0 r1 (ix2 q l) = codes m b (ix2 (⟨16 * 1 + q.val, by omega⟩ : Fin 32) l) * dup r0 (ix2 q l) + dup r1 (ix2 q l) := by
  pointwise [piece1]
  try rfl

/-- A weight of field `f`, from the packed bytes and the spread factors. -/
def wgt (μ : BitVec 8) (B : S8192x256.Idx → BitVec 8) (D : S2x4x2x2x256x2x128.Idx → EReal) (f : Fin 4) (j : Fin 8192) (c : Fin 256) : EReal :=
  FloatOps.uitofp (F := Ideal) .bf16 (B (ix2 j c) &&& μ)
    * D (ix7 (0 : Fin 2) f (⟨c.val / 128, by omega⟩ : Fin 2) (⟨j.val % 32 / 16, by omega⟩ : Fin 2) (⟨j.val / 32, by omega⟩ : Fin 256) (⟨j.val % 2, by omega⟩ : Fin 2) (⟨c.val % 128, by omega⟩ : Fin 128))
    + D (ix7 (1 : Fin 2) f (⟨c.val / 128, by omega⟩ : Fin 2) (⟨j.val % 32 / 16, by omega⟩ : Fin 2) (⟨j.val / 32, by omega⟩ : Fin 256) (⟨j.val % 2, by omega⟩ : Fin 2) (⟨c.val % 128, by omega⟩ : Fin 128))

theorem row8 (arg8 : Memref sig .tc .vmem S2x4x2x2x256x2x128 .bf16) (X8 : BufTy.Contents (Elt Ideal) arg8.view.ty)
    {o : Fin 7 → ℕ} {ho} {a f ct h p : ℕ} (e : o = ![a, f, ct, h, p, 0, 0])
    {z : S2x4x2x2x256x2x128.Idx} (z0 : (z 0).val = a) (z1 : (z 1).val = f) (z2 : (z 2).val = ct) (z3 : (z 3).val = h) (z4 : (z 4).val = p)
    (u : Fin 2) (l : Fin 128) (z5 : (z 5).val = u.val) (z6 : (z 6).val = l.val) :
    View.readAt (Elt Ideal) arg8.view (Rect.unit (s := S2x4x2x2x256x2x128) o S1x1x1x1x1x2x128.size ho).toLoadRect X8 (ix7 0 0 0 0 0 u l)
      = arg8.view.read (Elt Ideal) X8 z := by
  subst e
  show arg8.view.read (Elt Ideal) X8 _ = _
  refine congrArg (arg8.view.read (Elt Ideal) X8) ?_
  funext b
  apply Fin.ext
  fin_cases b
  · show a + 1 * 0 = (z 0).val; omega
  · show f + 1 * 0 = (z 1).val; omega
  · show ct + 1 * 0 = (z 2).val; omega
  · show h + 1 * 0 = (z 3).val; omega
  · show p + 1 * 0 = (z 4).val; omega
  · show 0 + 1 * u.val = (z 5).val; omega
  · show 0 + 1 * l.val = (z 6).val; omega

theorem byte2 (arg2 : Memref sig .tc .vmem S8192x256 .i8) (X2 : BufTy.Contents (Elt Ideal) arg2.view.ty)
    {o : Fin 2 → ℕ} {ho} {j c : ℕ} (e : o = ![j, c]) (u : Fin 32) (l : Fin 128) {z : S8192x256.Idx} (z0 : (z 0).val = j + u.val) (z1 : (z 1).val = c + l.val) :
    View.readAt (Elt Ideal) arg2.view (Rect.unit (s := S8192x256) o S32x128.size ho).toLoadRect X2 (ix2 u l) = arg2.view.read (Elt Ideal) X2 z := by
  subst e
  show arg2.view.read (Elt Ideal) X2 _ = _
  refine congrArg (arg2.view.read (Elt Ideal) X2) ?_
  funext b
  apply Fin.ext
  fin_cases b
  · show j + 1 * u.val = (z 0).val; omega
  · show c + 1 * l.val = (z 1).val; omega

theorem piece0_at (m : BitVec 32) (μ : BitVec 8) (hm : ∀ q < 32, m.getLsbD q = μ.getLsbD (q % 8))
    (arg2 : Memref sig .tc .vmem S8192x256 .i8) (X2 : BufTy.Contents (Elt Ideal) arg2.view.ty)
    (arg8 : Memref sig .tc .vmem S2x4x2x2x256x2x128 .bf16) (X8 : BufTy.Contents (Elt Ideal) arg8.view.ty)
    {o2 : Fin 2 → ℕ} {h2} {o0 o1 : Fin 7 → ℕ} {h0 h1} (ct : Fin 2) (f : Fin 4) (p : Fin 256)
    (e2 : o2 = ![32 * p.val, 128 * ct.val]) (e0 : o0 = ![0, f.val, ct.val, 0, p.val, 0, 0]) (e1 : o1 = ![1, f.val, ct.val, 0, p.val, 0, 0]) (q : Fin 16) (l : Fin 128)
    (j : Fin 8192) (c : Fin 256) (hj : j.val = 32 * p.val + 16 * 0 + q.val) (hc : c.val = 128 * ct.val + l.val) :
    piece0 m (View.readAt (Elt Ideal) arg2.view (Rect.unit (s := S8192x256) o2 S32x128.size h2).toLoadRect X2)
        (View.readAt (Elt Ideal) arg8.view (Rect.unit (s := S2x4x2x2x256x2x128) o0 S1x1x1x1x1x2x128.size h0).toLoadRect X8)
        (View.readAt (Elt Ideal) arg8.view (Rect.unit (s := S2x4x2x2x256x2x128) o1 S1x1x1x1x1x2x128.size h1).toLoadRect X8) (ix2 q l)
      = wgt μ (arg2.view.read (Elt Ideal) X2) (arg8.view.read (Elt Ideal) X8) f j c := by
  have hq : q.val < 16 := q.isLt
  have hl : l.val < 128 := l.isLt
  have hp : p.val < 256 := p.isLt
  refine (piece0_apply m _ _ _ q l).trans ?_
  refine congrArg₂ (· + ·) (congrArg₂ (· * ·) ((codes_apply m μ hm _ _).trans ?_) ((dup_apply _ _).trans ?_)) ((dup_apply _ _).trans ?_)
  · refine congrArg (fun z => FloatOps.uitofp (F := Ideal) .bf16 (z &&& μ)) (byte2 arg2 X2 e2 _ l (z := ix2 j c) ?_ ?_)
    · show j.val = 32 * p.val + (16 * 0 + q.val); omega
    · exact hc
  · refine row8 arg8 X8 e0 rfl rfl ?_ ?_ ?_ (⟨q.val % 2, by omega⟩ : Fin 2) l ?_ ?_
    · show c.val / 128 = ct.val; omega
    · show j.val % 32 / 16 = 0; omega
    · show j.val / 32 = p.val; omega
    · show j.val % 2 = q.val % 2; omega
    · show c.val % 128 = l.val; omega
  · refine row8 arg8 X8 e1 rfl rfl ?_ ?_ ?_ (⟨q.val % 2, by omega⟩ : Fin 2) l ?_ ?_
    · show c.val / 128 = ct.val; omega
    · show j.val % 32 / 16 = 0; omega
    · show j.val / 32 = p.val; omega
    · show j.val % 2 = q.val % 2; omega
    · show c.val % 128 = l.val; omega

theorem piece1_at (m : BitVec 32) (μ : BitVec 8) (hm : ∀ q < 32, m.getLsbD q = μ.getLsbD (q % 8))
    (arg2 : Memref sig .tc .vmem S8192x256 .i8) (X2 : BufTy.Contents (Elt Ideal) arg2.view.ty)
    (arg8 : Memref sig .tc .vmem S2x4x2x2x256x2x128 .bf16) (X8 : BufTy.Contents (Elt Ideal) arg8.view.ty)
    {o2 : Fin 2 → ℕ} {h2} {o0 o1 : Fin 7 → ℕ} {h0 h1} (ct : Fin 2) (f : Fin 4) (p : Fin 256)
    (e2 : o2 = ![32 * p.val, 128 * ct.val]) (e0 : o0 = ![0, f.val, ct.val, 1, p.val, 0, 0]) (e1 : o1 = ![1, f.val, ct.val, 1, p.val, 0, 0]) (q : Fin 16) (l : Fin 128)
    (j : Fin 8192) (c : Fin 256) (hj : j.val = 32 * p.val + 16 * 1 + q.val) (hc : c.val = 128 * ct.val + l.val) :
    piece1 m (View.readAt (Elt Ideal) arg2.view (Rect.unit (s := S8192x256) o2 S32x128.size h2).toLoadRect X2)
        (View.readAt (Elt Ideal) arg8.view (Rect.unit (s := S2x4x2x2x256x2x128) o0 S1x1x1x1x1x2x128.size h0).toLoadRect X8)
        (View.readAt (Elt Ideal) arg8.view (Rect.unit (s := S2x4x2x2x256x2x128) o1 S1x1x1x1x1x2x128.size h1).toLoadRect X8) (ix2 q l)
      = wgt μ (arg2.view.read (Elt Ideal) X2) (arg8.view.read (Elt Ideal) X8) f j c := by
  have hq : q.val < 16 := q.isLt
  have hl : l.val < 128 := l.isLt
  have hp : p.val < 256 := p.isLt
  refine (piece1_apply m _ _ _ q l).trans ?_
  refine congrArg₂ (· + ·) (congrArg₂ (· * ·) ((codes_apply m μ hm _ _).trans ?_) ((dup_apply _ _).trans ?_)) ((dup_apply _ _).trans ?_)
  · refine congrArg (fun z => FloatOps.uitofp (F := Ideal) .bf16 (z &&& μ)) (byte2 arg2 X2 e2 _ l (z := ix2 j c) ?_ ?_)
    · show j.val = 32 * p.val + (16 * 1 + q.val); omega
    · exact hc
  · refine row8 arg8 X8 e0 rfl rfl ?_ ?_ ?_ (⟨q.val % 2, by omega⟩ : Fin 2) l ?_ ?_
    · show c.val / 128 = ct.val; omega
    · show j.val % 32 / 16 = 1; omega
    · show j.val / 32 = p.val; omega
    · show j.val % 2 = q.val % 2; omega
    · show c.val % 128 = l.val; omega
  · refine row8 arg8 X8 e1 rfl rfl ?_ ?_ ?_ (⟨q.val % 2, by omega⟩ : Fin 2) l ?_ ?_
    · show c.val / 128 = ct.val; omega
    · show j.val % 32 / 16 = 1; omega
    · show j.val / 32 = p.val; omega
    · show j.val % 2 = q.val % 2; omega
    · show c.val % 128 = l.val; omega

end Cert.KernelIdeal.Hand

end
-- ==== Proof.T7V.lean ====
/- The product loops as values: the accumulator holds the product's partial sums. -/
module

public import proofs.«01_k».proof.Proof.ValI
public import proofs.«01_k».proof.Proof.WgtI

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (Pipeline.UD sig nD τ) ℕ

/-- The place of a field's two bits in a byte. -/
def mu (f : Fin 4) : BitVec 8 := 3#8 <<< (2 * f.val)

theorem mu_word : ∀ f : Fin 4, ∀ q < 32, (Scalar.shli 50529027#32 (Scalar.muli 2#32 (Scf.iv 0#32 1#32 f))).getLsbD q = (mu f).getLsbD (q % 8) := by
  decide +kernel

/-- One term of the product, at position `n` of the reduction. -/
def term (A : S128x8192.Idx → EReal) (B : S8192x256.Idx → BitVec 8) (D : S2x4x2x2x256x2x128.Idx → EReal) (f : Fin 4) (r : Fin 128) (c : Fin 256) (n : ℕ) : EReal :=
  if h : n < 8192 then A (ix2 r (⟨n, h⟩ : Fin 8192)) * wgt (mu f) B D f ⟨n, h⟩ c else 0

/-- One chunk of the product: what a trip adds to the partial sum. -/
theorem chunk (A : S128x8192.Idx → EReal) (B : S8192x256.Idx → BitVec 8) (D : S2x4x2x2x256x2x128.Idx → EReal) (f : Fin 4) (kc k : ℕ) (hkc : kc < 8) (hk : k < 4)
    (acc : FVec Ideal S128x256 .f32) (P Q : Fin 16 → FVec Ideal S16x128 .bf16) (a : Vec Ideal S128x256 .bf16)
    (ha : ∀ (r : Fin 128) (y : Fin 256), a (ix2 r y) = A (ix2 r (⟨1024 * kc + 256 * k + y.val, by omega⟩ : Fin 8192)))
    (hP : ∀ (p : Fin 16) (q : Fin 16) (l : Fin 128), P p (ix2 q l) = wgt (mu f) B D f ⟨1024 * kc + 256 * k + (16 * p.val + q.val), by omega⟩ ⟨l.val, by omega⟩)
    (hQ : ∀ (p : Fin 16) (q : Fin 16) (l : Fin 128), Q p (ix2 q l) = wgt (mu f) B D f ⟨1024 * kc + 256 * k + (16 * p.val + q.val), by omega⟩ ⟨128 + l.val, by omega⟩)
    (hacc : ∀ x : S128x256.Idx, acc x = ∑ n ∈ Finset.range (256 * k), term A B D f (x 0) (x 1) (1024 * kc + n)) (x : S128x256.Idx) :
    k0_pay7 acc (cat16 P) (cat16 Q) a x = ∑ n ∈ Finset.range (256 * (k + 1)), term A B D f (x 0) (x 1) (1024 * kc + n) := by
  have h1 : (x 1).val < 256 := (x 1).isLt
  rw [pay7_apply, show 256 * (k + 1) = 256 * k + 256 by omega, Finset.sum_range_add, ← hacc, Finset.sum_range (n := 256)]
  refine congrArg (acc x + ·) (Finset.sum_congr rfl fun y _ => ?_)
  have hy : y.val < 256 := y.isLt
  unfold term
  rw [dif_pos (show 1024 * kc + (256 * k + y.val) < 8192 by omega)]
  refine congrArg₂ (· * ·) ((ha (x 0) y).trans (congrArg (fun z => A (ix2 (x 0) z)) (Fin.ext (by show 1024 * kc + 256 * k + y.val = 1024 * kc + (256 * k + y.val); omega)))) ?_
  by_cases h : (x 1).val < 128
  · rw [dif_pos h]
    refine (cat16_apply P _).trans ((hP _ _ _).trans ?_)
    exact congrArg₂ (wgt (mu f) B D f) (Fin.ext (by show 1024 * kc + 256 * k + (16 * (y.val / 16) + y.val % 16) = 1024 * kc + (256 * k + y.val); omega)) (Fin.ext rfl)
  · rw [dif_neg h]
    refine (cat16_apply Q _).trans ((hQ _ _ _).trans ?_)
    exact congrArg₂ (wgt (mu f) B D f) (Fin.ext (by show 1024 * kc + 256 * k + (16 * (y.val / 16) + y.val % 16) = 1024 * kc + (256 * k + y.val); omega)) (Fin.ext (by show 128 + ((x 1).val - 128) = (x 1).val; omega))

theorem act (arg1 : Memref sig .tc .vmem S128x8192 .bf16) (X1 : BufTy.Contents (Elt Ideal) arg1.view.ty)
    {o : Fin 2 → ℕ} {ho} {j : ℕ} (e : o = ![0, j]) (r : Fin 128) (y : Fin 256) (hj : j + y.val < 8192) :
    View.readAt (Elt Ideal) arg1.view (Rect.unit (s := S128x8192) o S128x256.size ho).toLoadRect X1 (ix2 r y) = arg1.view.read (Elt Ideal) X1 (ix2 r (⟨j + y.val, hj⟩ : Fin 8192)) := by
  subst e
  show arg1.view.read (Elt Ideal) X1 _ = _
  refine congrArg (arg1.view.read (Elt Ideal) X1) ?_
  funext b
  apply Fin.ext
  fin_cases b
  · show 0 + 1 * r.val = r.val; omega
  · show j + 1 * y.val = j + y.val; omega

set_option warn.classDefReducibility false in
/-- The product loop: the carried value is the partial sum of one chunk. -/
@[sl_loop] def loopV_t7 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (k0_t5 : Fin k0_t5_loop.trips) (arg11 : BitVec 32) (k0_t6 : Fin k0_t6_loop.trips) (arg12 : BitVec 32) (v149 : BitVec 32) (init : FVec Ideal S128x256 .f32) (X1 : BufTy.Contents (Elt Ideal) arg1.view.ty) (X2 : BufTy.Contents (Elt Ideal) arg2.view.ty) (X8 : BufTy.Contents (Elt Ideal) arg8.view.ty) :
    LoopInvTy_k0_t7 (F := Ideal) Unit ℕ (Pipeline.UD sig nD τ) ℕ Variants.none c none E i arg1 harg1 arg2 harg2 arg3 harg3 arg4 harg4 arg5 harg5 arg6 harg6 arg7 harg7 arg8 harg8 arg9 harg9 arg10 k0_t5 arg11 k0_t6 arg12 v149 init where
  inv k u := iprop(⌜(∀ q < 32, v149.getLsbD q = (mu k0_t6).getLsbD (q % 8)) ∧ ∀ x : S128x256.Idx, u x = ∑ n ∈ Finset.range (256 * k), term (arg1.view.read (Elt Ideal) X1) (arg2.view.read (Elt Ideal) X2) (arg8.view.read (Elt Ideal) X8) k0_t6 (x 0) (x 1) (1024 * k0_t5.val + n)⌝ ∗ (arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8))
  step k acc := by
    unfold k0_t7_body
    iintro ⟨%hu, H1, H2, H8⟩
    sl_exec
    sl_step
    isplitr
    swap
    · isplitl [H1]
      · iexact H1
      isplitl [H2]
      · iexact H2
      iexact H8
    ipureintro
    refine ⟨hu.1, fun x => ?_⟩
    have h5 : k0_t5.val < 8 := k0_t5.isLt
    have h7 : k.val < 4 := k.isLt
    have h6 : k0_t6.val < 4 := k0_t6.isLt
    let P : Fin 16 → FVec Ideal S16x128 .bf16 := ![piece0 v149 (View.readAt (Elt Ideal) arg2.view (Rect.unit (s := S8192x256) (k0_off105 k0_t5 k 0#32) S32x128.size (k0_off105_inb k0_t5 k 0)).toLoadRect X2) (View.readAt (Elt Ideal) arg8.view (Rect.unit (s := S2x4x2x2x256x2x128) (k0_off106 k0_t5 k0_t6 k 0#32) S1x1x1x1x1x2x128.size (k0_off106_inb k0_t5 k0_t6 k 0)).toLoadRect X8) (View.readAt (Elt Ideal) arg8.view (Rect.unit (s := S2x4x2x2x256x2x128) (k0_off107 k0_t5 k0_t6 k 0#32) S1x1x1x1x1x2x128.size (k0_off107_inb k0_t5 k0_t6 k 0)).toLoadRect X8), piece1 v149 (View.readAt (Elt Ideal) arg2.view (Rect.unit (s := S8192x256) (k0_off105 k0_t5 k 0#32) S32x128.size (k0_off105_inb k0_t5 k 0)).toLoadRect X2) (View.readAt (Elt Ideal) arg8.view (Rect.unit (s := S2x4x2x2x256x2x128) (k0_off108 k0_t5 k0_t6 k 0#32) S1x1x1x1x1x2x128.size (k0_off108_inb k0_t5 k0_t6 k 0)).toLoadRect X8) (View.readAt (Elt Ideal) arg8.view (Rect.unit (s := S2x4x2x2x256x2x128) (k0_off109 k0_t5 k0_t6 k 0#32) S1x1x1x1x1x2x128.size (k0_off109_inb k0_t5 k0_t6 k 0)).toLoadRect X8), piece0 v149 (View.readAt (Elt Ideal) arg2.view (Rect.unit (s := S8192x256) (k0_off105 k0_t5 k 1#32) S32x128.size (k0_off105_inb k0_t5 k 1)).toLoadRect X2) (View.readAt (Elt Ideal) arg8.view (Rect.unit (s := S2x4x2x2x256x2x128) (k0_off106 k0_t5 k0_t6 k 1#32) S1x1x1x1x1x2x128.size (k0_off106_inb k0_t5 k0_t6 k 1)).toLoadRect X8) (View.readAt (Elt Ideal) arg8.view (Rect.unit (s := S2x4x2x2x256x2x128) (k0_off107 k0_t5 k0_t6 k 1#32) S1x1x1x1x1x2x128.size (k0_off107_inb k0_t5 k0_t6 k 1)).toLoadRect X8), piece1 v149 (View.readAt (Elt Ideal) arg2.view (Rect.unit (s := S8192x256) (k0_off105 k0_t5 k 1#32) S32x128.size (k0_off105_inb k0_t5 k 1)).toLoadRect X2) (View.readAt (Elt Ideal) arg8.view (Rect.unit (s := S2x4x2x2x256x2x128) (k0_off108 k0_t5 k0_t6 k 1#32) S1x1x1x1x1x2x128.size (k0_off108_inb k0_t5 k0_t6 k 1)).toLoadRect X8) (View.readAt (Elt Ideal) arg8.view (Rect.unit (s := S2x4x2x2x256x2x128) (k0_off109 k0_t5 k0_t6 k 1#32) S1x1x1x1x1x2x128.size (k0_off109_inb k0_t5 k0_t6 k 1)).toLoadRect X8), piece0 v149 (View.readAt (Elt Ideal) arg2.view (Rect.unit (s := S8192x256) (k0_off105 k0_t5 k 2#32) S32x128.size (k0_off105_inb k0_t5 k 2)).toLoadRect X2) (View.readAt (Elt Ideal) arg8.view (Rect.unit (s := S2x4x2x2x256x2x128) (k0_off106 k0_t5 k0_t6 k 2#32) S1x1x1x1x1x2x128.size (k0_off106_inb k0_t5 k0_t6 k 2)).toLoadRect X8) (View.readAt (Elt Ideal) arg8.view (Rect.unit (s := S2x4x2x2x256x2x128) (k0_off107 k0_t5 k0_t6 k 2#32) S1x1x1x1x1x2x128.size (k0_off107_inb k0_t5 k0_t6 k 2)).toLoadRect X8), piece1 v149 (View.readAt (Elt Ideal) arg2.view (Rect.unit (s := S8192x256) (k0_off105 k0_t5 k 2#32) S32x128.size (k0_off105_inb k0_t5 k 2)).toLoadRect X2) (View.readAt (Elt Ideal) arg8.view (Rect.unit (s := S2x4x2x2x256x2x128) (k0_off108 k0_t5 k0_t6 k 2#32) S1x1x1x1x1x2x128.size (k0_off108_inb k0_t5 k0_t6 k 2)).toLoadRect X8) (View.readAt (Elt Ideal) arg8.view (Rect.unit (s := S2x4x2x2x256x2x128) (k0_off109 k0_t5 k0_t6 k 2#32) S1x1x1x1x1x2x128.size (k0_off109_inb k0_t5 k0_t6 k 2)).toLoadRect X8), piece0 v149 (View.readAt (Elt Ideal) arg2.view (Rect.unit (s := S8192x256) (k0_off105 k0_t5 k 3#32) S32x128.size (k0_off105_inb k0_t5 k 3)).toLoadRect X2) (View.readAt (Elt Ideal) arg8.view (Rect.unit (s := S2x4x2x2x256x2x128) (k0_off106 k0_t5 k0_t6 k 3#32) S1x1x1x1x1x2x128.size (k0_off106_inb k0_t5 k0_t6 k 3)).toLoadRect X8) (View.readAt (Elt Ideal) arg8.view (Rect.unit (s := S2x4x2x2x256x2x128) (k0_off107 k0_t5 k0_t6 k 3#32) S1x1x1x1x1x2x128.size (k0_off107_inb k0_t5 k0_t6 k 3)).toLoadRect X8), piece1 v149 (View.readAt (Elt Ideal) arg2.view (Rect.unit (s := S8192x256) (k0_off105 k0_t5 k 3#32) S32x128.size (k0_off105_inb k0_t5 k 3)).toLoadRect X2) (View.readAt (Elt Ideal) arg8.view (Rect.unit (s := S2x4x2x2x256x2x128) (k0_off108 k0_t5 k0_t6 k 3#32) S1x1x1x1x1x2x128.size (k0_off108_inb k0_t5 k0_t6 k 3)).toLoadRect X8) (View.readAt (Elt Ideal) arg8.view (Rect.unit (s := S2x4x2x2x256x2x128) (k0_off109 k0_t5 k0_t6 k 3#32) S1x1x1x1x1x2x128.size (k0_off109_inb k0_t5 k0_t6 k 3)).toLoadRect X8), piece0 v149 (View.readAt (Elt Ideal) arg2.view (Rect.unit (s := S8192x256) (k0_off105 k0_t5 k 4#32) S32x128.size (k0_off105_inb k0_t5 k 4)).toLoadRect X2) (View.readAt (Elt Ideal) arg8.view (Rect.unit (s := S2x4x2x2x256x2x128) (k0_off106 k0_t5 k0_t6 k 4#32) S1x1x1x1x1x2x128.size (k0_off106_inb k0_t5 k0_t6 k 4)).toLoadRect X8) (View.readAt (Elt Ideal) arg8.view (Rect.unit (s := S2x4x2x2x256x2x128) (k0_off107 k0_t5 k0_t6 k 4#32) S1x1x1x1x1x2x128.size (k0_off107_inb k0_t5 k0_t6 k 4)).toLoadRect X8), piece1 v149 (View.readAt (Elt Ideal) arg2.view (Rect.unit (s := S8192x256) (k0_off105 k0_t5 k 4#32) S32x128.size (k0_off105_inb k0_t5 k 4)).toLoadRect X2) (View.readAt (Elt Ideal) arg8.view (Rect.unit (s := S2x4x2x2x256x2x128) (k0_off108 k0_t5 k0_t6 k 4#32) S1x1x1x1x1x2x128.size (k0_off108_inb k0_t5 k0_t6 k 4)).toLoadRect X8) (View.readAt (Elt Ideal) arg8.view (Rect.unit (s := S2x4x2x2x256x2x128) (k0_off109 k0_t5 k0_t6 k 4#32) S1x1x1x1x1x2x128.size (k0_off109_inb k0_t5 k0_t6 k 4)).toLoadRect X8), piece0 v149 (View.readAt (Elt Ideal) arg2.view (Rect.unit (s := S8192x256) (k0_off105 k0_t5 k 5#32) S32x128.size (k0_off105_inb k0_t5 k 5)).toLoadRect X2) (View.readAt (Elt Ideal) arg8.view (Rect.unit (s := S2x4x2x2x256x2x128) (k0_off106 k0_t5 k0_t6 k 5#32) S1x1x1x1x1x2x128.size (k0_off106_inb k0_t5 k0_t6 k 5)).toLoadRect X8) (View.readAt (Elt Ideal) arg8.view (Rect.unit (s := S2x4x2x2x256x2x128) (k0_off107 k0_t5 k0_t6 k 5#32) S1x1x1x1x1x2x128.size (k0_off107_inb k0_t5 k0_t6 k 5)).toLoadRect X8), piece1 v149 (View.readAt (Elt Ideal) arg2.view (Rect.unit (s := S8192x256) (k0_off105 k0_t5 k 5#32) S32x128.size (k0_off105_inb k0_t5 k 5)).toLoadRect X2) (View.readAt (Elt Ideal) arg8.view (Rect.unit (s := S2x4x2x2x256x2x128) (k0_off108 k0_t5 k0_t6 k 5#32) S1x1x1x1x1x2x128.size (k0_off108_inb k0_t5 k0_t6 k 5)).toLoadRect X8) (View.readAt (Elt Ideal) arg8.view (Rect.unit (s := S2x4x2x2x256x2x128) (k0_off109 k0_t5 k0_t6 k 5#32) S1x1x1x1x1x2x128.size (k0_off109_inb k0_t5 k0_t6 k 5)).toLoadRect X8), piece0 v149 (View.readAt (Elt Ideal) arg2.view (Rect.unit (s := S8192x256) (k0_off105 k0_t5 k 6#32) S32x128.size (k0_off105_inb k0_t5 k 6)).toLoadRect X2) (View.readAt (Elt Ideal) arg8.view (Rect.unit (s := S2x4x2x2x256x2x128) (k0_off106 k0_t5 k0_t6 k 6#32) S1x1x1x1x1x2x128.size (k0_off106_inb k0_t5 k0_t6 k 6)).toLoadRect X8) (View.readAt (Elt Ideal) arg8.view (Rect.unit (s := S2x4x2x2x256x2x128) (k0_off107 k0_t5 k0_t6 k 6#32) S1x1x1x1x1x2x128.size (k0_off107_inb k0_t5 k0_t6 k 6)).toLoadRect X8), piece1 v149 (View.readAt (Elt Ideal) arg2.view (Rect.unit (s := S8192x256) (k0_off105 k0_t5 k 6#32) S32x128.size (k0_off105_inb k0_t5 k 6)).toLoadRect X2) (View.readAt (Elt Ideal) arg8.view (Rect.unit (s := S2x4x2x2x256x2x128) (k0_off108 k0_t5 k0_t6 k 6#32) S1x1x1x1x1x2x128.size (k0_off108_inb k0_t5 k0_t6 k 6)).toLoadRect X8) (View.readAt (Elt Ideal) arg8.view (Rect.unit (s := S2x4x2x2x256x2x128) (k0_off109 k0_t5 k0_t6 k 6#32) S1x1x1x1x1x2x128.size (k0_off109_inb k0_t5 k0_t6 k 6)).toLoadRect X8), piece0 v149 (View.readAt (Elt Ideal) arg2.view (Rect.unit (s := S8192x256) (k0_off105 k0_t5 k 7#32) S32x128.size (k0_off105_inb k0_t5 k 7)).toLoadRect X2) (View.readAt (Elt Ideal) arg8.view (Rect.unit (s := S2x4x2x2x256x2x128) (k0_off106 k0_t5 k0_t6 k 7#32) S1x1x1x1x1x2x128.size (k0_off106_inb k0_t5 k0_t6 k 7)).toLoadRect X8) (View.readAt (Elt Ideal) arg8.view (Rect.unit (s := S2x4x2x2x256x2x128) (k0_off107 k0_t5 k0_t6 k 7#32) S1x1x1x1x1x2x128.size (k0_off107_inb k0_t5 k0_t6 k 7)).toLoadRect X8), piece1 v149 (View.readAt (Elt Ideal) arg2.view (Rect.unit (s := S8192x256) (k0_off105 k0_t5 k 7#32) S32x128.size (k0_off105_inb k0_t5 k 7)).toLoadRect X2) (View.readAt (Elt Ideal) arg8.view (Rect.unit (s := S2x4x2x2x256x2x128) (k0_off108 k0_t5 k0_t6 k 7#32) S1x1x1x1x1x2x128.size (k0_off108_inb k0_t5 k0_t6 k 7)).toLoadRect X8) (View.readAt (Elt Ideal) arg8.view (Rect.unit (s := S2x4x2x2x256x2x128) (k0_off109 k0_t5 k0_t6 k 7#32) S1x1x1x1x1x2x128.size (k0_off109_inb k0_t5 k0_t6 k 7)).toLoadRect X8)]
    let Q : Fin 16 → FVec Ideal S16x128 .bf16 := ![piece0 v149 (View.readAt (Elt Ideal) arg2.view (Rect.unit (s := S8192x256) (k0_off110 k0_t5 k 0#32) S32x128.size (k0_off110_inb k0_t5 k 0)).toLoadRect X2) (View.readAt (Elt Ideal) arg8.view (Rect.unit (s := S2x4x2x2x256x2x128) (k0_off111 k0_t5 k0_t6 k 0#32) S1x1x1x1x1x2x128.size (k0_off111_inb k0_t5 k0_t6 k 0)).toLoadRect X8) (View.readAt (Elt Ideal) arg8.view (Rect.unit (s := S2x4x2x2x256x2x128) (k0_off112 k0_t5 k0_t6 k 0#32) S1x1x1x1x1x2x128.size (k0_off112_inb k0_t5 k0_t6 k 0)).toLoadRect X8), piece1 v149 (View.readAt (Elt Ideal) arg2.view (Rect.unit (s := S8192x256) (k0_off110 k0_t5 k 0#32) S32x128.size (k0_off110_inb k0_t5 k 0)).toLoadRect X2) (View.readAt (Elt Ideal) arg8.view (Rect.unit (s := S2x4x2x2x256x2x128) (k0_off113 k0_t5 k0_t6 k 0#32) S1x1x1x1x1x2x128.size (k0_off113_inb k0_t5 k0_t6 k 0)).toLoadRect X8) (View.readAt (Elt Ideal) arg8.view (Rect.unit (s := S2x4x2x2x256x2x128) (k0_off114 k0_t5 k0_t6 k 0#32) S1x1x1x1x1x2x128.size (k0_off114_inb k0_t5 k0_t6 k 0)).toLoadRect X8), piece0 v149 (View.readAt (Elt Ideal) arg2.view (Rect.unit (s := S8192x256) (k0_off110 k0_t5 k 1#32) S32x128.size (k0_off110_inb k0_t5 k 1)).toLoadRect X2) (View.readAt (Elt Ideal) arg8.view (Rect.unit (s := S2x4x2x2x256x2x128) (k0_off111 k0_t5 k0_t6 k 1#32) S1x1x1x1x1x2x128.size (k0_off111_inb k0_t5 k0_t6 k 1)).toLoadRect X8) (View.readAt (Elt Ideal) arg8.view (Rect.unit (s := S2x4x2x2x256x2x128) (k0_off112 k0_t5 k0_t6 k 1#32) S1x1x1x1x1x2x128.size (k0_off112_inb k0_t5 k0_t6 k 1)).toLoadRect X8), piece1 v149 (View.readAt (Elt Ideal) arg2.view (Rect.unit (s := S8192x256) (k0_off110 k0_t5 k 1#32) S32x128.size (k0_off110_inb k0_t5 k 1)).toLoadRect X2) (View.readAt (Elt Ideal) arg8.view (Rect.unit (s := S2x4x2x2x256x2x128) (k0_off113 k0_t5 k0_t6 k 1#32) S1x1x1x1x1x2x128.size (k0_off113_inb k0_t5 k0_t6 k 1)).toLoadRect X8) (View.readAt (Elt Ideal) arg8.view (Rect.unit (s := S2x4x2x2x256x2x128) (k0_off114 k0_t5 k0_t6 k 1#32) S1x1x1x1x1x2x128.size (k0_off114_inb k0_t5 k0_t6 k 1)).toLoadRect X8), piece0 v149 (View.readAt (Elt Ideal) arg2.view (Rect.unit (s := S8192x256) (k0_off110 k0_t5 k 2#32) S32x128.size (k0_off110_inb k0_t5 k 2)).toLoadRect X2) (View.readAt (Elt Ideal) arg8.view (Rect.unit (s := S2x4x2x2x256x2x128) (k0_off111 k0_t5 k0_t6 k 2#32) S1x1x1x1x1x2x128.size (k0_off111_inb k0_t5 k0_t6 k 2)).toLoadRect X8) (View.readAt (Elt Ideal) arg8.view (Rect.unit (s := S2x4x2x2x256x2x128) (k0_off112 k0_t5 k0_t6 k 2#32) S1x1x1x1x1x2x128.size (k0_off112_inb k0_t5 k0_t6 k 2)).toLoadRect X8), piece1 v149 (View.readAt (Elt Ideal) arg2.view (Rect.unit (s := S8192x256) (k0_off110 k0_t5 k 2#32) S32x128.size (k0_off110_inb k0_t5 k 2)).toLoadRect X2) (View.readAt (Elt Ideal) arg8.view (Rect.unit (s := S2x4x2x2x256x2x128) (k0_off113 k0_t5 k0_t6 k 2#32) S1x1x1x1x1x2x128.size (k0_off113_inb k0_t5 k0_t6 k 2)).toLoadRect X8) (View.readAt (Elt Ideal) arg8.view (Rect.unit (s := S2x4x2x2x256x2x128) (k0_off114 k0_t5 k0_t6 k 2#32) S1x1x1x1x1x2x128.size (k0_off114_inb k0_t5 k0_t6 k 2)).toLoadRect X8), piece0 v149 (View.readAt (Elt Ideal) arg2.view (Rect.unit (s := S8192x256) (k0_off110 k0_t5 k 3#32) S32x128.size (k0_off110_inb k0_t5 k 3)).toLoadRect X2) (View.readAt (Elt Ideal) arg8.view (Rect.unit (s := S2x4x2x2x256x2x128) (k0_off111 k0_t5 k0_t6 k 3#32) S1x1x1x1x1x2x128.size (k0_off111_inb k0_t5 k0_t6 k 3)).toLoadRect X8) (View.readAt (Elt Ideal) arg8.view (Rect.unit (s := S2x4x2x2x256x2x128) (k0_off112 k0_t5 k0_t6 k 3#32) S1x1x1x1x1x2x128.size (k0_off112_inb k0_t5 k0_t6 k 3)).toLoadRect X8), piece1 v149 (View.readAt (Elt Ideal) arg2.view (Rect.unit (s := S8192x256) (k0_off110 k0_t5 k 3#32) S32x128.size (k0_off110_inb k0_t5 k 3)).toLoadRect X2) (View.readAt (Elt Ideal) arg8.view (Rect.unit (s := S2x4x2x2x256x2x128) (k0_off113 k0_t5 k0_t6 k 3#32) S1x1x1x1x1x2x128.size (k0_off113_inb k0_t5 k0_t6 k 3)).toLoadRect X8) (View.readAt (Elt Ideal) arg8.view (Rect.unit (s := S2x4x2x2x256x2x128) (k0_off114 k0_t5 k0_t6 k 3#32) S1x1x1x1x1x2x128.size (k0_off114_inb k0_t5 k0_t6 k 3)).toLoadRect X8), piece0 v149 (View.readAt (Elt Ideal) arg2.view (Rect.unit (s := S8192x256) (k0_off110 k0_t5 k 4#32) S32x128.size (k0_off110_inb k0_t5 k 4)).toLoadRect X2) (View.readAt (Elt Ideal) arg8.view (Rect.unit (s := S2x4x2x2x256x2x128) (k0_off111 k0_t5 k0_t6 k 4#32) S1x1x1x1x1x2x128.size (k0_off111_inb k0_t5 k0_t6 k 4)).toLoadRect X8) (View.readAt (Elt Ideal) arg8.view (Rect.unit (s := S2x4x2x2x256x2x128) (k0_off112 k0_t5 k0_t6 k 4#32) S1x1x1x1x1x2x128.size (k0_off112_inb k0_t5 k0_t6 k 4)).toLoadRect X8), piece1 v149 (View.readAt (Elt Ideal) arg2.view (Rect.unit (s := S8192x256) (k0_off110 k0_t5 k 4#32) S32x128.size (k0_off110_inb k0_t5 k 4)).toLoadRect X2) (View.readAt (Elt Ideal) arg8.view (Rect.unit (s := S2x4x2x2x256x2x128) (k0_off113 k0_t5 k0_t6 k 4#32) S1x1x1x1x1x2x128.size (k0_off113_inb k0_t5 k0_t6 k 4)).toLoadRect X8) (View.readAt (Elt Ideal) arg8.view (Rect.unit (s := S2x4x2x2x256x2x128) (k0_off114 k0_t5 k0_t6 k 4#32) S1x1x1x1x1x2x128.size (k0_off114_inb k0_t5 k0_t6 k 4)).toLoadRect X8), piece0 v149 (View.readAt (Elt Ideal) arg2.view (Rect.unit (s := S8192x256) (k0_off110 k0_t5 k 5#32) S32x128.size (k0_off110_inb k0_t5 k 5)).toLoadRect X2) (View.readAt (Elt Ideal) arg8.view (Rect.unit (s := S2x4x2x2x256x2x128) (k0_off111 k0_t5 k0_t6 k 5#32) S1x1x1x1x1x2x128.size (k0_off111_inb k0_t5 k0_t6 k 5)).toLoadRect X8) (View.readAt (Elt Ideal) arg8.view (Rect.unit (s := S2x4x2x2x256x2x128) (k0_off112 k0_t5 k0_t6 k 5#32) S1x1x1x1x1x2x128.size (k0_off112_inb k0_t5 k0_t6 k 5)).toLoadRect X8), piece1 v149 (View.readAt (Elt Ideal) arg2.view (Rect.unit (s := S8192x256) (k0_off110 k0_t5 k 5#32) S32x128.size (k0_off110_inb k0_t5 k 5)).toLoadRect X2) (View.readAt (Elt Ideal) arg8.view (Rect.unit (s := S2x4x2x2x256x2x128) (k0_off113 k0_t5 k0_t6 k 5#32) S1x1x1x1x1x2x128.size (k0_off113_inb k0_t5 k0_t6 k 5)).toLoadRect X8) (View.readAt (Elt Ideal) arg8.view (Rect.unit (s := S2x4x2x2x256x2x128) (k0_off114 k0_t5 k0_t6 k 5#32) S1x1x1x1x1x2x128.size (k0_off114_inb k0_t5 k0_t6 k 5)).toLoadRect X8), piece0 v149 (View.readAt (Elt Ideal) arg2.view (Rect.unit (s := S8192x256) (k0_off110 k0_t5 k 6#32) S32x128.size (k0_off110_inb k0_t5 k 6)).toLoadRect X2) (View.readAt (Elt Ideal) arg8.view (Rect.unit (s := S2x4x2x2x256x2x128) (k0_off111 k0_t5 k0_t6 k 6#32) S1x1x1x1x1x2x128.size (k0_off111_inb k0_t5 k0_t6 k 6)).toLoadRect X8) (View.readAt (Elt Ideal) arg8.view (Rect.unit (s := S2x4x2x2x256x2x128) (k0_off112 k0_t5 k0_t6 k 6#32) S1x1x1x1x1x2x128.size (k0_off112_inb k0_t5 k0_t6 k 6)).toLoadRect X8), piece1 v149 (View.readAt (Elt Ideal) arg2.view (Rect.unit (s := S8192x256) (k0_off110 k0_t5 k 6#32) S32x128.size (k0_off110_inb k0_t5 k 6)).toLoadRect X2) (View.readAt (Elt Ideal) arg8.view (Rect.unit (s := S2x4x2x2x256x2x128) (k0_off113 k0_t5 k0_t6 k 6#32) S1x1x1x1x1x2x128.size (k0_off113_inb k0_t5 k0_t6 k 6)).toLoadRect X8) (View.readAt (Elt Ideal) arg8.view (Rect.unit (s := S2x4x2x2x256x2x128) (k0_off114 k0_t5 k0_t6 k 6#32) S1x1x1x1x1x2x128.size (k0_off114_inb k0_t5 k0_t6 k 6)).toLoadRect X8), piece0 v149 (View.readAt (Elt Ideal) arg2.view (Rect.unit (s := S8192x256) (k0_off110 k0_t5 k 7#32) S32x128.size (k0_off110_inb k0_t5 k 7)).toLoadRect X2) (View.readAt (Elt Ideal) arg8.view (Rect.unit (s := S2x4x2x2x256x2x128) (k0_off111 k0_t5 k0_t6 k 7#32) S1x1x1x1x1x2x128.size (k0_off111_inb k0_t5 k0_t6 k 7)).toLoadRect X8) (View.readAt (Elt Ideal) arg8.view (Rect.unit (s := S2x4x2x2x256x2x128) (k0_off112 k0_t5 k0_t6 k 7#32) S1x1x1x1x1x2x128.size (k0_off112_inb k0_t5 k0_t6 k 7)).toLoadRect X8), piece1 v149 (View.readAt (Elt Ideal) arg2.view (Rect.unit (s := S8192x256) (k0_off110 k0_t5 k 7#32) S32x128.size (k0_off110_inb k0_t5 k 7)).toLoadRect X2) (View.readAt (Elt Ideal) arg8.view (Rect.unit (s := S2x4x2x2x256x2x128) (k0_off113 k0_t5 k0_t6 k 7#32) S1x1x1x1x1x2x128.size (k0_off113_inb k0_t5 k0_t6 k 7)).toLoadRect X8) (View.readAt (Elt Ideal) arg8.view (Rect.unit (s := S2x4x2x2x256x2x128) (k0_off114 k0_t5 k0_t6 k 7#32) S1x1x1x1x1x2x128.size (k0_off114_inb k0_t5 k0_t6 k 7)).toLoadRect X8)]
    refine (show _ = k0_pay7 acc (cat16 P) (cat16 Q) _ x from rfl).trans (chunk (arg1.view.read (Elt Ideal) X1) (arg2.view.read (Elt Ideal) X2) (arg8.view.read (Elt Ideal) X8) k0_t6 k0_t5.val k.val h5 h7 acc P Q _ ?_ ?_ ?_ hu.2 x)
    · exact fun r y => act arg1 X1 (k0_off115_eq k0_t5 k) r y (by omega)
    · intro p q l
      have hl : l.val < 128 := l.isLt
      have hq : q.val < 16 := q.isLt
      fin_cases p
      · exact piece0_at v149 (mu k0_t6) hu.1 arg2 X2 arg8 X8 0 k0_t6 ⟨32 * k0_t5.val + 8 * k.val + 0, by omega⟩ ((k0_off105_eq k0_t5 k 0).trans (by show ![1024 * k0_t5.val + 256 * k.val + 32 * 0, 0] = ![32 * (32 * k0_t5.val + 8 * k.val + 0), 0]; rw [show 1024 * k0_t5.val + 256 * k.val + 32 * 0 = 32 * (32 * k0_t5.val + 8 * k.val + 0) by omega])) (k0_off106_eq k0_t5 k0_t6 k 0) (k0_off107_eq k0_t5 k0_t6 k 0) q l _ _ (by show 1024 * k0_t5.val + 256 * k.val + (16 * 0 + q.val) = 32 * (32 * k0_t5.val + 8 * k.val + 0) + 16 * 0 + q.val; omega) (by show l.val = 0 + l.val; omega)
      · exact piece1_at v149 (mu k0_t6) hu.1 arg2 X2 arg8 X8 0 k0_t6 ⟨32 * k0_t5.val + 8 * k.val + 0, by omega⟩ ((k0_off105_eq k0_t5 k 0).trans (by show ![1024 * k0_t5.val + 256 * k.val + 32 * 0, 0] = ![32 * (32 * k0_t5.val + 8 * k.val + 0), 0]; rw [show 1024 * k0_t5.val + 256 * k.val + 32 * 0 = 32 * (32 * k0_t5.val + 8 * k.val + 0) by omega])) (k0_off108_eq k0_t5 k0_t6 k 0) (k0_off109_eq k0_t5 k0_t6 k 0) q l _ _ (by show 1024 * k0_t5.val + 256 * k.val + (16 * 1 + q.val) = 32 * (32 * k0_t5.val + 8 * k.val + 0) + 16 * 1 + q.val; omega) (by show l.val = 0 + l.val; omega)
      · exact piece0_at v149 (mu k0_t6) hu.1 arg2 X2 arg8 X8 0 k0_t6 ⟨32 * k0_t5.val + 8 * k.val + 1, by omega⟩ ((k0_off105_eq k0_t5 k 1).trans (by show ![1024 * k0_t5.val + 256 * k.val + 32 * 1, 0] = ![32 * (32 * k0_t5.val + 8 * k.val + 1), 0]; rw [show 1024 * k0_t5.val + 256 * k.val + 32 * 1 = 32 * (32 * k0_t5.val + 8 * k.val + 1) by omega])) (k0_off106_eq k0_t5 k0_t6 k 1) (k0_off107_eq k0_t5 k0_t6 k 1) q l _ _ (by show 1024 * k0_t5.val + 256 * k.val + (16 * 2 + q.val) = 32 * (32 * k0_t5.val + 8 * k.val + 1) + 16 * 0 + q.val; omega) (by show l.val = 0 + l.val; omega)
      · exact piece1_at v149 (mu k0_t6) hu.1 arg2 X2 arg8 X8 0 k0_t6 ⟨32 * k0_t5.val + 8 * k.val + 1, by omega⟩ ((k0_off105_eq k0_t5 k 1).trans (by show ![1024 * k0_t5.val + 256 * k.val + 32 * 1, 0] = ![32 * (32 * k0_t5.val + 8 * k.val + 1), 0]; rw [show 1024 * k0_t5.val + 256 * k.val + 32 * 1 = 32 * (32 * k0_t5.val + 8 * k.val + 1) by omega])) (k0_off108_eq k0_t5 k0_t6 k 1) (k0_off109_eq k0_t5 k0_t6 k 1) q l _ _ (by show 1024 * k0_t5.val + 256 * k.val + (16 * 3 + q.val) = 32 * (32 * k0_t5.val + 8 * k.val + 1) + 16 * 1 + q.val; omega) (by show l.val = 0 + l.val; omega)
      · exact piece0_at v149 (mu k0_t6) hu.1 arg2 X2 arg8 X8 0 k0_t6 ⟨32 * k0_t5.val + 8 * k.val + 2, by omega⟩ ((k0_off105_eq k0_t5 k 2).trans (by show ![1024 * k0_t5.val + 256 * k.val + 32 * 2, 0] = ![32 * (32 * k0_t5.val + 8 * k.val + 2), 0]; rw [show 1024 * k0_t5.val + 256 * k.val + 32 * 2 = 32 * (32 * k0_t5.val + 8 * k.val + 2) by omega])) (k0_off106_eq k0_t5 k0_t6 k 2) (k0_off107_eq k0_t5 k0_t6 k 2) q l _ _ (by show 1024 * k0_t5.val + 256 * k.val + (16 * 4 + q.val) = 32 * (32 * k0_t5.val + 8 * k.val + 2) + 16 * 0 + q.val; omega) (by show l.val = 0 + l.val; omega)
      · exact piece1_at v149 (mu k0_t6) hu.1 arg2 X2 arg8 X8 0 k0_t6 ⟨32 * k0_t5.val + 8 * k.val + 2, by omega⟩ ((k0_off105_eq k0_t5 k 2).trans (by show ![1024 * k0_t5.val + 256 * k.val + 32 * 2, 0] = ![32 * (32 * k0_t5.val + 8 * k.val + 2), 0]; rw [show 1024 * k0_t5.val + 256 * k.val + 32 * 2 = 32 * (32 * k0_t5.val + 8 * k.val + 2) by omega])) (k0_off108_eq k0_t5 k0_t6 k 2) (k0_off109_eq k0_t5 k0_t6 k 2) q l _ _ (by show 1024 * k0_t5.val + 256 * k.val + (16 * 5 + q.val) = 32 * (32 * k0_t5.val + 8 * k.val + 2) + 16 * 1 + q.val; omega) (by show l.val = 0 + l.val; omega)
      · exact piece0_at v149 (mu k0_t6) hu.1 arg2 X2 arg8 X8 0 k0_t6 ⟨32 * k0_t5.val + 8 * k.val + 3, by omega⟩ ((k0_off105_eq k0_t5 k 3).trans (by show ![1024 * k0_t5.val + 256 * k.val + 32 * 3, 0] = ![32 * (32 * k0_t5.val + 8 * k.val + 3), 0]; rw [show 1024 * k0_t5.val + 256 * k.val + 32 * 3 = 32 * (32 * k0_t5.val + 8 * k.val + 3) by omega])) (k0_off106_eq k0_t5 k0_t6 k 3) (k0_off107_eq k0_t5 k0_t6 k 3) q l _ _ (by show 1024 * k0_t5.val + 256 * k.val + (16 * 6 + q.val) = 32 * (32 * k0_t5.val + 8 * k.val + 3) + 16 * 0 + q.val; omega) (by show l.val = 0 + l.val; omega)
      · exact piece1_at v149 (mu k0_t6) hu.1 arg2 X2 arg8 X8 0 k0_t6 ⟨32 * k0_t5.val + 8 * k.val + 3, by omega⟩ ((k0_off105_eq k0_t5 k 3).trans (by show ![1024 * k0_t5.val + 256 * k.val + 32 * 3, 0] = ![32 * (32 * k0_t5.val + 8 * k.val + 3), 0]; rw [show 1024 * k0_t5.val + 256 * k.val + 32 * 3 = 32 * (32 * k0_t5.val + 8 * k.val + 3) by omega])) (k0_off108_eq k0_t5 k0_t6 k 3) (k0_off109_eq k0_t5 k0_t6 k 3) q l _ _ (by show 1024 * k0_t5.val + 256 * k.val + (16 * 7 + q.val) = 32 * (32 * k0_t5.val + 8 * k.val + 3) + 16 * 1 + q.val; omega) (by show l.val = 0 + l.val; omega)
      · exact piece0_at v149 (mu k0_t6) hu.1 arg2 X2 arg8 X8 0 k0_t6 ⟨32 * k0_t5.val + 8 * k.val + 4, by omega⟩ ((k0_off105_eq k0_t5 k 4).trans (by show ![1024 * k0_t5.val + 256 * k.val + 32 * 4, 0] = ![32 * (32 * k0_t5.val + 8 * k.val + 4), 0]; rw [show 1024 * k0_t5.val + 256 * k.val + 32 * 4 = 32 * (32 * k0_t5.val + 8 * k.val + 4) by omega])) (k0_off106_eq k0_t5 k0_t6 k 4) (k0_off107_eq k0_t5 k0_t6 k 4) q l _ _ (by show 1024 * k0_t5.val + 256 * k.val + (16 * 8 + q.val) = 32 * (32 * k0_t5.val + 8 * k.val + 4) + 16 * 0 + q.val; omega) (by show l.val = 0 + l.val; omega)
      · exact piece1_at v149 (mu k0_t6) hu.1 arg2 X2 arg8 X8 0 k0_t6 ⟨32 * k0_t5.val + 8 * k.val + 4, by omega⟩ ((k0_off105_eq k0_t5 k 4).trans (by show ![1024 * k0_t5.val + 256 * k.val + 32 * 4, 0] = ![32 * (32 * k0_t5.val + 8 * k.val + 4), 0]; rw [show 1024 * k0_t5.val + 256 * k.val + 32 * 4 = 32 * (32 * k0_t5.val + 8 * k.val + 4) by omega])) (k0_off108_eq k0_t5 k0_t6 k 4) (k0_off109_eq k0_t5 k0_t6 k 4) q l _ _ (by show 1024 * k0_t5.val + 256 * k.val + (16 * 9 + q.val) = 32 * (32 * k0_t5.val + 8 * k.val + 4) + 16 * 1 + q.val; omega) (by show l.val = 0 + l.val; omega)
      · exact piece0_at v149 (mu k0_t6) hu.1 arg2 X2 arg8 X8 0 k0_t6 ⟨32 * k0_t5.val + 8 * k.val + 5, by omega⟩ ((k0_off105_eq k0_t5 k 5).trans (by show ![1024 * k0_t5.val + 256 * k.val + 32 * 5, 0] = ![32 * (32 * k0_t5.val + 8 * k.val + 5), 0]; rw [show 1024 * k0_t5.val + 256 * k.val + 32 * 5 = 32 * (32 * k0_t5.val + 8 * k.val + 5) by omega])) (k0_off106_eq k0_t5 k0_t6 k 5) (k0_off107_eq k0_t5 k0_t6 k 5) q l _ _ (by show 1024 * k0_t5.val + 256 * k.val + (16 * 10 + q.val) = 32 * (32 * k0_t5.val + 8 * k.val + 5) + 16 * 0 + q.val; omega) (by show l.val = 0 + l.val; omega)
      · exact piece1_at v149 (mu k0_t6) hu.1 arg2 X2 arg8 X8 0 k0_t6 ⟨32 * k0_t5.val + 8 * k.val + 5, by omega⟩ ((k0_off105_eq k0_t5 k 5).trans (by show ![1024 * k0_t5.val + 256 * k.val + 32 * 5, 0] = ![32 * (32 * k0_t5.val + 8 * k.val + 5), 0]; rw [show 1024 * k0_t5.val + 256 * k.val + 32 * 5 = 32 * (32 * k0_t5.val + 8 * k.val + 5) by omega])) (k0_off108_eq k0_t5 k0_t6 k 5) (k0_off109_eq k0_t5 k0_t6 k 5) q l _ _ (by show 1024 * k0_t5.val + 256 * k.val + (16 * 11 + q.val) = 32 * (32 * k0_t5.val + 8 * k.val + 5) + 16 * 1 + q.val; omega) (by show l.val = 0 + l.val; omega)
      · exact piece0_at v149 (mu k0_t6) hu.1 arg2 X2 arg8 X8 0 k0_t6 ⟨32 * k0_t5.val + 8 * k.val + 6, by omega⟩ ((k0_off105_eq k0_t5 k 6).trans (by show ![1024 * k0_t5.val + 256 * k.val + 32 * 6, 0] = ![32 * (32 * k0_t5.val + 8 * k.val + 6), 0]; rw [show 1024 * k0_t5.val + 256 * k.val + 32 * 6 = 32 * (32 * k0_t5.val + 8 * k.val + 6) by omega])) (k0_off106_eq k0_t5 k0_t6 k 6) (k0_off107_eq k0_t5 k0_t6 k 6) q l _ _ (by show 1024 * k0_t5.val + 256 * k.val + (16 * 12 + q.val) = 32 * (32 * k0_t5.val + 8 * k.val + 6) + 16 * 0 + q.val; omega) (by show l.val = 0 + l.val; omega)
      · exact piece1_at v149 (mu k0_t6) hu.1 arg2 X2 arg8 X8 0 k0_t6 ⟨32 * k0_t5.val + 8 * k.val + 6, by omega⟩ ((k0_off105_eq k0_t5 k 6).trans (by show ![1024 * k0_t5.val + 256 * k.val + 32 * 6, 0] = ![32 * (32 * k0_t5.val + 8 * k.val + 6), 0]; rw [show 1024 * k0_t5.val + 256 * k.val + 32 * 6 = 32 * (32 * k0_t5.val + 8 * k.val + 6) by omega])) (k0_off108_eq k0_t5 k0_t6 k 6) (k0_off109_eq k0_t5 k0_t6 k 6) q l _ _ (by show 1024 * k0_t5.val + 256 * k.val + (16 * 13 + q.val) = 32 * (32 * k0_t5.val + 8 * k.val + 6) + 16 * 1 + q.val; omega) (by show l.val = 0 + l.val; omega)
      · exact piece0_at v149 (mu k0_t6) hu.1 arg2 X2 arg8 X8 0 k0_t6 ⟨32 * k0_t5.val + 8 * k.val + 7, by omega⟩ ((k0_off105_eq k0_t5 k 7).trans (by show ![1024 * k0_t5.val + 256 * k.val + 32 * 7, 0] = ![32 * (32 * k0_t5.val + 8 * k.val + 7), 0]; rw [show 1024 * k0_t5.val + 256 * k.val + 32 * 7 = 32 * (32 * k0_t5.val + 8 * k.val + 7) by omega])) (k0_off106_eq k0_t5 k0_t6 k 7) (k0_off107_eq k0_t5 k0_t6 k 7) q l _ _ (by show 1024 * k0_t5.val + 256 * k.val + (16 * 14 + q.val) = 32 * (32 * k0_t5.val + 8 * k.val + 7) + 16 * 0 + q.val; omega) (by show l.val = 0 + l.val; omega)
      · exact piece1_at v149 (mu k0_t6) hu.1 arg2 X2 arg8 X8 0 k0_t6 ⟨32 * k0_t5.val + 8 * k.val + 7, by omega⟩ ((k0_off105_eq k0_t5 k 7).trans (by show ![1024 * k0_t5.val + 256 * k.val + 32 * 7, 0] = ![32 * (32 * k0_t5.val + 8 * k.val + 7), 0]; rw [show 1024 * k0_t5.val + 256 * k.val + 32 * 7 = 32 * (32 * k0_t5.val + 8 * k.val + 7) by omega])) (k0_off108_eq k0_t5 k0_t6 k 7) (k0_off109_eq k0_t5 k0_t6 k 7) q l _ _ (by show 1024 * k0_t5.val + 256 * k.val + (16 * 15 + q.val) = 32 * (32 * k0_t5.val + 8 * k.val + 7) + 16 * 1 + q.val; omega) (by show l.val = 0 + l.val; omega)
    · intro p q l
      have hl : l.val < 128 := l.isLt
      have hq : q.val < 16 := q.isLt
      fin_cases p
      · exact piece0_at v149 (mu k0_t6) hu.1 arg2 X2 arg8 X8 1 k0_t6 ⟨32 * k0_t5.val + 8 * k.val + 0, by omega⟩ ((k0_off110_eq k0_t5 k 0).trans (by show ![1024 * k0_t5.val + 256 * k.val + 32 * 0, 128] = ![32 * (32 * k0_t5.val + 8 * k.val + 0), 128]; rw [show 1024 * k0_t5.val + 256 * k.val + 32 * 0 = 32 * (32 * k0_t5.val + 8 * k.val + 0) by omega])) (k0_off111_eq k0_t5 k0_t6 k 0) (k0_off112_eq k0_t5 k0_t6 k 0) q l _ _ (by show 1024 * k0_t5.val + 256 * k.val + (16 * 0 + q.val) = 32 * (32 * k0_t5.val + 8 * k.val + 0) + 16 * 0 + q.val; omega) (by show 128 + l.val = 128 + l.val; omega)
      · exact piece1_at v149 (mu k0_t6) hu.1 arg2 X2 arg8 X8 1 k0_t6 ⟨32 * k0_t5.val + 8 * k.val + 0, by omega⟩ ((k0_off110_eq k0_t5 k 0).trans (by show ![1024 * k0_t5.val + 256 * k.val + 32 * 0, 128] = ![32 * (32 * k0_t5.val + 8 * k.val + 0), 128]; rw [show 1024 * k0_t5.val + 256 * k.val + 32 * 0 = 32 * (32 * k0_t5.val + 8 * k.val + 0) by omega])) (k0_off113_eq k0_t5 k0_t6 k 0) (k0_off114_eq k0_t5 k0_t6 k 0) q l _ _ (by show 1024 * k0_t5.val + 256 * k.val + (16 * 1 + q.val) = 32 * (32 * k0_t5.val + 8 * k.val + 0) + 16 * 1 + q.val; omega) (by show 128 + l.val = 128 + l.val; omega)
      · exact piece0_at v149 (mu k0_t6) hu.1 arg2 X2 arg8 X8 1 k0_t6 ⟨32 * k0_t5.val + 8 * k.val + 1, by omega⟩ ((k0_off110_eq k0_t5 k 1).trans (by show ![1024 * k0_t5.val + 256 * k.val + 32 * 1, 128] = ![32 * (32 * k0_t5.val + 8 * k.val + 1), 128]; rw [show 1024 * k0_t5.val + 256 * k.val + 32 * 1 = 32 * (32 * k0_t5.val + 8 * k.val + 1) by omega])) (k0_off111_eq k0_t5 k0_t6 k 1) (k0_off112_eq k0_t5 k0_t6 k 1) q l _ _ (by show 1024 * k0_t5.val + 256 * k.val + (16 * 2 + q.val) = 32 * (32 * k0_t5.val + 8 * k.val + 1) + 16 * 0 + q.val; omega) (by show 128 + l.val = 128 + l.val; omega)
      · exact piece1_at v149 (mu k0_t6) hu.1 arg2 X2 arg8 X8 1 k0_t6 ⟨32 * k0_t5.val + 8 * k.val + 1, by omega⟩ ((k0_off110_eq k0_t5 k 1).trans (by show ![1024 * k0_t5.val + 256 * k.val + 32 * 1, 128] = ![32 * (32 * k0_t5.val + 8 * k.val + 1), 128]; rw [show 1024 * k0_t5.val + 256 * k.val + 32 * 1 = 32 * (32 * k0_t5.val + 8 * k.val + 1) by omega])) (k0_off113_eq k0_t5 k0_t6 k 1) (k0_off114_eq k0_t5 k0_t6 k 1) q l _ _ (by show 1024 * k0_t5.val + 256 * k.val + (16 * 3 + q.val) = 32 * (32 * k0_t5.val + 8 * k.val + 1) + 16 * 1 + q.val; omega) (by show 128 + l.val = 128 + l.val; omega)
      · exact piece0_at v149 (mu k0_t6) hu.1 arg2 X2 arg8 X8 1 k0_t6 ⟨32 * k0_t5.val + 8 * k.val + 2, by omega⟩ ((k0_off110_eq k0_t5 k 2).trans (by show ![1024 * k0_t5.val + 256 * k.val + 32 * 2, 128] = ![32 * (32 * k0_t5.val + 8 * k.val + 2), 128]; rw [show 1024 * k0_t5.val + 256 * k.val + 32 * 2 = 32 * (32 * k0_t5.val + 8 * k.val + 2) by omega])) (k0_off111_eq k0_t5 k0_t6 k 2) (k0_off112_eq k0_t5 k0_t6 k 2) q l _ _ (by show 1024 * k0_t5.val + 256 * k.val + (16 * 4 + q.val) = 32 * (32 * k0_t5.val + 8 * k.val + 2) + 16 * 0 + q.val; omega) (by show 128 + l.val = 128 + l.val; omega)
      · exact piece1_at v149 (mu k0_t6) hu.1 arg2 X2 arg8 X8 1 k0_t6 ⟨32 * k0_t5.val + 8 * k.val + 2, by omega⟩ ((k0_off110_eq k0_t5 k 2).trans (by show ![1024 * k0_t5.val + 256 * k.val + 32 * 2, 128] = ![32 * (32 * k0_t5.val + 8 * k.val + 2), 128]; rw [show 1024 * k0_t5.val + 256 * k.val + 32 * 2 = 32 * (32 * k0_t5.val + 8 * k.val + 2) by omega])) (k0_off113_eq k0_t5 k0_t6 k 2) (k0_off114_eq k0_t5 k0_t6 k 2) q l _ _ (by show 1024 * k0_t5.val + 256 * k.val + (16 * 5 + q.val) = 32 * (32 * k0_t5.val + 8 * k.val + 2) + 16 * 1 + q.val; omega) (by show 128 + l.val = 128 + l.val; omega)
      · exact piece0_at v149 (mu k0_t6) hu.1 arg2 X2 arg8 X8 1 k0_t6 ⟨32 * k0_t5.val + 8 * k.val + 3, by omega⟩ ((k0_off110_eq k0_t5 k 3).trans (by show ![1024 * k0_t5.val + 256 * k.val + 32 * 3, 128] = ![32 * (32 * k0_t5.val + 8 * k.val + 3), 128]; rw [show 1024 * k0_t5.val + 256 * k.val + 32 * 3 = 32 * (32 * k0_t5.val + 8 * k.val + 3) by omega])) (k0_off111_eq k0_t5 k0_t6 k 3) (k0_off112_eq k0_t5 k0_t6 k 3) q l _ _ (by show 1024 * k0_t5.val + 256 * k.val + (16 * 6 + q.val) = 32 * (32 * k0_t5.val + 8 * k.val + 3) + 16 * 0 + q.val; omega) (by show 128 + l.val = 128 + l.val; omega)
      · exact piece1_at v149 (mu k0_t6) hu.1 arg2 X2 arg8 X8 1 k0_t6 ⟨32 * k0_t5.val + 8 * k.val + 3, by omega⟩ ((k0_off110_eq k0_t5 k 3).trans (by show ![1024 * k0_t5.val + 256 * k.val + 32 * 3, 128] = ![32 * (32 * k0_t5.val + 8 * k.val + 3), 128]; rw [show 1024 * k0_t5.val + 256 * k.val + 32 * 3 = 32 * (32 * k0_t5.val + 8 * k.val + 3) by omega])) (k0_off113_eq k0_t5 k0_t6 k 3) (k0_off114_eq k0_t5 k0_t6 k 3) q l _ _ (by show 1024 * k0_t5.val + 256 * k.val + (16 * 7 + q.val) = 32 * (32 * k0_t5.val + 8 * k.val + 3) + 16 * 1 + q.val; omega) (by show 128 + l.val = 128 + l.val; omega)
      · exact piece0_at v149 (mu k0_t6) hu.1 arg2 X2 arg8 X8 1 k0_t6 ⟨32 * k0_t5.val + 8 * k.val + 4, by omega⟩ ((k0_off110_eq k0_t5 k 4).trans (by show ![1024 * k0_t5.val + 256 * k.val + 32 * 4, 128] = ![32 * (32 * k0_t5.val + 8 * k.val + 4), 128]; rw [show 1024 * k0_t5.val + 256 * k.val + 32 * 4 = 32 * (32 * k0_t5.val + 8 * k.val + 4) by omega])) (k0_off111_eq k0_t5 k0_t6 k 4) (k0_off112_eq k0_t5 k0_t6 k 4) q l _ _ (by show 1024 * k0_t5.val + 256 * k.val + (16 * 8 + q.val) = 32 * (32 * k0_t5.val + 8 * k.val + 4) + 16 * 0 + q.val; omega) (by show 128 + l.val = 128 + l.val; omega)
      · exact piece1_at v149 (mu k0_t6) hu.1 arg2 X2 arg8 X8 1 k0_t6 ⟨32 * k0_t5.val + 8 * k.val + 4, by omega⟩ ((k0_off110_eq k0_t5 k 4).trans (by show ![1024 * k0_t5.val + 256 * k.val + 32 * 4, 128] = ![32 * (32 * k0_t5.val + 8 * k.val + 4), 128]; rw [show 1024 * k0_t5.val + 256 * k.val + 32 * 4 = 32 * (32 * k0_t5.val + 8 * k.val + 4) by omega])) (k0_off113_eq k0_t5 k0_t6 k 4) (k0_off114_eq k0_t5 k0_t6 k 4) q l _ _ (by show 1024 * k0_t5.val + 256 * k.val + (16 * 9 + q.val) = 32 * (32 * k0_t5.val + 8 * k.val + 4) + 16 * 1 + q.val; omega) (by show 128 + l.val = 128 + l.val; omega)
      · exact piece0_at v149 (mu k0_t6) hu.1 arg2 X2 arg8 X8 1 k0_t6 ⟨32 * k0_t5.val + 8 * k.val + 5, by omega⟩ ((k0_off110_eq k0_t5 k 5).trans (by show ![1024 * k0_t5.val + 256 * k.val + 32 * 5, 128] = ![32 * (32 * k0_t5.val + 8 * k.val + 5), 128]; rw [show 1024 * k0_t5.val + 256 * k.val + 32 * 5 = 32 * (32 * k0_t5.val + 8 * k.val + 5) by omega])) (k0_off111_eq k0_t5 k0_t6 k 5) (k0_off112_eq k0_t5 k0_t6 k 5) q l _ _ (by show 1024 * k0_t5.val + 256 * k.val + (16 * 10 + q.val) = 32 * (32 * k0_t5.val + 8 * k.val + 5) + 16 * 0 + q.val; omega) (by show 128 + l.val = 128 + l.val; omega)
      · exact piece1_at v149 (mu k0_t6) hu.1 arg2 X2 arg8 X8 1 k0_t6 ⟨32 * k0_t5.val + 8 * k.val + 5, by omega⟩ ((k0_off110_eq k0_t5 k 5).trans (by show ![1024 * k0_t5.val + 256 * k.val + 32 * 5, 128] = ![32 * (32 * k0_t5.val + 8 * k.val + 5), 128]; rw [show 1024 * k0_t5.val + 256 * k.val + 32 * 5 = 32 * (32 * k0_t5.val + 8 * k.val + 5) by omega])) (k0_off113_eq k0_t5 k0_t6 k 5) (k0_off114_eq k0_t5 k0_t6 k 5) q l _ _ (by show 1024 * k0_t5.val + 256 * k.val + (16 * 11 + q.val) = 32 * (32 * k0_t5.val + 8 * k.val + 5) + 16 * 1 + q.val; omega) (by show 128 + l.val = 128 + l.val; omega)
      · exact piece0_at v149 (mu k0_t6) hu.1 arg2 X2 arg8 X8 1 k0_t6 ⟨32 * k0_t5.val + 8 * k.val + 6, by omega⟩ ((k0_off110_eq k0_t5 k 6).trans (by show ![1024 * k0_t5.val + 256 * k.val + 32 * 6, 128] = ![32 * (32 * k0_t5.val + 8 * k.val + 6), 128]; rw [show 1024 * k0_t5.val + 256 * k.val + 32 * 6 = 32 * (32 * k0_t5.val + 8 * k.val + 6) by omega])) (k0_off111_eq k0_t5 k0_t6 k 6) (k0_off112_eq k0_t5 k0_t6 k 6) q l _ _ (by show 1024 * k0_t5.val + 256 * k.val + (16 * 12 + q.val) = 32 * (32 * k0_t5.val + 8 * k.val + 6) + 16 * 0 + q.val; omega) (by show 128 + l.val = 128 + l.val; omega)
      · exact piece1_at v149 (mu k0_t6) hu.1 arg2 X2 arg8 X8 1 k0_t6 ⟨32 * k0_t5.val + 8 * k.val + 6, by omega⟩ ((k0_off110_eq k0_t5 k 6).trans (by show ![1024 * k0_t5.val + 256 * k.val + 32 * 6, 128] = ![32 * (32 * k0_t5.val + 8 * k.val + 6), 128]; rw [show 1024 * k0_t5.val + 256 * k.val + 32 * 6 = 32 * (32 * k0_t5.val + 8 * k.val + 6) by omega])) (k0_off113_eq k0_t5 k0_t6 k 6) (k0_off114_eq k0_t5 k0_t6 k 6) q l _ _ (by show 1024 * k0_t5.val + 256 * k.val + (16 * 13 + q.val) = 32 * (32 * k0_t5.val + 8 * k.val + 6) + 16 * 1 + q.val; omega) (by show 128 + l.val = 128 + l.val; omega)
      · exact piece0_at v149 (mu k0_t6) hu.1 arg2 X2 arg8 X8 1 k0_t6 ⟨32 * k0_t5.val + 8 * k.val + 7, by omega⟩ ((k0_off110_eq k0_t5 k 7).trans (by show ![1024 * k0_t5.val + 256 * k.val + 32 * 7, 128] = ![32 * (32 * k0_t5.val + 8 * k.val + 7), 128]; rw [show 1024 * k0_t5.val + 256 * k.val + 32 * 7 = 32 * (32 * k0_t5.val + 8 * k.val + 7) by omega])) (k0_off111_eq k0_t5 k0_t6 k 7) (k0_off112_eq k0_t5 k0_t6 k 7) q l _ _ (by show 1024 * k0_t5.val + 256 * k.val + (16 * 14 + q.val) = 32 * (32 * k0_t5.val + 8 * k.val + 7) + 16 * 0 + q.val; omega) (by show 128 + l.val = 128 + l.val; omega)
      · exact piece1_at v149 (mu k0_t6) hu.1 arg2 X2 arg8 X8 1 k0_t6 ⟨32 * k0_t5.val + 8 * k.val + 7, by omega⟩ ((k0_off110_eq k0_t5 k 7).trans (by show ![1024 * k0_t5.val + 256 * k.val + 32 * 7, 128] = ![32 * (32 * k0_t5.val + 8 * k.val + 7), 128]; rw [show 1024 * k0_t5.val + 256 * k.val + 32 * 7 = 32 * (32 * k0_t5.val + 8 * k.val + 7) by omega])) (k0_off113_eq k0_t5 k0_t6 k 7) (k0_off114_eq k0_t5 k0_t6 k 7) q l _ _ (by show 1024 * k0_t5.val + 256 * k.val + (16 * 15 + q.val) = 32 * (32 * k0_t5.val + 8 * k.val + 7) + 16 * 1 + q.val; omega) (by show 128 + l.val = 128 + l.val; omega)

end Cert.KernelIdeal.Hand

end
-- ==== Proof.T5V.lean ====
/- The product loops as values: the accumulator holds the product's partial sums. -/
module

public import proofs.«01_k».proof.Proof.T7V

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (Pipeline.UD sig nD τ) ℕ

theorem pay8_apply (v : FVec Ideal S128x256 .f32) (w : Vec Ideal S1x128x256 .f32) (x : S1x128x256.Idx) : k0_pay8 v w x = v (ix2 (x 1) (x 2)) + w x := by
  pointwise [k0_pay8]

theorem pay5_apply (x : S128x256.Idx) : k0_pay5 (F := Ideal) x = 0 := by
  pointwise [k0_pay5]

/-- The accumulator's element: the product up to a chunk that depends on whether the field is before `n`. -/
def G9 (A : S128x8192.Idx → EReal) (B : S8192x256.Idx → BitVec 8) (D : S2x4x2x2x256x2x128.Idx → EReal) (kc n : ℕ) (y : S4x128x256.Idx) : EReal :=
  ∑ m ∈ Finset.range (1024 * (if (y 0).val < n then kc + 1 else kc)), term A B D (y 0) (y 1) (y 2) m

/-- The accumulator is right: `kc` chunks of every field, one more of the fields before `n`. -/
def Good9 {arg1 : Memref sig .tc .vmem S128x8192 .bf16} {arg2 : Memref sig .tc .vmem S8192x256 .i8} {arg8 : Memref sig .tc .vmem S2x4x2x2x256x2x128 .bf16} {arg9 : Memref sig .tc .vmem S4x128x256 .f32}
    (X1 : BufTy.Contents (Elt Ideal) arg1.view.ty) (X2 : BufTy.Contents (Elt Ideal) arg2.view.ty) (X8 : BufTy.Contents (Elt Ideal) arg8.view.ty) (kc n : ℕ) (f : BufTy.Contents (Elt Ideal) arg9.view.ty) : Prop :=
  ∀ y : S4x128x256.Idx, arg9.view.read (Elt Ideal) f y = G9 (arg1.view.read (Elt Ideal) X1) (arg2.view.read (Elt Ideal) X2) (arg8.view.read (Elt Ideal) X8) kc n y

theorem k0_off116_eq : ∀ k, k0_off116 k = ![k.val, 0, 0] := by decide +kernel

theorem t9_eq (A : S128x8192.Idx → EReal) (B : S8192x256.Idx → BitVec 8) (D : S2x4x2x2x256x2x128.Idx → EReal) (kc k : ℕ) (hk : k < 4)
    (arg9 : Memref sig .tc .vmem S4x128x256 .f32) (f9 : BufTy.Contents (Elt Ideal) arg9.view.ty)
    (hf : ∀ y, arg9.view.read (Elt Ideal) f9 y = G9 A B D kc k y) (acc : S128x256.Idx → EReal)
    (hacc : ∀ x : S128x256.Idx, acc x = ∑ n ∈ Finset.range 1024, term A B D ⟨k, hk⟩ (x 0) (x 1) (1024 * kc + n))
    {oe : Fin 3 → ℕ} {he : ∀ x, oe x + S1x128x256.size x ≤ S4x128x256.size x} (h1 : oe = ![k, 0, 0]) (x : S1x128x256.Idx) :
    acc (ix2 (x 1) (x 2)) + arg9.view.readAt (Elt Ideal) (Rect.unit (s := S4x128x256) oe S1x128x256.size he).toLoadRect f9 x
      = G9 A B D kc (k + 1) ((Rect.unit (s := S4x128x256) oe S1x128x256.size he).emb x) := by
  subst h1
  have e0 : (x 0).val < 1 := (x 0).isLt
  have q0 : (Rect.unit (s := S4x128x256) ![k, 0, 0] S1x128x256.size he).emb x 0 = ⟨k, hk⟩ := Fin.ext (by show k + 1 * (x 0).val = k; omega)
  have q1 : (Rect.unit (s := S4x128x256) ![k, 0, 0] S1x128x256.size he).emb x 1 = x 1 := Fin.ext (by show 0 + 1 * (x 1).val = (x 1).val; omega)
  have q2 : (Rect.unit (s := S4x128x256) ![k, 0, 0] S1x128x256.size he).emb x 2 = x 2 := Fin.ext (by show 0 + 1 * (x 2).val = (x 2).val; omega)
  refine (congrArg₂ (· + ·) (hacc _) (hf ((Rect.unit (s := S4x128x256) ![k, 0, 0] S1x128x256.size he).emb x))).trans ?_
  unfold G9
  rw [q0, q1, q2, if_neg (Nat.lt_irrefl k), if_pos (Nat.lt_succ_self k), Nat.mul_add, Nat.mul_one, Finset.sum_range_add, add_comm]
  rfl

theorem mem9 {oe : Fin 3 → ℕ} {he : ∀ x, oe x + S1x128x256.size x ≤ S4x128x256.size x} {k : ℕ} (h1 : oe = ![k, 0, 0])
    (y : S4x128x256.Idx) (hk : (y 0).val = k) : y ∈ (Rect.unit (s := S4x128x256) oe S1x128x256.size he).set := by
  subst h1
  have e1 : (y 1).val < 128 := (y 1).isLt
  have e2 : (y 2).val < 256 := (y 2).isLt
  refine Rect.mem_set_unit.mpr fun b => ?_
  fin_cases b
  · show k ≤ (y 0).val ∧ (y 0).val < k + 1; omega
  · show 0 ≤ (y 1).val ∧ (y 1).val < 0 + 128; omega
  · show 0 ≤ (y 2).val ∧ (y 2).val < 0 + 256; omega

set_option warn.classDefReducibility false in
/-- The loop over the four fields: each trip adds a chunk to its field's accumulator. -/
@[sl_loop] def loopV_t6 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (k0_t5 : Fin k0_t5_loop.trips) (arg11 : BitVec 32) (X1 : BufTy.Contents (Elt Ideal) arg1.view.ty) (X2 : BufTy.Contents (Elt Ideal) arg2.view.ty) (X8 : BufTy.Contents (Elt Ideal) arg8.view.ty) :
    LoopInvTy_k0_t6 (F := Ideal) Unit ℕ (Pipeline.UD sig nD τ) ℕ Variants.none c none E i arg1 harg1 arg2 harg2 arg3 harg3 arg4 harg4 arg5 harg5 arg6 harg6 arg7 harg7 arg8 harg8 arg9 harg9 arg10 k0_t5 arg11 where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8) ∗ (∃ f, ⌜Good9 (arg1 := arg1) (arg2 := arg2) (arg8 := arg8) (arg9 := arg9) X1 X2 X8 k0_t5.val k f⌝ ∗ (arg9.view.loc (c : Thread nD τ) ↦[arg9.view.set]{fullShare} f)))
  step k acc := by
    unfold k0_t6_body
    iintro ⟨H1, H2, H8, ⟨%f9, %hf9, H9⟩⟩
    have h5 : k0_t5.val < 8 := k0_t5.isLt
    have h6 : k.val < 4 := k.isLt
    have hin : (∀ q < 32, (Scalar.shli 50529027#32 (Scalar.muli 2#32 (Scf.iv 0#32 1#32 k))).getLsbD q = (mu k).getLsbD (q % 8)) ∧ ∀ x : S128x256.Idx, k0_pay5 (F := Ideal) x = ∑ n ∈ Finset.range (256 * 0), term (arg1.view.read (Elt Ideal) X1) (arg2.view.read (Elt Ideal) X2) (arg8.view.read (Elt Ideal) X8) k (x 0) (x 1) (1024 * k0_t5.val + n) :=
      ⟨mu_word k, fun x => pay5_apply x⟩
    sl_exec
    sl_step
    isplitl [H1]
    · iexact H1
    isplitl [H2]
    · iexact H2
    isplitl [H8]
    · iexact H8
    iexists _
    isplitr
    swap
    · iexact H9
    · ipureintro
      intro y
      refine writes_good arg9.view f9 (G9 (arg1.view.read (Elt Ideal) X1) (arg2.view.read (Elt Ideal) X2) (arg8.view.read (Elt Ideal) X8) k0_t5.val (k.val + 1)) _ ?_ y ?_
      · intro p hp
        simp only [List.mem_cons, List.not_mem_nil, or_false] at hp
        subst hp
        exact fun x => (pay8_apply _ _ x).trans (t9_eq _ _ _ k0_t5.val k.val h6 arg9 f9 hf9 _ hL0.2 (he := k0_off116_inb k) (k0_off116_eq k) x)
      · by_cases h : (y 0).val = k.val
        · exact Or.inr ⟨_, List.mem_cons_self, mem9 (he := k0_off116_inb k) (k0_off116_eq k) y h⟩
        · left
          rw [hf9 y]
          unfold G9
          have hh : ((y 0).val < k.val) = ((y 0).val < k.val + 1) := by apply propext; omega
          simp only [hh]

set_option warn.classDefReducibility false in
/-- The loop over the chunks: each trip adds a chunk to every field's accumulator. -/
def loopV_t5 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (X1 : BufTy.Contents (Elt Ideal) arg1.view.ty) (X2 : BufTy.Contents (Elt Ideal) arg2.view.ty) (X8 : BufTy.Contents (Elt Ideal) arg8.view.ty) :
    LoopInvTy_k0_t5 (F := Ideal) Unit ℕ (Pipeline.UD sig nD τ) ℕ Variants.none c none E i arg1 harg1 arg2 harg2 arg3 harg3 arg4 harg4 arg5 harg5 arg6 harg6 arg7 harg7 arg8 harg8 arg9 harg9 arg10 where
  inv k _u := iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} X8) ∗ (∃ f, ⌜Good9 (arg1 := arg1) (arg2 := arg2) (arg8 := arg8) (arg9 := arg9) X1 X2 X8 k 0 f⌝ ∗ (arg9.view.loc (c : Thread nD τ) ↦[arg9.view.set]{fullShare} f)))
  step k acc := by
    unfold k0_t5_body
    iintro ⟨H1, H2, H8, ⟨%f9, %hf9, H9⟩⟩
    sl_exec
    sl_step
    isplitl [H1]
    · iexact H1
    isplitl [H2]
    · iexact H2
    isplitl [H8]
    · iexact H8
    iexists _
    isplitr
    swap
    · iexact H9
    · ipureintro
      intro y
      have h0 : (y 0).val < 4 := (y 0).isLt
      refine (hL3 y).trans ?_
      unfold G9
      exact congrArg (fun q => ∑ m ∈ Finset.range (1024 * q), term (arg1.view.read (Elt Ideal) X1) (arg2.view.read (Elt Ideal) X2) (arg8.view.read (Elt Ideal) X8) (y 0) (y 1) (y 2) m) ((if_pos h0).trans (if_neg (Nat.not_lt_zero _)).symm)

end Cert.KernelIdeal.Hand

end
-- ==== Proof.T8V.lean ====
/- The product loops as values: the accumulator holds the product's partial sums. -/
module

public import proofs.«01_k».proof.Proof.ValI

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (Pipeline.UD sig nD τ) ℕ

theorem lane_quot : ∀ l : Fin 128, (Scalar.select
        (IntOp.andi
          (IntOp.cmpi CmpIPredicate.ne
            (IntOp.subi (BitVec.setWidth 32 (IntOp.cmpi CmpIPredicate.sgt (BitVec.ofNat 32 l.val) 0#32))
              (BitVec.setWidth 32 (IntOp.cmpi CmpIPredicate.slt (BitVec.ofNat 32 l.val) 0#32)))
            (Scalar.subi (Scalar.extui (Scalar.cmpi CmpIPredicate.sgt 4#32 0#32))
              (Scalar.extui (Scalar.cmpi CmpIPredicate.slt 4#32 0#32))))
          (IntOp.cmpi CmpIPredicate.ne (IntOp.remsi ArithUnit.vector (BitVec.ofNat 32 l.val) 4#32) 0#32))
        (IntOp.subi (IntOp.divsi ArithUnit.vector (BitVec.ofNat 32 l.val) 4#32) 1#32)
        (IntOp.divsi ArithUnit.vector (BitVec.ofNat 32 l.val) 4#32)) = BitVec.ofNat 32 (l.val / 4) := by decide +kernel

theorem lane_rem : ∀ l : Fin 128, (Scalar.select
          (IntOp.andi
            (IntOp.xori
              (IntOp.cmpi CmpIPredicate.slt
                (IntOp.remsi ArithUnit.vector (BitVec.ofNat 32 l.val)
                  (Scalar.select (Scalar.cmpi CmpIPredicate.eq 4#32 0#32) 1#32 4#32))
                0#32)
              (Scalar.cmpi CmpIPredicate.slt (Scalar.select (Scalar.cmpi CmpIPredicate.eq 4#32 0#32) 1#32 4#32) 0#32))
            (IntOp.cmpi CmpIPredicate.ne
              (IntOp.remsi ArithUnit.vector (BitVec.ofNat 32 l.val)
                (Scalar.select (Scalar.cmpi CmpIPredicate.eq 4#32 0#32) 1#32 4#32))
              0#32))
          (IntOp.addi
            (IntOp.remsi ArithUnit.vector (BitVec.ofNat 32 l.val)
              (Scalar.select (Scalar.cmpi CmpIPredicate.eq 4#32 0#32) 1#32 4#32))
            (Scalar.select (Scalar.cmpi CmpIPredicate.eq 4#32 0#32) 1#32 4#32))
          (IntOp.remsi ArithUnit.vector (BitVec.ofNat 32 l.val)
            (Scalar.select (Scalar.cmpi CmpIPredicate.eq 4#32 0#32) 1#32 4#32))) = BitVec.ofNat 32 (l.val % 4) := by decide +kernel

theorem col_word : ∀ k : Fin 64, Scalar.muli (Scalar.remsi (Scalar.divsi (Scf.iv 0#32 1#32 k.val) 8#32) 4#32) 32#32 = BitVec.ofNat 32 (32 * (k.val / 8 % 4)) := by decide +kernel

theorem wrap_word : ∀ n : Fin 128, (Scalar.select (IntOp.cmpi CmpIPredicate.slt (BitVec.ofNat 32 n.val) 0#32) (IntOp.addi (BitVec.ofNat 32 n.val) 128#32) (BitVec.ofNat 32 n.val)).toNat % 128 = n.val := by decide +kernel

theorem pay157_apply (k : Fin k0_t8_loop.trips) (x : S16x128.Idx) : k0_pay157 (iota .tc S16x128 32 [1] iota_S16x128_d1_w32) 0#32 1#32 k x = BitVec.ofNat 32 (32 * (k.val / 8 % 4) + (x 1).val / 4) := by
  pointwise [k0_pay157]
  refine (congrArg₂ IntOp.addi (col_word k) (lane_quot (x 1))).trans ?_
  exact (BitVec.ofNat_add _ _).symm

theorem pay161_apply (v : IVec S16x128 32) (w : Vec Ideal S1x16x128 .f32) (x : S16x128.Idx) (q : Fin 128) (hq : v x = BitVec.ofNat 32 q.val) : k0_pay161 v w x = w (ix3 0 (x 0) q) := by
  pointwise [k0_pay161]
  exact congrArg (fun z => w (ix3 0 (x 0) z)) (Fin.ext (by simp only [hq]; exact wrap_word q))

theorem pay162_apply (v : IVec S16x128 32) (w : Vec Ideal S1x16x128 .f32) (x : S16x128.Idx) (q : Fin 128) (hq : v x = BitVec.ofNat 32 q.val) : k0_pay162 v w x = w (ix3 0 (x 0) q) := by
  pointwise [k0_pay162]
  exact congrArg (fun z => w (ix3 0 (x 0) z)) (Fin.ext (by simp only [hq]; exact wrap_word q))

theorem pay163_apply (v : IVec S16x128 32) (w : Vec Ideal S1x16x128 .f32) (x : S16x128.Idx) (q : Fin 128) (hq : v x = BitVec.ofNat 32 q.val) : k0_pay163 v w x = w (ix3 0 (x 0) q) := by
  pointwise [k0_pay163]
  exact congrArg (fun z => w (ix3 0 (x 0) z)) (Fin.ext (by simp only [hq]; exact wrap_word q))

theorem pay160_apply (c d : BitVec 32) (k) (v : IVec S16x128 32) (w : Vec Ideal S1x16x128 .f32) (x : S16x128.Idx) (q : Fin 128) (hq : k0_pay157 v c d k x = BitVec.ofNat 32 q.val) :
    k0_pay160 (k0_pay157 v c d k) (k0_pay158 w) (k0_pay159 v c d k) x = w (ix3 0 (x 0) q) := by
  unfold k0_pay159
  generalize k0_pay157 v c d k = u at hq ⊢
  pointwise [k0_pay160, k0_pay158]
  exact congrArg (fun z => w (ix3 0 (x 0) z)) (Fin.ext (by simp only [hq]; exact wrap_word q))

theorem sel4 (n : Fin 4) (w : Fin 4 → EReal) :
    Scalar.select (IntOp.cmpi CmpIPredicate.eq (BitVec.ofNat 32 n.val) 0#32) (w 0) (Scalar.select (IntOp.cmpi CmpIPredicate.eq (BitVec.ofNat 32 n.val) 1#32) (w 1)
      (Scalar.select (IntOp.cmpi CmpIPredicate.eq (BitVec.ofNat 32 n.val) 2#32) (w 2) (w 3))) = w n := by
  fin_cases n <;> rfl

theorem pay9_apply (a b c d : FVec Ideal S16x128 .f32) (x : S16x128.Idx) (w : Fin 4 → EReal) (ha : a x = w 0) (hb : b x = w 1) (hc : c x = w 2) (hd : d x = w 3) :
    k0_pay9 a b c d 4#32 0#32 x = w ⟨(x 1).val % 4, by omega⟩ := by
  pointwise [k0_pay9]
  simp only [lane_rem (x 1), ha, hb, hc, hd]
  exact sel4 ⟨(x 1).val % 4, by omega⟩ w

/-- A trip's payload: each lane takes the field and the column its number asks for. -/
theorem out_apply (k : Fin k0_t8_loop.trips) (w0 w1 w2 w3 : Vec Ideal S1x16x128 .f32) (W : Fin 4 → Vec Ideal S1x16x128 .f32) (h0 : w0 = W 0) (h1 : w1 = W 1) (h2 : w2 = W 2) (h3 : w3 = W 3) (x : S16x128.Idx) :
    k0_pay9 (k0_pay160 (k0_pay157 (iota .tc S16x128 32 [1] iota_S16x128_d1_w32) 0#32 1#32 k) (k0_pay158 w0) (k0_pay159 (iota .tc S16x128 32 [1] iota_S16x128_d1_w32) 0#32 1#32 k)) (k0_pay161 (k0_pay157 (iota .tc S16x128 32 [1] iota_S16x128_d1_w32) 0#32 1#32 k) w1) (k0_pay162 (k0_pay157 (iota .tc S16x128 32 [1] iota_S16x128_d1_w32) 0#32 1#32 k) w2) (k0_pay163 (k0_pay157 (iota .tc S16x128 32 [1] iota_S16x128_d1_w32) 0#32 1#32 k) w3) 4#32 0#32 x
      = W ⟨(x 1).val % 4, by omega⟩ (ix3 0 (x 0) ⟨32 * (k.val / 8 % 4) + (x 1).val / 4, by have h1 : (x 1).val < 128 := (x 1).isLt; omega⟩) := by
  subst h0 h1 h2 h3
  have hx : (x 1).val < 128 := (x 1).isLt
  have hq := pay157_apply k x
  exact pay9_apply _ _ _ _ x (fun f => W f (ix3 0 (x 0) ⟨32 * (k.val / 8 % 4) + (x 1).val / 4, by omega⟩))
    (pay160_apply _ _ k _ _ x ⟨_, by omega⟩ hq) (pay161_apply _ _ x ⟨_, by omega⟩ hq) (pay162_apply _ _ x ⟨_, by omega⟩ hq) (pay163_apply _ _ x ⟨_, by omega⟩ hq)

/-- The output block's element, from the accumulator `Y`. -/
def G5 (Y : S4x128x256.Idx → EReal) (y : S128x1024.Idx) : EReal :=
  Y (ix3 ⟨(y 1).val % 4, by omega⟩ (y 0) ⟨(y 1).val / 4, by have h : (y 1).val < 1024 := (y 1).isLt; omega⟩)

/-- The output block is right in the tiles of the trips before `k`. -/
def Good5 {arg5 : Memref sig .tc .vmem S128x1024 .bf16} {arg9 : Memref sig .tc .vmem S4x128x256 .f32}
    (X9 : BufTy.Contents (Elt Ideal) arg9.view.ty) (k : ℕ) (f : BufTy.Contents (Elt Ideal) arg5.view.ty) : Prop :=
  ∀ y : S128x1024.Idx, 8 * ((y 1).val / 128) + (y 0).val / 16 < k → arg5.view.read (Elt Ideal) f y = G5 (arg9.view.read (Elt Ideal) X9) y

@[simp] theorem good5_zero {arg5 : Memref sig .tc .vmem S128x1024 .bf16} {arg9 : Memref sig .tc .vmem S4x128x256 .f32}
    (X9 : BufTy.Contents (Elt Ideal) arg9.view.ty) (f : BufTy.Contents (Elt Ideal) arg5.view.ty) : Good5 X9 0 f :=
  fun y h => absurd h (Nat.not_lt_zero _)

/-- A tile of one field of the accumulator, from the accumulator `Y`. -/
def W9 (Y : S4x128x256.Idx → EReal) (k : ℕ) (hk : k < 64) (f : Fin 4) (x : S1x16x128.Idx) : EReal :=
  Y (ix3 f ⟨16 * (k % 8) + (x 1).val, by have h : (x 1).val < 16 := (x 1).isLt; omega⟩ ⟨128 * (k / 8 / 4) + (x 2).val, by have h : (x 2).val < 128 := (x 2).isLt; omega⟩)

theorem ld9 (arg9 : Memref sig .tc .vmem S4x128x256 .f32) (X9 : BufTy.Contents (Elt Ideal) arg9.view.ty) (k : ℕ) (hk : k < 64) (f : Fin 4)
    {od : Fin 3 → ℕ} {hd : ∀ x, od x + S1x16x128.size x ≤ S4x128x256.size x} (h : od = ![f.val, 16 * (k % 8), 128 * ((k / 8) / 4)]) :
    arg9.view.readAt (Elt Ideal) (Rect.unit (s := S4x128x256) od S1x16x128.size hd).toLoadRect X9 = W9 (arg9.view.read (Elt Ideal) X9) k hk f := by
  subst h
  funext x
  have e0 : (x 0).val < 1 := (x 0).isLt
  refine congrArg (arg9.view.read (Elt Ideal) X9) ?_
  funext b
  apply Fin.ext
  fin_cases b
  · show f.val + 1 * (x 0).val = f.val; omega
  · show 16 * (k % 8) + 1 * (x 1).val = 16 * (k % 8) + (x 1).val; omega
  · show 128 * (k / 8 / 4) + 1 * (x 2).val = 128 * (k / 8 / 4) + (x 2).val; omega

theorem t5_eq (Y : S4x128x256.Idx → EReal) (k : ℕ) (hk : k < 64) {oe : Fin 2 → ℕ} {he : ∀ x, oe x + S16x128.size x ≤ S128x1024.size x} (h1 : oe = ![16 * (k % 8), 128 * (k / 8)])
    (x : S16x128.Idx) {hf hq} :
    W9 Y k hk ⟨(x 1).val % 4, hf⟩ (ix3 0 (x 0) ⟨32 * (k / 8 % 4) + (x 1).val / 4, hq⟩) = G5 Y ((Rect.unit (s := S128x1024) oe S16x128.size he).emb x) := by
  subst h1
  have e0 : (x 0).val < 16 := (x 0).isLt
  have e1 : (x 1).val < 128 := (x 1).isLt
  refine congrArg Y ?_
  funext b
  apply Fin.ext
  fin_cases b
  · show (x 1).val % 4 = (128 * (k / 8) + 1 * (x 1).val) % 4; omega
  · show 16 * (k % 8) + (x 0).val = 16 * (k % 8) + 1 * (x 0).val; omega
  · show 128 * (k / 8 / 4) + (32 * (k / 8 % 4) + (x 1).val / 4) = (128 * (k / 8) + 1 * (x 1).val) / 4; omega

theorem mem5 {oe : Fin 2 → ℕ} {he : ∀ x, oe x + S16x128.size x ≤ S128x1024.size x} {k : ℕ} (h1 : oe = ![16 * (k % 8), 128 * (k / 8)])
    (y : S128x1024.Idx) (hk : 8 * ((y 1).val / 128) + (y 0).val / 16 = k) : y ∈ (Rect.unit (s := S128x1024) oe S16x128.size he).set := by
  subst h1
  have e0 : (y 0).val < 128 := (y 0).isLt
  have e1 : (y 1).val < 1024 := (y 1).isLt
  refine Rect.mem_set_unit.mpr fun b => ?_
  fin_cases b
  · show 16 * (k % 8) ≤ (y 0).val ∧ (y 0).val < 16 * (k % 8) + 16; omega
  · show 128 * (k / 8) ≤ (y 1).val ∧ (y 1).val < 128 * (k / 8) + 128; omega

set_option warn.classDefReducibility false in
/-- The last loop: each trip fills one tile of the output block from the accumulator. -/
def loopV_t8 (c : Dev nD) (E : Set ℕ) (i : grid0.Coords) (arg1 : Memref sig .tc .vmem S128x8192 .bf16) (harg1 : arg1.IsWhole) (arg2 : Memref sig .tc .vmem S8192x256 .i8) (harg2 : arg2.IsWhole) (arg3 : Memref sig .tc .hbm S512x45056 .bf16) (harg3 : arg3.IsWhole) (arg4 : Memref sig .tc .hbm S512x45056 .bf16) (harg4 : arg4.IsWhole) (arg5 : Memref sig .tc .vmem S128x1024 .bf16) (harg5 : arg5.IsWhole) (arg6 : Memref sig .tc .vmem S2x2x8x512x128 .bf16) (harg6 : arg6.IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (arg10 : DmaSems sig S2x2) (v145 : IVec S16x128 32) (X9 : BufTy.Contents (Elt Ideal) arg9.view.ty) :
    LoopInvTy_k0_t8 (F := Ideal) Unit ℕ (Pipeline.UD sig nD τ) ℕ Variants.none c none E i arg1 harg1 arg2 harg2 arg3 harg3 arg4 harg4 arg5 harg5 arg6 harg6 arg7 harg7 arg8 harg8 arg9 harg9 arg10 v145 where
  inv k _u := iprop((arg9.view.loc (c : Thread nD τ) ↦[arg9.view.set]{fullShare} X9) ∗ ⌜v145 = iota .tc S16x128 32 [1] iota_S16x128_d1_w32⌝ ∗ (∃ f, ⌜Good5 (arg5 := arg5) (arg9 := arg9) X9 k f⌝ ∗ (arg5.view.loc (c : Thread nD τ) ↦[arg5.view.set]{fullShare} f)))
  step k acc := by
    unfold k0_t8_body
    iintro ⟨H9, %hv, ⟨%f5, %hf5, H5⟩⟩
    sl_exec
    sl_step
    isplitl [H9]
    · iexact H9
    isplitr
    · ipureintro
      exact hv
    iexists _
    isplitr
    swap
    · iexact H5
    · ipureintro
      intro y hy
      subst hv
      have hk : k.val < 64 := k.isLt
      refine writes_good arg5.view f5 (G5 (arg9.view.read (Elt Ideal) X9)) _ ?_ y ?_
      · intro p hp
        simp only [List.mem_cons, List.not_mem_nil, or_false] at hp
        subst hp
        exact fun x => (out_apply k _ _ _ _ (W9 (arg9.view.read (Elt Ideal) X9) k.val hk)
          (ld9 arg9 X9 k.val hk 0 (hd := k0_off117_inb k) (k0_off117_eq k)) (ld9 arg9 X9 k.val hk 1 (hd := k0_off118_inb k) (k0_off118_eq k))
          (ld9 arg9 X9 k.val hk 2 (hd := k0_off119_inb k) (k0_off119_eq k)) (ld9 arg9 X9 k.val hk 3 (hd := k0_off120_inb k) (k0_off120_eq k)) x).trans
          (t5_eq _ k.val hk (he := k0_off121_inb k) (k0_off121_eq k) x)
      · by_cases h : 8 * ((y 1).val / 128) + (y 0).val / 16 < k.val
        · exact Or.inl (hf5 y h)
        · exact Or.inr ⟨_, List.mem_cons_self, mem5 (he := k0_off121_inb k) (k0_off121_eq k) y (by omega)⟩

end Cert.KernelIdeal.Hand

end
-- ==== Proof.BodyV.lean ====
/- The work on a landed step as values: the output block is the product of the two windows' blocks with the slot's scales and minima. -/
module

public import proofs.«01_k».proof.Proof.WaitI
public import proofs.«01_k».proof.Proof.T1V
public import proofs.«01_k».proof.Proof.T2V
public import proofs.«01_k».proof.Proof.T5V
public import proofs.«01_k».proof.Proof.T8V

@[expose] public section

set_option maxRecDepth 16384
set_option maxHeartbeats 4000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

local notation "𝕄" => MT nD τ sig Unit (Elt Ideal) ℕ (Pipeline.UD sig nD τ) ℕ

theorem pay4_apply (x : S4x128x256.Idx) : k0_pay4 (F := Ideal) x = 0 := by
  pointwise [k0_pay4]

/-- The output block of one grid point, from the two windows' blocks and the staging scratch. -/
def out (i : grid0.Coords) (A : S128x8192.Idx → EReal) (B : S8192x256.Idx → BitVec 8) (Y : S2x2x8x512x128.Idx → EReal) (y : S128x1024.Idx) : EReal :=
  G5 (fun z => ∑ m ∈ Finset.range 8192, term A B (G8 i Y) (z 0) (z 1) (z 2) m) y

theorem work_runV (c : Dev nD) (i : grid0.Coords) (arg1 : Memref sig .tc .vmem S128x8192 .bf16) (harg1 : arg1.IsWhole) (arg2 : Memref sig .tc .vmem S8192x256 .i8) (harg2 : arg2.IsWhole) (harg3 : (Memref.whole main_arg2 : Memref sig .tc .hbm S512x45056 .bf16).IsWhole) (harg4 : (Memref.whole main_arg3 : Memref sig .tc .hbm S512x45056 .bf16).IsWhole) (arg5 : Memref sig .tc .vmem S128x1024 .bf16) (harg5 : arg5.IsWhole) (harg6 : (Memref.whole cc0_scratch0 : Memref sig .tc .vmem S2x2x8x512x128 .bf16).IsWhole) (arg7 : Memref sig .tc .vmem S2x1024x2x128 .bf16) (harg7 : arg7.IsWhole) (arg8 : Memref sig .tc .vmem S2x4x2x2x256x2x128 .bf16) (harg8 : arg8.IsWhole) (arg9 : Memref sig .tc .vmem S4x128x256 .f32) (harg9 : arg9.IsWhole) (v3 : BitVec 32)
    (X1 : BufTy.Contents (Elt Ideal) arg1.view.ty) (X2 : BufTy.Contents (Elt Ideal) arg2.view.ty)
    (X6 : BufTy.Contents (Elt Ideal) (Memref.whole cc0_scratch0 : Memref sig .tc .vmem S2x2x8x512x128 .bf16).view.ty) {Q : PUnit → sProp 𝕄} :
    iprop(iprop(((slotM (Memref.whole cc0_scratch0) i).view.loc (c : Thread nD τ) ↦[(slotM (Memref.whole cc0_scratch0) i).view.set]{fullShare} X6) ∗ (arg1.view.loc (c : Thread nD τ) ↦[arg1.view.set]{fullShare} X1) ∗ (arg2.view.loc (c : Thread nD τ) ↦[arg2.view.set]{fullShare} X2) ∗ (∃ f, (arg5.view.loc (c : Thread nD τ) ↦[arg5.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f)))
      ∗ (iprop(((slotM (Memref.whole cc0_scratch0) i).view.loc (c : Thread nD τ) ↦[(slotM (Memref.whole cc0_scratch0) i).view.set]{fullShare} X6) ∗ (arg1.view.loc (c : Thread nD τ) ↦[arg1.view.set]{fullShare} X1) ∗ (arg2.view.loc (c : Thread nD τ) ↦[arg2.view.set]{fullShare} X2) ∗ (∃ f, ⌜∀ y, arg5.view.read (Elt Ideal) f y = out i (arg1.view.read (Elt Ideal) X1) (arg2.view.read (Elt Ideal) X2) ((Memref.whole cc0_scratch0 : Memref sig .tc .vmem S2x2x8x512x128 .bf16).view.read (Elt Ideal) X6) y⌝ ∗ (arg5.view.loc (c : Thread nD τ) ↦[arg5.view.set]{fullShare} f)) ∗ (∃ f, (arg7.view.loc (c : Thread nD τ) ↦[arg7.view.set]{fullShare} f)) ∗ (∃ f, (arg8.view.loc (c : Thread nD τ) ↦[arg8.view.set]{fullShare} f)) ∗ (∃ f, (arg9.view.loc (c : Thread nD τ) ↦[arg9.view.set]{fullShare} f))) -∗ Q ⟨⟩)) ⊢ wp frame (wpE (defs₀ : Defs nD τ sig (Elt Ideal) Λ₀) Variants.none (c : Thread nD τ) none) Set.univ (work i arg1 harg1 arg2 harg2 harg3 harg4 arg5 harg5 harg6 arg7 harg7 arg8 harg8 arg9 harg9 v3) Q := by
  unfold work
  iintro ⟨⟨H6, H1, H2, ⟨%f5, H5⟩, ⟨%f7, H7⟩, ⟨%f8, H8⟩, ⟨%f9, H9⟩⟩, Hk⟩
  have h : Good7 (arg6 := Memref.whole cc0_scratch0) (arg7 := arg7) 0 i X6 0 f7 := good7_zero _ _ _ _
  have h' : Good8 (arg6 := Memref.whole cc0_scratch0) (arg8 := arg8) i X6 (0 + 0) f8 := good8_zero _ _ _
  sl_exec
  sl_for (fun k _ => iprop(((slotM (Memref.whole cc0_scratch0) i).view.loc (c : Thread nD τ) ↦[(slotM (Memref.whole cc0_scratch0) i).view.set]{fullShare} X6) ∗ (∃ f, ⌜Good7 (arg6 := Memref.whole cc0_scratch0) (arg7 := arg7) 1 i X6 k f⌝ ∗ (arg7.view.loc (c : Thread nD τ) ↦[arg7.view.set]{fullShare} f)))) $$ [H6 H7]
  case region => intro k a; exact (loopV_t3 c Set.univ i arg1 harg1 arg2 harg2 (Memref.whole main_arg2) harg3 (Memref.whole main_arg3) harg4 arg5 harg5 (Memref.whole cc0_scratch0) harg6 arg7 harg7 arg8 harg8 arg9 harg9 _ v3 X6).step k a
  · isplitl [H6]
    · iexact H6
    iexists fL1
    isplitr
    · ipureintro
      exact good7_zero _ _ _ _
    iexact H7
  iintro %_ HI
  icases HI with ⟨H6, ⟨%g7, %hg7, H7⟩⟩
  sl_exec
  sl_for (fun k _ => iprop((arg1.view.loc (c : Thread nD τ) ↦[arg1.view.set]{fullShare} X1) ∗ (arg2.view.loc (c : Thread nD τ) ↦[arg2.view.set]{fullShare} X2) ∗ (arg8.view.loc (c : Thread nD τ) ↦[arg8.view.set]{fullShare} fL1) ∗ (∃ f, ⌜Good9 (arg1 := arg1) (arg2 := arg2) (arg8 := arg8) (arg9 := arg9) X1 X2 fL1 k 0 f⌝ ∗ (arg9.view.loc (c : Thread nD τ) ↦[arg9.view.set]{fullShare} f)))) $$ [H1 H2 H8 H9]
  case region => intro k a; exact (loopV_t5 c Set.univ i arg1 harg1 arg2 harg2 (Memref.whole main_arg2) harg3 (Memref.whole main_arg3) harg4 arg5 harg5 (Memref.whole cc0_scratch0) harg6 arg7 harg7 arg8 harg8 arg9 harg9 _ X1 X2 fL1).step k a
  · isplitl [H1]
    · iexact H1
    isplitl [H2]
    · iexact H2
    isplitl [H8]
    · iexact H8
    iexists _
    isplitr
    swap
    · iexact H9
    ipureintro
    intro y
    unfold work_runV.sl.H9_1
    refine (writes_good arg9.view _ (fun _ => (0 : EReal)) _ ?_ y (Or.inr ⟨_, List.mem_cons_self, ?_⟩)).trans ?_
    · intro p hp
      simp only [List.mem_cons, List.not_mem_nil, or_false] at hp
      subst hp
      exact pay4_apply
    · refine Rect.mem_set_unit (inb := inb_S4x128x256_S4x128x256_0_0_0).mpr fun b => ?_
      have q0 : (y 0).val < 4 := (y 0).isLt
      have q1 : (y 1).val < 128 := (y 1).isLt
      have q2 : (y 2).val < 256 := (y 2).isLt
      fin_cases b
      · show 0 ≤ (y 0).val ∧ (y 0).val < 0 + 4; omega
      · show 0 ≤ (y 1).val ∧ (y 1).val < 0 + 128; omega
      · show 0 ≤ (y 2).val ∧ (y 2).val < 0 + 256; omega
    · unfold G9
      rw [if_neg (Nat.not_lt_zero _)]
      exact (Finset.sum_range_zero _).symm
  iintro %_ HI
  icases HI with ⟨H1, H2, H8, ⟨%g9, %hg9, H9⟩⟩
  sl_exec
  sl_for (fun k _ => iprop((arg9.view.loc (c : Thread nD τ) ↦[arg9.view.set]{fullShare} g9) ∗ ⌜iota .tc S16x128 32 [1] iota_S16x128_d1_w32 = iota .tc S16x128 32 [1] iota_S16x128_d1_w32⌝ ∗ (∃ f, ⌜Good5 (arg5 := arg5) (arg9 := arg9) g9 k f⌝ ∗ (arg5.view.loc (c : Thread nD τ) ↦[arg5.view.set]{fullShare} f)))) $$ [H9 H5]
  case region => intro k a; exact (loopV_t8 c Set.univ i arg1 harg1 arg2 harg2 (Memref.whole main_arg2) harg3 (Memref.whole main_arg3) harg4 arg5 harg5 (Memref.whole cc0_scratch0) harg6 arg7 harg7 arg8 harg8 arg9 harg9 _ _ g9).step k a
  · isplitl [H9]
    · iexact H9
    isplitr
    · ipureintro
      rfl
    iexists f5
    isplitr
    · ipureintro
      exact good5_zero _ _
    iexact H5
  iintro %_ HI
  icases HI with ⟨H9, -, ⟨%g5, %hg5, H5⟩⟩
  sl_exec
  sl_step
  iapply Hk
  isplitl [H6]
  · iexact H6
  isplitl [H1]
  · iexact H1
  isplitl [H2]
  · iexact H2
  isplitl [H5]
  · iexists g5
    isplitr
    · ipureintro
      intro y
      have h0 : (y 0).val < 128 := (y 0).isLt
      have h1 : (y 1).val < 1024 := (y 1).isLt
      refine (hg5 y (show 8 * ((y 1).val / 128) + (y 0).val / 16 < 64 by omega)).trans ?_
      unfold out
      refine congrArg (fun Z => G5 Z y) ?_
      funext z
      refine (hg9 z).trans ?_
      have h8 : arg8.view.read (Elt Ideal) fL1 = G8 i ((Memref.whole cc0_scratch0 : Memref sig .tc .vmem S2x2x8x512x128 .bf16).view.read (Elt Ideal) X6) := by
        funext w
        have w0 : (w 0).val < 2 := (w 0).isLt
        have w4 : (w 4).val < 256 := (w 4).isLt
        exact hL3 w (show 2 * (w 0).val + (w 4).val / 128 < 4 by omega)
      rw [h8]
      unfold G9
      rw [if_neg (Nat.not_lt_zero _)]
      rfl
    · iexact H5
  sl_close

end Cert.KernelIdeal.Hand

end
-- ==== Proof.Spec.lean ====
/- The linear layer both programs compute, as one sum per output, and the code of a field read out of a packed byte. -/
module

public import proofs.«01_k».proof.Proof.WgtI
public import proofs.«01_k».proof.Proof.T7V
public import Idealize.ShloMosaic.Lib.IdealHost

@[expose] public section

set_option maxRecDepth 16384
set_option maxHeartbeats 2000000

noncomputable section

namespace Cert.KernelIdeal.Hand

open Idealize.ShloMosaic Idealize.ShloMosaic.TcCoe Idealize.ShloMosaic.Tactic
open Cert.KernelIdeal Cert.KernelIdeal.Gen

/-- Field `f` of a packed byte: its two-bit code. -/
def code (b : BitVec 8) (f : ℕ) : EReal := (((b.toNat / 4 ^ f % 4 : ℕ) : ℝ) : EReal)

/-- One output: the dot product of a row of `x` with the unpacked, scaled and shifted weights of a column. -/
def lin (x : S128x1x8192.Idx → EReal) (b : S8192x11264.Idx → BitVec 8) (s μ : S512x45056.Idx → EReal) (y : S128x45056.Idx) : EReal :=
  ∑ k : Fin 8192, x (ix3 (y 0) (0 : Fin 1) k)
    * (code (b (ix2 k (⟨(y 1).val / 4, by have h : (y 1).val < 45056 := (y 1).isLt; omega⟩ : Fin 11264))) ((y 1).val % 4)
        * s (ix2 (⟨k.val / 16, by omega⟩ : Fin 512) (y 1)) + μ (ix2 (⟨k.val / 16, by omega⟩ : Fin 512) (y 1)))

theorem code_shift_nat : ∀ f < 4, ∀ b : BitVec 8,
    (IntOp.andi (IntOp.shrsi ArithUnit.host (BitVec.setWidth 32 b) (IntOp.muli (BitVec.ofNat 32 f) 2#32)) 3#32 : BitVec 32).toInt = ((b.toNat / 4 ^ f % 4 : ℕ) : ℤ) := by
  decide +kernel

/-- The field shifted down and masked, read as a signed integer. -/
theorem code_shift (f : ℕ) (hf : f < 4) (b : BitVec 8) :
    FloatOps.sitofp (F := Ideal) .bf16 (IntOp.andi (IntOp.shrsi ArithUnit.host (BitVec.setWidth 32 b) (IntOp.muli (BitVec.ofNat 32 f) 2#32)) 3#32) = code b f := by
  show (((_ : BitVec 32).toInt : ℝ) : EReal) = _
  rw [code_shift_nat f hf b]
  unfold code
  norm_cast

theorem code_mask_nat : ∀ f : Fin 4, ∀ b : BitVec 8, (b &&& mu f).toNat = b.toNat / 4 ^ f.val % 4 * 4 ^ f.val := by
  decide +kernel

/-- The field masked in place, read as an unsigned integer: the code times the field's place. -/
theorem code_mask (f : Fin 4) (b : BitVec 8) :
    FloatOps.uitofp (F := Ideal) .bf16 (b &&& mu f) = code b f.val * ((4 ^ f.val : ℝ) : EReal) := by
  show (((_ : BitVec 8).toNat : ℝ) : EReal) = _
  rw [code_mask_nat f b]
  unfold code
  rw [← EReal.coe_mul]
  push_cast
  rfl

/-- The constants folded into the scales undo the field's place. -/
theorem place_sc (f : Fin 4) : ((4 ^ f.val : ℝ) : EReal) * sc f.val = 1 := by
  have q : Ideal.ofBits .bf16 0x3E80#16 = (((1 : ℝ) / 4 : ℝ) : EReal) := by
    simp [Ideal.ofBits, Ideal.ieee, -EReal.coe_mul]; norm_num
  have r : Ideal.ofBits .bf16 0x3C80#16 = (((1 : ℝ) / 64 : ℝ) : EReal) := by
    simp [Ideal.ofBits, Ideal.ieee, -EReal.coe_mul]; norm_num
  fin_cases f
  · show ((4 ^ 0 : ℝ) : EReal) * 1 = 1
    norm_num
  · show ((4 ^ 1 : ℝ) : EReal) * Ideal.ofBits .bf16 0x3E80#16 = 1
    rw [q, ← EReal.coe_mul]; norm_num
  · show ((4 ^ 2 : ℝ) : EReal) * Ideal.ofBits .bf16 0x3D80#16 = 1
    rw [Ideal.ofBits_sixteenth_bf16, ← EReal.coe_mul]; norm_num
  · show ((4 ^ 3 : ℝ) : EReal) * Ideal.ofBits .bf16 0x3C80#16 = 1
    rw [r, ← EReal.coe_mul]; norm_num

/-- One weight: the masked field times the scale with the constant folded in is the code times the scale. -/
theorem weight (f : Fin 4) (b : BitVec 8) (s : EReal) :
    FloatOps.uitofp (F := Ideal) .bf16 (b &&& mu f) * (s * sc f.val) = code b f.val * s := by
  rw [code_mask, mul_assoc, mul_left_comm _ s, place_sc, mul_one]

end Cert.KernelIdeal.Hand

end
-- ==== Proof.FrameV.lean ====
/- The kernel's value run: what each grid point leaves in its block of the result, and the whole result as one function of the arguments. -/
module

public import proofs.«01_k».proof.Proof.FrameI
public import proofs.«01_k».proof.Proof.BodyV
public import proofs.«01_k».proof.Proof.Spec

@[expose] public section

set_option maxRecDepth 16384
set_option maxHeartbeats 2000000

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

local notation "𝕄" => MT nD τ sig Unit (Elt Ideal) ℕ (Pipeline.UD sig nD τ) ℕ

variable (m : (ℓ : Loc nD τ sig) → Buf (Elt Ideal) ℓ) (ρ : Dev nD → PrngReg)

/-- What each grid point leaves in the output block. -/
def OV : Outs Ideal := fun c t =>
  out (grid0.coords t) (iblk m c 0 t) (iblk m c 1 t) (stepBuf c (VAm m c) (stepOf (grid0.coords t)))

theorem after0_2 (c : Dev nD) (t : Fin cfg0.N) : (dats m (OV m) 0 c).after 2 t = OV m c t := by dsimp only [dats]

theorem body_soundV (c : Dev nD) (t : Fin cfg0.N) :
    iprop(PhiN m c t.val ∗ owesAny c ∗ owns (c : Thread nD τ) (st0_0 t) fullShare (iblk m c 0 t) ∗ owns (c : Thread nD τ) (st0_1 t) fullShare (iblk m c 1 t)
        ∗ (∃ X, owns (c : Thread nD τ) (st0_2 t) fullShare X))
      ⊢ wp frame (wpE (defs₀ (F := Ideal)) Variants.none (c : Thread nD τ) none) Set.univ (bodyAt0 t) fun _ =>
        iprop(PhiN m c (t.val + 1) ∗ owesAny c ∗ owns (c : Thread nD τ) (st0_0 t) fullShare (iblk m c 0 t) ∗ owns (c : Thread nD τ) (st0_1 t) fullShare (iblk m c 1 t)
          ∗ owns (c : Thread nD τ) (st0_2 t) fullShare (OV m c t)) := by
  have hin := phi_in m c (grid0.coords t) t.val (coords_val t)
  have hout := phi_out m c (grid0.coords t) (t.val + 1) (by rw [coords_val])
  rw [landed_slot] at hout
  unfold Scr at hin hout
  unfold owns
  iintro ⟨HP, HO, ⟨%f0, %h0, H0⟩, ⟨%f1, %h1, H1⟩, ⟨%X, %f2, -, H2⟩⟩
  ihave HP := hin $$ HP
  icases HP with ⟨HP, ⟨%e1, HS1⟩, ⟨%e2, HS2⟩, ⟨%e3, HS3⟩, Hg⟩
  iapply (body_run c (VAm m c) (grid0.coords t) _ _ _ _ _ _ _ _ _ _ _ _ _ _ _)
  isplitl [HP]; · iexact HP
  isplitl [HO]; · iexact HO
  iintro %v3 ⟨HL, HN, HO⟩
  ihave HL := (Entails.of_eq (landed_slot c (VAm m c) (grid0.coords t))) $$ HL
  icases HL with ⟨HL, HLr⟩
  iapply (work_runV c (grid0.coords t) _ _ _ _ _ _ _ _ _ _ _ _ _ _ _ v3 f0 f1 (stepBuf c (VAm m c) (stepOf (grid0.coords t))))
  isplitl [HL H0 H1 H2 HS1 HS2 HS3]
  · isplitl [HL]; · iexact HL
    isplitl [H0]; · iexact H0
    isplitl [H1]; · iexact H1
    isplitl [H2]; · iexists f2; iexact H2
    isplitl [HS1]; · iexists e1; iapply (Entails.of_eq (pt_whole c cc0_scratch1 e1).symm); iexact HS1
    isplitl [HS2]; · iexists e2; iapply (Entails.of_eq (pt_whole c cc0_scratch2 e2).symm); iexact HS2
    iexists e3; iapply (Entails.of_eq (pt_whole c cc0_scratch3 e3).symm); iexact HS3
  iintro ⟨HL, H0, H1, ⟨%g2, %hg2, H2⟩, ⟨%e1, HS1⟩, ⟨%e2, HS2⟩, ⟨%e3, HS3⟩⟩
  isplitl [HL HLr HN HS1 HS2 HS3 Hg]
  · iapply hout
    isplitl [HL HLr]
    · isplitl [HL]; · iexact HL
      iexact HLr
    isplitl [HN]; · iexact HN
    isplitl [HS1]; · iexists e1; iapply (Entails.of_eq (pt_whole c cc0_scratch1 e1)); iexact HS1
    isplitl [HS2]; · iexists e2; iapply (Entails.of_eq (pt_whole c cc0_scratch2 e2)); iexact HS2
    isplitl [HS3]; · iexists e3; iapply (Entails.of_eq (pt_whole c cc0_scratch3 e3)); iexact HS3
    iexact Hg
  isplitl [HO]; · iexact HO
  isplitl [H0]
  · iexists f0; isplitr; · ipureintro; exact h0
    iexact H0
  isplitl [H1]
  · iexists f1; isplitr; · ipureintro; exact h1
    iexact H1
  iexists g2; isplitr
  · ipureintro
    refine (funext hg2).trans ?_
    rw [h0, h1]
    rfl
  iexact H2

theorem sound_bodyV (c : Dev nD) (t : Fin cfg0.N) :
    iprop((dats m (OV m) 0 c).Φ t.castSucc ∗ (dats m (OV m) 0 c).owesAt () t.castSucc
        ∗ (∃ d, owns (c : Thread nD τ) (st0_0 t) fullShare ((dats m (OV m) 0 c).before 0 t d))
        ∗ (∃ d, owns (c : Thread nD τ) (st0_1 t) fullShare ((dats m (OV m) 0 c).before 1 t d))
        ∗ (∃ d, owns (c : Thread nD τ) (st0_2 t) fullShare ((dats m (OV m) 0 c).before 2 t d)))
      ⊢ wp frame (wpE (defs₀ (F := Ideal)) Variants.none (c : Thread nD τ) none) Set.univ (bodyAt0 t) fun _ =>
        iprop((dats m (OV m) 0 c).Φ t.succ ∗ (dats m (OV m) 0 c).owesAt () t.succ
          ∗ owns (c : Thread nD τ) (st0_0 t) fullShare ((dats m (OV m) 0 c).after 0 t)
          ∗ owns (c : Thread nD τ) (st0_1 t) fullShare ((dats m (OV m) 0 c).after 1 t)
          ∗ owns (c : Thread nD τ) (st0_2 t) fullShare ((dats m (OV m) 0 c).after 2 t)) := by
  have hr := howed_rec m (OV m) c t.castSucc
  have hb := howed_back m (OV m) c t.succ
  simp only [before0_0, before0_1, after0_0, after0_1, after0_2]
  rw [show (dats m (OV m) 0 c).Φ t.castSucc = PhiN m c t.val from rfl, show (dats m (OV m) 0 c).Φ t.succ = PhiN m c (t.val + 1) from rfl]
  iintro ⟨HP, HO, ⟨%d0, H0⟩, ⟨%d1, H1⟩, ⟨%d2, H2⟩⟩
  iapply wp_wand $$ [HP HO H0 H1 H2]
  · iapply (body_soundV m c t)
    isplitl [HP]; · iexact HP
    isplitl [HO]; · iapply hr; iexact HO
    isplitl [H0]; · iexact H0
    isplitl [H1]; · iexact H1
    iexists _; iexact H2
  iintro %_ ⟨HP, HO, H0, H1, H2⟩
  isplitl [HP]; · iexact HP
  isplitl [HO]; · iapply hb; iexact HO
  isplitl [H0]; · iexact H0
  isplitl [H1]; · iexact H1
  iexact H2

theorem body_obligationV (c : Dev nD) : BodyObligation (dats (F := Ideal) m (OV m) 0 c) (defs₀ (F := Ideal)) Variants.none () Set.univ := fun t => by
  rw [bigSep_W0, bigSep_W0, defs₀_row]
  exact triple_restated (sound_bodyV m c t) rfl .rfl fun _ => .rfl

theorem drop_mid (X : S128x1x8192.Idx → EReal) (y : S128x8192.Idx) :
    shapeCast S128x8192 X shapeCasts_S128x1x8192_S128x8192 y = X (ix3 (y 0) (0 : Fin 1) (y 1)) := by
  pointwise []

/-- The activations as the region finds them: the argument with its middle axis dropped. -/
theorem V_main_v0 (c : Dev nD) (y : S128x8192.Idx) : V m c main_v0 y = m ((c : Thread nD τ).loc main_arg0) (ix3 (y 0) (0 : Fin 1) (y 1)) := by
  exact drop_mid (m ((c : Thread nD τ).loc main_arg0)) y

/-- The result: the linear layer of the arguments. -/
abbrev res (c : Dev nD) : Buf (Elt Ideal) ((c : Thread nD τ).loc main_v1) :=
  lin (m ((c : Thread nD τ).loc main_arg0)) (m ((c : Thread nD τ).loc main_arg1)) (m ((c : Thread nD τ).loc main_arg2)) (m ((c : Thread nD τ).loc main_arg3))

theorem blk_facts (t : Fin cfg0.N) :
    win0_0.index t 0 * win0_0.size 0 = 0 ∧ win0_0.index t 1 * win0_0.size 1 = 0
      ∧ win0_1.index t 0 * win0_1.size 0 = 0 ∧ win0_1.index t 1 * win0_1.size 1 = 256 * t.val
      ∧ win0_2.index t 0 * win0_2.size 0 = 0 ∧ win0_2.index t 1 * win0_2.size 1 = 1024 * t.val
      ∧ win0_2.xsize (grid0.coords t) 0 = 128 ∧ win0_2.xsize (grid0.coords t) 1 = 1024 := by
  have h : ∀ t : Fin grid0.N, win0_0.index t 0 * win0_0.size 0 = 0 ∧ win0_0.index t 1 * win0_0.size 1 = 0
      ∧ win0_1.index t 0 * win0_1.size 0 = 0 ∧ win0_1.index t 1 * win0_1.size 1 = 256 * t.val
      ∧ win0_2.index t 0 * win0_2.size 0 = 0 ∧ win0_2.index t 1 * win0_2.size 1 = 1024 * t.val
      ∧ win0_2.xsize (grid0.coords t) 0 = 128 ∧ win0_2.xsize (grid0.coords t) 1 = 1024 := by decide +kernel
  exact h t

theorem t_lt (t : Fin cfg0.N) : t.val < 44 := t.isLt

theorem iblk0 (c : Dev nD) (t : Fin cfg0.N) (y : S128x8192.Idx) : iblk m c 0 t y = m ((c : Thread nD τ).loc main_arg0) (ix3 (y 0) (0 : Fin 1) (y 1)) := by
  refine Eq.trans ?_ (V_main_v0 m c y)
  have e := blk_facts t
  refine congrArg (V m c main_v0) (funext fun a => ?_)
  match a with
  | ⟨0, _⟩ => exact Fin.ext (show win0_0.index t 0 * win0_0.size 0 + 1 * (y 0).val = (y 0).val by rw [e.1]; omega)
  | ⟨1, _⟩ => exact Fin.ext (show win0_0.index t 1 * win0_0.size 1 + 1 * (y 1).val = (y 1).val by rw [e.2.1]; omega)

theorem iblk1 (c : Dev nD) (t : Fin cfg0.N) (k : Fin 8192) (q : Fin 256) (q' : Fin 11264) (hq : q'.val = 256 * t.val + q.val) :
    iblk m c 1 t (ix2 k q : S8192x256.Idx) = m ((c : Thread nD τ).loc main_arg1) (ix2 k q') := by
  rw [← V_main_arg1 m c]
  have e := blk_facts t
  refine congrArg (V m c main_arg1) (funext fun a => ?_)
  match a with
  | ⟨0, _⟩ => exact Fin.ext (show win0_1.index t 0 * win0_1.size 0 + 1 * k.val = k.val by rw [e.2.2.1]; omega)
  | ⟨1, _⟩ => exact Fin.ext (show win0_1.index t 1 * win0_1.size 1 + 1 * q.val = q'.val by rw [e.2.2.2.1, hq]; omega)

/-- The arguments, at plain types. -/
abbrev X0 (c : Dev nD) : S128x1x8192.Idx → EReal := m ((c : Thread nD τ).loc main_arg0)
abbrev X1 (c : Dev nD) : S8192x11264.Idx → BitVec 8 := m ((c : Thread nD τ).loc main_arg1)
abbrev X2 (c : Dev nD) : S512x45056.Idx → EReal := m ((c : Thread nD τ).loc main_arg2)
abbrev X3 (c : Dev nD) : S512x45056.Idx → EReal := m ((c : Thread nD τ).loc main_arg3)

/-- The spread scratch at a weight's place: the scale, times the folded constant, of the weight's group and column. -/
theorem spread_s (c : Dev nD) (i : grid0.Coords) (f : Fin 4) (q : Fin 256) (k : Fin 8192) (J : Fin 45056) (hJ : J.val = 1024 * (i 0).val + 4 * q.val + f.val) :
    G8 i (stepBuf c (VAm m c) (stepOf i)) (ix7 (0 : Fin 2) f (⟨q.val / 128, by omega⟩ : Fin 2) (⟨k.val % 32 / 16, by omega⟩ : Fin 2) (⟨k.val / 32, by omega⟩ : Fin 256) (⟨k.val % 2, by omega⟩ : Fin 2) (⟨q.val % 128, by omega⟩ : Fin 128))
      = X2 m c (ix2 (⟨k.val / 16, by omega⟩ : Fin 512) J) * sc f.val := by
  have hf := f.isLt
  refine congrArg (· * sc f.val) ?_
  refine Eq.trans ?_ (congrFun (V_main_arg2 m c) (ix2 (⟨k.val / 16, by omega⟩ : Fin 512) J))
  refine congrArg (V m c main_arg2) (funext fun a => ?_)
  match a with
  | ⟨0, _⟩ => exact Fin.ext (show 2 * (128 * (k.val / 32 / 128) + k.val / 32 % 128) + k.val % 32 / 16 = k.val / 16 by omega)
  | ⟨1, _⟩ => exact Fin.ext (show 1024 * (i 0).val + 128 * ((512 * (q.val / 128) + 4 * (q.val % 128) + f.val) / 128) + (512 * (q.val / 128) + 4 * (q.val % 128) + f.val) % 128 = J.val by omega)

/-- And the minimum. -/
theorem spread_m (c : Dev nD) (i : grid0.Coords) (f : Fin 4) (q : Fin 256) (k : Fin 8192) (J : Fin 45056) (hJ : J.val = 1024 * (i 0).val + 4 * q.val + f.val) :
    G8 i (stepBuf c (VAm m c) (stepOf i)) (ix7 (1 : Fin 2) f (⟨q.val / 128, by omega⟩ : Fin 2) (⟨k.val % 32 / 16, by omega⟩ : Fin 2) (⟨k.val / 32, by omega⟩ : Fin 256) (⟨k.val % 2, by omega⟩ : Fin 2) (⟨q.val % 128, by omega⟩ : Fin 128))
      = X3 m c (ix2 (⟨k.val / 16, by omega⟩ : Fin 512) J) := by
  have hf := f.isLt
  refine Eq.trans ?_ (mul_one _)
  refine congrArg (· * (1 : EReal)) ?_
  refine Eq.trans ?_ (congrFun (V_main_arg3 m c) (ix2 (⟨k.val / 16, by omega⟩ : Fin 512) J))
  refine congrArg (V m c main_arg3) (funext fun a => ?_)
  match a with
  | ⟨0, _⟩ => exact Fin.ext (show 2 * (128 * (k.val / 32 / 128) + k.val / 32 % 128) + k.val % 32 / 16 = k.val / 16 by omega)
  | ⟨1, _⟩ => exact Fin.ext (show 1024 * (i 0).val + 128 * ((512 * (q.val / 128) + 4 * (q.val % 128) + f.val) / 128) + (512 * (q.val / 128) + 4 * (q.val % 128) + f.val) % 128 = J.val by omega)

/-- One term of an output of the block: one term of the linear layer. -/
theorem term_eq (c : Dev nD) (t : Fin cfg0.N) (f : Fin 4) (r : Fin 128) (q : Fin 256) (k : Fin 8192) (J : Fin 45056) (q' : Fin 11264)
    (hJ : J.val = 1024 * t.val + 4 * q.val + f.val) (hq : q'.val = J.val / 4) (hf' : J.val % 4 = f.val) :
    term (iblk m c 0 t) (iblk m c 1 t) (G8 (grid0.coords t) (stepBuf c (VAm m c) (stepOf (grid0.coords t)))) f r q k.val
      = X0 m c (ix3 r (0 : Fin 1) k)
          * (code (X1 m c (ix2 k q')) (J.val % 4) * X2 m c (ix2 (⟨k.val / 16, by omega⟩ : Fin 512) J)
              + X3 m c (ix2 (⟨k.val / 16, by omega⟩ : Fin 512) J)) := by
  have hf := f.isLt
  have hJ' : J.val = 1024 * ((grid0.coords t) 0).val + 4 * q.val + f.val := by rw [coords_val]; exact hJ
  unfold term
  rw [dif_pos k.isLt]
  unfold wgt
  rw [spread_s m c (grid0.coords t) f q k J hJ', spread_m m c (grid0.coords t) f q k J hJ', weight, hf',
    iblk1 m c t k q q' (by omega), iblk0 m c t]
  try rfl

/-- What a grid point leaves at an output of its block. -/
theorem OV_eq (c : Dev nD) (t : Fin cfg0.N) (y : S128x1024.Idx) (z : S128x45056.Idx) (h0 : z 0 = y 0) (h1 : (z 1).val = 1024 * t.val + (y 1).val) :
    OV m c t y = res m c z := by
  have hy : (y 1).val < 1024 := (y 1).isLt
  have hz : (z 1).val < 45056 := (z 1).isLt
  show (∑ n ∈ Finset.range 8192, term (iblk m c 0 t) (iblk m c 1 t) (G8 (grid0.coords t) (stepBuf c (VAm m c) (stepOf (grid0.coords t))))
    (⟨(y 1).val % 4, by omega⟩ : Fin 4) (y 0) (⟨(y 1).val / 4, by omega⟩ : Fin 256) n) = _
  rw [Finset.sum_range]
  unfold res lin
  rw [h0]
  refine Finset.sum_congr (M := EReal) rfl fun k _ => ?_
  exact term_eq m c t ⟨(y 1).val % 4, by omega⟩ (y 0) ⟨(y 1).val / 4, by omega⟩ k (z 1) ⟨(z 1).val / 4, by omega⟩
    (show (z 1).val = 1024 * t.val + 4 * ((y 1).val / 4) + (y 1).val % 4 by omega) rfl (show (z 1).val % 4 = (y 1).val % 4 by omega)

theorem flushed_eq (c : Dev nD) (t : Fin cfg0.N) :
    (dats m (OV m) 0 c).flushed 2 t = ((cfg0.win 2).blk t).view.read (Elt Ideal) (res m c) := by
  show (cfg0.win 2).cut (grid0.coords t) ((dats m (OV m) 0 c).after 2 t) = _
  rw [after0_2]
  have e := blk_facts t
  refine funext fun y : S128x1024.Idx => OV_eq m c t y _ ?_ ?_
  · exact Fin.ext (show win0_2.index t 0 * win0_2.size 0 + 1 * (y 0).val = (y 0).val by rw [e.2.2.2.2.1]; omega)
  · show win0_2.index t 1 * win0_2.size 1 + 1 * (y 1).val = 1024 * t.val + (y 1).val
    rw [e.2.2.2.2.2.1]; omega

theorem mem_blk (t : Fin cfg0.N) (i : S128x45056.Idx) :
    i ∈ ((cfg0.win 2).blk t).view.set ↔ 1024 * t.val ≤ (i 1).val ∧ (i 1).val < 1024 * t.val + 1024 := by
  show i ∈ ((View.whole main_v1).slice (win0_2.rect t)).set ↔ _
  rw [View.set_slice_whole, Rect.mem_set_unit]
  have h0 : (i 0).val < 128 := (i 0).isLt
  have e := (blk_facts t).2.2.2.2
  refine ⟨fun h => ?_, fun h a => ?_⟩
  · have : win0_2.index t 1 * win0_2.size 1 ≤ (i 1).val ∧ (i 1).val < win0_2.index t 1 * win0_2.size 1 + win0_2.xsize (grid0.coords t) 1 := h 1
    rw [e.2.1, e.2.2.2] at this; exact this
  · match a with
    | ⟨0, _⟩ => show win0_2.index t 0 * win0_2.size 0 ≤ (i 0).val ∧ (i 0).val < win0_2.index t 0 * win0_2.size 0 + win0_2.xsize (grid0.coords t) 0
                rw [e.1, e.2.2.1]; omega
    | ⟨1, _⟩ => show win0_2.index t 1 * win0_2.size 1 ≤ (i 1).val ∧ (i 1).val < win0_2.index t 1 * win0_2.size 1 + win0_2.xsize (grid0.coords t) 1
                rw [e.2.1, e.2.2.2]; exact h

/-- The blocks tile the result. -/
theorem cover (i : S128x45056.Idx) : ∃ t : Fin cfg0.N, (cfg0.win 2).flush t = true ∧ i ∈ ((cfg0.win 2).blk t).view.set := by
  have h1 : (i 1).val < 45056 := (i 1).isLt
  have hN : cfg0.N = 44 := N_0
  refine ⟨⟨(i 1).val / 1024, by omega⟩, flush0_2 _, ?_⟩
  rw [mem_blk]
  show 1024 * ((i 1).val / 1024) ≤ _ ∧ _ < 1024 * ((i 1).val / 1024) + 1024
  omega

theorem final_o (c : Dev nD) : (dats m (OV m) 0 c).arrAt 2 cfg0.N = res m c :=
  (dats m (OV m) 0 c).arrAt_eq_of_cover 2 (res m c) (fun t _ => flushed_eq m c t) cover

set_option backward.isDefEq.respectTransparency.types false in
/-- The whole program runs, its result is the linear layer of its arguments, and they end unchanged. -/
theorem value_run : θ_run defs (onTc (τ := τ) (main (F := Ideal))) ⟨m, fun _ => 0, ρ⟩ (fun r => ∀ c : Dev nD,
      r.2.mem ((c.tc : Thread nD τ).loc main_v1) = res m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_frame_dma (Q' := _) cfgs (dats m (OV m)) (0 : Fin 1) launch0 osem0 defs₀ Variants.none ownSemFacts0 H0 H0_sub m ρ main
    (hbody := fun c => (body_obligationV m c).loose) (hshare := fun c => (dats m (OV m) 0 c).share_full fun _ => rfl)
    (howed := fun _ _ => rfl) (V := V m) (hmain := hmainD m) (hA := A_eq m (OV m))
    (hin := fun _ => .rfl) (hout := fun _ => .rfl)
    (hQ' := fun r h c => ⟨((h.1 c).1 2).trans (final_o m c),
      ((h.1 c).2 main_arg0 (Pipeline.mem_restRefs_of main_arg0 (by decide) (by decide))).trans (V_main_arg0 m c),
      ((h.1 c).1 1).trans (((dats m (OV m) 0 c).arrAt_in 1 rfl _).trans ((A_eq m (OV m) c 1).trans (V_main_arg1 m c))),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩)

end Cert.KernelIdeal.Hand

end
-- ==== Proof.RefV.lean ====
/- The reference program's result, element by element. -/
module

public import proofs.«01_k».proof.Proof.Ref
public import proofs.«01_k».proof.Proof.Spec
public import Idealize.ShloMosaic.PureOps.Ideal
public import Idealize.ShloMosaic.Lib.Pointwise

@[expose] public section

set_option maxRecDepth 16384
set_option maxHeartbeats 4000000

noncomputable section

namespace Cert.RefIdeal.Value

open Idealize.ShloMosaic Idealize.ShloMosaic.TcCoe Idealize.ShloMosaic.Tactic Idealize.SL.Sem
open Cert.RefIdeal

attribute [local instance] Cert.Proof.Ref.facts

/-- The reference runs, its result is the linear layer of its arguments, and they end unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v28)
          = Cert.KernelIdeal.Hand.lin (m ((c.tc : Thread nD τ).loc main_arg0)) (m ((c.tc : Thread nD τ).loc main_arg1))
              (m ((c.tc : Thread nD τ).loc main_arg2)) (m ((c.tc : Thread nD τ).loc main_arg3))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)) := by
  hlo_run
  funext y
  have h1 : (y 1).val < 45056 := (y 1).isLt
  pointwise []
  have e : ((y 1).val % 4 * 11264 + (y 1).val / 4) / 11264 = (y 1).val % 4 := by omega
  have e' : ((y 1).val % 4 * 11264 + (y 1).val / 4) % 11264 = (y 1).val / 4 := by omega
  simp only [e, e', Nat.div_add_mod']
  have hc := fun b => Cert.KernelIdeal.Hand.code_shift ((y 1).val % 4) (Nat.mod_lt _ (by decide)) b
  simp only [hc]
  unfold Cert.KernelIdeal.Hand.lin
  refine Finset.sum_congr (M := EReal) rfl fun k _ => ?_
  refine congrArg₂ (HMul.hMul (α := EReal) (β := EReal) (γ := EReal)) ?_ ?_
  · refine congrArg (m (c.tc.loc main_arg0)) ?_
    rfl
  refine congrArg₂ (HAdd.hAdd (α := EReal) (β := EReal) (γ := EReal)) ?_ ?_
  · refine congrArg₂ (HMul.hMul (α := EReal) (β := EReal) (γ := EReal)) ?_ ?_
    · refine congrArg (fun b => Cert.KernelIdeal.Hand.code b _) ?_
      refine congrArg (m (c.tc.loc main_arg1)) ?_
      rfl
    · refine congrArg (m (c.tc.loc main_arg2)) ?_
      rfl
  · refine congrArg (m (c.tc.loc main_arg3)) ?_
    rfl

end Cert.RefIdeal.Value

end
-- ==== Proof.lean ====
module

public import proofs.«01_k».proof.Defs
public import proofs.«01_k».proof.Proof.Ref
public import proofs.«01_k».proof.Proof.FrameI
public import proofs.«01_k».proof.Proof.FrameK
public import proofs.«01_k».proof.Proof.FrameV
public import proofs.«01_k».proof.Proof.RefV

@[expose] public section

noncomputable section

open Idealize.ShloMosaic Idealize.ShloMosaic.TcCoe Idealize.SL.Sem

/-- The kernel's result and the reference's are both the linear layer of the arguments, which agree. -/
theorem Cert.Proof.algebraic : Cert.algebraic_KernelIdeal_RefIdeal (hKernelIdeal := Cert.KernelIdeal.Gen.facts) (hRefIdeal := Cert.Proof.Ref.facts) := by
  intro m g m' g' _ hagree
  refine ⟨fun c => Cert.KernelIdeal.Hand.res m c, Cert.KernelIdeal.Hand.value_run m g, ?_⟩
  refine (θ_run _ _ _).mono (fun _ h c => ⟨(h c).1.trans ?_, (h c).2⟩) (Cert.RefIdeal.Value.run m' g')
  obtain ⟨h0, h1, h2, h3⟩ := hagree c
  rw [h0, h1, h2, h3]

theorem Cert.Proof.claim : Cert.Claim :=
  ⟨Cert.Kernel.Gen.facts, Cert.KernelIdeal.Gen.facts, Cert.Proof.Ref.facts,
    fun m g _ => Cert.Kernel.Hand.frame_run m g, fun m g _ => Cert.KernelIdeal.Hand.frame_run m g, Cert.Proof.Ref.frame,
    Cert.Proof.Rules.preserves, Cert.Proof.algebraic⟩

end
